-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AQkv (m : (ℓ : Loc Cert.AQkv.nD Cert.AQkv.τ Cert.AQkv.sig) → Buf (Elt Bits) ℓ) : Prop :=
  True

def Pre_AQkvIdeal (m : (ℓ : Loc Cert.AQkvIdeal.nD Cert.AQkvIdeal.τ Cert.AQkvIdeal.sig) → Buf (Elt Ideal) ℓ) : Prop :=
  True

def Pre_AQkvReferenceIdeal (m : (ℓ : Loc Cert.AQkvReferenceIdeal.nD Cert.AQkvReferenceIdeal.τ Cert.AQkvReferenceIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutReferenceIdeal (m : (ℓ : Loc Cert.AOutReferenceIdeal.nD Cert.AOutReferenceIdeal.τ Cert.AOutReferenceIdeal.sig) → Buf (Elt Ideal) ℓ) : Prop :=
  True

def Pre_BOut (m : (ℓ : Loc Cert.BOut.nD Cert.BOut.τ Cert.BOut.sig) → Buf (Elt Bits) ℓ) : Prop :=
  True

def Pre_BOutIdeal (m : (ℓ : Loc Cert.BOutIdeal.nD Cert.BOutIdeal.τ Cert.BOutIdeal.sig) → Buf (Elt Ideal) ℓ) : Prop :=
  True

def Pre_BOutReferenceIdeal (m : (ℓ : Loc Cert.BOutReferenceIdeal.nD Cert.BOutReferenceIdeal.τ Cert.BOutReferenceIdeal.sig) → Buf (Elt Ideal) ℓ) : Prop :=
  True

def Pre_AQkvDx (m : (ℓ : Loc Cert.AQkvDx.nD Cert.AQkvDx.τ Cert.AQkvDx.sig) → Buf (Elt Bits) ℓ) : Prop :=
  True

def Pre_AQkvDxIdeal (m : (ℓ : Loc Cert.AQkvDxIdeal.nD Cert.AQkvDxIdeal.τ Cert.AQkvDxIdeal.sig) → Buf (Elt Ideal) ℓ) : Prop :=
  True

def Pre_AQkvDxReferenceIdeal (m : (ℓ : Loc Cert.AQkvDxReferenceIdeal.nD Cert.AQkvDxReferenceIdeal.τ Cert.AQkvDxReferenceIdeal.sig) → Buf (Elt Ideal) ℓ) : Prop :=
  True

def Pre_AQkvDw (m : (ℓ : Loc Cert.AQkvDw.nD Cert.AQkvDw.τ Cert.AQkvDw.sig) → Buf (Elt Bits) ℓ) : Prop :=
  True

def Pre_AQkvDwIdeal (m : (ℓ : Loc Cert.AQkvDwIdeal.nD Cert.AQkvDwIdeal.τ Cert.AQkvDwIdeal.sig) → Buf (Elt Ideal) ℓ) : Prop :=
  True

def Pre_AQkvDwReferenceIdeal (m : (ℓ : Loc Cert.AQkvDwReferenceIdeal.nD Cert.AQkvDwReferenceIdeal.τ Cert.AQkvDwReferenceIdeal.sig) → Buf (Elt Ideal) ℓ) : Prop :=
  True

def Pre_AOutDx (m : (ℓ : Loc Cert.AOutDx.nD Cert.AOutDx.τ Cert.AOutDx.sig) → Buf (Elt Bits) ℓ) : Prop :=
  True

def Pre_AOutDxIdeal (m : (ℓ : Loc Cert.AOutDxIdeal.nD Cert.AOutDxIdeal.τ Cert.AOutDxIdeal.sig) → Buf (Elt Ideal) ℓ) : Prop :=
  True

def Pre_AOutDxReferenceIdeal (m : (ℓ : Loc Cert.AOutDxReferenceIdeal.nD Cert.AOutDxReferenceIdeal.τ Cert.AOutDxReferenceIdeal.sig) → Buf (Elt Ideal) ℓ) : Prop :=
  True

def Pre_AOutDw (m : (ℓ : Loc Cert.AOutDw.nD Cert.AOutDw.τ Cert.AOutDw.sig) → Buf (Elt Bits) ℓ) : Prop :=
  True

def Pre_AOutDwIdeal (m : (ℓ : Loc Cert.AOutDwIdeal.nD Cert.AOutDwIdeal.τ Cert.AOutDwIdeal.sig) → Buf (Elt Ideal) ℓ) : Prop :=
  True

def Pre_AOutDwReferenceIdeal (m : (ℓ : Loc Cert.AOutDwReferenceIdeal.nD Cert.AOutDwReferenceIdeal.τ Cert.AOutDwReferenceIdeal.sig) → Buf (Elt Ideal) ℓ) : Prop :=
  True

def Pre_BQkvDx (m : (ℓ : Loc Cert.BQkvDx.nD Cert.BQkvDx.τ Cert.BQkvDx.sig) → Buf (Elt Bits) ℓ) : Prop :=
  True

def Pre_BQkvDxIdeal (m : (ℓ : Loc Cert.BQkvDxIdeal.nD Cert.BQkvDxIdeal.τ Cert.BQkvDxIdeal.sig) → Buf (Elt Ideal) ℓ) : Prop :=
  True

def Pre_BQkvDxReferenceIdeal (m : (ℓ : Loc Cert.BQkvDxReferenceIdeal.nD Cert.BQkvDxReferenceIdeal.τ Cert.BQkvDxReferenceIdeal.sig) → Buf (Elt Ideal) ℓ) : Prop :=
  True

def Pre_BQkvDw (m : (ℓ : Loc Cert.BQkvDw.nD Cert.BQkvDw.τ Cert.BQkvDw.sig) → Buf (Elt Bits) ℓ) : Prop :=
  True

def Pre_BQkvDwIdeal (m : (ℓ : Loc Cert.BQkvDwIdeal.nD Cert.BQkvDwIdeal.τ Cert.BQkvDwIdeal.sig) → Buf (Elt Ideal) ℓ) : Prop :=
  True

def Pre_BQkvDwReferenceIdeal (m : (ℓ : Loc Cert.BQkvDwReferenceIdeal.nD Cert.BQkvDwReferenceIdeal.τ Cert.BQkvDwReferenceIdeal.sig) → Buf (Elt Ideal) ℓ) : Prop :=
  True

def Pre_BOutDx (m : (ℓ : Loc Cert.BOutDx.nD Cert.BOutDx.τ Cert.BOutDx.sig) → Buf (Elt Bits) ℓ) : Prop :=
  True

def Pre_BOutDxIdeal (m : (ℓ : Loc Cert.BOutDxIdeal.nD Cert.BOutDxIdeal.τ Cert.BOutDxIdeal.sig) → Buf (Elt Ideal) ℓ) : Prop :=
  True

def Pre_BOutDxReferenceIdeal (m : (ℓ : Loc Cert.BOutDxReferenceIdeal.nD Cert.BOutDxReferenceIdeal.τ Cert.BOutDxReferenceIdeal.sig) → Buf (Elt Ideal) ℓ) : Prop :=
  True

def Pre_BOutDw (m : (ℓ : Loc Cert.BOutDw.nD Cert.BOutDw.τ Cert.BOutDw.sig) → Buf (Elt Bits) ℓ) : Prop :=
  True

def Pre_BOutDwIdeal (m : (ℓ : Loc Cert.BOutDwIdeal.nD Cert.BOutDwIdeal.τ Cert.BOutDwIdeal.sig) → Buf (Elt Ideal) ℓ) : Prop :=
  True

def Pre_BOutDwReferenceIdeal (m : (ℓ : Loc Cert.BOutDwReferenceIdeal.nD Cert.BOutDwReferenceIdeal.τ Cert.BOutDwReferenceIdeal.sig) → Buf (Elt Ideal) ℓ) : Prop :=
  True

def Pre_BQkvG0 (m : (ℓ : Loc Cert.BQkvG0.nD Cert.BQkvG0.τ Cert.BQkvG0.sig) → Buf (Elt Bits) ℓ) : Prop :=
  True

def Pre_BQkvG0Ideal (m : (ℓ : Loc Cert.BQkvG0Ideal.nD Cert.BQkvG0Ideal.τ Cert.BQkvG0Ideal.sig) → Buf (Elt Ideal) ℓ) : Prop :=
  True

def Pre_BQkvG0ReferenceIdeal (m : (ℓ : Loc Cert.BQkvG0ReferenceIdeal.nD Cert.BQkvG0ReferenceIdeal.τ Cert.BQkvG0ReferenceIdeal.sig) → Buf (Elt Ideal) ℓ) : Prop :=
  True

def Pre_BQkvG1 (m : (ℓ : Loc Cert.BQkvG1.nD Cert.BQkvG1.τ Cert.BQkvG1.sig) → Buf (Elt Bits) ℓ) : Prop :=
  True

def Pre_BQkvG1Ideal (m : (ℓ : Loc Cert.BQkvG1Ideal.nD Cert.BQkvG1Ideal.τ Cert.BQkvG1Ideal.sig) → Buf (Elt Ideal) ℓ) : Prop :=
  True

def Pre_BQkvG1ReferenceIdeal (m : (ℓ : Loc Cert.BQkvG1ReferenceIdeal.nD Cert.BQkvG1ReferenceIdeal.τ Cert.BQkvG1ReferenceIdeal.sig) → Buf (Elt Ideal) ℓ) : Prop :=
  True

def Pre_BQkvG2 (m : (ℓ : Loc Cert.BQkvG2.nD Cert.BQkvG2.τ Cert.BQkvG2.sig) → Buf (Elt Bits) ℓ) : Prop :=
  True

def Pre_BQkvG2Ideal (m : (ℓ : Loc Cert.BQkvG2Ideal.nD Cert.BQkvG2Ideal.τ Cert.BQkvG2Ideal.sig) → Buf (Elt Ideal) ℓ) : Prop :=
  True

def Pre_BQkvG2ReferenceIdeal (m : (ℓ : Loc Cert.BQkvG2ReferenceIdeal.nD Cert.BQkvG2ReferenceIdeal.τ Cert.BQkvG2ReferenceIdeal.sig) → Buf (Elt Ideal) ℓ) : Prop :=
  True

def Pre_ActDx (m : (ℓ : Loc Cert.ActDx.nD Cert.ActDx.τ Cert.ActDx.sig) → Buf (Elt Bits) ℓ) : Prop :=
  True

def Pre_ActDxIdeal (m : (ℓ : Loc Cert.ActDxIdeal.nD Cert.ActDxIdeal.τ Cert.ActDxIdeal.sig) → Buf (Elt Ideal) ℓ) : Prop :=
  True

def Pre_ActDxIdeal_act_finite [hPre_act_finite : Cert.Pre_act_finite.Facts] (m : (ℓ : Loc Cert.ActDxIdeal.nD Cert.ActDxIdeal.τ Cert.ActDxIdeal.sig) → Buf (Elt Ideal) ℓ) : Prop :=
  ∀ c : Dev Cert.ActDxIdeal.nD,
    (Cert.Pre_act_finite.fn (F := Ideal) (m ((c.tc : Thread Cert.ActDxIdeal.nD Cert.ActDxIdeal.τ).loc Cert.ActDxIdeal.main_arg0)) (m ((c.tc : Thread Cert.ActDxIdeal.nD Cert.ActDxIdeal.τ).loc Cert.ActDxIdeal.main_arg1)) (m ((c.tc : Thread Cert.ActDxIdeal.nD Cert.ActDxIdeal.τ).loc Cert.ActDxIdeal.main_arg2)) (m ((c.tc : Thread Cert.ActDxIdeal.nD Cert.ActDxIdeal.τ).loc Cert.ActDxIdeal.main_arg3))) = (fun _ => 1#1)

def Pre_ActDxReferenceIdeal (m : (ℓ : Loc Cert.ActDxReferenceIdeal.nD Cert.ActDxReferenceIdeal.τ Cert.ActDxReferenceIdeal.sig) → Buf (Elt Ideal) ℓ) : Prop :=
  True

def Pre_ActDxReferenceIdeal_act_finite [hPre_act_finite : Cert.Pre_act_finite.Facts] (m : (ℓ : Loc Cert.ActDxReferenceIdeal.nD Cert.ActDxReferenceIdeal.τ Cert.ActDxReferenceIdeal.sig) → Buf (Elt Ideal) ℓ) : Prop :=
  ∀ c : Dev Cert.ActDxReferenceIdeal.nD,
    (Cert.Pre_act_finite.fn (F := Ideal) (m ((c.tc : Thread Cert.ActDxReferenceIdeal.nD Cert.ActDxReferenceIdeal.τ).loc Cert.ActDxReferenceIdeal.main_arg0)) (m ((c.tc : Thread Cert.ActDxReferenceIdeal.nD Cert.ActDxReferenceIdeal.τ).loc Cert.ActDxReferenceIdeal.main_arg1)) (m ((c.tc : Thread Cert.ActDxReferenceIdeal.nD Cert.ActDxReferenceIdeal.τ).loc Cert.ActDxReferenceIdeal.main_arg2)) (m ((c.tc : Thread Cert.ActDxReferenceIdeal.nD Cert.ActDxReferenceIdeal.τ).loc Cert.ActDxReferenceIdeal.main_arg3))) = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_qk_finite [hPre_qk_finite : Cert.Pre_qk_finite.Facts] (m : (ℓ : Loc Cert.FlashIdeal.nD Cert.FlashIdeal.τ Cert.FlashIdeal.sig) → Buf (Elt Ideal) ℓ) : Prop :=
  ∀ c : Dev Cert.FlashIdeal.nD,
    (Cert.Pre_qk_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_FlashReferenceIdeal (m : (ℓ : Loc Cert.FlashReferenceIdeal.nD Cert.FlashReferenceIdeal.τ Cert.FlashReferenceIdeal.sig) → Buf (Elt Ideal) ℓ) : Prop :=
  True

def Pre_FlashReferenceIdeal_qk_finite [hPre_qk_finite : Cert.Pre_qk_finite.Facts] (m : (ℓ : Loc Cert.FlashReferenceIdeal.nD Cert.FlashReferenceIdeal.τ Cert.FlashReferenceIdeal.sig) → Buf (Elt Ideal) ℓ) : Prop :=
  ∀ c : Dev Cert.FlashReferenceIdeal.nD,
    (Cert.Pre_qk_finite.fn (F := Ideal) (m ((c.tc : Thread Cert.FlashReferenceIdeal.nD Cert.FlashReferenceIdeal.τ).loc Cert.FlashReferenceIdeal.main_arg0)) (m ((c.tc : Thread Cert.FlashReferenceIdeal.nD Cert.FlashReferenceIdeal.τ).loc Cert.FlashReferenceIdeal.main_arg1)) (m ((c.tc : Thread Cert.FlashReferenceIdeal.nD Cert.FlashReferenceIdeal.τ).loc Cert.FlashReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_AQkv [hAQkv : Cert.AQkv.Facts] : Prop :=
  ∀ (m : (ℓ : Loc Cert.AQkv.nD Cert.AQkv.τ Cert.AQkv.sig) → Buf (Elt Bits) ℓ) (g : Dev Cert.AQkv.nD → PrngReg), Pre_AQkv m →
    θ_run (Cert.AQkv.defs (F := Bits)) (onTc (τ := Cert.AQkv.τ) (Cert.AQkv.main (F := Bits))) ⟨m, fun _ => 0, g⟩ (fun r => (∀ c : Dev Cert.AQkv.nD,
      r.2.mem ((c.tc : Thread Cert.AQkv.nD Cert.AQkv.τ).loc Cert.AQkv.main_arg0) = m ((c.tc : Thread Cert.AQkv.nD Cert.AQkv.τ).loc Cert.AQkv.main_arg0)
      ∧ r.2.mem ((c.tc : Thread Cert.AQkv.nD Cert.AQkv.τ).loc Cert.AQkv.main_arg1) = m ((c.tc : Thread Cert.AQkv.nD Cert.AQkv.τ).loc Cert.AQkv.main_arg1))
      ∧ r.2.sem = fun _ => 0)

def quiescent_AQkvIdeal [hAQkvIdeal : Cert.AQkvIdeal.Facts] : Prop :=
  ∀ (m : (ℓ : Loc Cert.AQkvIdeal.nD Cert.AQkvIdeal.τ Cert.AQkvIdeal.sig) → Buf (Elt Ideal) ℓ) (g : Dev Cert.AQkvIdeal.nD → PrngReg), Pre_AQkvIdeal m →
    θ_run (Cert.AQkvIdeal.defs (F := Ideal)) (onTc (τ := Cert.AQkvIdeal.τ) (Cert.AQkvIdeal.main (F := Ideal))) ⟨m, fun _ => 0, g⟩ (fun r => (∀ c : Dev Cert.AQkvIdeal.nD,
      r.2.mem ((c.tc : Thread Cert.AQkvIdeal.nD Cert.AQkvIdeal.τ).loc Cert.AQkvIdeal.main_arg0) = m ((c.tc : Thread Cert.AQkvIdeal.nD Cert.AQkvIdeal.τ).loc Cert.AQkvIdeal.main_arg0)
      ∧ r.2.mem ((c.tc : Thread Cert.AQkvIdeal.nD Cert.AQkvIdeal.τ).loc Cert.AQkvIdeal.main_arg1) = m ((c.tc : Thread Cert.AQkvIdeal.nD Cert.AQkvIdeal.τ).loc Cert.AQkvIdeal.main_arg1))
      ∧ r.2.sem = fun _ => 0)

def quiescent_AQkvReferenceIdeal [hAQkvReferenceIdeal : Cert.AQkvReferenceIdeal.Facts] : Prop :=
  ∀ (m : (ℓ : Loc Cert.AQkvReferenceIdeal.nD Cert.AQkvReferenceIdeal.τ Cert.AQkvReferenceIdeal.sig) → Buf (Elt Ideal) ℓ) (g : Dev Cert.AQkvReferenceIdeal.nD → PrngReg), Pre_AQkvReferenceIdeal m →
    θ_run (Cert.AQkvReferenceIdeal.defs (F := Ideal)) (onTc (τ := Cert.AQkvReferenceIdeal.τ) (Cert.AQkvReferenceIdeal.main (F := Ideal))) ⟨m, fun _ => 0, g⟩ (fun r => (∀ c : Dev Cert.AQkvReferenceIdeal.nD,
      r.2.mem ((c.tc : Thread Cert.AQkvReferenceIdeal.nD Cert.AQkvReferenceIdeal.τ).loc Cert.AQkvReferenceIdeal.main_arg0) = m ((c.tc : Thread Cert.AQkvReferenceIdeal.nD Cert.AQkvReferenceIdeal.τ).loc Cert.AQkvReferenceIdeal.main_arg0)
      ∧ r.2.mem ((c.tc : Thread Cert.AQkvReferenceIdeal.nD Cert.AQkvReferenceIdeal.τ).loc Cert.AQkvReferenceIdeal.main_arg1) = m ((c.tc : Thread Cert.AQkvReferenceIdeal.nD Cert.AQkvReferenceIdeal.τ).loc Cert.AQkvReferenceIdeal.main_arg1))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ r.2.sem = fun _ => 0)

def quiescent_AOutReferenceIdeal [hAOutReferenceIdeal : Cert.AOutReferenceIdeal.Facts] : Prop :=
  ∀ (m : (ℓ : Loc Cert.AOutReferenceIdeal.nD Cert.AOutReferenceIdeal.τ Cert.AOutReferenceIdeal.sig) → Buf (Elt Ideal) ℓ) (g : Dev Cert.AOutReferenceIdeal.nD → PrngReg), Pre_AOutReferenceIdeal m →
    θ_run (Cert.AOutReferenceIdeal.defs (F := Ideal)) (onTc (τ := Cert.AOutReferenceIdeal.τ) (Cert.AOutReferenceIdeal.main (F := Ideal))) ⟨m, fun _ => 0, g⟩ (fun r => (∀ c : Dev Cert.AOutReferenceIdeal.nD,
      r.2.mem ((c.tc : Thread Cert.AOutReferenceIdeal.nD Cert.AOutReferenceIdeal.τ).loc Cert.AOutReferenceIdeal.main_arg0) = m ((c.tc : Thread Cert.AOutReferenceIdeal.nD Cert.AOutReferenceIdeal.τ).loc Cert.AOutReferenceIdeal.main_arg0)
      ∧ r.2.mem ((c.tc : Thread Cert.AOutReferenceIdeal.nD Cert.AOutReferenceIdeal.τ).loc Cert.AOutReferenceIdeal.main_arg1) = m ((c.tc : Thread Cert.AOutReferenceIdeal.nD Cert.AOutReferenceIdeal.τ).loc Cert.AOutReferenceIdeal.main_arg1)
      ∧ r.2.mem ((c.tc : Thread Cert.AOutReferenceIdeal.nD Cert.AOutReferenceIdeal.τ).loc Cert.AOutReferenceIdeal.main_arg2) = m ((c.tc : Thread Cert.AOutReferenceIdeal.nD Cert.AOutReferenceIdeal.τ).loc Cert.AOutReferenceIdeal.main_arg2))
      ∧ r.2.sem = fun _ => 0)

def quiescent_BOut [hBOut : Cert.BOut.Facts] : Prop :=
  ∀ (m : (ℓ : Loc Cert.BOut.nD Cert.BOut.τ Cert.BOut.sig) → Buf (Elt Bits) ℓ) (g : Dev Cert.BOut.nD → PrngReg), Pre_BOut m →
    θ_run (Cert.BOut.defs (F := Bits)) (onTc (τ := Cert.BOut.τ) (Cert.BOut.main (F := Bits))) ⟨m, fun _ => 0, g⟩ (fun r => (∀ c : Dev Cert.BOut.nD,
      r.2.mem ((c.tc : Thread Cert.BOut.nD Cert.BOut.τ).loc Cert.BOut.main_arg0) = m ((c.tc : Thread Cert.BOut.nD Cert.BOut.τ).loc Cert.BOut.main_arg0)
      ∧ r.2.mem ((c.tc : Thread Cert.BOut.nD Cert.BOut.τ).loc Cert.BOut.main_arg1) = m ((c.tc : Thread Cert.BOut.nD Cert.BOut.τ).loc Cert.BOut.main_arg1)
      ∧ r.2.mem ((c.tc : Thread Cert.BOut.nD Cert.BOut.τ).loc Cert.BOut.main_arg2) = m ((c.tc : Thread Cert.BOut.nD Cert.BOut.τ).loc Cert.BOut.main_arg2))
      ∧ r.2.sem = fun _ => 0)

def quiescent_BOutIdeal [hBOutIdeal : Cert.BOutIdeal.Facts] : Prop :=
  ∀ (m : (ℓ : Loc Cert.BOutIdeal.nD Cert.BOutIdeal.τ Cert.BOutIdeal.sig) → Buf (Elt Ideal) ℓ) (g : Dev Cert.BOutIdeal.nD → PrngReg), Pre_BOutIdeal m →
    θ_run (Cert.BOutIdeal.defs (F := Ideal)) (onTc (τ := Cert.BOutIdeal.τ) (Cert.BOutIdeal.main (F := Ideal))) ⟨m, fun _ => 0, g⟩ (fun r => (∀ c : Dev Cert.BOutIdeal.nD,
      r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
      ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
      ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2))
      ∧ r.2.sem = fun _ => 0)

def quiescent_BOutReferenceIdeal [hBOutReferenceIdeal : Cert.BOutReferenceIdeal.Facts] : Prop :=
  ∀ (m : (ℓ : Loc Cert.BOutReferenceIdeal.nD Cert.BOutReferenceIdeal.τ Cert.BOutReferenceIdeal.sig) → Buf (Elt Ideal) ℓ) (g : Dev Cert.BOutReferenceIdeal.nD → PrngReg), Pre_BOutReferenceIdeal m →
    θ_run (Cert.BOutReferenceIdeal.defs (F := Ideal)) (onTc (τ := Cert.BOutReferenceIdeal.τ) (Cert.BOutReferenceIdeal.main (F := Ideal))) ⟨m, fun _ => 0, g⟩ (fun r => (∀ c : Dev Cert.BOutReferenceIdeal.nD,
      r.2.mem ((c.tc : Thread Cert.BOutReferenceIdeal.nD Cert.BOutReferenceIdeal.τ).loc Cert.BOutReferenceIdeal.main_arg0) = m ((c.tc : Thread Cert.BOutReferenceIdeal.nD Cert.BOutReferenceIdeal.τ).loc Cert.BOutReferenceIdeal.main_arg0)
      ∧ r.2.mem ((c.tc : Thread Cert.BOutReferenceIdeal.nD Cert.BOutReferenceIdeal.τ).loc Cert.BOutReferenceIdeal.main_arg1) = m ((c.tc : Thread Cert.BOutReferenceIdeal.nD Cert.BOutReferenceIdeal.τ).loc Cert.BOutReferenceIdeal.main_arg1)
      ∧ r.2.mem ((c.tc : Thread Cert.BOutReferenceIdeal.nD Cert.BOutReferenceIdeal.τ).loc Cert.BOutReferenceIdeal.main_arg2) = m ((c.tc : Thread Cert.BOutReferenceIdeal.nD Cert.BOutReferenceIdeal.τ).loc Cert.BOutReferenceIdeal.main_arg2))
      ∧ r.2.sem = fun _ => 0)

def quiescent_AQkvDx [hAQkvDx : Cert.AQkvDx.Facts] : Prop :=
  ∀ (m : (ℓ : Loc Cert.AQkvDx.nD Cert.AQkvDx.τ Cert.AQkvDx.sig) → Buf (Elt Bits) ℓ) (g : Dev Cert.AQkvDx.nD → PrngReg), Pre_AQkvDx m →
    θ_run (Cert.AQkvDx.defs (F := Bits)) (onTc (τ := Cert.AQkvDx.τ) (Cert.AQkvDx.main (F := Bits))) ⟨m, fun _ => 0, g⟩ (fun r => (∀ c : Dev Cert.AQkvDx.nD,
      r.2.mem ((c.tc : Thread Cert.AQkvDx.nD Cert.AQkvDx.τ).loc Cert.AQkvDx.main_arg0) = m ((c.tc : Thread Cert.AQkvDx.nD Cert.AQkvDx.τ).loc Cert.AQkvDx.main_arg0)
      ∧ r.2.mem ((c.tc : Thread Cert.AQkvDx.nD Cert.AQkvDx.τ).loc Cert.AQkvDx.main_arg1) = m ((c.tc : Thread Cert.AQkvDx.nD Cert.AQkvDx.τ).loc Cert.AQkvDx.main_arg1))
      ∧ r.2.sem = fun _ => 0)

def quiescent_AQkvDxIdeal [hAQkvDxIdeal : Cert.AQkvDxIdeal.Facts] : Prop :=
  ∀ (m : (ℓ : Loc Cert.AQkvDxIdeal.nD Cert.AQkvDxIdeal.τ Cert.AQkvDxIdeal.sig) → Buf (Elt Ideal) ℓ) (g : Dev Cert.AQkvDxIdeal.nD → PrngReg), Pre_AQkvDxIdeal m →
    θ_run (Cert.AQkvDxIdeal.defs (F := Ideal)) (onTc (τ := Cert.AQkvDxIdeal.τ) (Cert.AQkvDxIdeal.main (F := Ideal))) ⟨m, fun _ => 0, g⟩ (fun r => (∀ c : Dev Cert.AQkvDxIdeal.nD,
      r.2.mem ((c.tc : Thread Cert.AQkvDxIdeal.nD Cert.AQkvDxIdeal.τ).loc Cert.AQkvDxIdeal.main_arg0) = m ((c.tc : Thread Cert.AQkvDxIdeal.nD Cert.AQkvDxIdeal.τ).loc Cert.AQkvDxIdeal.main_arg0)
      ∧ r.2.mem ((c.tc : Thread Cert.AQkvDxIdeal.nD Cert.AQkvDxIdeal.τ).loc Cert.AQkvDxIdeal.main_arg1) = m ((c.tc : Thread Cert.AQkvDxIdeal.nD Cert.AQkvDxIdeal.τ).loc Cert.AQkvDxIdeal.main_arg1))
      ∧ r.2.sem = fun _ => 0)

def quiescent_AQkvDxReferenceIdeal [hAQkvDxReferenceIdeal : Cert.AQkvDxReferenceIdeal.Facts] : Prop :=
  ∀ (m : (ℓ : Loc Cert.AQkvDxReferenceIdeal.nD Cert.AQkvDxReferenceIdeal.τ Cert.AQkvDxReferenceIdeal.sig) → Buf (Elt Ideal) ℓ) (g : Dev Cert.AQkvDxReferenceIdeal.nD → PrngReg), Pre_AQkvDxReferenceIdeal m →
    θ_run (Cert.AQkvDxReferenceIdeal.defs (F := Ideal)) (onTc (τ := Cert.AQkvDxReferenceIdeal.τ) (Cert.AQkvDxReferenceIdeal.main (F := Ideal))) ⟨m, fun _ => 0, g⟩ (fun r => (∀ c : Dev Cert.AQkvDxReferenceIdeal.nD,
      r.2.mem ((c.tc : Thread Cert.AQkvDxReferenceIdeal.nD Cert.AQkvDxReferenceIdeal.τ).loc Cert.AQkvDxReferenceIdeal.main_arg0) = m ((c.tc : Thread Cert.AQkvDxReferenceIdeal.nD Cert.AQkvDxReferenceIdeal.τ).loc Cert.AQkvDxReferenceIdeal.main_arg0)
      ∧ r.2.mem ((c.tc : Thread Cert.AQkvDxReferenceIdeal.nD Cert.AQkvDxReferenceIdeal.τ).loc Cert.AQkvDxReferenceIdeal.main_arg1) = m ((c.tc : Thread Cert.AQkvDxReferenceIdeal.nD Cert.AQkvDxReferenceIdeal.τ).loc Cert.AQkvDxReferenceIdeal.main_arg1))
      ∧ r.2.sem = fun _ => 0)

def quiescent_AQkvDw [hAQkvDw : Cert.AQkvDw.Facts] : Prop :=
  ∀ (m : (ℓ : Loc Cert.AQkvDw.nD Cert.AQkvDw.τ Cert.AQkvDw.sig) → Buf (Elt Bits) ℓ) (g : Dev Cert.AQkvDw.nD → PrngReg), Pre_AQkvDw m →
    θ_run (Cert.AQkvDw.defs (F := Bits)) (onTc (τ := Cert.AQkvDw.τ) (Cert.AQkvDw.main (F := Bits))) ⟨m, fun _ => 0, g⟩ (fun r => (∀ c : Dev Cert.AQkvDw.nD,
      r.2.mem ((c.tc : Thread Cert.AQkvDw.nD Cert.AQkvDw.τ).loc Cert.AQkvDw.main_arg0) = m ((c.tc : Thread Cert.AQkvDw.nD Cert.AQkvDw.τ).loc Cert.AQkvDw.main_arg0)
      ∧ r.2.mem ((c.tc : Thread Cert.AQkvDw.nD Cert.AQkvDw.τ).loc Cert.AQkvDw.main_arg1) = m ((c.tc : Thread Cert.AQkvDw.nD Cert.AQkvDw.τ).loc Cert.AQkvDw.main_arg1))
      ∧ r.2.sem = fun _ => 0)

def quiescent_AQkvDwIdeal [hAQkvDwIdeal : Cert.AQkvDwIdeal.Facts] : Prop :=
  ∀ (m : (ℓ : Loc Cert.AQkvDwIdeal.nD Cert.AQkvDwIdeal.τ Cert.AQkvDwIdeal.sig) → Buf (Elt Ideal) ℓ) (g : Dev Cert.AQkvDwIdeal.nD → PrngReg), Pre_AQkvDwIdeal m →
    θ_run (Cert.AQkvDwIdeal.defs (F := Ideal)) (onTc (τ := Cert.AQkvDwIdeal.τ) (Cert.AQkvDwIdeal.main (F := Ideal))) ⟨m, fun _ => 0, g⟩ (fun r => (∀ c : Dev Cert.AQkvDwIdeal.nD,
      r.2.mem ((c.tc : Thread Cert.AQkvDwIdeal.nD Cert.AQkvDwIdeal.τ).loc Cert.AQkvDwIdeal.main_arg0) = m ((c.tc : Thread Cert.AQkvDwIdeal.nD Cert.AQkvDwIdeal.τ).loc Cert.AQkvDwIdeal.main_arg0)
      ∧ r.2.mem ((c.tc : Thread Cert.AQkvDwIdeal.nD Cert.AQkvDwIdeal.τ).loc Cert.AQkvDwIdeal.main_arg1) = m ((c.tc : Thread Cert.AQkvDwIdeal.nD Cert.AQkvDwIdeal.τ).loc Cert.AQkvDwIdeal.main_arg1))
      ∧ r.2.sem = fun _ => 0)

def quiescent_AQkvDwReferenceIdeal [hAQkvDwReferenceIdeal : Cert.AQkvDwReferenceIdeal.Facts] : Prop :=
  ∀ (m : (ℓ : Loc Cert.AQkvDwReferenceIdeal.nD Cert.AQkvDwReferenceIdeal.τ Cert.AQkvDwReferenceIdeal.sig) → Buf (Elt Ideal) ℓ) (g : Dev Cert.AQkvDwReferenceIdeal.nD → PrngReg), Pre_AQkvDwReferenceIdeal m →
    θ_run (Cert.AQkvDwReferenceIdeal.defs (F := Ideal)) (onTc (τ := Cert.AQkvDwReferenceIdeal.τ) (Cert.AQkvDwReferenceIdeal.main (F := Ideal))) ⟨m, fun _ => 0, g⟩ (fun r => (∀ c : Dev Cert.AQkvDwReferenceIdeal.nD,
      r.2.mem ((c.tc : Thread Cert.AQkvDwReferenceIdeal.nD Cert.AQkvDwReferenceIdeal.τ).loc Cert.AQkvDwReferenceIdeal.main_arg0) = m ((c.tc : Thread Cert.AQkvDwReferenceIdeal.nD Cert.AQkvDwReferenceIdeal.τ).loc Cert.AQkvDwReferenceIdeal.main_arg0)
      ∧ r.2.mem ((c.tc : Thread Cert.AQkvDwReferenceIdeal.nD Cert.AQkvDwReferenceIdeal.τ).loc Cert.AQkvDwReferenceIdeal.main_arg1) = m ((c.tc : Thread Cert.AQkvDwReferenceIdeal.nD Cert.AQkvDwReferenceIdeal.τ).loc Cert.AQkvDwReferenceIdeal.main_arg1))
      ∧ r.2.sem = fun _ => 0)

def quiescent_AOutDx [hAOutDx : Cert.AOutDx.Facts] : Prop :=
  ∀ (m : (ℓ : Loc Cert.AOutDx.nD Cert.AOutDx.τ Cert.AOutDx.sig) → Buf (Elt Bits) ℓ) (g : Dev Cert.AOutDx.nD → PrngReg), Pre_AOutDx m →
    θ_run (Cert.AOutDx.defs (F := Bits)) (onTc (τ := Cert.AOutDx.τ) (Cert.AOutDx.main (F := Bits))) ⟨m, fun _ => 0, g⟩ (fun r => (∀ c : Dev Cert.AOutDx.nD,
      r.2.mem ((c.tc : Thread Cert.AOutDx.nD Cert.AOutDx.τ).loc Cert.AOutDx.main_arg0) = m ((c.tc : Thread Cert.AOutDx.nD Cert.AOutDx.τ).loc Cert.AOutDx.main_arg0)
      ∧ r.2.mem ((c.tc : Thread Cert.AOutDx.nD Cert.AOutDx.τ).loc Cert.AOutDx.main_arg1) = m ((c.tc : Thread Cert.AOutDx.nD Cert.AOutDx.τ).loc Cert.AOutDx.main_arg1))
      ∧ r.2.sem = fun _ => 0)

def quiescent_AOutDxIdeal [hAOutDxIdeal : Cert.AOutDxIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg), Pre_AOutDxIdeal m →
    θ_run (Cert.AOutDxIdeal.defs (F := Ideal)) (onTc (τ := Cert.AOutDxIdeal.τ) (Cert.AOutDxIdeal.main (F := Ideal))) ⟨m, fun _ => 0, g⟩ (fun r => (∀ c : Dev Cert.AOutDxIdeal.nD,
      r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
      ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ r.2.sem = fun _ => 0)

def quiescent_AOutDxReferenceIdeal [hAOutDxReferenceIdeal : Cert.AOutDxReferenceIdeal.Facts] : Prop :=
  ∀ (m : (ℓ : Loc Cert.AOutDxReferenceIdeal.nD Cert.AOutDxReferenceIdeal.τ Cert.AOutDxReferenceIdeal.sig) → Buf (Elt Ideal) ℓ) (g : Dev Cert.AOutDxReferenceIdeal.nD → PrngReg), Pre_AOutDxReferenceIdeal m →
    θ_run (Cert.AOutDxReferenceIdeal.defs (F := Ideal)) (onTc (τ := Cert.AOutDxReferenceIdeal.τ) (Cert.AOutDxReferenceIdeal.main (F := Ideal))) ⟨m, fun _ => 0, g⟩ (fun r => (∀ c : Dev Cert.AOutDxReferenceIdeal.nD,
      r.2.mem ((c.tc : Thread Cert.AOutDxReferenceIdeal.nD Cert.AOutDxReferenceIdeal.τ).loc Cert.AOutDxReferenceIdeal.main_arg0) = m ((c.tc : Thread Cert.AOutDxReferenceIdeal.nD Cert.AOutDxReferenceIdeal.τ).loc Cert.AOutDxReferenceIdeal.main_arg0)
      ∧ r.2.mem ((c.tc : Thread Cert.AOutDxReferenceIdeal.nD Cert.AOutDxReferenceIdeal.τ).loc Cert.AOutDxReferenceIdeal.main_arg1) = m ((c.tc : Thread Cert.AOutDxReferenceIdeal.nD Cert.AOutDxReferenceIdeal.τ).loc Cert.AOutDxReferenceIdeal.main_arg1))
      ∧ r.2.sem = fun _ => 0)

def quiescent_AOutDw [hAOutDw : Cert.AOutDw.Facts] : Prop :=
  ∀ (m : (ℓ : Loc Cert.AOutDw.nD Cert.AOutDw.τ Cert.AOutDw.sig) → Buf (Elt Bits) ℓ) (g : Dev Cert.AOutDw.nD → PrngReg), Pre_AOutDw m →
    θ_run (Cert.AOutDw.defs (F := Bits)) (onTc (τ := Cert.AOutDw.τ) (Cert.AOutDw.main (F := Bits))) ⟨m, fun _ => 0, g⟩ (fun r => (∀ c : Dev Cert.AOutDw.nD,
      r.2.mem ((c.tc : Thread Cert.AOutDw.nD Cert.AOutDw.τ).loc Cert.AOutDw.main_arg0) = m ((c.tc : Thread Cert.AOutDw.nD Cert.AOutDw.τ).loc Cert.AOutDw.main_arg0)
      ∧ r.2.mem ((c.tc : Thread Cert.AOutDw.nD Cert.AOutDw.τ).loc Cert.AOutDw.main_arg1) = m ((c.tc : Thread Cert.AOutDw.nD Cert.AOutDw.τ).loc Cert.AOutDw.main_arg1))
      ∧ r.2.sem = fun _ => 0)

def quiescent_AOutDwIdeal [hAOutDwIdeal : Cert.AOutDwIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg), Pre_AOutDwIdeal m →
    θ_run (Cert.AOutDwIdeal.defs (F := Ideal)) (onTc (τ := Cert.AOutDwIdeal.τ) (Cert.AOutDwIdeal.main (F := Ideal))) ⟨m, fun _ => 0, g⟩ (fun r => (∀ c : Dev Cert.AOutDwIdeal.nD,
      r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
      ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1))
      ∧ r.2.sem = fun _ => 0)

def quiescent_AOutDwReferenceIdeal [hAOutDwReferenceIdeal : Cert.AOutDwReferenceIdeal.Facts] : Prop :=
  ∀ (m : (ℓ : Loc Cert.AOutDwReferenceIdeal.nD Cert.AOutDwReferenceIdeal.τ Cert.AOutDwReferenceIdeal.sig) → Buf (Elt Ideal) ℓ) (g : Dev Cert.AOutDwReferenceIdeal.nD → PrngReg), Pre_AOutDwReferenceIdeal m →
    θ_run (Cert.AOutDwReferenceIdeal.defs (F := Ideal)) (onTc (τ := Cert.AOutDwReferenceIdeal.τ) (Cert.AOutDwReferenceIdeal.main (F := Ideal))) ⟨m, fun _ => 0, g⟩ (fun r => (∀ c : Dev Cert.AOutDwReferenceIdeal.nD,
      r.2.mem ((c.tc : Thread Cert.AOutDwReferenceIdeal.nD Cert.AOutDwReferenceIdeal.τ).loc Cert.AOutDwReferenceIdeal.main_arg0) = m ((c.tc : Thread Cert.AOutDwReferenceIdeal.nD Cert.AOutDwReferenceIdeal.τ).loc Cert.AOutDwReferenceIdeal.main_arg0)
      ∧ r.2.mem ((c.tc : Thread Cert.AOutDwReferenceIdeal.nD Cert.AOutDwReferenceIdeal.τ).loc Cert.AOutDwReferenceIdeal.main_arg1) = m ((c.tc : Thread Cert.AOutDwReferenceIdeal.nD Cert.AOutDwReferenceIdeal.τ).loc Cert.AOutDwReferenceIdeal.main_arg1))
      ∧ r.2.sem = fun _ => 0)

def quiescent_BQkvDx [hBQkvDx : Cert.BQkvDx.Facts] : Prop :=
  ∀ (m : (ℓ : Loc Cert.BQkvDx.nD Cert.BQkvDx.τ Cert.BQkvDx.sig) → Buf (Elt Bits) ℓ) (g : Dev Cert.BQkvDx.nD → PrngReg), Pre_BQkvDx m →
    θ_run (Cert.BQkvDx.defs (F := Bits)) (onTc (τ := Cert.BQkvDx.τ) (Cert.BQkvDx.main (F := Bits))) ⟨m, fun _ => 0, g⟩ (fun r => (∀ c : Dev Cert.BQkvDx.nD,
      r.2.mem ((c.tc : Thread Cert.BQkvDx.nD Cert.BQkvDx.τ).loc Cert.BQkvDx.main_arg0) = m ((c.tc : Thread Cert.BQkvDx.nD Cert.BQkvDx.τ).loc Cert.BQkvDx.main_arg0)
      ∧ r.2.mem ((c.tc : Thread Cert.BQkvDx.nD Cert.BQkvDx.τ).loc Cert.BQkvDx.main_arg1) = m ((c.tc : Thread Cert.BQkvDx.nD Cert.BQkvDx.τ).loc Cert.BQkvDx.main_arg1))
      ∧ r.2.sem = fun _ => 0)

def quiescent_BQkvDxIdeal [hBQkvDxIdeal : Cert.BQkvDxIdeal.Facts] : Prop :=
  ∀ (m : (ℓ : Loc Cert.BQkvDxIdeal.nD Cert.BQkvDxIdeal.τ Cert.BQkvDxIdeal.sig) → Buf (Elt Ideal) ℓ) (g : Dev Cert.BQkvDxIdeal.nD → PrngReg), Pre_BQkvDxIdeal m →
    θ_run (Cert.BQkvDxIdeal.defs (F := Ideal)) (onTc (τ := Cert.BQkvDxIdeal.τ) (Cert.BQkvDxIdeal.main (F := Ideal))) ⟨m, fun _ => 0, g⟩ (fun r => (∀ c : Dev Cert.BQkvDxIdeal.nD,
      r.2.mem ((c.tc : Thread Cert.BQkvDxIdeal.nD Cert.BQkvDxIdeal.τ).loc Cert.BQkvDxIdeal.main_arg0) = m ((c.tc : Thread Cert.BQkvDxIdeal.nD Cert.BQkvDxIdeal.τ).loc Cert.BQkvDxIdeal.main_arg0)
      ∧ r.2.mem ((c.tc : Thread Cert.BQkvDxIdeal.nD Cert.BQkvDxIdeal.τ).loc Cert.BQkvDxIdeal.main_arg1) = m ((c.tc : Thread Cert.BQkvDxIdeal.nD Cert.BQkvDxIdeal.τ).loc Cert.BQkvDxIdeal.main_arg1))
      ∧ r.2.sem = fun _ => 0)

def quiescent_BQkvDxReferenceIdeal [hBQkvDxReferenceIdeal : Cert.BQkvDxReferenceIdeal.Facts] : Prop :=
  ∀ (m : (ℓ : Loc Cert.BQkvDxReferenceIdeal.nD Cert.BQkvDxReferenceIdeal.τ Cert.BQkvDxReferenceIdeal.sig) → Buf (Elt Ideal) ℓ) (g : Dev Cert.BQkvDxReferenceIdeal.nD → PrngReg), Pre_BQkvDxReferenceIdeal m →
    θ_run (Cert.BQkvDxReferenceIdeal.defs (F := Ideal)) (onTc (τ := Cert.BQkvDxReferenceIdeal.τ) (Cert.BQkvDxReferenceIdeal.main (F := Ideal))) ⟨m, fun _ => 0, g⟩ (fun r => (∀ c : Dev Cert.BQkvDxReferenceIdeal.nD,
      r.2.mem ((c.tc : Thread Cert.BQkvDxReferenceIdeal.nD Cert.BQkvDxReferenceIdeal.τ).loc Cert.BQkvDxReferenceIdeal.main_arg0) = m ((c.tc : Thread Cert.BQkvDxReferenceIdeal.nD Cert.BQkvDxReferenceIdeal.τ).loc Cert.BQkvDxReferenceIdeal.main_arg0)
      ∧ r.2.mem ((c.tc : Thread Cert.BQkvDxReferenceIdeal.nD Cert.BQkvDxReferenceIdeal.τ).loc Cert.BQkvDxReferenceIdeal.main_arg1) = m ((c.tc : Thread Cert.BQkvDxReferenceIdeal.nD Cert.BQkvDxReferenceIdeal.τ).loc Cert.BQkvDxReferenceIdeal.main_arg1))
      ∧ r.2.sem = fun _ => 0)

def quiescent_BQkvDw [hBQkvDw : Cert.BQkvDw.Facts] : Prop :=
  ∀ (m : (ℓ : Loc Cert.BQkvDw.nD Cert.BQkvDw.τ Cert.BQkvDw.sig) → Buf (Elt Bits) ℓ) (g : Dev Cert.BQkvDw.nD → PrngReg), Pre_BQkvDw m →
    θ_run (Cert.BQkvDw.defs (F := Bits)) (onTc (τ := Cert.BQkvDw.τ) (Cert.BQkvDw.main (F := Bits))) ⟨m, fun _ => 0, g⟩ (fun r => (∀ c : Dev Cert.BQkvDw.nD,
      r.2.mem ((c.tc : Thread Cert.BQkvDw.nD Cert.BQkvDw.τ).loc Cert.BQkvDw.main_arg0) = m ((c.tc : Thread Cert.BQkvDw.nD Cert.BQkvDw.τ).loc Cert.BQkvDw.main_arg0)
      ∧ r.2.mem ((c.tc : Thread Cert.BQkvDw.nD Cert.BQkvDw.τ).loc Cert.BQkvDw.main_arg1) = m ((c.tc : Thread Cert.BQkvDw.nD Cert.BQkvDw.τ).loc Cert.BQkvDw.main_arg1))
      ∧ r.2.sem = fun _ => 0)

def quiescent_BQkvDwIdeal [hBQkvDwIdeal : Cert.BQkvDwIdeal.Facts] : Prop :=
  ∀ (m : (ℓ : Loc Cert.BQkvDwIdeal.nD Cert.BQkvDwIdeal.τ Cert.BQkvDwIdeal.sig) → Buf (Elt Ideal) ℓ) (g : Dev Cert.BQkvDwIdeal.nD → PrngReg), Pre_BQkvDwIdeal m →
    θ_run (Cert.BQkvDwIdeal.defs (F := Ideal)) (onTc (τ := Cert.BQkvDwIdeal.τ) (Cert.BQkvDwIdeal.main (F := Ideal))) ⟨m, fun _ => 0, g⟩ (fun r => (∀ c : Dev Cert.BQkvDwIdeal.nD,
      r.2.mem ((c.tc : Thread Cert.BQkvDwIdeal.nD Cert.BQkvDwIdeal.τ).loc Cert.BQkvDwIdeal.main_arg0) = m ((c.tc : Thread Cert.BQkvDwIdeal.nD Cert.BQkvDwIdeal.τ).loc Cert.BQkvDwIdeal.main_arg0)
      ∧ r.2.mem ((c.tc : Thread Cert.BQkvDwIdeal.nD Cert.BQkvDwIdeal.τ).loc Cert.BQkvDwIdeal.main_arg1) = m ((c.tc : Thread Cert.BQkvDwIdeal.nD Cert.BQkvDwIdeal.τ).loc Cert.BQkvDwIdeal.main_arg1))
      ∧ r.2.sem = fun _ => 0)

def quiescent_BQkvDwReferenceIdeal [hBQkvDwReferenceIdeal : Cert.BQkvDwReferenceIdeal.Facts] : Prop :=
  ∀ (m : (ℓ : Loc Cert.BQkvDwReferenceIdeal.nD Cert.BQkvDwReferenceIdeal.τ Cert.BQkvDwReferenceIdeal.sig) → Buf (Elt Ideal) ℓ) (g : Dev Cert.BQkvDwReferenceIdeal.nD → PrngReg), Pre_BQkvDwReferenceIdeal m →
    θ_run (Cert.BQkvDwReferenceIdeal.defs (F := Ideal)) (onTc (τ := Cert.BQkvDwReferenceIdeal.τ) (Cert.BQkvDwReferenceIdeal.main (F := Ideal))) ⟨m, fun _ => 0, g⟩ (fun r => (∀ c : Dev Cert.BQkvDwReferenceIdeal.nD,
      r.2.mem ((c.tc : Thread Cert.BQkvDwReferenceIdeal.nD Cert.BQkvDwReferenceIdeal.τ).loc Cert.BQkvDwReferenceIdeal.main_arg0) = m ((c.tc : Thread Cert.BQkvDwReferenceIdeal.nD Cert.BQkvDwReferenceIdeal.τ).loc Cert.BQkvDwReferenceIdeal.main_arg0)
      ∧ r.2.mem ((c.tc : Thread Cert.BQkvDwReferenceIdeal.nD Cert.BQkvDwReferenceIdeal.τ).loc Cert.BQkvDwReferenceIdeal.main_arg1) = m ((c.tc : Thread Cert.BQkvDwReferenceIdeal.nD Cert.BQkvDwReferenceIdeal.τ).loc Cert.BQkvDwReferenceIdeal.main_arg1))
      ∧ r.2.sem = fun _ => 0)

def quiescent_BOutDx [hBOutDx : Cert.BOutDx.Facts] : Prop :=
  ∀ (m : (ℓ : Loc Cert.BOutDx.nD Cert.BOutDx.τ Cert.BOutDx.sig) → Buf (Elt Bits) ℓ) (g : Dev Cert.BOutDx.nD → PrngReg), Pre_BOutDx m →
    θ_run (Cert.BOutDx.defs (F := Bits)) (onTc (τ := Cert.BOutDx.τ) (Cert.BOutDx.main (F := Bits))) ⟨m, fun _ => 0, g⟩ (fun r => (∀ c : Dev Cert.BOutDx.nD,
      r.2.mem ((c.tc : Thread Cert.BOutDx.nD Cert.BOutDx.τ).loc Cert.BOutDx.main_arg0) = m ((c.tc : Thread Cert.BOutDx.nD Cert.BOutDx.τ).loc Cert.BOutDx.main_arg0)
      ∧ r.2.mem ((c.tc : Thread Cert.BOutDx.nD Cert.BOutDx.τ).loc Cert.BOutDx.main_arg1) = m ((c.tc : Thread Cert.BOutDx.nD Cert.BOutDx.τ).loc Cert.BOutDx.main_arg1))
      ∧ r.2.sem = fun _ => 0)

def quiescent_BOutDxIdeal [hBOutDxIdeal : Cert.BOutDxIdeal.Facts] : Prop :=
  ∀ (m : (ℓ : Loc Cert.BOutDxIdeal.nD Cert.BOutDxIdeal.τ Cert.BOutDxIdeal.sig) → Buf (Elt Ideal) ℓ) (g : Dev Cert.BOutDxIdeal.nD → PrngReg), Pre_BOutDxIdeal m →
    θ_run (Cert.BOutDxIdeal.defs (F := Ideal)) (onTc (τ := Cert.BOutDxIdeal.τ) (Cert.BOutDxIdeal.main (F := Ideal))) ⟨m, fun _ => 0, g⟩ (fun r => (∀ c : Dev Cert.BOutDxIdeal.nD,
      r.2.mem ((c.tc : Thread Cert.BOutDxIdeal.nD Cert.BOutDxIdeal.τ).loc Cert.BOutDxIdeal.main_arg0) = m ((c.tc : Thread Cert.BOutDxIdeal.nD Cert.BOutDxIdeal.τ).loc Cert.BOutDxIdeal.main_arg0)
      ∧ r.2.mem ((c.tc : Thread Cert.BOutDxIdeal.nD Cert.BOutDxIdeal.τ).loc Cert.BOutDxIdeal.main_arg1) = m ((c.tc : Thread Cert.BOutDxIdeal.nD Cert.BOutDxIdeal.τ).loc Cert.BOutDxIdeal.main_arg1))
      ∧ r.2.sem = fun _ => 0)

def quiescent_BOutDxReferenceIdeal [hBOutDxReferenceIdeal : Cert.BOutDxReferenceIdeal.Facts] : Prop :=
  ∀ (m : (ℓ : Loc Cert.BOutDxReferenceIdeal.nD Cert.BOutDxReferenceIdeal.τ Cert.BOutDxReferenceIdeal.sig) → Buf (Elt Ideal) ℓ) (g : Dev Cert.BOutDxReferenceIdeal.nD → PrngReg), Pre_BOutDxReferenceIdeal m →
    θ_run (Cert.BOutDxReferenceIdeal.defs (F := Ideal)) (onTc (τ := Cert.BOutDxReferenceIdeal.τ) (Cert.BOutDxReferenceIdeal.main (F := Ideal))) ⟨m, fun _ => 0, g⟩ (fun r => (∀ c : Dev Cert.BOutDxReferenceIdeal.nD,
      r.2.mem ((c.tc : Thread Cert.BOutDxReferenceIdeal.nD Cert.BOutDxReferenceIdeal.τ).loc Cert.BOutDxReferenceIdeal.main_arg0) = m ((c.tc : Thread Cert.BOutDxReferenceIdeal.nD Cert.BOutDxReferenceIdeal.τ).loc Cert.BOutDxReferenceIdeal.main_arg0)
      ∧ r.2.mem ((c.tc : Thread Cert.BOutDxReferenceIdeal.nD Cert.BOutDxReferenceIdeal.τ).loc Cert.BOutDxReferenceIdeal.main_arg1) = m ((c.tc : Thread Cert.BOutDxReferenceIdeal.nD Cert.BOutDxReferenceIdeal.τ).loc Cert.BOutDxReferenceIdeal.main_arg1))
      ∧ r.2.sem = fun _ => 0)

def quiescent_BOutDw [hBOutDw : Cert.BOutDw.Facts] : Prop :=
  ∀ (m : (ℓ : Loc Cert.BOutDw.nD Cert.BOutDw.τ Cert.BOutDw.sig) → Buf (Elt Bits) ℓ) (g : Dev Cert.BOutDw.nD → PrngReg), Pre_BOutDw m →
    θ_run (Cert.BOutDw.defs (F := Bits)) (onTc (τ := Cert.BOutDw.τ) (Cert.BOutDw.main (F := Bits))) ⟨m, fun _ => 0, g⟩ (fun r => (∀ c : Dev Cert.BOutDw.nD,
      r.2.mem ((c.tc : Thread Cert.BOutDw.nD Cert.BOutDw.τ).loc Cert.BOutDw.main_arg0) = m ((c.tc : Thread Cert.BOutDw.nD Cert.BOutDw.τ).loc Cert.BOutDw.main_arg0)
      ∧ r.2.mem ((c.tc : Thread Cert.BOutDw.nD Cert.BOutDw.τ).loc Cert.BOutDw.main_arg1) = m ((c.tc : Thread Cert.BOutDw.nD Cert.BOutDw.τ).loc Cert.BOutDw.main_arg1))
      ∧ r.2.sem = fun _ => 0)

def quiescent_BOutDwIdeal [hBOutDwIdeal : Cert.BOutDwIdeal.Facts] : Prop :=
  ∀ (m : (ℓ : Loc Cert.BOutDwIdeal.nD Cert.BOutDwIdeal.τ Cert.BOutDwIdeal.sig) → Buf (Elt Ideal) ℓ) (g : Dev Cert.BOutDwIdeal.nD → PrngReg), Pre_BOutDwIdeal m →
    θ_run (Cert.BOutDwIdeal.defs (F := Ideal)) (onTc (τ := Cert.BOutDwIdeal.τ) (Cert.BOutDwIdeal.main (F := Ideal))) ⟨m, fun _ => 0, g⟩ (fun r => (∀ c : Dev Cert.BOutDwIdeal.nD,
      r.2.mem ((c.tc : Thread Cert.BOutDwIdeal.nD Cert.BOutDwIdeal.τ).loc Cert.BOutDwIdeal.main_arg0) = m ((c.tc : Thread Cert.BOutDwIdeal.nD Cert.BOutDwIdeal.τ).loc Cert.BOutDwIdeal.main_arg0)
      ∧ r.2.mem ((c.tc : Thread Cert.BOutDwIdeal.nD Cert.BOutDwIdeal.τ).loc Cert.BOutDwIdeal.main_arg1) = m ((c.tc : Thread Cert.BOutDwIdeal.nD Cert.BOutDwIdeal.τ).loc Cert.BOutDwIdeal.main_arg1))
      ∧ r.2.sem = fun _ => 0)

def quiescent_BOutDwReferenceIdeal [hBOutDwReferenceIdeal : Cert.BOutDwReferenceIdeal.Facts] : Prop :=
  ∀ (m : (ℓ : Loc Cert.BOutDwReferenceIdeal.nD Cert.BOutDwReferenceIdeal.τ Cert.BOutDwReferenceIdeal.sig) → Buf (Elt Ideal) ℓ) (g : Dev Cert.BOutDwReferenceIdeal.nD → PrngReg), Pre_BOutDwReferenceIdeal m →
    θ_run (Cert.BOutDwReferenceIdeal.defs (F := Ideal)) (onTc (τ := Cert.BOutDwReferenceIdeal.τ) (Cert.BOutDwReferenceIdeal.main (F := Ideal))) ⟨m, fun _ => 0, g⟩ (fun r => (∀ c : Dev Cert.BOutDwReferenceIdeal.nD,
      r.2.mem ((c.tc : Thread Cert.BOutDwReferenceIdeal.nD Cert.BOutDwReferenceIdeal.τ).loc Cert.BOutDwReferenceIdeal.main_arg0) = m ((c.tc : Thread Cert.BOutDwReferenceIdeal.nD Cert.BOutDwReferenceIdeal.τ).loc Cert.BOutDwReferenceIdeal.main_arg0)
      ∧ r.2.mem ((c.tc : Thread Cert.BOutDwReferenceIdeal.nD Cert.BOutDwReferenceIdeal.τ).loc Cert.BOutDwReferenceIdeal.main_arg1) = m ((c.tc : Thread Cert.BOutDwReferenceIdeal.nD Cert.BOutDwReferenceIdeal.τ).loc Cert.BOutDwReferenceIdeal.main_arg1))
      ∧ r.2.sem = fun _ => 0)

def quiescent_BQkvG0 [hBQkvG0 : Cert.BQkvG0.Facts] : Prop :=
  ∀ (m : (ℓ : Loc Cert.BQkvG0.nD Cert.BQkvG0.τ Cert.BQkvG0.sig) → Buf (Elt Bits) ℓ) (g : Dev Cert.BQkvG0.nD → PrngReg), Pre_BQkvG0 m →
    θ_run (Cert.BQkvG0.defs (F := Bits)) (onTc (τ := Cert.BQkvG0.τ) (Cert.BQkvG0.main (F := Bits))) ⟨m, fun _ => 0, g⟩ (fun r => (∀ c : Dev Cert.BQkvG0.nD,
      r.2.mem ((c.tc : Thread Cert.BQkvG0.nD Cert.BQkvG0.τ).loc Cert.BQkvG0.main_arg0) = m ((c.tc : Thread Cert.BQkvG0.nD Cert.BQkvG0.τ).loc Cert.BQkvG0.main_arg0)
      ∧ r.2.mem ((c.tc : Thread Cert.BQkvG0.nD Cert.BQkvG0.τ).loc Cert.BQkvG0.main_arg1) = m ((c.tc : Thread Cert.BQkvG0.nD Cert.BQkvG0.τ).loc Cert.BQkvG0.main_arg1))
      ∧ r.2.sem = fun _ => 0)

def quiescent_BQkvG0Ideal [hBQkvG0Ideal : Cert.BQkvG0Ideal.Facts] : Prop :=
  ∀ (m : (ℓ : Loc Cert.BQkvG0Ideal.nD Cert.BQkvG0Ideal.τ Cert.BQkvG0Ideal.sig) → Buf (Elt Ideal) ℓ) (g : Dev Cert.BQkvG0Ideal.nD → PrngReg), Pre_BQkvG0Ideal m →
    θ_run (Cert.BQkvG0Ideal.defs (F := Ideal)) (onTc (τ := Cert.BQkvG0Ideal.τ) (Cert.BQkvG0Ideal.main (F := Ideal))) ⟨m, fun _ => 0, g⟩ (fun r => (∀ c : Dev Cert.BQkvG0Ideal.nD,
      r.2.mem ((c.tc : Thread Cert.BQkvG0Ideal.nD Cert.BQkvG0Ideal.τ).loc Cert.BQkvG0Ideal.main_arg0) = m ((c.tc : Thread Cert.BQkvG0Ideal.nD Cert.BQkvG0Ideal.τ).loc Cert.BQkvG0Ideal.main_arg0)
      ∧ r.2.mem ((c.tc : Thread Cert.BQkvG0Ideal.nD Cert.BQkvG0Ideal.τ).loc Cert.BQkvG0Ideal.main_arg1) = m ((c.tc : Thread Cert.BQkvG0Ideal.nD Cert.BQkvG0Ideal.τ).loc Cert.BQkvG0Ideal.main_arg1))
      ∧ r.2.sem = fun _ => 0)

def quiescent_BQkvG0ReferenceIdeal [hBQkvG0ReferenceIdeal : Cert.BQkvG0ReferenceIdeal.Facts] : Prop :=
  ∀ (m : (ℓ : Loc Cert.BQkvG0ReferenceIdeal.nD Cert.BQkvG0ReferenceIdeal.τ Cert.BQkvG0ReferenceIdeal.sig) → Buf (Elt Ideal) ℓ) (g : Dev Cert.BQkvG0ReferenceIdeal.nD → PrngReg), Pre_BQkvG0ReferenceIdeal m →
    θ_run (Cert.BQkvG0ReferenceIdeal.defs (F := Ideal)) (onTc (τ := Cert.BQkvG0ReferenceIdeal.τ) (Cert.BQkvG0ReferenceIdeal.main (F := Ideal))) ⟨m, fun _ => 0, g⟩ (fun r => (∀ c : Dev Cert.BQkvG0ReferenceIdeal.nD,
      r.2.mem ((c.tc : Thread Cert.BQkvG0ReferenceIdeal.nD Cert.BQkvG0ReferenceIdeal.τ).loc Cert.BQkvG0ReferenceIdeal.main_arg0) = m ((c.tc : Thread Cert.BQkvG0ReferenceIdeal.nD Cert.BQkvG0ReferenceIdeal.τ).loc Cert.BQkvG0ReferenceIdeal.main_arg0)
      ∧ r.2.mem ((c.tc : Thread Cert.BQkvG0ReferenceIdeal.nD Cert.BQkvG0ReferenceIdeal.τ).loc Cert.BQkvG0ReferenceIdeal.main_arg1) = m ((c.tc : Thread Cert.BQkvG0ReferenceIdeal.nD Cert.BQkvG0ReferenceIdeal.τ).loc Cert.BQkvG0ReferenceIdeal.main_arg1))
      ∧ r.2.sem = fun _ => 0)

def quiescent_BQkvG1 [hBQkvG1 : Cert.BQkvG1.Facts] : Prop :=
  ∀ (m : (ℓ : Loc Cert.BQkvG1.nD Cert.BQkvG1.τ Cert.BQkvG1.sig) → Buf (Elt Bits) ℓ) (g : Dev Cert.BQkvG1.nD → PrngReg), Pre_BQkvG1 m →
    θ_run (Cert.BQkvG1.defs (F := Bits)) (onTc (τ := Cert.BQkvG1.τ) (Cert.BQkvG1.main (F := Bits))) ⟨m, fun _ => 0, g⟩ (fun r => (∀ c : Dev Cert.BQkvG1.nD,
      r.2.mem ((c.tc : Thread Cert.BQkvG1.nD Cert.BQkvG1.τ).loc Cert.BQkvG1.main_arg0) = m ((c.tc : Thread Cert.BQkvG1.nD Cert.BQkvG1.τ).loc Cert.BQkvG1.main_arg0)
      ∧ r.2.mem ((c.tc : Thread Cert.BQkvG1.nD Cert.BQkvG1.τ).loc Cert.BQkvG1.main_arg1) = m ((c.tc : Thread Cert.BQkvG1.nD Cert.BQkvG1.τ).loc Cert.BQkvG1.main_arg1))
      ∧ r.2.sem = fun _ => 0)

def quiescent_BQkvG1Ideal [hBQkvG1Ideal : Cert.BQkvG1Ideal.Facts] : Prop :=
  ∀ (m : (ℓ : Loc Cert.BQkvG1Ideal.nD Cert.BQkvG1Ideal.τ Cert.BQkvG1Ideal.sig) → Buf (Elt Ideal) ℓ) (g : Dev Cert.BQkvG1Ideal.nD → PrngReg), Pre_BQkvG1Ideal m →
    θ_run (Cert.BQkvG1Ideal.defs (F := Ideal)) (onTc (τ := Cert.BQkvG1Ideal.τ) (Cert.BQkvG1Ideal.main (F := Ideal))) ⟨m, fun _ => 0, g⟩ (fun r => (∀ c : Dev Cert.BQkvG1Ideal.nD,
      r.2.mem ((c.tc : Thread Cert.BQkvG1Ideal.nD Cert.BQkvG1Ideal.τ).loc Cert.BQkvG1Ideal.main_arg0) = m ((c.tc : Thread Cert.BQkvG1Ideal.nD Cert.BQkvG1Ideal.τ).loc Cert.BQkvG1Ideal.main_arg0)
      ∧ r.2.mem ((c.tc : Thread Cert.BQkvG1Ideal.nD Cert.BQkvG1Ideal.τ).loc Cert.BQkvG1Ideal.main_arg1) = m ((c.tc : Thread Cert.BQkvG1Ideal.nD Cert.BQkvG1Ideal.τ).loc Cert.BQkvG1Ideal.main_arg1))
      ∧ r.2.sem = fun _ => 0)

def quiescent_BQkvG1ReferenceIdeal [hBQkvG1ReferenceIdeal : Cert.BQkvG1ReferenceIdeal.Facts] : Prop :=
  ∀ (m : (ℓ : Loc Cert.BQkvG1ReferenceIdeal.nD Cert.BQkvG1ReferenceIdeal.τ Cert.BQkvG1ReferenceIdeal.sig) → Buf (Elt Ideal) ℓ) (g : Dev Cert.BQkvG1ReferenceIdeal.nD → PrngReg), Pre_BQkvG1ReferenceIdeal m →
    θ_run (Cert.BQkvG1ReferenceIdeal.defs (F := Ideal)) (onTc (τ := Cert.BQkvG1ReferenceIdeal.τ) (Cert.BQkvG1ReferenceIdeal.main (F := Ideal))) ⟨m, fun _ => 0, g⟩ (fun r => (∀ c : Dev Cert.BQkvG1ReferenceIdeal.nD,
      r.2.mem ((c.tc : Thread Cert.BQkvG1ReferenceIdeal.nD Cert.BQkvG1ReferenceIdeal.τ).loc Cert.BQkvG1ReferenceIdeal.main_arg0) = m ((c.tc : Thread Cert.BQkvG1ReferenceIdeal.nD Cert.BQkvG1ReferenceIdeal.τ).loc Cert.BQkvG1ReferenceIdeal.main_arg0)
      ∧ r.2.mem ((c.tc : Thread Cert.BQkvG1ReferenceIdeal.nD Cert.BQkvG1ReferenceIdeal.τ).loc Cert.BQkvG1ReferenceIdeal.main_arg1) = m ((c.tc : Thread Cert.BQkvG1ReferenceIdeal.nD Cert.BQkvG1ReferenceIdeal.τ).loc Cert.BQkvG1ReferenceIdeal.main_arg1))
      ∧ r.2.sem = fun _ => 0)

def quiescent_BQkvG2 [hBQkvG2 : Cert.BQkvG2.Facts] : Prop :=
  ∀ (m : (ℓ : Loc Cert.BQkvG2.nD Cert.BQkvG2.τ Cert.BQkvG2.sig) → Buf (Elt Bits) ℓ) (g : Dev Cert.BQkvG2.nD → PrngReg), Pre_BQkvG2 m →
    θ_run (Cert.BQkvG2.defs (F := Bits)) (onTc (τ := Cert.BQkvG2.τ) (Cert.BQkvG2.main (F := Bits))) ⟨m, fun _ => 0, g⟩ (fun r => (∀ c : Dev Cert.BQkvG2.nD,
      r.2.mem ((c.tc : Thread Cert.BQkvG2.nD Cert.BQkvG2.τ).loc Cert.BQkvG2.main_arg0) = m ((c.tc : Thread Cert.BQkvG2.nD Cert.BQkvG2.τ).loc Cert.BQkvG2.main_arg0)
      ∧ r.2.mem ((c.tc : Thread Cert.BQkvG2.nD Cert.BQkvG2.τ).loc Cert.BQkvG2.main_arg1) = m ((c.tc : Thread Cert.BQkvG2.nD Cert.BQkvG2.τ).loc Cert.BQkvG2.main_arg1))
      ∧ r.2.sem = fun _ => 0)

def quiescent_BQkvG2Ideal [hBQkvG2Ideal : Cert.BQkvG2Ideal.Facts] : Prop :=
  ∀ (m : (ℓ : Loc Cert.BQkvG2Ideal.nD Cert.BQkvG2Ideal.τ Cert.BQkvG2Ideal.sig) → Buf (Elt Ideal) ℓ) (g : Dev Cert.BQkvG2Ideal.nD → PrngReg), Pre_BQkvG2Ideal m →
    θ_run (Cert.BQkvG2Ideal.defs (F := Ideal)) (onTc (τ := Cert.BQkvG2Ideal.τ) (Cert.BQkvG2Ideal.main (F := Ideal))) ⟨m, fun _ => 0, g⟩ (fun r => (∀ c : Dev Cert.BQkvG2Ideal.nD,
      r.2.mem ((c.tc : Thread Cert.BQkvG2Ideal.nD Cert.BQkvG2Ideal.τ).loc Cert.BQkvG2Ideal.main_arg0) = m ((c.tc : Thread Cert.BQkvG2Ideal.nD Cert.BQkvG2Ideal.τ).loc Cert.BQkvG2Ideal.main_arg0)
      ∧ r.2.mem ((c.tc : Thread Cert.BQkvG2Ideal.nD Cert.BQkvG2Ideal.τ).loc Cert.BQkvG2Ideal.main_arg1) = m ((c.tc : Thread Cert.BQkvG2Ideal.nD Cert.BQkvG2Ideal.τ).loc Cert.BQkvG2Ideal.main_arg1))
      ∧ r.2.sem = fun _ => 0)

def quiescent_BQkvG2ReferenceIdeal [hBQkvG2ReferenceIdeal : Cert.BQkvG2ReferenceIdeal.Facts] : Prop :=
  ∀ (m : (ℓ : Loc Cert.BQkvG2ReferenceIdeal.nD Cert.BQkvG2ReferenceIdeal.τ Cert.BQkvG2ReferenceIdeal.sig) → Buf (Elt Ideal) ℓ) (g : Dev Cert.BQkvG2ReferenceIdeal.nD → PrngReg), Pre_BQkvG2ReferenceIdeal m →
    θ_run (Cert.BQkvG2ReferenceIdeal.defs (F := Ideal)) (onTc (τ := Cert.BQkvG2ReferenceIdeal.τ) (Cert.BQkvG2ReferenceIdeal.main (F := Ideal))) ⟨m, fun _ => 0, g⟩ (fun r => (∀ c : Dev Cert.BQkvG2ReferenceIdeal.nD,
      r.2.mem ((c.tc : Thread Cert.BQkvG2ReferenceIdeal.nD Cert.BQkvG2ReferenceIdeal.τ).loc Cert.BQkvG2ReferenceIdeal.main_arg0) = m ((c.tc : Thread Cert.BQkvG2ReferenceIdeal.nD Cert.BQkvG2ReferenceIdeal.τ).loc Cert.BQkvG2ReferenceIdeal.main_arg0)
      ∧ r.2.mem ((c.tc : Thread Cert.BQkvG2ReferenceIdeal.nD Cert.BQkvG2ReferenceIdeal.τ).loc Cert.BQkvG2ReferenceIdeal.main_arg1) = m ((c.tc : Thread Cert.BQkvG2ReferenceIdeal.nD Cert.BQkvG2ReferenceIdeal.τ).loc Cert.BQkvG2ReferenceIdeal.main_arg1))
      ∧ r.2.sem = fun _ => 0)

def quiescent_ActDx [hActDx : Cert.ActDx.Facts] : Prop :=
  ∀ (m : (ℓ : Loc Cert.ActDx.nD Cert.ActDx.τ Cert.ActDx.sig) → Buf (Elt Bits) ℓ) (g : Dev Cert.ActDx.nD → PrngReg), Pre_ActDx m →
    θ_run (Cert.ActDx.defs (F := Bits)) (onTc (τ := Cert.ActDx.τ) (Cert.ActDx.main (F := Bits))) ⟨m, fun _ => 0, g⟩ (fun r => (∀ c : Dev Cert.ActDx.nD,
      r.2.mem ((c.tc : Thread Cert.ActDx.nD Cert.ActDx.τ).loc Cert.ActDx.main_arg0) = m ((c.tc : Thread Cert.ActDx.nD Cert.ActDx.τ).loc Cert.ActDx.main_arg0)
      ∧ r.2.mem ((c.tc : Thread Cert.ActDx.nD Cert.ActDx.τ).loc Cert.ActDx.main_arg1) = m ((c.tc : Thread Cert.ActDx.nD Cert.ActDx.τ).loc Cert.ActDx.main_arg1)
      ∧ r.2.mem ((c.tc : Thread Cert.ActDx.nD Cert.ActDx.τ).loc Cert.ActDx.main_arg2) = m ((c.tc : Thread Cert.ActDx.nD Cert.ActDx.τ).loc Cert.ActDx.main_arg2)
      ∧ r.2.mem ((c.tc : Thread Cert.ActDx.nD Cert.ActDx.τ).loc Cert.ActDx.main_arg3) = m ((c.tc : Thread Cert.ActDx.nD Cert.ActDx.τ).loc Cert.ActDx.main_arg3))
      ∧ r.2.sem = fun _ => 0)

def quiescent_ActDxIdeal [hActDxIdeal : Cert.ActDxIdeal.Facts] : Prop :=
  ∀ (m : (ℓ : Loc Cert.ActDxIdeal.nD Cert.ActDxIdeal.τ Cert.ActDxIdeal.sig) → Buf (Elt Ideal) ℓ) (g : Dev Cert.ActDxIdeal.nD → PrngReg), Pre_ActDxIdeal m →
    θ_run (Cert.ActDxIdeal.defs (F := Ideal)) (onTc (τ := Cert.ActDxIdeal.τ) (Cert.ActDxIdeal.main (F := Ideal))) ⟨m, fun _ => 0, g⟩ (fun r => (∀ c : Dev Cert.ActDxIdeal.nD,
      r.2.mem ((c.tc : Thread Cert.ActDxIdeal.nD Cert.ActDxIdeal.τ).loc Cert.ActDxIdeal.main_arg0) = m ((c.tc : Thread Cert.ActDxIdeal.nD Cert.ActDxIdeal.τ).loc Cert.ActDxIdeal.main_arg0)
      ∧ r.2.mem ((c.tc : Thread Cert.ActDxIdeal.nD Cert.ActDxIdeal.τ).loc Cert.ActDxIdeal.main_arg1) = m ((c.tc : Thread Cert.ActDxIdeal.nD Cert.ActDxIdeal.τ).loc Cert.ActDxIdeal.main_arg1)
      ∧ r.2.mem ((c.tc : Thread Cert.ActDxIdeal.nD Cert.ActDxIdeal.τ).loc Cert.ActDxIdeal.main_arg2) = m ((c.tc : Thread Cert.ActDxIdeal.nD Cert.ActDxIdeal.τ).loc Cert.ActDxIdeal.main_arg2)
      ∧ r.2.mem ((c.tc : Thread Cert.ActDxIdeal.nD Cert.ActDxIdeal.τ).loc Cert.ActDxIdeal.main_arg3) = m ((c.tc : Thread Cert.ActDxIdeal.nD Cert.ActDxIdeal.τ).loc Cert.ActDxIdeal.main_arg3))
      ∧ r.2.sem = fun _ => 0)

def quiescent_ActDxIdeal_pre_act_finite [hActDxIdeal : Cert.ActDxIdeal.Facts] [hPre_act_finite : Cert.Pre_act_finite.Facts] : Prop :=
  ∀ (m : (ℓ : Loc Cert.ActDxIdeal.nD Cert.ActDxIdeal.τ Cert.ActDxIdeal.sig) → Buf (Elt Ideal) ℓ) (g : Dev Cert.ActDxIdeal.nD → PrngReg), Pre_ActDxIdeal_act_finite m →
    θ_run (Cert.ActDxIdeal.defs (F := Ideal)) (onTc (τ := Cert.ActDxIdeal.τ) (Cert.ActDxIdeal.main (F := Ideal))) ⟨m, fun _ => 0, g⟩ (fun r => (∀ c : Dev Cert.ActDxIdeal.nD,
      r.2.mem ((c.tc : Thread Cert.ActDxIdeal.nD Cert.ActDxIdeal.τ).loc Cert.ActDxIdeal.main_arg0) = m ((c.tc : Thread Cert.ActDxIdeal.nD Cert.ActDxIdeal.τ).loc Cert.ActDxIdeal.main_arg0)
      ∧ r.2.mem ((c.tc : Thread Cert.ActDxIdeal.nD Cert.ActDxIdeal.τ).loc Cert.ActDxIdeal.main_arg1) = m ((c.tc : Thread Cert.ActDxIdeal.nD Cert.ActDxIdeal.τ).loc Cert.ActDxIdeal.main_arg1)
      ∧ r.2.mem ((c.tc : Thread Cert.ActDxIdeal.nD Cert.ActDxIdeal.τ).loc Cert.ActDxIdeal.main_arg2) = m ((c.tc : Thread Cert.ActDxIdeal.nD Cert.ActDxIdeal.τ).loc Cert.ActDxIdeal.main_arg2)
      ∧ r.2.mem ((c.tc : Thread Cert.ActDxIdeal.nD Cert.ActDxIdeal.τ).loc Cert.ActDxIdeal.main_arg3) = m ((c.tc : Thread Cert.ActDxIdeal.nD Cert.ActDxIdeal.τ).loc Cert.ActDxIdeal.main_arg3))
      ∧ r.2.sem = fun _ => 0)

def quiescent_ActDxReferenceIdeal [hActDxReferenceIdeal : Cert.ActDxReferenceIdeal.Facts] : Prop :=
  ∀ (m : (ℓ : Loc Cert.ActDxReferenceIdeal.nD Cert.ActDxReferenceIdeal.τ Cert.ActDxReferenceIdeal.sig) → Buf (Elt Ideal) ℓ) (g : Dev Cert.ActDxReferenceIdeal.nD → PrngReg), Pre_ActDxReferenceIdeal m →
    θ_run (Cert.ActDxReferenceIdeal.defs (F := Ideal)) (onTc (τ := Cert.ActDxReferenceIdeal.τ) (Cert.ActDxReferenceIdeal.main (F := Ideal))) ⟨m, fun _ => 0, g⟩ (fun r => (∀ c : Dev Cert.ActDxReferenceIdeal.nD,
      r.2.mem ((c.tc : Thread Cert.ActDxReferenceIdeal.nD Cert.ActDxReferenceIdeal.τ).loc Cert.ActDxReferenceIdeal.main_arg0) = m ((c.tc : Thread Cert.ActDxReferenceIdeal.nD Cert.ActDxReferenceIdeal.τ).loc Cert.ActDxReferenceIdeal.main_arg0)
      ∧ r.2.mem ((c.tc : Thread Cert.ActDxReferenceIdeal.nD Cert.ActDxReferenceIdeal.τ).loc Cert.ActDxReferenceIdeal.main_arg1) = m ((c.tc : Thread Cert.ActDxReferenceIdeal.nD Cert.ActDxReferenceIdeal.τ).loc Cert.ActDxReferenceIdeal.main_arg1)
      ∧ r.2.mem ((c.tc : Thread Cert.ActDxReferenceIdeal.nD Cert.ActDxReferenceIdeal.τ).loc Cert.ActDxReferenceIdeal.main_arg2) = m ((c.tc : Thread Cert.ActDxReferenceIdeal.nD Cert.ActDxReferenceIdeal.τ).loc Cert.ActDxReferenceIdeal.main_arg2)
      ∧ r.2.mem ((c.tc : Thread Cert.ActDxReferenceIdeal.nD Cert.ActDxReferenceIdeal.τ).loc Cert.ActDxReferenceIdeal.main_arg3) = m ((c.tc : Thread Cert.ActDxReferenceIdeal.nD Cert.ActDxReferenceIdeal.τ).loc Cert.ActDxReferenceIdeal.main_arg3))
      ∧ r.2.sem = fun _ => 0)

def quiescent_ActDxReferenceIdeal_pre_act_finite [hActDxReferenceIdeal : Cert.ActDxReferenceIdeal.Facts] [hPre_act_finite : Cert.Pre_act_finite.Facts] : Prop :=
  ∀ (m : (ℓ : Loc Cert.ActDxReferenceIdeal.nD Cert.ActDxReferenceIdeal.τ Cert.ActDxReferenceIdeal.sig) → Buf (Elt Ideal) ℓ) (g : Dev Cert.ActDxReferenceIdeal.nD → PrngReg), Pre_ActDxReferenceIdeal_act_finite m →
    θ_run (Cert.ActDxReferenceIdeal.defs (F := Ideal)) (onTc (τ := Cert.ActDxReferenceIdeal.τ) (Cert.ActDxReferenceIdeal.main (F := Ideal))) ⟨m, fun _ => 0, g⟩ (fun r => (∀ c : Dev Cert.ActDxReferenceIdeal.nD,
      r.2.mem ((c.tc : Thread Cert.ActDxReferenceIdeal.nD Cert.ActDxReferenceIdeal.τ).loc Cert.ActDxReferenceIdeal.main_arg0) = m ((c.tc : Thread Cert.ActDxReferenceIdeal.nD Cert.ActDxReferenceIdeal.τ).loc Cert.ActDxReferenceIdeal.main_arg0)
      ∧ r.2.mem ((c.tc : Thread Cert.ActDxReferenceIdeal.nD Cert.ActDxReferenceIdeal.τ).loc Cert.ActDxReferenceIdeal.main_arg1) = m ((c.tc : Thread Cert.ActDxReferenceIdeal.nD Cert.ActDxReferenceIdeal.τ).loc Cert.ActDxReferenceIdeal.main_arg1)
      ∧ r.2.mem ((c.tc : Thread Cert.ActDxReferenceIdeal.nD Cert.ActDxReferenceIdeal.τ).loc Cert.ActDxReferenceIdeal.main_arg2) = m ((c.tc : Thread Cert.ActDxReferenceIdeal.nD Cert.ActDxReferenceIdeal.τ).loc Cert.ActDxReferenceIdeal.main_arg2)
      ∧ r.2.mem ((c.tc : Thread Cert.ActDxReferenceIdeal.nD Cert.ActDxReferenceIdeal.τ).loc Cert.ActDxReferenceIdeal.main_arg3) = m ((c.tc : Thread Cert.ActDxReferenceIdeal.nD Cert.ActDxReferenceIdeal.τ).loc Cert.ActDxReferenceIdeal.main_arg3))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_qk_finite [hFlashIdeal : Cert.FlashIdeal.Facts] [hPre_qk_finite : Cert.Pre_qk_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_qk_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashReferenceIdeal [hFlashReferenceIdeal : Cert.FlashReferenceIdeal.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1)
      ∧ r.2.mem ((c.tc : Thread Cert.FlashReferenceIdeal.nD Cert.FlashReferenceIdeal.τ).loc Cert.FlashReferenceIdeal.main_arg2) = m ((c.tc : Thread Cert.FlashReferenceIdeal.nD Cert.FlashReferenceIdeal.τ).loc Cert.FlashReferenceIdeal.main_arg2))
      ∧ r.2.sem = fun _ => 0)

def quiescent_FlashReferenceIdeal_pre_qk_finite [hFlashReferenceIdeal : Cert.FlashReferenceIdeal.Facts] [hPre_qk_finite : Cert.Pre_qk_finite.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal_qk_finite m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1)
      ∧ r.2.mem ((c.tc : Thread Cert.FlashReferenceIdeal.nD Cert.FlashReferenceIdeal.τ).loc Cert.FlashReferenceIdeal.main_arg2) = m ((c.tc : Thread Cert.FlashReferenceIdeal.nD Cert.FlashReferenceIdeal.τ).loc Cert.FlashReferenceIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v2) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v4) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v7)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v7) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v2) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v4)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v4) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v6) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v0) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_AQkv_AQkvIdeal : Prop :=
  True

def algebraic_AQkvIdeal_AQkvReferenceIdeal [hAQkvIdeal : Cert.AQkvIdeal.Facts] [hAQkvReferenceIdeal : Cert.AQkvReferenceIdeal.Facts] : Prop :=
  ∀ (m : (ℓ : Loc Cert.AQkvIdeal.nD Cert.AQkvIdeal.τ Cert.AQkvIdeal.sig) → Buf (Elt Ideal) ℓ) (g : Dev Cert.AQkvIdeal.nD → PrngReg)
    (m' : (ℓ : Loc Cert.AQkvReferenceIdeal.nD Cert.AQkvReferenceIdeal.τ Cert.AQkvReferenceIdeal.sig) → Buf (Elt Ideal) ℓ) (g' : Dev Cert.AQkvReferenceIdeal.nD → PrngReg), Pre_AQkvIdeal m →
    (∀ c : Dev Cert.AQkvIdeal.nD,
      m' ((c.tc : Thread Cert.AQkvReferenceIdeal.nD Cert.AQkvReferenceIdeal.τ).loc Cert.AQkvReferenceIdeal.main_arg0) = m ((c.tc : Thread Cert.AQkvIdeal.nD Cert.AQkvIdeal.τ).loc Cert.AQkvIdeal.main_arg0)
      ∧ m' ((c.tc : Thread Cert.AQkvReferenceIdeal.nD Cert.AQkvReferenceIdeal.τ).loc Cert.AQkvReferenceIdeal.main_arg1) = m ((c.tc : Thread Cert.AQkvIdeal.nD Cert.AQkvIdeal.τ).loc Cert.AQkvIdeal.main_arg1)) →
    ∃ (v0 : (c : Dev Cert.AQkvIdeal.nD) → Buf (Elt Ideal) ((c.tc : Thread Cert.AQkvIdeal.nD Cert.AQkvIdeal.τ).loc Cert.AQkvIdeal.main_v5)),
      θ_run (Cert.AQkvIdeal.defs (F := Ideal)) (onTc (τ := Cert.AQkvIdeal.τ) (Cert.AQkvIdeal.main (F := Ideal))) ⟨m, fun _ => 0, g⟩ (fun r => ∀ c : Dev Cert.AQkvIdeal.nD,
          r.2.mem ((c.tc : Thread Cert.AQkvIdeal.nD Cert.AQkvIdeal.τ).loc Cert.AQkvIdeal.main_v5) = v0 c
          ∧ r.2.mem ((c.tc : Thread Cert.AQkvIdeal.nD Cert.AQkvIdeal.τ).loc Cert.AQkvIdeal.main_arg0) = m ((c.tc : Thread Cert.AQkvIdeal.nD Cert.AQkvIdeal.τ).loc Cert.AQkvIdeal.main_arg0)
          ∧ r.2.mem ((c.tc : Thread Cert.AQkvIdeal.nD Cert.AQkvIdeal.τ).loc Cert.AQkvIdeal.main_arg1) = m ((c.tc : Thread Cert.AQkvIdeal.nD Cert.AQkvIdeal.τ).loc Cert.AQkvIdeal.main_arg1))
      ∧ θ_run (Cert.AQkvReferenceIdeal.defs (F := Ideal)) (onTc (τ := Cert.AQkvReferenceIdeal.τ) (Cert.AQkvReferenceIdeal.main (F := Ideal))) ⟨m', fun _ => 0, g'⟩ (fun r => ∀ c : Dev Cert.AQkvReferenceIdeal.nD,
          r.2.mem ((c.tc : Thread Cert.AQkvReferenceIdeal.nD Cert.AQkvReferenceIdeal.τ).loc Cert.AQkvReferenceIdeal.main_v0) = v0 c
          ∧ r.2.mem ((c.tc : Thread Cert.AQkvReferenceIdeal.nD Cert.AQkvReferenceIdeal.τ).loc Cert.AQkvReferenceIdeal.main_arg0) = m' ((c.tc : Thread Cert.AQkvReferenceIdeal.nD Cert.AQkvReferenceIdeal.τ).loc Cert.AQkvReferenceIdeal.main_arg0)
          ∧ r.2.mem ((c.tc : Thread Cert.AQkvReferenceIdeal.nD Cert.AQkvReferenceIdeal.τ).loc Cert.AQkvReferenceIdeal.main_arg1) = m' ((c.tc : Thread Cert.AQkvReferenceIdeal.nD Cert.AQkvReferenceIdeal.τ).loc Cert.AQkvReferenceIdeal.main_arg1))

def preserves_AOut_AOutIdeal : Prop :=
  True

def algebraic_AOutIdeal_AOutReferenceIdeal [hAOutIdeal : Cert.AOutIdeal.Facts] [hAOutReferenceIdeal : Cert.AOutReferenceIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutReferenceIdeal.nD Cert.AOutReferenceIdeal.τ Cert.AOutReferenceIdeal.sig) → Buf (Elt Ideal) ℓ) (g' : Dev Cert.AOutReferenceIdeal.nD → PrngReg), Pre_AOutIdeal m →
    (∀ c : Dev Cert.AOutIdeal.nD,
      m' ((c.tc : Thread Cert.AOutReferenceIdeal.nD Cert.AOutReferenceIdeal.τ).loc Cert.AOutReferenceIdeal.main_arg0) = m ((c.tc : Thread Cert.AOutIdeal.nD Cert.AOutIdeal.τ).loc Cert.AOutIdeal.main_arg0)
      ∧ m' ((c.tc : Thread Cert.AOutReferenceIdeal.nD Cert.AOutReferenceIdeal.τ).loc Cert.AOutReferenceIdeal.main_arg1) = m ((c.tc : Thread Cert.AOutIdeal.nD Cert.AOutIdeal.τ).loc Cert.AOutIdeal.main_arg1)
      ∧ m' ((c.tc : Thread Cert.AOutReferenceIdeal.nD Cert.AOutReferenceIdeal.τ).loc Cert.AOutReferenceIdeal.main_arg2) = m ((c.tc : Thread Cert.AOutIdeal.nD Cert.AOutIdeal.τ).loc Cert.AOutIdeal.main_arg2)) →
    ∃ (v0 : (c : Dev Cert.AOutIdeal.nD) → Buf (Elt Ideal) ((c.tc : Thread Cert.AOutIdeal.nD Cert.AOutIdeal.τ).loc Cert.AOutIdeal.main_v3)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v3) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ θ_run (Cert.AOutReferenceIdeal.defs (F := Ideal)) (onTc (τ := Cert.AOutReferenceIdeal.τ) (Cert.AOutReferenceIdeal.main (F := Ideal))) ⟨m', fun _ => 0, g'⟩ (fun r => ∀ c : Dev Cert.AOutReferenceIdeal.nD,
          r.2.mem ((c.tc : Thread Cert.AOutReferenceIdeal.nD Cert.AOutReferenceIdeal.τ).loc Cert.AOutReferenceIdeal.main_v1) = v0 c
          ∧ r.2.mem ((c.tc : Thread Cert.AOutReferenceIdeal.nD Cert.AOutReferenceIdeal.τ).loc Cert.AOutReferenceIdeal.main_arg0) = m' ((c.tc : Thread Cert.AOutReferenceIdeal.nD Cert.AOutReferenceIdeal.τ).loc Cert.AOutReferenceIdeal.main_arg0)
          ∧ r.2.mem ((c.tc : Thread Cert.AOutReferenceIdeal.nD Cert.AOutReferenceIdeal.τ).loc Cert.AOutReferenceIdeal.main_arg1) = m' ((c.tc : Thread Cert.AOutReferenceIdeal.nD Cert.AOutReferenceIdeal.τ).loc Cert.AOutReferenceIdeal.main_arg1)
          ∧ r.2.mem ((c.tc : Thread Cert.AOutReferenceIdeal.nD Cert.AOutReferenceIdeal.τ).loc Cert.AOutReferenceIdeal.main_arg2) = m' ((c.tc : Thread Cert.AOutReferenceIdeal.nD Cert.AOutReferenceIdeal.τ).loc Cert.AOutReferenceIdeal.main_arg2))

def preserves_BOut_BOutIdeal : Prop :=
  True

def algebraic_BOutIdeal_BOutReferenceIdeal [hBOutIdeal : Cert.BOutIdeal.Facts] [hBOutReferenceIdeal : Cert.BOutReferenceIdeal.Facts] : Prop :=
  ∀ (m : (ℓ : Loc Cert.BOutIdeal.nD Cert.BOutIdeal.τ Cert.BOutIdeal.sig) → Buf (Elt Ideal) ℓ) (g : Dev Cert.BOutIdeal.nD → PrngReg)
    (m' : (ℓ : Loc Cert.BOutReferenceIdeal.nD Cert.BOutReferenceIdeal.τ Cert.BOutReferenceIdeal.sig) → Buf (Elt Ideal) ℓ) (g' : Dev Cert.BOutReferenceIdeal.nD → PrngReg), Pre_BOutIdeal m →
    (∀ c : Dev Cert.BOutIdeal.nD,
      m' ((c.tc : Thread Cert.BOutReferenceIdeal.nD Cert.BOutReferenceIdeal.τ).loc Cert.BOutReferenceIdeal.main_arg0) = m ((c.tc : Thread Cert.BOutIdeal.nD Cert.BOutIdeal.τ).loc Cert.BOutIdeal.main_arg0)
      ∧ m' ((c.tc : Thread Cert.BOutReferenceIdeal.nD Cert.BOutReferenceIdeal.τ).loc Cert.BOutReferenceIdeal.main_arg1) = m ((c.tc : Thread Cert.BOutIdeal.nD Cert.BOutIdeal.τ).loc Cert.BOutIdeal.main_arg1)
      ∧ m' ((c.tc : Thread Cert.BOutReferenceIdeal.nD Cert.BOutReferenceIdeal.τ).loc Cert.BOutReferenceIdeal.main_arg2) = m ((c.tc : Thread Cert.BOutIdeal.nD Cert.BOutIdeal.τ).loc Cert.BOutIdeal.main_arg2)) →
    ∃ (v0 : (c : Dev Cert.BOutIdeal.nD) → Buf (Elt Ideal) ((c.tc : Thread Cert.BOutIdeal.nD Cert.BOutIdeal.τ).loc Cert.BOutIdeal.main_v3)),
      θ_run (Cert.BOutIdeal.defs (F := Ideal)) (onTc (τ := Cert.BOutIdeal.τ) (Cert.BOutIdeal.main (F := Ideal))) ⟨m, fun _ => 0, g⟩ (fun r => ∀ c : Dev Cert.BOutIdeal.nD,
          r.2.mem ((c.tc : Thread Cert.BOutIdeal.nD Cert.BOutIdeal.τ).loc Cert.BOutIdeal.main_v3) = v0 c
          ∧ r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
          ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
          ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2))
      ∧ θ_run (Cert.BOutReferenceIdeal.defs (F := Ideal)) (onTc (τ := Cert.BOutReferenceIdeal.τ) (Cert.BOutReferenceIdeal.main (F := Ideal))) ⟨m', fun _ => 0, g'⟩ (fun r => ∀ c : Dev Cert.BOutReferenceIdeal.nD,
          r.2.mem ((c.tc : Thread Cert.BOutReferenceIdeal.nD Cert.BOutReferenceIdeal.τ).loc Cert.BOutReferenceIdeal.main_v1) = v0 c
          ∧ r.2.mem ((c.tc : Thread Cert.BOutReferenceIdeal.nD Cert.BOutReferenceIdeal.τ).loc Cert.BOutReferenceIdeal.main_arg0) = m' ((c.tc : Thread Cert.BOutReferenceIdeal.nD Cert.BOutReferenceIdeal.τ).loc Cert.BOutReferenceIdeal.main_arg0)
          ∧ r.2.mem ((c.tc : Thread Cert.BOutReferenceIdeal.nD Cert.BOutReferenceIdeal.τ).loc Cert.BOutReferenceIdeal.main_arg1) = m' ((c.tc : Thread Cert.BOutReferenceIdeal.nD Cert.BOutReferenceIdeal.τ).loc Cert.BOutReferenceIdeal.main_arg1)
          ∧ r.2.mem ((c.tc : Thread Cert.BOutReferenceIdeal.nD Cert.BOutReferenceIdeal.τ).loc Cert.BOutReferenceIdeal.main_arg2) = m' ((c.tc : Thread Cert.BOutReferenceIdeal.nD Cert.BOutReferenceIdeal.τ).loc Cert.BOutReferenceIdeal.main_arg2))

def preserves_AQkvDx_AQkvDxIdeal : Prop :=
  True

def algebraic_AQkvDxIdeal_AQkvDxReferenceIdeal [hAQkvDxIdeal : Cert.AQkvDxIdeal.Facts] [hAQkvDxReferenceIdeal : Cert.AQkvDxReferenceIdeal.Facts] : Prop :=
  ∀ (m : (ℓ : Loc Cert.AQkvDxIdeal.nD Cert.AQkvDxIdeal.τ Cert.AQkvDxIdeal.sig) → Buf (Elt Ideal) ℓ) (g : Dev Cert.AQkvDxIdeal.nD → PrngReg)
    (m' : (ℓ : Loc Cert.AQkvDxReferenceIdeal.nD Cert.AQkvDxReferenceIdeal.τ Cert.AQkvDxReferenceIdeal.sig) → Buf (Elt Ideal) ℓ) (g' : Dev Cert.AQkvDxReferenceIdeal.nD → PrngReg), Pre_AQkvDxIdeal m →
    (∀ c : Dev Cert.AQkvDxIdeal.nD,
      m' ((c.tc : Thread Cert.AQkvDxReferenceIdeal.nD Cert.AQkvDxReferenceIdeal.τ).loc Cert.AQkvDxReferenceIdeal.main_arg0) = m ((c.tc : Thread Cert.AQkvDxIdeal.nD Cert.AQkvDxIdeal.τ).loc Cert.AQkvDxIdeal.main_arg0)
      ∧ m' ((c.tc : Thread Cert.AQkvDxReferenceIdeal.nD Cert.AQkvDxReferenceIdeal.τ).loc Cert.AQkvDxReferenceIdeal.main_arg1) = m ((c.tc : Thread Cert.AQkvDxIdeal.nD Cert.AQkvDxIdeal.τ).loc Cert.AQkvDxIdeal.main_arg1)) →
    ∃ (v0 : (c : Dev Cert.AQkvDxIdeal.nD) → Buf (Elt Ideal) ((c.tc : Thread Cert.AQkvDxIdeal.nD Cert.AQkvDxIdeal.τ).loc Cert.AQkvDxIdeal.main_v5)),
      θ_run (Cert.AQkvDxIdeal.defs (F := Ideal)) (onTc (τ := Cert.AQkvDxIdeal.τ) (Cert.AQkvDxIdeal.main (F := Ideal))) ⟨m, fun _ => 0, g⟩ (fun r => ∀ c : Dev Cert.AQkvDxIdeal.nD,
          r.2.mem ((c.tc : Thread Cert.AQkvDxIdeal.nD Cert.AQkvDxIdeal.τ).loc Cert.AQkvDxIdeal.main_v5) = v0 c
          ∧ r.2.mem ((c.tc : Thread Cert.AQkvDxIdeal.nD Cert.AQkvDxIdeal.τ).loc Cert.AQkvDxIdeal.main_arg0) = m ((c.tc : Thread Cert.AQkvDxIdeal.nD Cert.AQkvDxIdeal.τ).loc Cert.AQkvDxIdeal.main_arg0)
          ∧ r.2.mem ((c.tc : Thread Cert.AQkvDxIdeal.nD Cert.AQkvDxIdeal.τ).loc Cert.AQkvDxIdeal.main_arg1) = m ((c.tc : Thread Cert.AQkvDxIdeal.nD Cert.AQkvDxIdeal.τ).loc Cert.AQkvDxIdeal.main_arg1))
      ∧ θ_run (Cert.AQkvDxReferenceIdeal.defs (F := Ideal)) (onTc (τ := Cert.AQkvDxReferenceIdeal.τ) (Cert.AQkvDxReferenceIdeal.main (F := Ideal))) ⟨m', fun _ => 0, g'⟩ (fun r => ∀ c : Dev Cert.AQkvDxReferenceIdeal.nD,
          r.2.mem ((c.tc : Thread Cert.AQkvDxReferenceIdeal.nD Cert.AQkvDxReferenceIdeal.τ).loc Cert.AQkvDxReferenceIdeal.main_v2) = v0 c
          ∧ r.2.mem ((c.tc : Thread Cert.AQkvDxReferenceIdeal.nD Cert.AQkvDxReferenceIdeal.τ).loc Cert.AQkvDxReferenceIdeal.main_arg0) = m' ((c.tc : Thread Cert.AQkvDxReferenceIdeal.nD Cert.AQkvDxReferenceIdeal.τ).loc Cert.AQkvDxReferenceIdeal.main_arg0)
          ∧ r.2.mem ((c.tc : Thread Cert.AQkvDxReferenceIdeal.nD Cert.AQkvDxReferenceIdeal.τ).loc Cert.AQkvDxReferenceIdeal.main_arg1) = m' ((c.tc : Thread Cert.AQkvDxReferenceIdeal.nD Cert.AQkvDxReferenceIdeal.τ).loc Cert.AQkvDxReferenceIdeal.main_arg1))

def preserves_AQkvDw_AQkvDwIdeal : Prop :=
  True

def algebraic_AQkvDwIdeal_AQkvDwReferenceIdeal [hAQkvDwIdeal : Cert.AQkvDwIdeal.Facts] [hAQkvDwReferenceIdeal : Cert.AQkvDwReferenceIdeal.Facts] : Prop :=
  ∀ (m : (ℓ : Loc Cert.AQkvDwIdeal.nD Cert.AQkvDwIdeal.τ Cert.AQkvDwIdeal.sig) → Buf (Elt Ideal) ℓ) (g : Dev Cert.AQkvDwIdeal.nD → PrngReg)
    (m' : (ℓ : Loc Cert.AQkvDwReferenceIdeal.nD Cert.AQkvDwReferenceIdeal.τ Cert.AQkvDwReferenceIdeal.sig) → Buf (Elt Ideal) ℓ) (g' : Dev Cert.AQkvDwReferenceIdeal.nD → PrngReg), Pre_AQkvDwIdeal m →
    (∀ c : Dev Cert.AQkvDwIdeal.nD,
      m' ((c.tc : Thread Cert.AQkvDwReferenceIdeal.nD Cert.AQkvDwReferenceIdeal.τ).loc Cert.AQkvDwReferenceIdeal.main_arg0) = m ((c.tc : Thread Cert.AQkvDwIdeal.nD Cert.AQkvDwIdeal.τ).loc Cert.AQkvDwIdeal.main_arg0)
      ∧ m' ((c.tc : Thread Cert.AQkvDwReferenceIdeal.nD Cert.AQkvDwReferenceIdeal.τ).loc Cert.AQkvDwReferenceIdeal.main_arg1) = m ((c.tc : Thread Cert.AQkvDwIdeal.nD Cert.AQkvDwIdeal.τ).loc Cert.AQkvDwIdeal.main_arg1)) →
    ∃ (v0 : (c : Dev Cert.AQkvDwIdeal.nD) → Buf (Elt Ideal) ((c.tc : Thread Cert.AQkvDwIdeal.nD Cert.AQkvDwIdeal.τ).loc Cert.AQkvDwIdeal.main_v2)),
      θ_run (Cert.AQkvDwIdeal.defs (F := Ideal)) (onTc (τ := Cert.AQkvDwIdeal.τ) (Cert.AQkvDwIdeal.main (F := Ideal))) ⟨m, fun _ => 0, g⟩ (fun r => ∀ c : Dev Cert.AQkvDwIdeal.nD,
          r.2.mem ((c.tc : Thread Cert.AQkvDwIdeal.nD Cert.AQkvDwIdeal.τ).loc Cert.AQkvDwIdeal.main_v2) = v0 c
          ∧ r.2.mem ((c.tc : Thread Cert.AQkvDwIdeal.nD Cert.AQkvDwIdeal.τ).loc Cert.AQkvDwIdeal.main_arg0) = m ((c.tc : Thread Cert.AQkvDwIdeal.nD Cert.AQkvDwIdeal.τ).loc Cert.AQkvDwIdeal.main_arg0)
          ∧ r.2.mem ((c.tc : Thread Cert.AQkvDwIdeal.nD Cert.AQkvDwIdeal.τ).loc Cert.AQkvDwIdeal.main_arg1) = m ((c.tc : Thread Cert.AQkvDwIdeal.nD Cert.AQkvDwIdeal.τ).loc Cert.AQkvDwIdeal.main_arg1))
      ∧ θ_run (Cert.AQkvDwReferenceIdeal.defs (F := Ideal)) (onTc (τ := Cert.AQkvDwReferenceIdeal.τ) (Cert.AQkvDwReferenceIdeal.main (F := Ideal))) ⟨m', fun _ => 0, g'⟩ (fun r => ∀ c : Dev Cert.AQkvDwReferenceIdeal.nD,
          r.2.mem ((c.tc : Thread Cert.AQkvDwReferenceIdeal.nD Cert.AQkvDwReferenceIdeal.τ).loc Cert.AQkvDwReferenceIdeal.main_v6) = v0 c
          ∧ r.2.mem ((c.tc : Thread Cert.AQkvDwReferenceIdeal.nD Cert.AQkvDwReferenceIdeal.τ).loc Cert.AQkvDwReferenceIdeal.main_arg0) = m' ((c.tc : Thread Cert.AQkvDwReferenceIdeal.nD Cert.AQkvDwReferenceIdeal.τ).loc Cert.AQkvDwReferenceIdeal.main_arg0)
          ∧ r.2.mem ((c.tc : Thread Cert.AQkvDwReferenceIdeal.nD Cert.AQkvDwReferenceIdeal.τ).loc Cert.AQkvDwReferenceIdeal.main_arg1) = m' ((c.tc : Thread Cert.AQkvDwReferenceIdeal.nD Cert.AQkvDwReferenceIdeal.τ).loc Cert.AQkvDwReferenceIdeal.main_arg1))

def preserves_AOutDx_AOutDxIdeal : Prop :=
  True

def algebraic_AOutDxIdeal_AOutDxReferenceIdeal [hAOutDxIdeal : Cert.AOutDxIdeal.Facts] [hAOutDxReferenceIdeal : Cert.AOutDxReferenceIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg)
    (m' : (ℓ : Loc Cert.AOutDxReferenceIdeal.nD Cert.AOutDxReferenceIdeal.τ Cert.AOutDxReferenceIdeal.sig) → Buf (Elt Ideal) ℓ) (g' : Dev Cert.AOutDxReferenceIdeal.nD → PrngReg), Pre_AOutDxIdeal m →
    (∀ c : Dev Cert.AOutDxIdeal.nD,
      m' ((c.tc : Thread Cert.AOutDxReferenceIdeal.nD Cert.AOutDxReferenceIdeal.τ).loc Cert.AOutDxReferenceIdeal.main_arg0) = m ((c.tc : Thread Cert.AOutDxIdeal.nD Cert.AOutDxIdeal.τ).loc Cert.AOutDxIdeal.main_arg0)
      ∧ m' ((c.tc : Thread Cert.AOutDxReferenceIdeal.nD Cert.AOutDxReferenceIdeal.τ).loc Cert.AOutDxReferenceIdeal.main_arg1) = m ((c.tc : Thread Cert.AOutDxIdeal.nD Cert.AOutDxIdeal.τ).loc Cert.AOutDxIdeal.main_arg1)) →
    ∃ (v0 : (c : Dev Cert.AOutDxIdeal.nD) → Buf (Elt Ideal) ((c.tc : Thread Cert.AOutDxIdeal.nD Cert.AOutDxIdeal.τ).loc Cert.AOutDxIdeal.main_v3)),
      θ_run (Cert.AOutDxIdeal.defs (F := Ideal)) (onTc (τ := Cert.AOutDxIdeal.τ) (Cert.AOutDxIdeal.main (F := Ideal))) ⟨m, fun _ => 0, g⟩ (fun r => ∀ c : Dev Cert.AOutDxIdeal.nD,
          r.2.mem ((c.tc : Thread Cert.AOutDxIdeal.nD Cert.AOutDxIdeal.τ).loc Cert.AOutDxIdeal.main_v3) = v0 c
          ∧ r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
          ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ θ_run (Cert.AOutDxReferenceIdeal.defs (F := Ideal)) (onTc (τ := Cert.AOutDxReferenceIdeal.τ) (Cert.AOutDxReferenceIdeal.main (F := Ideal))) ⟨m', fun _ => 0, g'⟩ (fun r => ∀ c : Dev Cert.AOutDxReferenceIdeal.nD,
          r.2.mem ((c.tc : Thread Cert.AOutDxReferenceIdeal.nD Cert.AOutDxReferenceIdeal.τ).loc Cert.AOutDxReferenceIdeal.main_v2) = v0 c
          ∧ r.2.mem ((c.tc : Thread Cert.AOutDxReferenceIdeal.nD Cert.AOutDxReferenceIdeal.τ).loc Cert.AOutDxReferenceIdeal.main_arg0) = m' ((c.tc : Thread Cert.AOutDxReferenceIdeal.nD Cert.AOutDxReferenceIdeal.τ).loc Cert.AOutDxReferenceIdeal.main_arg0)
          ∧ r.2.mem ((c.tc : Thread Cert.AOutDxReferenceIdeal.nD Cert.AOutDxReferenceIdeal.τ).loc Cert.AOutDxReferenceIdeal.main_arg1) = m' ((c.tc : Thread Cert.AOutDxReferenceIdeal.nD Cert.AOutDxReferenceIdeal.τ).loc Cert.AOutDxReferenceIdeal.main_arg1))

def preserves_AOutDw_AOutDwIdeal : Prop :=
  True

def algebraic_AOutDwIdeal_AOutDwReferenceIdeal [hAOutDwIdeal : Cert.AOutDwIdeal.Facts] [hAOutDwReferenceIdeal : Cert.AOutDwReferenceIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg)
    (m' : (ℓ : Loc Cert.AOutDwReferenceIdeal.nD Cert.AOutDwReferenceIdeal.τ Cert.AOutDwReferenceIdeal.sig) → Buf (Elt Ideal) ℓ) (g' : Dev Cert.AOutDwReferenceIdeal.nD → PrngReg), Pre_AOutDwIdeal m →
    (∀ c : Dev Cert.AOutDwIdeal.nD,
      m' ((c.tc : Thread Cert.AOutDwReferenceIdeal.nD Cert.AOutDwReferenceIdeal.τ).loc Cert.AOutDwReferenceIdeal.main_arg0) = m ((c.tc : Thread Cert.AOutDwIdeal.nD Cert.AOutDwIdeal.τ).loc Cert.AOutDwIdeal.main_arg0)
      ∧ m' ((c.tc : Thread Cert.AOutDwReferenceIdeal.nD Cert.AOutDwReferenceIdeal.τ).loc Cert.AOutDwReferenceIdeal.main_arg1) = m ((c.tc : Thread Cert.AOutDwIdeal.nD Cert.AOutDwIdeal.τ).loc Cert.AOutDwIdeal.main_arg1)) →
    ∃ (v0 : (c : Dev Cert.AOutDwIdeal.nD) → Buf (Elt Ideal) ((c.tc : Thread Cert.AOutDwIdeal.nD Cert.AOutDwIdeal.τ).loc Cert.AOutDwIdeal.main_v2)),
      θ_run (Cert.AOutDwIdeal.defs (F := Ideal)) (onTc (τ := Cert.AOutDwIdeal.τ) (Cert.AOutDwIdeal.main (F := Ideal))) ⟨m, fun _ => 0, g⟩ (fun r => ∀ c : Dev Cert.AOutDwIdeal.nD,
          r.2.mem ((c.tc : Thread Cert.AOutDwIdeal.nD Cert.AOutDwIdeal.τ).loc Cert.AOutDwIdeal.main_v2) = v0 c
          ∧ r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
          ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1))
      ∧ θ_run (Cert.AOutDwReferenceIdeal.defs (F := Ideal)) (onTc (τ := Cert.AOutDwReferenceIdeal.τ) (Cert.AOutDwReferenceIdeal.main (F := Ideal))) ⟨m', fun _ => 0, g'⟩ (fun r => ∀ c : Dev Cert.AOutDwReferenceIdeal.nD,
          r.2.mem ((c.tc : Thread Cert.AOutDwReferenceIdeal.nD Cert.AOutDwReferenceIdeal.τ).loc Cert.AOutDwReferenceIdeal.main_v4) = v0 c
          ∧ r.2.mem ((c.tc : Thread Cert.AOutDwReferenceIdeal.nD Cert.AOutDwReferenceIdeal.τ).loc Cert.AOutDwReferenceIdeal.main_arg0) = m' ((c.tc : Thread Cert.AOutDwReferenceIdeal.nD Cert.AOutDwReferenceIdeal.τ).loc Cert.AOutDwReferenceIdeal.main_arg0)
          ∧ r.2.mem ((c.tc : Thread Cert.AOutDwReferenceIdeal.nD Cert.AOutDwReferenceIdeal.τ).loc Cert.AOutDwReferenceIdeal.main_arg1) = m' ((c.tc : Thread Cert.AOutDwReferenceIdeal.nD Cert.AOutDwReferenceIdeal.τ).loc Cert.AOutDwReferenceIdeal.main_arg1))

def preserves_BQkvDx_BQkvDxIdeal : Prop :=
  True

def algebraic_BQkvDxIdeal_BQkvDxReferenceIdeal [hBQkvDxIdeal : Cert.BQkvDxIdeal.Facts] [hBQkvDxReferenceIdeal : Cert.BQkvDxReferenceIdeal.Facts] : Prop :=
  ∀ (m : (ℓ : Loc Cert.BQkvDxIdeal.nD Cert.BQkvDxIdeal.τ Cert.BQkvDxIdeal.sig) → Buf (Elt Ideal) ℓ) (g : Dev Cert.BQkvDxIdeal.nD → PrngReg)
    (m' : (ℓ : Loc Cert.BQkvDxReferenceIdeal.nD Cert.BQkvDxReferenceIdeal.τ Cert.BQkvDxReferenceIdeal.sig) → Buf (Elt Ideal) ℓ) (g' : Dev Cert.BQkvDxReferenceIdeal.nD → PrngReg), Pre_BQkvDxIdeal m →
    (∀ c : Dev Cert.BQkvDxIdeal.nD,
      m' ((c.tc : Thread Cert.BQkvDxReferenceIdeal.nD Cert.BQkvDxReferenceIdeal.τ).loc Cert.BQkvDxReferenceIdeal.main_arg0) = m ((c.tc : Thread Cert.BQkvDxIdeal.nD Cert.BQkvDxIdeal.τ).loc Cert.BQkvDxIdeal.main_arg0)
      ∧ m' ((c.tc : Thread Cert.BQkvDxReferenceIdeal.nD Cert.BQkvDxReferenceIdeal.τ).loc Cert.BQkvDxReferenceIdeal.main_arg1) = m ((c.tc : Thread Cert.BQkvDxIdeal.nD Cert.BQkvDxIdeal.τ).loc Cert.BQkvDxIdeal.main_arg1)) →
    ∃ (v0 : (c : Dev Cert.BQkvDxIdeal.nD) → Buf (Elt Ideal) ((c.tc : Thread Cert.BQkvDxIdeal.nD Cert.BQkvDxIdeal.τ).loc Cert.BQkvDxIdeal.main_v5)),
      θ_run (Cert.BQkvDxIdeal.defs (F := Ideal)) (onTc (τ := Cert.BQkvDxIdeal.τ) (Cert.BQkvDxIdeal.main (F := Ideal))) ⟨m, fun _ => 0, g⟩ (fun r => ∀ c : Dev Cert.BQkvDxIdeal.nD,
          r.2.mem ((c.tc : Thread Cert.BQkvDxIdeal.nD Cert.BQkvDxIdeal.τ).loc Cert.BQkvDxIdeal.main_v5) = v0 c
          ∧ r.2.mem ((c.tc : Thread Cert.BQkvDxIdeal.nD Cert.BQkvDxIdeal.τ).loc Cert.BQkvDxIdeal.main_arg0) = m ((c.tc : Thread Cert.BQkvDxIdeal.nD Cert.BQkvDxIdeal.τ).loc Cert.BQkvDxIdeal.main_arg0)
          ∧ r.2.mem ((c.tc : Thread Cert.BQkvDxIdeal.nD Cert.BQkvDxIdeal.τ).loc Cert.BQkvDxIdeal.main_arg1) = m ((c.tc : Thread Cert.BQkvDxIdeal.nD Cert.BQkvDxIdeal.τ).loc Cert.BQkvDxIdeal.main_arg1))
      ∧ θ_run (Cert.BQkvDxReferenceIdeal.defs (F := Ideal)) (onTc (τ := Cert.BQkvDxReferenceIdeal.τ) (Cert.BQkvDxReferenceIdeal.main (F := Ideal))) ⟨m', fun _ => 0, g'⟩ (fun r => ∀ c : Dev Cert.BQkvDxReferenceIdeal.nD,
          r.2.mem ((c.tc : Thread Cert.BQkvDxReferenceIdeal.nD Cert.BQkvDxReferenceIdeal.τ).loc Cert.BQkvDxReferenceIdeal.main_v2) = v0 c
          ∧ r.2.mem ((c.tc : Thread Cert.BQkvDxReferenceIdeal.nD Cert.BQkvDxReferenceIdeal.τ).loc Cert.BQkvDxReferenceIdeal.main_arg0) = m' ((c.tc : Thread Cert.BQkvDxReferenceIdeal.nD Cert.BQkvDxReferenceIdeal.τ).loc Cert.BQkvDxReferenceIdeal.main_arg0)
          ∧ r.2.mem ((c.tc : Thread Cert.BQkvDxReferenceIdeal.nD Cert.BQkvDxReferenceIdeal.τ).loc Cert.BQkvDxReferenceIdeal.main_arg1) = m' ((c.tc : Thread Cert.BQkvDxReferenceIdeal.nD Cert.BQkvDxReferenceIdeal.τ).loc Cert.BQkvDxReferenceIdeal.main_arg1))

def preserves_BQkvDw_BQkvDwIdeal : Prop :=
  True

def algebraic_BQkvDwIdeal_BQkvDwReferenceIdeal [hBQkvDwIdeal : Cert.BQkvDwIdeal.Facts] [hBQkvDwReferenceIdeal : Cert.BQkvDwReferenceIdeal.Facts] : Prop :=
  ∀ (m : (ℓ : Loc Cert.BQkvDwIdeal.nD Cert.BQkvDwIdeal.τ Cert.BQkvDwIdeal.sig) → Buf (Elt Ideal) ℓ) (g : Dev Cert.BQkvDwIdeal.nD → PrngReg)
    (m' : (ℓ : Loc Cert.BQkvDwReferenceIdeal.nD Cert.BQkvDwReferenceIdeal.τ Cert.BQkvDwReferenceIdeal.sig) → Buf (Elt Ideal) ℓ) (g' : Dev Cert.BQkvDwReferenceIdeal.nD → PrngReg), Pre_BQkvDwIdeal m →
    (∀ c : Dev Cert.BQkvDwIdeal.nD,
      m' ((c.tc : Thread Cert.BQkvDwReferenceIdeal.nD Cert.BQkvDwReferenceIdeal.τ).loc Cert.BQkvDwReferenceIdeal.main_arg0) = m ((c.tc : Thread Cert.BQkvDwIdeal.nD Cert.BQkvDwIdeal.τ).loc Cert.BQkvDwIdeal.main_arg0)
      ∧ m' ((c.tc : Thread Cert.BQkvDwReferenceIdeal.nD Cert.BQkvDwReferenceIdeal.τ).loc Cert.BQkvDwReferenceIdeal.main_arg1) = m ((c.tc : Thread Cert.BQkvDwIdeal.nD Cert.BQkvDwIdeal.τ).loc Cert.BQkvDwIdeal.main_arg1)) →
    ∃ (v0 : (c : Dev Cert.BQkvDwIdeal.nD) → Buf (Elt Ideal) ((c.tc : Thread Cert.BQkvDwIdeal.nD Cert.BQkvDwIdeal.τ).loc Cert.BQkvDwIdeal.main_v2)),
      θ_run (Cert.BQkvDwIdeal.defs (F := Ideal)) (onTc (τ := Cert.BQkvDwIdeal.τ) (Cert.BQkvDwIdeal.main (F := Ideal))) ⟨m, fun _ => 0, g⟩ (fun r => ∀ c : Dev Cert.BQkvDwIdeal.nD,
          r.2.mem ((c.tc : Thread Cert.BQkvDwIdeal.nD Cert.BQkvDwIdeal.τ).loc Cert.BQkvDwIdeal.main_v2) = v0 c
          ∧ r.2.mem ((c.tc : Thread Cert.BQkvDwIdeal.nD Cert.BQkvDwIdeal.τ).loc Cert.BQkvDwIdeal.main_arg0) = m ((c.tc : Thread Cert.BQkvDwIdeal.nD Cert.BQkvDwIdeal.τ).loc Cert.BQkvDwIdeal.main_arg0)
          ∧ r.2.mem ((c.tc : Thread Cert.BQkvDwIdeal.nD Cert.BQkvDwIdeal.τ).loc Cert.BQkvDwIdeal.main_arg1) = m ((c.tc : Thread Cert.BQkvDwIdeal.nD Cert.BQkvDwIdeal.τ).loc Cert.BQkvDwIdeal.main_arg1))
      ∧ θ_run (Cert.BQkvDwReferenceIdeal.defs (F := Ideal)) (onTc (τ := Cert.BQkvDwReferenceIdeal.τ) (Cert.BQkvDwReferenceIdeal.main (F := Ideal))) ⟨m', fun _ => 0, g'⟩ (fun r => ∀ c : Dev Cert.BQkvDwReferenceIdeal.nD,
          r.2.mem ((c.tc : Thread Cert.BQkvDwReferenceIdeal.nD Cert.BQkvDwReferenceIdeal.τ).loc Cert.BQkvDwReferenceIdeal.main_v6) = v0 c
          ∧ r.2.mem ((c.tc : Thread Cert.BQkvDwReferenceIdeal.nD Cert.BQkvDwReferenceIdeal.τ).loc Cert.BQkvDwReferenceIdeal.main_arg0) = m' ((c.tc : Thread Cert.BQkvDwReferenceIdeal.nD Cert.BQkvDwReferenceIdeal.τ).loc Cert.BQkvDwReferenceIdeal.main_arg0)
          ∧ r.2.mem ((c.tc : Thread Cert.BQkvDwReferenceIdeal.nD Cert.BQkvDwReferenceIdeal.τ).loc Cert.BQkvDwReferenceIdeal.main_arg1) = m' ((c.tc : Thread Cert.BQkvDwReferenceIdeal.nD Cert.BQkvDwReferenceIdeal.τ).loc Cert.BQkvDwReferenceIdeal.main_arg1))

def preserves_BOutDx_BOutDxIdeal : Prop :=
  True

def algebraic_BOutDxIdeal_BOutDxReferenceIdeal [hBOutDxIdeal : Cert.BOutDxIdeal.Facts] [hBOutDxReferenceIdeal : Cert.BOutDxReferenceIdeal.Facts] : Prop :=
  ∀ (m : (ℓ : Loc Cert.BOutDxIdeal.nD Cert.BOutDxIdeal.τ Cert.BOutDxIdeal.sig) → Buf (Elt Ideal) ℓ) (g : Dev Cert.BOutDxIdeal.nD → PrngReg)
    (m' : (ℓ : Loc Cert.BOutDxReferenceIdeal.nD Cert.BOutDxReferenceIdeal.τ Cert.BOutDxReferenceIdeal.sig) → Buf (Elt Ideal) ℓ) (g' : Dev Cert.BOutDxReferenceIdeal.nD → PrngReg), Pre_BOutDxIdeal m →
    (∀ c : Dev Cert.BOutDxIdeal.nD,
      m' ((c.tc : Thread Cert.BOutDxReferenceIdeal.nD Cert.BOutDxReferenceIdeal.τ).loc Cert.BOutDxReferenceIdeal.main_arg0) = m ((c.tc : Thread Cert.BOutDxIdeal.nD Cert.BOutDxIdeal.τ).loc Cert.BOutDxIdeal.main_arg0)
      ∧ m' ((c.tc : Thread Cert.BOutDxReferenceIdeal.nD Cert.BOutDxReferenceIdeal.τ).loc Cert.BOutDxReferenceIdeal.main_arg1) = m ((c.tc : Thread Cert.BOutDxIdeal.nD Cert.BOutDxIdeal.τ).loc Cert.BOutDxIdeal.main_arg1)) →
    ∃ (v0 : (c : Dev Cert.BOutDxIdeal.nD) → Buf (Elt Ideal) ((c.tc : Thread Cert.BOutDxIdeal.nD Cert.BOutDxIdeal.τ).loc Cert.BOutDxIdeal.main_v3)),
      θ_run (Cert.BOutDxIdeal.defs (F := Ideal)) (onTc (τ := Cert.BOutDxIdeal.τ) (Cert.BOutDxIdeal.main (F := Ideal))) ⟨m, fun _ => 0, g⟩ (fun r => ∀ c : Dev Cert.BOutDxIdeal.nD,
          r.2.mem ((c.tc : Thread Cert.BOutDxIdeal.nD Cert.BOutDxIdeal.τ).loc Cert.BOutDxIdeal.main_v3) = v0 c
          ∧ r.2.mem ((c.tc : Thread Cert.BOutDxIdeal.nD Cert.BOutDxIdeal.τ).loc Cert.BOutDxIdeal.main_arg0) = m ((c.tc : Thread Cert.BOutDxIdeal.nD Cert.BOutDxIdeal.τ).loc Cert.BOutDxIdeal.main_arg0)
          ∧ r.2.mem ((c.tc : Thread Cert.BOutDxIdeal.nD Cert.BOutDxIdeal.τ).loc Cert.BOutDxIdeal.main_arg1) = m ((c.tc : Thread Cert.BOutDxIdeal.nD Cert.BOutDxIdeal.τ).loc Cert.BOutDxIdeal.main_arg1))
      ∧ θ_run (Cert.BOutDxReferenceIdeal.defs (F := Ideal)) (onTc (τ := Cert.BOutDxReferenceIdeal.τ) (Cert.BOutDxReferenceIdeal.main (F := Ideal))) ⟨m', fun _ => 0, g'⟩ (fun r => ∀ c : Dev Cert.BOutDxReferenceIdeal.nD,
          r.2.mem ((c.tc : Thread Cert.BOutDxReferenceIdeal.nD Cert.BOutDxReferenceIdeal.τ).loc Cert.BOutDxReferenceIdeal.main_v2) = v0 c
          ∧ r.2.mem ((c.tc : Thread Cert.BOutDxReferenceIdeal.nD Cert.BOutDxReferenceIdeal.τ).loc Cert.BOutDxReferenceIdeal.main_arg0) = m' ((c.tc : Thread Cert.BOutDxReferenceIdeal.nD Cert.BOutDxReferenceIdeal.τ).loc Cert.BOutDxReferenceIdeal.main_arg0)
          ∧ r.2.mem ((c.tc : Thread Cert.BOutDxReferenceIdeal.nD Cert.BOutDxReferenceIdeal.τ).loc Cert.BOutDxReferenceIdeal.main_arg1) = m' ((c.tc : Thread Cert.BOutDxReferenceIdeal.nD Cert.BOutDxReferenceIdeal.τ).loc Cert.BOutDxReferenceIdeal.main_arg1))

def preserves_BOutDw_BOutDwIdeal : Prop :=
  True

def algebraic_BOutDwIdeal_BOutDwReferenceIdeal [hBOutDwIdeal : Cert.BOutDwIdeal.Facts] [hBOutDwReferenceIdeal : Cert.BOutDwReferenceIdeal.Facts] : Prop :=
  ∀ (m : (ℓ : Loc Cert.BOutDwIdeal.nD Cert.BOutDwIdeal.τ Cert.BOutDwIdeal.sig) → Buf (Elt Ideal) ℓ) (g : Dev Cert.BOutDwIdeal.nD → PrngReg)
    (m' : (ℓ : Loc Cert.BOutDwReferenceIdeal.nD Cert.BOutDwReferenceIdeal.τ Cert.BOutDwReferenceIdeal.sig) → Buf (Elt Ideal) ℓ) (g' : Dev Cert.BOutDwReferenceIdeal.nD → PrngReg), Pre_BOutDwIdeal m →
    (∀ c : Dev Cert.BOutDwIdeal.nD,
      m' ((c.tc : Thread Cert.BOutDwReferenceIdeal.nD Cert.BOutDwReferenceIdeal.τ).loc Cert.BOutDwReferenceIdeal.main_arg0) = m ((c.tc : Thread Cert.BOutDwIdeal.nD Cert.BOutDwIdeal.τ).loc Cert.BOutDwIdeal.main_arg0)
      ∧ m' ((c.tc : Thread Cert.BOutDwReferenceIdeal.nD Cert.BOutDwReferenceIdeal.τ).loc Cert.BOutDwReferenceIdeal.main_arg1) = m ((c.tc : Thread Cert.BOutDwIdeal.nD Cert.BOutDwIdeal.τ).loc Cert.BOutDwIdeal.main_arg1)) →
    ∃ (v0 : (c : Dev Cert.BOutDwIdeal.nD) → Buf (Elt Ideal) ((c.tc : Thread Cert.BOutDwIdeal.nD Cert.BOutDwIdeal.τ).loc Cert.BOutDwIdeal.main_v2)),
      θ_run (Cert.BOutDwIdeal.defs (F := Ideal)) (onTc (τ := Cert.BOutDwIdeal.τ) (Cert.BOutDwIdeal.main (F := Ideal))) ⟨m, fun _ => 0, g⟩ (fun r => ∀ c : Dev Cert.BOutDwIdeal.nD,
          r.2.mem ((c.tc : Thread Cert.BOutDwIdeal.nD Cert.BOutDwIdeal.τ).loc Cert.BOutDwIdeal.main_v2) = v0 c
          ∧ r.2.mem ((c.tc : Thread Cert.BOutDwIdeal.nD Cert.BOutDwIdeal.τ).loc Cert.BOutDwIdeal.main_arg0) = m ((c.tc : Thread Cert.BOutDwIdeal.nD Cert.BOutDwIdeal.τ).loc Cert.BOutDwIdeal.main_arg0)
          ∧ r.2.mem ((c.tc : Thread Cert.BOutDwIdeal.nD Cert.BOutDwIdeal.τ).loc Cert.BOutDwIdeal.main_arg1) = m ((c.tc : Thread Cert.BOutDwIdeal.nD Cert.BOutDwIdeal.τ).loc Cert.BOutDwIdeal.main_arg1))
      ∧ θ_run (Cert.BOutDwReferenceIdeal.defs (F := Ideal)) (onTc (τ := Cert.BOutDwReferenceIdeal.τ) (Cert.BOutDwReferenceIdeal.main (F := Ideal))) ⟨m', fun _ => 0, g'⟩ (fun r => ∀ c : Dev Cert.BOutDwReferenceIdeal.nD,
          r.2.mem ((c.tc : Thread Cert.BOutDwReferenceIdeal.nD Cert.BOutDwReferenceIdeal.τ).loc Cert.BOutDwReferenceIdeal.main_v4) = v0 c
          ∧ r.2.mem ((c.tc : Thread Cert.BOutDwReferenceIdeal.nD Cert.BOutDwReferenceIdeal.τ).loc Cert.BOutDwReferenceIdeal.main_arg0) = m' ((c.tc : Thread Cert.BOutDwReferenceIdeal.nD Cert.BOutDwReferenceIdeal.τ).loc Cert.BOutDwReferenceIdeal.main_arg0)
          ∧ r.2.mem ((c.tc : Thread Cert.BOutDwReferenceIdeal.nD Cert.BOutDwReferenceIdeal.τ).loc Cert.BOutDwReferenceIdeal.main_arg1) = m' ((c.tc : Thread Cert.BOutDwReferenceIdeal.nD Cert.BOutDwReferenceIdeal.τ).loc Cert.BOutDwReferenceIdeal.main_arg1))

def preserves_BQkvG0_BQkvG0Ideal : Prop :=
  True

def algebraic_BQkvG0Ideal_BQkvG0ReferenceIdeal [hBQkvG0Ideal : Cert.BQkvG0Ideal.Facts] [hBQkvG0ReferenceIdeal : Cert.BQkvG0ReferenceIdeal.Facts] : Prop :=
  ∀ (m : (ℓ : Loc Cert.BQkvG0Ideal.nD Cert.BQkvG0Ideal.τ Cert.BQkvG0Ideal.sig) → Buf (Elt Ideal) ℓ) (g : Dev Cert.BQkvG0Ideal.nD → PrngReg)
    (m' : (ℓ : Loc Cert.BQkvG0ReferenceIdeal.nD Cert.BQkvG0ReferenceIdeal.τ Cert.BQkvG0ReferenceIdeal.sig) → Buf (Elt Ideal) ℓ) (g' : Dev Cert.BQkvG0ReferenceIdeal.nD → PrngReg), Pre_BQkvG0Ideal m →
    (∀ c : Dev Cert.BQkvG0Ideal.nD,
      m' ((c.tc : Thread Cert.BQkvG0ReferenceIdeal.nD Cert.BQkvG0ReferenceIdeal.τ).loc Cert.BQkvG0ReferenceIdeal.main_arg0) = m ((c.tc : Thread Cert.BQkvG0Ideal.nD Cert.BQkvG0Ideal.τ).loc Cert.BQkvG0Ideal.main_arg0)
      ∧ m' ((c.tc : Thread Cert.BQkvG0ReferenceIdeal.nD Cert.BQkvG0ReferenceIdeal.τ).loc Cert.BQkvG0ReferenceIdeal.main_arg1) = m ((c.tc : Thread Cert.BQkvG0Ideal.nD Cert.BQkvG0Ideal.τ).loc Cert.BQkvG0Ideal.main_arg1)) →
    ∃ (v0 : (c : Dev Cert.BQkvG0Ideal.nD) → Buf (Elt Ideal) ((c.tc : Thread Cert.BQkvG0Ideal.nD Cert.BQkvG0Ideal.τ).loc Cert.BQkvG0Ideal.main_v5)),
      θ_run (Cert.BQkvG0Ideal.defs (F := Ideal)) (onTc (τ := Cert.BQkvG0Ideal.τ) (Cert.BQkvG0Ideal.main (F := Ideal))) ⟨m, fun _ => 0, g⟩ (fun r => ∀ c : Dev Cert.BQkvG0Ideal.nD,
          r.2.mem ((c.tc : Thread Cert.BQkvG0Ideal.nD Cert.BQkvG0Ideal.τ).loc Cert.BQkvG0Ideal.main_v5) = v0 c
          ∧ r.2.mem ((c.tc : Thread Cert.BQkvG0Ideal.nD Cert.BQkvG0Ideal.τ).loc Cert.BQkvG0Ideal.main_arg0) = m ((c.tc : Thread Cert.BQkvG0Ideal.nD Cert.BQkvG0Ideal.τ).loc Cert.BQkvG0Ideal.main_arg0)
          ∧ r.2.mem ((c.tc : Thread Cert.BQkvG0Ideal.nD Cert.BQkvG0Ideal.τ).loc Cert.BQkvG0Ideal.main_arg1) = m ((c.tc : Thread Cert.BQkvG0Ideal.nD Cert.BQkvG0Ideal.τ).loc Cert.BQkvG0Ideal.main_arg1))
      ∧ θ_run (Cert.BQkvG0ReferenceIdeal.defs (F := Ideal)) (onTc (τ := Cert.BQkvG0ReferenceIdeal.τ) (Cert.BQkvG0ReferenceIdeal.main (F := Ideal))) ⟨m', fun _ => 0, g'⟩ (fun r => ∀ c : Dev Cert.BQkvG0ReferenceIdeal.nD,
          r.2.mem ((c.tc : Thread Cert.BQkvG0ReferenceIdeal.nD Cert.BQkvG0ReferenceIdeal.τ).loc Cert.BQkvG0ReferenceIdeal.main_v4) = v0 c
          ∧ r.2.mem ((c.tc : Thread Cert.BQkvG0ReferenceIdeal.nD Cert.BQkvG0ReferenceIdeal.τ).loc Cert.BQkvG0ReferenceIdeal.main_arg0) = m' ((c.tc : Thread Cert.BQkvG0ReferenceIdeal.nD Cert.BQkvG0ReferenceIdeal.τ).loc Cert.BQkvG0ReferenceIdeal.main_arg0)
          ∧ r.2.mem ((c.tc : Thread Cert.BQkvG0ReferenceIdeal.nD Cert.BQkvG0ReferenceIdeal.τ).loc Cert.BQkvG0ReferenceIdeal.main_arg1) = m' ((c.tc : Thread Cert.BQkvG0ReferenceIdeal.nD Cert.BQkvG0ReferenceIdeal.τ).loc Cert.BQkvG0ReferenceIdeal.main_arg1))

def preserves_BQkvG1_BQkvG1Ideal : Prop :=
  True

def algebraic_BQkvG1Ideal_BQkvG1ReferenceIdeal [hBQkvG1Ideal : Cert.BQkvG1Ideal.Facts] [hBQkvG1ReferenceIdeal : Cert.BQkvG1ReferenceIdeal.Facts] : Prop :=
  ∀ (m : (ℓ : Loc Cert.BQkvG1Ideal.nD Cert.BQkvG1Ideal.τ Cert.BQkvG1Ideal.sig) → Buf (Elt Ideal) ℓ) (g : Dev Cert.BQkvG1Ideal.nD → PrngReg)
    (m' : (ℓ : Loc Cert.BQkvG1ReferenceIdeal.nD Cert.BQkvG1ReferenceIdeal.τ Cert.BQkvG1ReferenceIdeal.sig) → Buf (Elt Ideal) ℓ) (g' : Dev Cert.BQkvG1ReferenceIdeal.nD → PrngReg), Pre_BQkvG1Ideal m →
    (∀ c : Dev Cert.BQkvG1Ideal.nD,
      m' ((c.tc : Thread Cert.BQkvG1ReferenceIdeal.nD Cert.BQkvG1ReferenceIdeal.τ).loc Cert.BQkvG1ReferenceIdeal.main_arg0) = m ((c.tc : Thread Cert.BQkvG1Ideal.nD Cert.BQkvG1Ideal.τ).loc Cert.BQkvG1Ideal.main_arg0)
      ∧ m' ((c.tc : Thread Cert.BQkvG1ReferenceIdeal.nD Cert.BQkvG1ReferenceIdeal.τ).loc Cert.BQkvG1ReferenceIdeal.main_arg1) = m ((c.tc : Thread Cert.BQkvG1Ideal.nD Cert.BQkvG1Ideal.τ).loc Cert.BQkvG1Ideal.main_arg1)) →
    ∃ (v0 : (c : Dev Cert.BQkvG1Ideal.nD) → Buf (Elt Ideal) ((c.tc : Thread Cert.BQkvG1Ideal.nD Cert.BQkvG1Ideal.τ).loc Cert.BQkvG1Ideal.main_v5)),
      θ_run (Cert.BQkvG1Ideal.defs (F := Ideal)) (onTc (τ := Cert.BQkvG1Ideal.τ) (Cert.BQkvG1Ideal.main (F := Ideal))) ⟨m, fun _ => 0, g⟩ (fun r => ∀ c : Dev Cert.BQkvG1Ideal.nD,
          r.2.mem ((c.tc : Thread Cert.BQkvG1Ideal.nD Cert.BQkvG1Ideal.τ).loc Cert.BQkvG1Ideal.main_v5) = v0 c
          ∧ r.2.mem ((c.tc : Thread Cert.BQkvG1Ideal.nD Cert.BQkvG1Ideal.τ).loc Cert.BQkvG1Ideal.main_arg0) = m ((c.tc : Thread Cert.BQkvG1Ideal.nD Cert.BQkvG1Ideal.τ).loc Cert.BQkvG1Ideal.main_arg0)
          ∧ r.2.mem ((c.tc : Thread Cert.BQkvG1Ideal.nD Cert.BQkvG1Ideal.τ).loc Cert.BQkvG1Ideal.main_arg1) = m ((c.tc : Thread Cert.BQkvG1Ideal.nD Cert.BQkvG1Ideal.τ).loc Cert.BQkvG1Ideal.main_arg1))
      ∧ θ_run (Cert.BQkvG1ReferenceIdeal.defs (F := Ideal)) (onTc (τ := Cert.BQkvG1ReferenceIdeal.τ) (Cert.BQkvG1ReferenceIdeal.main (F := Ideal))) ⟨m', fun _ => 0, g'⟩ (fun r => ∀ c : Dev Cert.BQkvG1ReferenceIdeal.nD,
          r.2.mem ((c.tc : Thread Cert.BQkvG1ReferenceIdeal.nD Cert.BQkvG1ReferenceIdeal.τ).loc Cert.BQkvG1ReferenceIdeal.main_v4) = v0 c
          ∧ r.2.mem ((c.tc : Thread Cert.BQkvG1ReferenceIdeal.nD Cert.BQkvG1ReferenceIdeal.τ).loc Cert.BQkvG1ReferenceIdeal.main_arg0) = m' ((c.tc : Thread Cert.BQkvG1ReferenceIdeal.nD Cert.BQkvG1ReferenceIdeal.τ).loc Cert.BQkvG1ReferenceIdeal.main_arg0)
          ∧ r.2.mem ((c.tc : Thread Cert.BQkvG1ReferenceIdeal.nD Cert.BQkvG1ReferenceIdeal.τ).loc Cert.BQkvG1ReferenceIdeal.main_arg1) = m' ((c.tc : Thread Cert.BQkvG1ReferenceIdeal.nD Cert.BQkvG1ReferenceIdeal.τ).loc Cert.BQkvG1ReferenceIdeal.main_arg1))

def preserves_BQkvG2_BQkvG2Ideal : Prop :=
  True

def algebraic_BQkvG2Ideal_BQkvG2ReferenceIdeal [hBQkvG2Ideal : Cert.BQkvG2Ideal.Facts] [hBQkvG2ReferenceIdeal : Cert.BQkvG2ReferenceIdeal.Facts] : Prop :=
  ∀ (m : (ℓ : Loc Cert.BQkvG2Ideal.nD Cert.BQkvG2Ideal.τ Cert.BQkvG2Ideal.sig) → Buf (Elt Ideal) ℓ) (g : Dev Cert.BQkvG2Ideal.nD → PrngReg)
    (m' : (ℓ : Loc Cert.BQkvG2ReferenceIdeal.nD Cert.BQkvG2ReferenceIdeal.τ Cert.BQkvG2ReferenceIdeal.sig) → Buf (Elt Ideal) ℓ) (g' : Dev Cert.BQkvG2ReferenceIdeal.nD → PrngReg), Pre_BQkvG2Ideal m →
    (∀ c : Dev Cert.BQkvG2Ideal.nD,
      m' ((c.tc : Thread Cert.BQkvG2ReferenceIdeal.nD Cert.BQkvG2ReferenceIdeal.τ).loc Cert.BQkvG2ReferenceIdeal.main_arg0) = m ((c.tc : Thread Cert.BQkvG2Ideal.nD Cert.BQkvG2Ideal.τ).loc Cert.BQkvG2Ideal.main_arg0)
      ∧ m' ((c.tc : Thread Cert.BQkvG2ReferenceIdeal.nD Cert.BQkvG2ReferenceIdeal.τ).loc Cert.BQkvG2ReferenceIdeal.main_arg1) = m ((c.tc : Thread Cert.BQkvG2Ideal.nD Cert.BQkvG2Ideal.τ).loc Cert.BQkvG2Ideal.main_arg1)) →
    ∃ (v0 : (c : Dev Cert.BQkvG2Ideal.nD) → Buf (Elt Ideal) ((c.tc : Thread Cert.BQkvG2Ideal.nD Cert.BQkvG2Ideal.τ).loc Cert.BQkvG2Ideal.main_v5)),
      θ_run (Cert.BQkvG2Ideal.defs (F := Ideal)) (onTc (τ := Cert.BQkvG2Ideal.τ) (Cert.BQkvG2Ideal.main (F := Ideal))) ⟨m, fun _ => 0, g⟩ (fun r => ∀ c : Dev Cert.BQkvG2Ideal.nD,
          r.2.mem ((c.tc : Thread Cert.BQkvG2Ideal.nD Cert.BQkvG2Ideal.τ).loc Cert.BQkvG2Ideal.main_v5) = v0 c
          ∧ r.2.mem ((c.tc : Thread Cert.BQkvG2Ideal.nD Cert.BQkvG2Ideal.τ).loc Cert.BQkvG2Ideal.main_arg0) = m ((c.tc : Thread Cert.BQkvG2Ideal.nD Cert.BQkvG2Ideal.τ).loc Cert.BQkvG2Ideal.main_arg0)
          ∧ r.2.mem ((c.tc : Thread Cert.BQkvG2Ideal.nD Cert.BQkvG2Ideal.τ).loc Cert.BQkvG2Ideal.main_arg1) = m ((c.tc : Thread Cert.BQkvG2Ideal.nD Cert.BQkvG2Ideal.τ).loc Cert.BQkvG2Ideal.main_arg1))
      ∧ θ_run (Cert.BQkvG2ReferenceIdeal.defs (F := Ideal)) (onTc (τ := Cert.BQkvG2ReferenceIdeal.τ) (Cert.BQkvG2ReferenceIdeal.main (F := Ideal))) ⟨m', fun _ => 0, g'⟩ (fun r => ∀ c : Dev Cert.BQkvG2ReferenceIdeal.nD,
          r.2.mem ((c.tc : Thread Cert.BQkvG2ReferenceIdeal.nD Cert.BQkvG2ReferenceIdeal.τ).loc Cert.BQkvG2ReferenceIdeal.main_v4) = v0 c
          ∧ r.2.mem ((c.tc : Thread Cert.BQkvG2ReferenceIdeal.nD Cert.BQkvG2ReferenceIdeal.τ).loc Cert.BQkvG2ReferenceIdeal.main_arg0) = m' ((c.tc : Thread Cert.BQkvG2ReferenceIdeal.nD Cert.BQkvG2ReferenceIdeal.τ).loc Cert.BQkvG2ReferenceIdeal.main_arg0)
          ∧ r.2.mem ((c.tc : Thread Cert.BQkvG2ReferenceIdeal.nD Cert.BQkvG2ReferenceIdeal.τ).loc Cert.BQkvG2ReferenceIdeal.main_arg1) = m' ((c.tc : Thread Cert.BQkvG2ReferenceIdeal.nD Cert.BQkvG2ReferenceIdeal.τ).loc Cert.BQkvG2ReferenceIdeal.main_arg1))

def preserves_ActDx_ActDxIdeal : Prop :=
  True

def algebraic_ActDxIdeal_ActDxReferenceIdeal_pre_act_finite [hActDxIdeal : Cert.ActDxIdeal.Facts] [hActDxReferenceIdeal : Cert.ActDxReferenceIdeal.Facts] [hPre_act_finite : Cert.Pre_act_finite.Facts] : Prop :=
  ∀ (m : (ℓ : Loc Cert.ActDxIdeal.nD Cert.ActDxIdeal.τ Cert.ActDxIdeal.sig) → Buf (Elt Ideal) ℓ) (g : Dev Cert.ActDxIdeal.nD → PrngReg)
    (m' : (ℓ : Loc Cert.ActDxReferenceIdeal.nD Cert.ActDxReferenceIdeal.τ Cert.ActDxReferenceIdeal.sig) → Buf (Elt Ideal) ℓ) (g' : Dev Cert.ActDxReferenceIdeal.nD → PrngReg), Pre_ActDxIdeal_act_finite m →
    (∀ c : Dev Cert.ActDxIdeal.nD,
      m' ((c.tc : Thread Cert.ActDxReferenceIdeal.nD Cert.ActDxReferenceIdeal.τ).loc Cert.ActDxReferenceIdeal.main_arg0) = m ((c.tc : Thread Cert.ActDxIdeal.nD Cert.ActDxIdeal.τ).loc Cert.ActDxIdeal.main_arg0)
      ∧ m' ((c.tc : Thread Cert.ActDxReferenceIdeal.nD Cert.ActDxReferenceIdeal.τ).loc Cert.ActDxReferenceIdeal.main_arg1) = m ((c.tc : Thread Cert.ActDxIdeal.nD Cert.ActDxIdeal.τ).loc Cert.ActDxIdeal.main_arg1)
      ∧ m' ((c.tc : Thread Cert.ActDxReferenceIdeal.nD Cert.ActDxReferenceIdeal.τ).loc Cert.ActDxReferenceIdeal.main_arg2) = m ((c.tc : Thread Cert.ActDxIdeal.nD Cert.ActDxIdeal.τ).loc Cert.ActDxIdeal.main_arg2)
      ∧ m' ((c.tc : Thread Cert.ActDxReferenceIdeal.nD Cert.ActDxReferenceIdeal.τ).loc Cert.ActDxReferenceIdeal.main_arg3) = m ((c.tc : Thread Cert.ActDxIdeal.nD Cert.ActDxIdeal.τ).loc Cert.ActDxIdeal.main_arg3)) →
    ∃ (v0 : (c : Dev Cert.ActDxIdeal.nD) → Buf (Elt Ideal) ((c.tc : Thread Cert.ActDxIdeal.nD Cert.ActDxIdeal.τ).loc Cert.ActDxIdeal.main_v4_0)) (v1 : (c : Dev Cert.ActDxIdeal.nD) → Buf (Elt Ideal) ((c.tc : Thread Cert.ActDxIdeal.nD Cert.ActDxIdeal.τ).loc Cert.ActDxIdeal.main_v4_1)) (v2 : (c : Dev Cert.ActDxIdeal.nD) → Buf (Elt Ideal) ((c.tc : Thread Cert.ActDxIdeal.nD Cert.ActDxIdeal.τ).loc Cert.ActDxIdeal.main_v4_2)) (v3 : (c : Dev Cert.ActDxIdeal.nD) → Buf (Elt Ideal) ((c.tc : Thread Cert.ActDxIdeal.nD Cert.ActDxIdeal.τ).loc Cert.ActDxIdeal.main_v4_3)),
      θ_run (Cert.ActDxIdeal.defs (F := Ideal)) (onTc (τ := Cert.ActDxIdeal.τ) (Cert.ActDxIdeal.main (F := Ideal))) ⟨m, fun _ => 0, g⟩ (fun r => ∀ c : Dev Cert.ActDxIdeal.nD,
          r.2.mem ((c.tc : Thread Cert.ActDxIdeal.nD Cert.ActDxIdeal.τ).loc Cert.ActDxIdeal.main_v4_0) = v0 c
          ∧ r.2.mem ((c.tc : Thread Cert.ActDxIdeal.nD Cert.ActDxIdeal.τ).loc Cert.ActDxIdeal.main_v4_1) = v1 c
          ∧ r.2.mem ((c.tc : Thread Cert.ActDxIdeal.nD Cert.ActDxIdeal.τ).loc Cert.ActDxIdeal.main_v4_2) = v2 c
          ∧ r.2.mem ((c.tc : Thread Cert.ActDxIdeal.nD Cert.ActDxIdeal.τ).loc Cert.ActDxIdeal.main_v4_3) = v3 c
          ∧ r.2.mem ((c.tc : Thread Cert.ActDxIdeal.nD Cert.ActDxIdeal.τ).loc Cert.ActDxIdeal.main_arg0) = m ((c.tc : Thread Cert.ActDxIdeal.nD Cert.ActDxIdeal.τ).loc Cert.ActDxIdeal.main_arg0)
          ∧ r.2.mem ((c.tc : Thread Cert.ActDxIdeal.nD Cert.ActDxIdeal.τ).loc Cert.ActDxIdeal.main_arg1) = m ((c.tc : Thread Cert.ActDxIdeal.nD Cert.ActDxIdeal.τ).loc Cert.ActDxIdeal.main_arg1)
          ∧ r.2.mem ((c.tc : Thread Cert.ActDxIdeal.nD Cert.ActDxIdeal.τ).loc Cert.ActDxIdeal.main_arg2) = m ((c.tc : Thread Cert.ActDxIdeal.nD Cert.ActDxIdeal.τ).loc Cert.ActDxIdeal.main_arg2)
          ∧ r.2.mem ((c.tc : Thread Cert.ActDxIdeal.nD Cert.ActDxIdeal.τ).loc Cert.ActDxIdeal.main_arg3) = m ((c.tc : Thread Cert.ActDxIdeal.nD Cert.ActDxIdeal.τ).loc Cert.ActDxIdeal.main_arg3))
      ∧ θ_run (Cert.ActDxReferenceIdeal.defs (F := Ideal)) (onTc (τ := Cert.ActDxReferenceIdeal.τ) (Cert.ActDxReferenceIdeal.main (F := Ideal))) ⟨m', fun _ => 0, g'⟩ (fun r => ∀ c : Dev Cert.ActDxReferenceIdeal.nD,
          r.2.mem ((c.tc : Thread Cert.ActDxReferenceIdeal.nD Cert.ActDxReferenceIdeal.τ).loc Cert.ActDxReferenceIdeal.main_v76) = v0 c
          ∧ r.2.mem ((c.tc : Thread Cert.ActDxReferenceIdeal.nD Cert.ActDxReferenceIdeal.τ).loc Cert.ActDxReferenceIdeal.main_v78) = v1 c
          ∧ r.2.mem ((c.tc : Thread Cert.ActDxReferenceIdeal.nD Cert.ActDxReferenceIdeal.τ).loc Cert.ActDxReferenceIdeal.main_v79) = v2 c
          ∧ r.2.mem ((c.tc : Thread Cert.ActDxReferenceIdeal.nD Cert.ActDxReferenceIdeal.τ).loc Cert.ActDxReferenceIdeal.main_v80) = v3 c
          ∧ r.2.mem ((c.tc : Thread Cert.ActDxReferenceIdeal.nD Cert.ActDxReferenceIdeal.τ).loc Cert.ActDxReferenceIdeal.main_arg0) = m' ((c.tc : Thread Cert.ActDxReferenceIdeal.nD Cert.ActDxReferenceIdeal.τ).loc Cert.ActDxReferenceIdeal.main_arg0)
          ∧ r.2.mem ((c.tc : Thread Cert.ActDxReferenceIdeal.nD Cert.ActDxReferenceIdeal.τ).loc Cert.ActDxReferenceIdeal.main_arg1) = m' ((c.tc : Thread Cert.ActDxReferenceIdeal.nD Cert.ActDxReferenceIdeal.τ).loc Cert.ActDxReferenceIdeal.main_arg1)
          ∧ r.2.mem ((c.tc : Thread Cert.ActDxReferenceIdeal.nD Cert.ActDxReferenceIdeal.τ).loc Cert.ActDxReferenceIdeal.main_arg2) = m' ((c.tc : Thread Cert.ActDxReferenceIdeal.nD Cert.ActDxReferenceIdeal.τ).loc Cert.ActDxReferenceIdeal.main_arg2)
          ∧ r.2.mem ((c.tc : Thread Cert.ActDxReferenceIdeal.nD Cert.ActDxReferenceIdeal.τ).loc Cert.ActDxReferenceIdeal.main_arg3) = m' ((c.tc : Thread Cert.ActDxReferenceIdeal.nD Cert.ActDxReferenceIdeal.τ).loc Cert.ActDxReferenceIdeal.main_arg3))

def preserves_Flash_FlashIdeal : Prop :=
  IdealRules.named_const.Statement Cert.FlashIdeal.κ "ln2" .f32 0x3F317218#32 ((Real.log 2 : ℝ) : EReal)

def algebraic_FlashIdeal_FlashReferenceIdeal_pre_qk_finite [hFlashIdeal : Cert.FlashIdeal.Facts] [hFlashReferenceIdeal : Cert.FlashReferenceIdeal.Facts] [hPre_qk_finite : Cert.Pre_qk_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashReferenceIdeal.nD Cert.FlashReferenceIdeal.τ Cert.FlashReferenceIdeal.sig) → Buf (Elt Ideal) ℓ) (g' : Dev Cert.FlashReferenceIdeal.nD → PrngReg), Pre_FlashIdeal_qk_finite m →
    (∀ c : Dev Cert.FlashIdeal.nD,
      m' ((c.tc : Thread Cert.FlashReferenceIdeal.nD Cert.FlashReferenceIdeal.τ).loc Cert.FlashReferenceIdeal.main_arg0) = m ((c.tc : Thread Cert.FlashIdeal.nD Cert.FlashIdeal.τ).loc Cert.FlashIdeal.main_arg0)
      ∧ m' ((c.tc : Thread Cert.FlashReferenceIdeal.nD Cert.FlashReferenceIdeal.τ).loc Cert.FlashReferenceIdeal.main_arg1) = m ((c.tc : Thread Cert.FlashIdeal.nD Cert.FlashIdeal.τ).loc Cert.FlashIdeal.main_arg1)
      ∧ m' ((c.tc : Thread Cert.FlashReferenceIdeal.nD Cert.FlashReferenceIdeal.τ).loc Cert.FlashReferenceIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v9_0)) (v1 : (c : Dev Cert.FlashIdeal.nD) → Buf (Elt Ideal) ((c.tc : Thread Cert.FlashIdeal.nD Cert.FlashIdeal.τ).loc Cert.FlashIdeal.main_v9_1)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v9_0) = v0 c
          ∧ r.2.mem ((c.tc : Thread Cert.FlashIdeal.nD Cert.FlashIdeal.τ).loc Cert.FlashIdeal.main_v9_1) = v1 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashReferenceIdeal.defs (F := Ideal)) (onTc (τ := Cert.FlashReferenceIdeal.τ) (Cert.FlashReferenceIdeal.main (F := Ideal))) ⟨m', fun _ => 0, g'⟩ (fun r => ∀ c : Dev Cert.FlashReferenceIdeal.nD,
          r.2.mem ((c.tc : Thread Cert.FlashReferenceIdeal.nD Cert.FlashReferenceIdeal.τ).loc Cert.FlashReferenceIdeal.main_v21) = v0 c
          ∧ r.2.mem ((c.tc : Thread Cert.FlashReferenceIdeal.nD Cert.FlashReferenceIdeal.τ).loc Cert.FlashReferenceIdeal.main_v44) = v1 c
          ∧ r.2.mem ((c.tc : Thread Cert.FlashReferenceIdeal.nD Cert.FlashReferenceIdeal.τ).loc Cert.FlashReferenceIdeal.main_arg0) = m' ((c.tc : Thread Cert.FlashReferenceIdeal.nD Cert.FlashReferenceIdeal.τ).loc Cert.FlashReferenceIdeal.main_arg0)
          ∧ r.2.mem ((c.tc : Thread Cert.FlashReferenceIdeal.nD Cert.FlashReferenceIdeal.τ).loc Cert.FlashReferenceIdeal.main_arg1) = m' ((c.tc : Thread Cert.FlashReferenceIdeal.nD Cert.FlashReferenceIdeal.τ).loc Cert.FlashReferenceIdeal.main_arg1)
          ∧ r.2.mem ((c.tc : Thread Cert.FlashReferenceIdeal.nD Cert.FlashReferenceIdeal.τ).loc Cert.FlashReferenceIdeal.main_arg2) = m' ((c.tc : Thread Cert.FlashReferenceIdeal.nD Cert.FlashReferenceIdeal.τ).loc Cert.FlashReferenceIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hAQkv : Cert.AQkv.Facts) (hAQkvIdeal : Cert.AQkvIdeal.Facts) (hAQkvReferenceIdeal : Cert.AQkvReferenceIdeal.Facts) (hAOut : Cert.AOut.Facts) (hAOutIdeal : Cert.AOutIdeal.Facts) (hAOutReferenceIdeal : Cert.AOutReferenceIdeal.Facts) (hBOut : Cert.BOut.Facts) (hBOutIdeal : Cert.BOutIdeal.Facts) (hBOutReferenceIdeal : Cert.BOutReferenceIdeal.Facts) (hAQkvDx : Cert.AQkvDx.Facts) (hAQkvDxIdeal : Cert.AQkvDxIdeal.Facts) (hAQkvDxReferenceIdeal : Cert.AQkvDxReferenceIdeal.Facts) (hAQkvDw : Cert.AQkvDw.Facts) (hAQkvDwIdeal : Cert.AQkvDwIdeal.Facts) (hAQkvDwReferenceIdeal : Cert.AQkvDwReferenceIdeal.Facts) (hAOutDx : Cert.AOutDx.Facts) (hAOutDxIdeal : Cert.AOutDxIdeal.Facts) (hAOutDxReferenceIdeal : Cert.AOutDxReferenceIdeal.Facts) (hAOutDw : Cert.AOutDw.Facts) (hAOutDwIdeal : Cert.AOutDwIdeal.Facts) (hAOutDwReferenceIdeal : Cert.AOutDwReferenceIdeal.Facts) (hBQkvDx : Cert.BQkvDx.Facts) (hBQkvDxIdeal : Cert.BQkvDxIdeal.Facts) (hBQkvDxReferenceIdeal : Cert.BQkvDxReferenceIdeal.Facts) (hBQkvDw : Cert.BQkvDw.Facts) (hBQkvDwIdeal : Cert.BQkvDwIdeal.Facts) (hBQkvDwReferenceIdeal : Cert.BQkvDwReferenceIdeal.Facts) (hBOutDx : Cert.BOutDx.Facts) (hBOutDxIdeal : Cert.BOutDxIdeal.Facts) (hBOutDxReferenceIdeal : Cert.BOutDxReferenceIdeal.Facts) (hBOutDw : Cert.BOutDw.Facts) (hBOutDwIdeal : Cert.BOutDwIdeal.Facts) (hBOutDwReferenceIdeal : Cert.BOutDwReferenceIdeal.Facts) (hBQkvG0 : Cert.BQkvG0.Facts) (hBQkvG0Ideal : Cert.BQkvG0Ideal.Facts) (hBQkvG0ReferenceIdeal : Cert.BQkvG0ReferenceIdeal.Facts) (hBQkvG1 : Cert.BQkvG1.Facts) (hBQkvG1Ideal : Cert.BQkvG1Ideal.Facts) (hBQkvG1ReferenceIdeal : Cert.BQkvG1ReferenceIdeal.Facts) (hBQkvG2 : Cert.BQkvG2.Facts) (hBQkvG2Ideal : Cert.BQkvG2Ideal.Facts) (hBQkvG2ReferenceIdeal : Cert.BQkvG2ReferenceIdeal.Facts) (hActDx : Cert.ActDx.Facts) (hActDxIdeal : Cert.ActDxIdeal.Facts) (hActDxReferenceIdeal : Cert.ActDxReferenceIdeal.Facts) (hFlash : Cert.Flash.Facts) (hFlashIdeal : Cert.FlashIdeal.Facts) (hFlashReferenceIdeal : Cert.FlashReferenceIdeal.Facts) (hPre_all_finite : Cert.Pre_all_finite.Facts) (hPre_act_finite : Cert.Pre_act_finite.Facts) (hPre_qk_finite : Cert.Pre_qk_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_AQkv (hAQkv := hAQkv)
    ∧ quiescent_AQkvIdeal (hAQkvIdeal := hAQkvIdeal)
    ∧ quiescent_AQkvReferenceIdeal (hAQkvReferenceIdeal := hAQkvReferenceIdeal)
    ∧ quiescent_AOut (hAOut := hAOut)
    ∧ quiescent_AOutIdeal (hAOutIdeal := hAOutIdeal)
    ∧ quiescent_AOutReferenceIdeal (hAOutReferenceIdeal := hAOutReferenceIdeal)
    ∧ quiescent_BOut (hBOut := hBOut)
    ∧ quiescent_BOutIdeal (hBOutIdeal := hBOutIdeal)
    ∧ quiescent_BOutReferenceIdeal (hBOutReferenceIdeal := hBOutReferenceIdeal)
    ∧ quiescent_AQkvDx (hAQkvDx := hAQkvDx)
    ∧ quiescent_AQkvDxIdeal (hAQkvDxIdeal := hAQkvDxIdeal)
    ∧ quiescent_AQkvDxReferenceIdeal (hAQkvDxReferenceIdeal := hAQkvDxReferenceIdeal)
    ∧ quiescent_AQkvDw (hAQkvDw := hAQkvDw)
    ∧ quiescent_AQkvDwIdeal (hAQkvDwIdeal := hAQkvDwIdeal)
    ∧ quiescent_AQkvDwReferenceIdeal (hAQkvDwReferenceIdeal := hAQkvDwReferenceIdeal)
    ∧ quiescent_AOutDx (hAOutDx := hAOutDx)
    ∧ quiescent_AOutDxIdeal (hAOutDxIdeal := hAOutDxIdeal)
    ∧ quiescent_AOutDxReferenceIdeal (hAOutDxReferenceIdeal := hAOutDxReferenceIdeal)
    ∧ quiescent_AOutDw (hAOutDw := hAOutDw)
    ∧ quiescent_AOutDwIdeal (hAOutDwIdeal := hAOutDwIdeal)
    ∧ quiescent_AOutDwReferenceIdeal (hAOutDwReferenceIdeal := hAOutDwReferenceIdeal)
    ∧ quiescent_BQkvDx (hBQkvDx := hBQkvDx)
    ∧ quiescent_BQkvDxIdeal (hBQkvDxIdeal := hBQkvDxIdeal)
    ∧ quiescent_BQkvDxReferenceIdeal (hBQkvDxReferenceIdeal := hBQkvDxReferenceIdeal)
    ∧ quiescent_BQkvDw (hBQkvDw := hBQkvDw)
    ∧ quiescent_BQkvDwIdeal (hBQkvDwIdeal := hBQkvDwIdeal)
    ∧ quiescent_BQkvDwReferenceIdeal (hBQkvDwReferenceIdeal := hBQkvDwReferenceIdeal)
    ∧ quiescent_BOutDx (hBOutDx := hBOutDx)
    ∧ quiescent_BOutDxIdeal (hBOutDxIdeal := hBOutDxIdeal)
    ∧ quiescent_BOutDxReferenceIdeal (hBOutDxReferenceIdeal := hBOutDxReferenceIdeal)
    ∧ quiescent_BOutDw (hBOutDw := hBOutDw)
    ∧ quiescent_BOutDwIdeal (hBOutDwIdeal := hBOutDwIdeal)
    ∧ quiescent_BOutDwReferenceIdeal (hBOutDwReferenceIdeal := hBOutDwReferenceIdeal)
    ∧ quiescent_BQkvG0 (hBQkvG0 := hBQkvG0)
    ∧ quiescent_BQkvG0Ideal (hBQkvG0Ideal := hBQkvG0Ideal)
    ∧ quiescent_BQkvG0ReferenceIdeal (hBQkvG0ReferenceIdeal := hBQkvG0ReferenceIdeal)
    ∧ quiescent_BQkvG1 (hBQkvG1 := hBQkvG1)
    ∧ quiescent_BQkvG1Ideal (hBQkvG1Ideal := hBQkvG1Ideal)
    ∧ quiescent_BQkvG1ReferenceIdeal (hBQkvG1ReferenceIdeal := hBQkvG1ReferenceIdeal)
    ∧ quiescent_BQkvG2 (hBQkvG2 := hBQkvG2)
    ∧ quiescent_BQkvG2Ideal (hBQkvG2Ideal := hBQkvG2Ideal)
    ∧ quiescent_BQkvG2ReferenceIdeal (hBQkvG2ReferenceIdeal := hBQkvG2ReferenceIdeal)
    ∧ quiescent_ActDx (hActDx := hActDx)
    ∧ quiescent_ActDxIdeal (hActDxIdeal := hActDxIdeal)
    ∧ quiescent_ActDxIdeal_pre_act_finite (hActDxIdeal := hActDxIdeal) (hPre_act_finite := hPre_act_finite)
    ∧ quiescent_ActDxReferenceIdeal (hActDxReferenceIdeal := hActDxReferenceIdeal)
    ∧ quiescent_ActDxReferenceIdeal_pre_act_finite (hActDxReferenceIdeal := hActDxReferenceIdeal) (hPre_act_finite := hPre_act_finite)
    ∧ quiescent_Flash (hFlash := hFlash)
    ∧ quiescent_FlashIdeal (hFlashIdeal := hFlashIdeal)
    ∧ quiescent_FlashIdeal_pre_qk_finite (hFlashIdeal := hFlashIdeal) (hPre_qk_finite := hPre_qk_finite)
    ∧ quiescent_FlashReferenceIdeal (hFlashReferenceIdeal := hFlashReferenceIdeal)
    ∧ quiescent_FlashReferenceIdeal_pre_qk_finite (hFlashReferenceIdeal := hFlashReferenceIdeal) (hPre_qk_finite := hPre_qk_finite)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_AQkv_AQkvIdeal
    ∧ algebraic_AQkvIdeal_AQkvReferenceIdeal (hAQkvIdeal := hAQkvIdeal) (hAQkvReferenceIdeal := hAQkvReferenceIdeal)
    ∧ preserves_AOut_AOutIdeal
    ∧ algebraic_AOutIdeal_AOutReferenceIdeal (hAOutIdeal := hAOutIdeal) (hAOutReferenceIdeal := hAOutReferenceIdeal)
    ∧ preserves_BOut_BOutIdeal
    ∧ algebraic_BOutIdeal_BOutReferenceIdeal (hBOutIdeal := hBOutIdeal) (hBOutReferenceIdeal := hBOutReferenceIdeal)
    ∧ preserves_AQkvDx_AQkvDxIdeal
    ∧ algebraic_AQkvDxIdeal_AQkvDxReferenceIdeal (hAQkvDxIdeal := hAQkvDxIdeal) (hAQkvDxReferenceIdeal := hAQkvDxReferenceIdeal)
    ∧ preserves_AQkvDw_AQkvDwIdeal
    ∧ algebraic_AQkvDwIdeal_AQkvDwReferenceIdeal (hAQkvDwIdeal := hAQkvDwIdeal) (hAQkvDwReferenceIdeal := hAQkvDwReferenceIdeal)
    ∧ preserves_AOutDx_AOutDxIdeal
    ∧ algebraic_AOutDxIdeal_AOutDxReferenceIdeal (hAOutDxIdeal := hAOutDxIdeal) (hAOutDxReferenceIdeal := hAOutDxReferenceIdeal)
    ∧ preserves_AOutDw_AOutDwIdeal
    ∧ algebraic_AOutDwIdeal_AOutDwReferenceIdeal (hAOutDwIdeal := hAOutDwIdeal) (hAOutDwReferenceIdeal := hAOutDwReferenceIdeal)
    ∧ preserves_BQkvDx_BQkvDxIdeal
    ∧ algebraic_BQkvDxIdeal_BQkvDxReferenceIdeal (hBQkvDxIdeal := hBQkvDxIdeal) (hBQkvDxReferenceIdeal := hBQkvDxReferenceIdeal)
    ∧ preserves_BQkvDw_BQkvDwIdeal
    ∧ algebraic_BQkvDwIdeal_BQkvDwReferenceIdeal (hBQkvDwIdeal := hBQkvDwIdeal) (hBQkvDwReferenceIdeal := hBQkvDwReferenceIdeal)
    ∧ preserves_BOutDx_BOutDxIdeal
    ∧ algebraic_BOutDxIdeal_BOutDxReferenceIdeal (hBOutDxIdeal := hBOutDxIdeal) (hBOutDxReferenceIdeal := hBOutDxReferenceIdeal)
    ∧ preserves_BOutDw_BOutDwIdeal
    ∧ algebraic_BOutDwIdeal_BOutDwReferenceIdeal (hBOutDwIdeal := hBOutDwIdeal) (hBOutDwReferenceIdeal := hBOutDwReferenceIdeal)
    ∧ preserves_BQkvG0_BQkvG0Ideal
    ∧ algebraic_BQkvG0Ideal_BQkvG0ReferenceIdeal (hBQkvG0Ideal := hBQkvG0Ideal) (hBQkvG0ReferenceIdeal := hBQkvG0ReferenceIdeal)
    ∧ preserves_BQkvG1_BQkvG1Ideal
    ∧ algebraic_BQkvG1Ideal_BQkvG1ReferenceIdeal (hBQkvG1Ideal := hBQkvG1Ideal) (hBQkvG1ReferenceIdeal := hBQkvG1ReferenceIdeal)
    ∧ preserves_BQkvG2_BQkvG2Ideal
    ∧ algebraic_BQkvG2Ideal_BQkvG2ReferenceIdeal (hBQkvG2Ideal := hBQkvG2Ideal) (hBQkvG2ReferenceIdeal := hBQkvG2ReferenceIdeal)
    ∧ preserves_ActDx_ActDxIdeal
    ∧ algebraic_ActDxIdeal_ActDxReferenceIdeal_pre_act_finite (hActDxIdeal := hActDxIdeal) (hActDxReferenceIdeal := hActDxReferenceIdeal) (hPre_act_finite := hPre_act_finite)
    ∧ preserves_Flash_FlashIdeal
    ∧ algebraic_FlashIdeal_FlashReferenceIdeal_pre_qk_finite (hFlashIdeal := hFlashIdeal) (hFlashReferenceIdeal := hFlashReferenceIdeal) (hPre_qk_finite := hPre_qk_finite)
-- ==== Pre_act_finite.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S_ : Shape := ⟨0, ![]⟩

class Facts : Prop where
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  main_v18

def fn {F : FTy → Type} [FloatOps F] (main_arg0 : FVec F S4096x11264 .f32) (main_arg1 : FVec F S3x11264 .f32) (main_arg2 : FVec F S11264 .f32) (main_arg3 : FVec F S4096x5632 .f32) : IVec S_ 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_c : IVec S_ 1 := constantI S_ 1 1#1
  let main_v3 : IVec S_ 1 := (fun x v => Host.reduce IntOp.andi x v reducesTo_S4096x11264_S_d0_1 h_S_) main_v2 main_c
  let main_v4 : FVec F S3x11264 .f32 := Host.absf main_arg1
  let main_cst_0 : FVec F S_ .f32 := constant S_ .f32 0x7F800000#32
  let main_v5 : FVec F S3x11264 .f32 := broadcastInDim S3x11264 ![] bcast_S_S3x11264 main_cst_0
  let main_v6 : IVec S3x11264 1 := cmpf .olt main_v4 main_v5
  let main_c_1 : IVec S_ 1 := constantI S_ 1 1#1
  let main_v7 : IVec S_ 1 := (fun x v => Host.reduce IntOp.andi x v reducesTo_S3x11264_S_d0_1 h_S_) main_v6 main_c_1
  let main_v8 : IVec S_ 1 := andi main_v3 main_v7
  let main_v9 : FVec F S11264 .f32 := Host.absf main_arg2
  let main_cst_2 : FVec F S_ .f32 := constant S_ .f32 0x7F800000#32
  let main_v10 : FVec F S11264 .f32 := broadcastInDim S11264 ![] bcast_S_S11264 main_cst_2
  let main_v11 : IVec S11264 1 := cmpf .olt main_v9 main_v10
  let main_c_3 : IVec S_ 1 := constantI S_ 1 1#1
  let main_v12 : IVec S_ 1 := (fun x v => Host.reduce IntOp.andi x v reducesTo_S11264_S_d0 h_S_) main_v11 main_c_3
  let main_v13 : IVec S_ 1 := andi main_v8 main_v12
  let main_v14 : FVec F S4096x5632 .f32 := Host.absf main_arg3
  let main_cst_4 : FVec F S_ .f32 := constant S_ .f32 0x7F800000#32
  let main_v15 : FVec F S4096x5632 .f32 := broadcastInDim S4096x5632 ![] bcast_S_S4096x5632 main_cst_4
  let main_v16 : IVec S4096x5632 1 := cmpf .olt main_v14 main_v15
  fn_part1 (F := F) main_v13 main_v16
-- ==== Pre_all_finite.lean ====
abbrev S4096x2048 : Shape := ⟨2, ![4096, 2048]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .f32) (main_arg1 : FVec F S4096x512 .f32) (main_arg2 : FVec F S4096x512 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_qk_finite.lean ====
abbrev S4096x2048 : Shape := ⟨2, ![4096, 2048]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x2048 .f32) (main_arg1 : FVec F S4096x512 .f32) (main_arg2 : FVec F S4096x512 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x2048 : Shape := ⟨2, ![4096, 2048]⟩
abbrev S4096x512 : Shape := ⟨2, ![4096, 512]⟩
abbrev S_ : Shape := ⟨0, ![]⟩
abbrev S4096x3072 : Shape := ⟨2, ![4096, 3072]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4096x4x4 : Shape := ⟨3, ![4096, 4, 4]⟩
abbrev S4096x16 : Shape := ⟨2, ![4096, 16]⟩
abbrev S4096x16x128 : Shape := ⟨3, ![4096, 16, 128]⟩
abbrev S1024x128 : Shape := ⟨2, ![1024, 128]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S256x4096 : Shape := ⟨2, ![256, 4096]⟩

abbrev nBuf : Space → Nat
  | .hbm => 69
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .bf16⟩
  | .hbm, ⟨13, _⟩ => ⟨S4096x512, .bf16⟩
  | .hbm, ⟨14, _⟩ => ⟨S4096x512, .bf16⟩
  | .hbm, ⟨15, _⟩ => ⟨S4096x3072, .bf16⟩
  | .hbm, ⟨16, _⟩ => ⟨S4096x4x4x128, .f32⟩
  | .hbm, ⟨17, _⟩ => ⟨S4096x4x128, .f32⟩
  | .hbm, ⟨18, _⟩ => ⟨S4096x4x128, .f32⟩
  | .hbm, ⟨19, _⟩ => ⟨S4x4096x4096x4, .f32⟩
  | .hbm, ⟨20, _⟩ => ⟨S4x4x4096x4096, .f32⟩
  | .hbm, ⟨21, _⟩ => ⟨S_, .f32⟩
  | .hbm, ⟨22, _⟩ => ⟨S4x4x4096x4096, .f32⟩
  | .hbm, ⟨23, _⟩ => ⟨S4x4x4096x4096, .f32⟩
  | .hbm, ⟨24, _⟩ => ⟨S_, .f32⟩
  | .hbm, ⟨25, _⟩ => ⟨S4x4x4096, .f32⟩
  | .hbm, ⟨26, _⟩ => ⟨S_, .f32⟩
  | .hbm, ⟨27, _⟩ => ⟨S4x4x4096, .f32⟩
  | .hbm, ⟨28, _⟩ => ⟨S4x4x4096, .f32⟩
  | .hbm, ⟨29, _⟩ => ⟨S4x4x4096x1, .f32⟩
  | .hbm, ⟨30, _⟩ => ⟨S4x4x4096x4096, .f32⟩
  | .hbm, ⟨31, _⟩ => ⟨S4x4x4096x4096, .f32⟩
  | .hbm, ⟨32, _⟩ => ⟨S4x4x4096x4096, .f32⟩
  | .hbm, ⟨33, _⟩ => ⟨S_, .f32⟩
  | .hbm, ⟨34, _⟩ => ⟨S4x4x4096, .f32⟩
  | .hbm, ⟨35, _⟩ => ⟨S4x4x4096x1, .f32⟩
  | .hbm, ⟨36, _⟩ => ⟨S4x4x4096x4096, .f32⟩
  | .hbm, ⟨37, _⟩ => ⟨S4x4x4096x4096, .f32⟩
  | .hbm, ⟨38, _⟩ => ⟨S4x128x4x4096, .f32⟩
  | .hbm, ⟨39, _⟩ => ⟨S4096x4x4x128, .f32⟩
  | .hbm, ⟨40, _⟩ => ⟨S4096x2048, .f32⟩
  | .hbm, ⟨41, _⟩ => ⟨S4096x2048, .bf16⟩
  | .hbm, ⟨42, _⟩ => ⟨S4096x4x4x128, .f32⟩
  | .hbm, ⟨43, _⟩ => ⟨S4096x4x128, .f32⟩
  | .hbm, ⟨44, _⟩ => ⟨S4096x4x128, .f32⟩
  | .hbm, ⟨45, _⟩ => ⟨S4x4096x4096x4, .f32⟩
  | .hbm, ⟨46, _⟩ => ⟨S4x4x4096x4096, .f32⟩
  | .hbm, ⟨47, _⟩ => ⟨S_, .f32⟩
  | .hbm, ⟨48, _⟩ => ⟨S4x4x4096x4096, .f32⟩
  | .hbm, ⟨49, _⟩ => ⟨S4x4x4096x4096, .f32⟩
  | .hbm, ⟨50, _⟩ => ⟨S_, .f32⟩
  | .hbm, ⟨51, _⟩ => ⟨S4x4x4096, .f32⟩
  | .hbm, ⟨52, _⟩ => ⟨S4x4x4096x1, .f32⟩
  | .hbm, ⟨53, _⟩ => ⟨S4x4x4096x4096, .f32⟩
  | .hbm, ⟨54, _⟩ => ⟨S4x4x4096x4096, .f32⟩
  | .hbm, ⟨55, _⟩ => ⟨S4x4x4096x4096, .f32⟩
  | .hbm, ⟨56, _⟩ => ⟨S_, .f32⟩
  | .hbm, ⟨57, _⟩ => ⟨S4x4x4096, .f32⟩
  | .hbm, ⟨58, _⟩ => ⟨S4x4x4096, .f32⟩
  | .hbm, ⟨59, _⟩ => ⟨S4x4x4096, .f32⟩
  | .hbm, ⟨60, _⟩ => ⟨S4096x4x4, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16x128, .f32⟩
  | .hbm, ⟨65, _⟩ => ⟨S4096x2048, .f32⟩
  | .hbm, ⟨66, _⟩ => ⟨S4096x2048, .f32⟩
  | .hbm, ⟨67, _⟩ => ⟨S4096x512, .f32⟩
  | .hbm, ⟨68, _⟩ => ⟨S4096x512, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52_0 : Ref sig .tc := ⟨.hbm, 66, rfl⟩
abbrev main_v52_1 : Ref sig .tc := ⟨.hbm, 67, rfl⟩
abbrev main_v52_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S4096x2048 : Shape := ⟨2, ![4096, 2048]⟩
abbrev S4096x512 : Shape := ⟨2, ![4096, 512]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x128x4096 : Shape := ⟨3, ![4, 128, 4096]⟩
abbrev S4x4096x4x128 : Shape := ⟨4, ![4, 4096, 4, 128]⟩
abbrev S4x4096x128 : Shape := ⟨3, ![4, 4096, 128]⟩

abbrev nBuf : Space → Nat
  | .hbm => 83
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S4096x4x4x128, .f32⟩
  | .hbm, ⟨5, _⟩ => ⟨S4096x4x128, .f32⟩
  | .hbm, ⟨6, _⟩ => ⟨S4096x4x128, .f32⟩
  | .hbm, ⟨7, _⟩ => ⟨S4x4096x4096x4, .f32⟩
  | .hbm, ⟨8, _⟩ => ⟨S4x4x4096x4096, .f32⟩
  | .hbm, ⟨9, _⟩ => ⟨S_, .f32⟩
  | .hbm, ⟨10, _⟩ => ⟨S4x4x4096x4096, .f32⟩
  | .hbm, ⟨11, _⟩ => ⟨S4x4x4096x4096, .f32⟩
  | .hbm, ⟨12, _⟩ => ⟨S_, .f32⟩
  | .hbm, ⟨13, _⟩ => ⟨S4x4x4096, .f32⟩
  | .hbm, ⟨14, _⟩ => ⟨S4x4x4096x1, .f32⟩
  | .hbm, ⟨15, _⟩ => ⟨S4x4x4096x4096, .f32⟩
  | .hbm, ⟨16, _⟩ => ⟨S4x4x4096x4096, .i1⟩
  | .hbm, ⟨17, _⟩ => ⟨S4x4x4096x4096, .f32⟩
  | .hbm, ⟨18, _⟩ => ⟨S_, .f32⟩
  | .hbm, ⟨19, _⟩ => ⟨S4x4x4096, .f32⟩
  | .hbm, ⟨20, _⟩ => ⟨S_, .f32⟩
  | .hbm, ⟨21, _⟩ => ⟨S4x4x4096, .f32⟩
  | .hbm, ⟨22, _⟩ => ⟨S4x4x4096, .f32⟩
  | .hbm, ⟨23, _⟩ => ⟨S_, .f32⟩
  | .hbm, ⟨24, _⟩ => ⟨S4x4x4096, .f32⟩
  | .hbm, ⟨25, _⟩ => ⟨S4x4x4096, .i1⟩
  | .hbm, ⟨26, _⟩ => ⟨S_, .f32⟩
  | .hbm, ⟨27, _⟩ => ⟨S4x4x4096, .f32⟩
  | .hbm, ⟨28, _⟩ => ⟨S4x4x4096, .i1⟩
  | .hbm, ⟨29, _⟩ => ⟨S_, .f32⟩
  | .hbm, ⟨30, _⟩ => ⟨S4x4x4096, .f32⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S4x4x4096, .f32⟩
  | .hbm, ⟨36, _⟩ => ⟨S4x4x4096, .f32⟩
  | .hbm, ⟨37, _⟩ => ⟨S4x4x4096x1, .f32⟩
  | .hbm, ⟨38, _⟩ => ⟨S4x4x4096x4096, .f32⟩
  | .hbm, ⟨39, _⟩ => ⟨S4x4x4096x4096, .f32⟩
  | .hbm, ⟨40, _⟩ => ⟨S4x4x4096x4096, .f32⟩
  | .hbm, ⟨41, _⟩ => ⟨S_, .f32⟩
  | .hbm, ⟨42, _⟩ => ⟨S4x4x4096, .f32⟩
  | .hbm, ⟨43, _⟩ => ⟨S4x4x4096x1, .f32⟩
  | .hbm, ⟨44, _⟩ => ⟨S4x4x4096x4096, .f32⟩
  | .hbm, ⟨45, _⟩ => ⟨S4x4x4096x4096, .f32⟩
  | .hbm, ⟨46, _⟩ => ⟨S4x4x4096x1, .f32⟩
  | .hbm, ⟨47, _⟩ => ⟨S_, .f32⟩
  | .hbm, ⟨48, _⟩ => ⟨S4x4x4096x1, .f32⟩
  | .hbm, ⟨49, _⟩ => ⟨S4x4x4096x1, .f32⟩
  | .hbm, ⟨50, _⟩ => ⟨S4x128x4x4096, .f32⟩
  | .hbm, ⟨51, _⟩ => ⟨S4096x4x4x128, .f32⟩
  | .hbm, ⟨52, _⟩ => ⟨S4096x2048, .f32⟩
  | .hbm, ⟨53, _⟩ => ⟨S4096x4x4x128, .f32⟩
  | .hbm, ⟨54, _⟩ => ⟨S4x128x4x4096, .f32⟩
  | .hbm, ⟨55, _⟩ => ⟨S4x4x4096x4096, .f32⟩
  | .hbm, ⟨56, _⟩ => ⟨S4x128x4096, .f32⟩
  | .hbm, ⟨57, _⟩ => ⟨S4096x4x128, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S_, .f32⟩
  | .hbm, ⟨62, _⟩ => ⟨S4x4x4096, .f32⟩
  | .hbm, ⟨63, _⟩ => ⟨S4x4x4096x1, .f32⟩
  | .hbm, ⟨64, _⟩ => ⟨S4x4x4096x1, .f32⟩
  | .hbm, ⟨65, _⟩ => ⟨S4x4x4096x4096, .f32⟩
  | .hbm, ⟨66, _⟩ => ⟨S4x4x4096x4096, .f32⟩
  | .hbm, ⟨67, _⟩ => ⟨S_, .f32⟩
  | .hbm, ⟨68, _⟩ => ⟨S4x4x4096, .f32⟩
  | .hbm, ⟨69, _⟩ => ⟨S4x4x4096x4096, .f32⟩
  | .hbm, ⟨70, _⟩ => ⟨S4x4x4096x4096, .f32⟩
  | .hbm, ⟨71, _⟩ => ⟨S4x4x4096x4096, .f32⟩
  | .hbm, ⟨72, _⟩ => ⟨S_, .f32⟩
  | .hbm, ⟨73, _⟩ => ⟨S4x4x4096x4096, .f32⟩
  | .hbm, ⟨74, _⟩ => ⟨S4x4x4096x4096, .f32⟩
  | .hbm, ⟨75, _⟩ => ⟨S4x4096x4096x4, .f32⟩
  | .hbm, ⟨76, _⟩ => ⟨S4x4096x4x128, .f32⟩
  | .hbm, ⟨77, _⟩ => ⟨S4096x4x4x128, .f32⟩
  | .hbm, ⟨78, _⟩ => ⟨S4x4096x128, .f32⟩
  | .hbm, ⟨79, _⟩ => ⟨S4096x4x128, .f32⟩
  | .hbm, ⟨80, _⟩ => ⟨S4096x512, .f32⟩
  | .hbm, ⟨81, _⟩ => ⟨S4096x512, .f32⟩
  | .hbm, ⟨82, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== DownDx.lean ====
abbrev S5632x2048 : Shape := ⟨2, ![5632, 2048]⟩
abbrev S4096x2048 : Shape := ⟨2, ![4096, 2048]⟩
abbrev S1x5632x2048 : Shape := ⟨3, ![1, 5632, 2048]⟩
abbrev S4096x5632 : Shape := ⟨2, ![4096, 5632]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S4096x2048, .bf16⟩
  | .hbm, ⟨3, _⟩ => ⟨S5632x2048, .bf16⟩
  | .hbm, ⟨4, _⟩ => ⟨S1x5632x2048, .bf16⟩
  | .hbm, ⟨5, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxReferenceIdeal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDx.lean ====
abbrev S2048x11264 : Shape := ⟨2, ![2048, 11264]⟩
abbrev S4096x11264 : Shape := ⟨2, ![4096, 11264]⟩
abbrev S4096x5632 : Shape := ⟨2, ![4096, 5632]⟩
abbrev S2048x4x2816 : Shape := ⟨3, ![2048, 4, 2816]⟩
abbrev S4x2048x2816 : Shape := ⟨3, ![4, 2048, 2816]⟩
abbrev S1x4x2048x2816 : Shape := ⟨4, ![1, 4, 2048, 2816]⟩
abbrev S4096x2048 : Shape := ⟨2, ![4096, 2048]⟩
abbrev S1024x2816 : Shape := ⟨2, ![1024, 2816]⟩
abbrev S1x1x1024x2816 : Shape := ⟨4, ![1, 1, 1024, 2816]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S4096x11264, .bf16⟩
  | .hbm, ⟨3, _⟩ => ⟨S4096x5632, .bf16⟩
  | .hbm, ⟨4, _⟩ => ⟨S4096x5632, .bf16⟩
  | .hbm, ⟨5, _⟩ => ⟨S2048x11264, .bf16⟩
  | .hbm, ⟨6, _⟩ => ⟨S2048x4x2816, .bf16⟩
  | .hbm, ⟨7, _⟩ => ⟨S4x2048x2816, .bf16⟩
  | .hbm, ⟨8, _⟩ => ⟨S1x4x2048x2816, .bf16⟩
  | .hbm, ⟨9, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxReferenceIdeal.lean ====
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDw.lean ====
abbrev S4096x2048 : Shape := ⟨2, ![4096, 2048]⟩
abbrev S4096x11264 : Shape := ⟨2, ![4096, 11264]⟩
abbrev S4096x5632 : Shape := ⟨2, ![4096, 5632]⟩
abbrev S4x2048x2816 : Shape := ⟨3, ![4, 2048, 2816]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S4096x11264, .bf16⟩
  | .hbm, ⟨3, _⟩ => ⟨S4096x2048, .bf16⟩
  | .hbm, ⟨4, _⟩ => ⟨S4096x5632, .bf16⟩
  | .hbm, ⟨5, _⟩ => ⟨S4096x5632, .bf16⟩
  | .hbm, ⟨6, _⟩ => ⟨S4x2048x2816, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S512x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond3 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_7 : BitVec 32 := 0#32
  let v16 : BitVec 1 := Scalar.cmpi .ne v15 c0_i32_7
  v16

def k0_cond4 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def k0_cond6 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c1_i32 : BitVec 32 := 1#32
  let v1 : BitVec 32 := Scalar.select v0 arg2 c1_i32
  let c3_i32 : BitVec 32 := 3#32
  let v2 : BitVec 32 := Scalar.minsi arg1 c3_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c0_i32 : BitVec 32 := 0#32
  let v1 : BitVec 32 := Scalar.select v0 c0_i32 arg2
  let c4_i32_0 : BitVec 32 := 4#32
  let v2 : BitVec 32 := Scalar.subi arg1 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwReferenceIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S11264x2048, .f32⟩
  | .hbm, ⟨6, _⟩ => ⟨S2048x11264, .f32⟩
  | .hbm, ⟨7, _⟩ => ⟨S2048x11264, .bf16⟩
  | .hbm, ⟨8, _⟩ => ⟨S2048x4x2816, .bf16⟩
  | .hbm, ⟨9, _⟩ => ⟨S4x2048x2816, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S1x4x2048x2816 : Shape := ⟨4, ![1, 4, 2048, 2816]⟩
abbrev S4096x11264 : Shape := ⟨2, ![4096, 11264]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S2048x1408 : Shape := ⟨2, ![2048, 1408]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x2048, .bf16⟩
  | .hbm, ⟨3, _⟩ => ⟨S2048x11264, .bf16⟩
  | .hbm, ⟨4, _⟩ => ⟨S2048x4x2816, .bf16⟩
  | .hbm, ⟨5, _⟩ => ⟨S4x2048x2816, .bf16⟩
  | .hbm, ⟨6, _⟩ => ⟨S1x4x2048x2816, .bf16⟩
  | .hbm, ⟨7, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .f32⟩
  | .local _ .vmem, ⟨5, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Down.lean ====
abbrev S4096x2048 : Shape := ⟨2, ![4096, 2048]⟩
abbrev S4096x5632 : Shape := ⟨2, ![4096, 5632]⟩
abbrev S5632x2048 : Shape := ⟨2, ![5632, 2048]⟩
abbrev S1x5632x2048 : Shape := ⟨3, ![1, 5632, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S5632x2048, .f32⟩
  | .hbm, ⟨3, _⟩ => ⟨S4096x5632, .bf16⟩
  | .hbm, ⟨4, _⟩ => ⟨S5632x2048, .bf16⟩
  | .hbm, ⟨5, _⟩ => ⟨S1x5632x2048, .bf16⟩
  | .hbm, ⟨6, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S4096x2048 : Shape := ⟨2, ![4096, 2048]⟩
abbrev S4096x5632 : Shape := ⟨2, ![4096, 5632]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S5632x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AQkv.lean ====
abbrev S4096x2048 : Shape := ⟨2, ![4096, 2048]⟩
abbrev S2048x3072 : Shape := ⟨2, ![2048, 3072]⟩
abbrev S2048x4x768 : Shape := ⟨3, ![2048, 4, 768]⟩
abbrev S4x2048x768 : Shape := ⟨3, ![4, 2048, 768]⟩
abbrev S1x4x2048x768 : Shape := ⟨4, ![1, 4, 2048, 768]⟩
abbrev S4096x3072 : Shape := ⟨2, ![4096, 3072]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x2048, .bf16⟩
  | .hbm, ⟨3, _⟩ => ⟨S2048x3072, .bf16⟩
  | .hbm, ⟨4, _⟩ => ⟨S2048x4x768, .bf16⟩
  | .hbm, ⟨5, _⟩ => ⟨S4x2048x768, .bf16⟩
  | .hbm, ⟨6, _⟩ => ⟨S1x4x2048x768, .bf16⟩
  | .hbm, ⟨7, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .f32⟩
  | .local _ .vmem, ⟨5, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AQkvReferenceIdeal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AOut.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .bf16⟩
  | .hbm, ⟨4, _⟩ => ⟨S2048x2048, .bf16⟩
  | .hbm, ⟨5, _⟩ => ⟨S1x2048x2048, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AOutReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== BOut.lean ====
abbrev S4096x2048 : Shape := ⟨2, ![4096, 2048]⟩
abbrev S4096x3072 : Shape := ⟨2, ![4096, 3072]⟩
abbrev S3072x2048 : Shape := ⟨2, ![3072, 2048]⟩
abbrev S1x3072x2048 : Shape := ⟨3, ![1, 3072, 2048]⟩
abbrev S1024x3072 : Shape := ⟨2, ![1024, 3072]⟩
abbrev S1x3072x1024 : Shape := ⟨3, ![1, 3072, 1024]⟩
abbrev S1024x1024 : Shape := ⟨2, ![1024, 1024]⟩
abbrev S3072x1024 : Shape := ⟨2, ![3072, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S3072x2048, .f32⟩
  | .hbm, ⟨3, _⟩ => ⟨S4096x3072, .bf16⟩
  | .hbm, ⟨4, _⟩ => ⟨S3072x2048, .bf16⟩
  | .hbm, ⟨5, _⟩ => ⟨S1x3072x2048, .bf16⟩
  | .hbm, ⟨6, _⟩ => ⟨S4096x2048, .f32⟩
  | .local _ .vmem, ⟨0, _⟩ => ⟨S1024x3072, .bf16⟩
  | .local _ .vmem, ⟨1, _⟩ => ⟨S1024x3072, .bf16⟩
  | .local _ .vmem, ⟨2, _⟩ => ⟨S1x3072x1024, .bf16⟩
  | .local _ .vmem, ⟨3, _⟩ => ⟨S1x3072x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BOutReferenceIdeal.lean ====
abbrev S4096x2048 : Shape := ⟨2, ![4096, 2048]⟩
abbrev S4096x3072 : Shape := ⟨2, ![4096, 3072]⟩
abbrev S3072x2048 : Shape := ⟨2, ![3072, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S3072x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AQkvDx.lean ====
abbrev S2048x3072 : Shape := ⟨2, ![2048, 3072]⟩
abbrev S4096x3072 : Shape := ⟨2, ![4096, 3072]⟩
abbrev S2048x4x768 : Shape := ⟨3, ![2048, 4, 768]⟩
abbrev S4x2048x768 : Shape := ⟨3, ![4, 2048, 768]⟩
abbrev S1x4x2048x768 : Shape := ⟨4, ![1, 4, 2048, 768]⟩
abbrev S4096x2048 : Shape := ⟨2, ![4096, 2048]⟩
abbrev S1024x768 : Shape := ⟨2, ![1024, 768]⟩
abbrev S1x1x1024x768 : Shape := ⟨4, ![1, 1, 1024, 768]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x3072, .f32⟩
  | .hbm, ⟨1, _⟩ => ⟨S4096x3072, .f32⟩
  | .hbm, ⟨2, _⟩ => ⟨S4096x3072, .bf16⟩
  | .hbm, ⟨3, _⟩ => ⟨S2048x3072, .bf16⟩
  | .hbm, ⟨4, _⟩ => ⟨S2048x4x768, .bf16⟩
  | .hbm, ⟨5, _⟩ => ⟨S4x2048x768, .bf16⟩
  | .hbm, ⟨6, _⟩ => ⟨S1x4x2048x768, .bf16⟩
  | .hbm, ⟨7, _⟩ => ⟨S4096x2048, .f32⟩
  | .local _ .vmem, ⟨0, _⟩ => ⟨S1024x768, .bf16⟩
  | .local _ .vmem, ⟨1, _⟩ => ⟨S1024x768, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AQkvDxReferenceIdeal.lean ====
abbrev S2048x3072 : Shape := ⟨2, ![2048, 3072]⟩
abbrev S4096x3072 : Shape := ⟨2, ![4096, 3072]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S4096x3072, .f32⟩
  | .hbm, ⟨2, _⟩ => ⟨S_, .f32⟩
  | .hbm, ⟨3, _⟩ => ⟨S4096x2048, .f32⟩
  | .hbm, ⟨4, _⟩ => ⟨S4096x3072, .f32⟩
  | .hbm, ⟨5, _⟩ => ⟨S4096x2048, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AQkvDw.lean ====
abbrev S4096x2048 : Shape := ⟨2, ![4096, 2048]⟩
abbrev S4096x3072 : Shape := ⟨2, ![4096, 3072]⟩
abbrev S4x2048x768 : Shape := ⟨3, ![4, 2048, 768]⟩
abbrev S4096x512 : Shape := ⟨2, ![4096, 512]⟩
abbrev S4096x768 : Shape := ⟨2, ![4096, 768]⟩
abbrev S1x512x768 : Shape := ⟨3, ![1, 512, 768]⟩
abbrev S8x128 : Shape := ⟨2, ![8, 128]⟩
abbrev S512x768 : Shape := ⟨2, ![512, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S4096x2048, .bf16⟩
  | .hbm, ⟨3, _⟩ => ⟨S4096x3072, .bf16⟩
  | .hbm, ⟨4, _⟩ => ⟨S4x2048x768, .bf16⟩
  | .local _ .vmem, ⟨0, _⟩ => ⟨S4096x512, .bf16⟩
  | .local _ .vmem, ⟨1, _⟩ => ⟨S4096x512, .bf16⟩
  | .local _ .vmem, ⟨2, _⟩ => ⟨S4096x768, .bf16⟩
  | .local _ .vmem, ⟨3, _⟩ => ⟨S4096x768, .bf16⟩
  | .local _ .vmem, ⟨4, _⟩ => ⟨S1x512x768, .bf16⟩
  | .local _ .vmem, ⟨5, _⟩ => ⟨S1x512x768, .bf16⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AQkvDwReferenceIdeal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩
abbrev S2048x4x768 : Shape := ⟨3, ![2048, 4, 768]⟩
abbrev S4x2048x768 : Shape := ⟨3, ![4, 2048, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S_, .f32⟩
  | .hbm, ⟨3, _⟩ => ⟨S2048x3072, .f32⟩
  | .hbm, ⟨4, _⟩ => ⟨S4096x3072, .f32⟩
  | .hbm, ⟨5, _⟩ => ⟨S3072x2048, .f32⟩
  | .hbm, ⟨6, _⟩ => ⟨S2048x3072, .f32⟩
  | .hbm, ⟨7, _⟩ => ⟨S2048x3072, .bf16⟩
  | .hbm, ⟨8, _⟩ => ⟨S2048x4x768, .bf16⟩
  | .hbm, ⟨9, _⟩ => ⟨S4x2048x768, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AOutDx.lean ====
abbrev S2048x2048 : Shape := ⟨2, ![2048, 2048]⟩
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S1x2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AOutDxReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AOutDw.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BQkvDx.lean ====
abbrev S2048x9216 : Shape := ⟨2, ![2048, 9216]⟩
abbrev S4096x9216 : Shape := ⟨2, ![4096, 9216]⟩
abbrev S2048x4x2304 : Shape := ⟨3, ![2048, 4, 2304]⟩
abbrev S4x2048x2304 : Shape := ⟨3, ![4, 2048, 2304]⟩
abbrev S1x4x2048x2304 : Shape := ⟨4, ![1, 4, 2048, 2304]⟩
abbrev S4096x2048 : Shape := ⟨2, ![4096, 2048]⟩
abbrev S1024x2304 : Shape := ⟨2, ![1024, 2304]⟩
abbrev S1x1x1024x2304 : Shape := ⟨4, ![1, 1, 1024, 2304]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x9216, .f32⟩
  | .hbm, ⟨1, _⟩ => ⟨S4096x9216, .f32⟩
  | .hbm, ⟨2, _⟩ => ⟨S4096x9216, .bf16⟩
  | .hbm, ⟨3, _⟩ => ⟨S2048x9216, .bf16⟩
  | .hbm, ⟨4, _⟩ => ⟨S2048x4x2304, .bf16⟩
  | .hbm, ⟨5, _⟩ => ⟨S4x2048x2304, .bf16⟩
  | .hbm, ⟨6, _⟩ => ⟨S1x4x2048x2304, .bf16⟩
  | .hbm, ⟨7, _⟩ => ⟨S4096x2048, .f32⟩
  | .local _ .vmem, ⟨0, _⟩ => ⟨S1024x2304, .bf16⟩
  | .local _ .vmem, ⟨1, _⟩ => ⟨S1024x2304, .bf16⟩
  | .local _ .vmem, ⟨2, _⟩ => ⟨S1x1x1024x2304, .bf16⟩
  | .local _ .vmem, ⟨3, _⟩ => ⟨S1x1x1024x2304, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BQkvDxReferenceIdeal.lean ====
abbrev S2048x9216 : Shape := ⟨2, ![2048, 9216]⟩
abbrev S4096x9216 : Shape := ⟨2, ![4096, 9216]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S4096x9216, .f32⟩
  | .hbm, ⟨2, _⟩ => ⟨S_, .f32⟩
  | .hbm, ⟨3, _⟩ => ⟨S4096x2048, .f32⟩
  | .hbm, ⟨4, _⟩ => ⟨S4096x9216, .f32⟩
  | .hbm, ⟨5, _⟩ => ⟨S4096x2048, .f32⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BQkvDw.lean ====
abbrev S4096x2048 : Shape := ⟨2, ![4096, 2048]⟩
abbrev S4096x9216 : Shape := ⟨2, ![4096, 9216]⟩
abbrev S4x2048x2304 : Shape := ⟨3, ![4, 2048, 2304]⟩
abbrev S4096x512 : Shape := ⟨2, ![4096, 512]⟩
abbrev S4096x1152 : Shape := ⟨2, ![4096, 1152]⟩
abbrev S1x512x1152 : Shape := ⟨3, ![1, 512, 1152]⟩
abbrev S8x128 : Shape := ⟨2, ![8, 128]⟩
abbrev S512x1152 : Shape := ⟨2, ![512, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x9216, .f32⟩
  | .hbm, ⟨2, _⟩ => ⟨S4096x2048, .bf16⟩
  | .hbm, ⟨3, _⟩ => ⟨S4096x9216, .bf16⟩
  | .hbm, ⟨4, _⟩ => ⟨S4x2048x2304, .bf16⟩
  | .local _ .vmem, ⟨0, _⟩ => ⟨S4096x512, .bf16⟩
  | .local _ .vmem, ⟨1, _⟩ => ⟨S4096x512, .bf16⟩
  | .local _ .vmem, ⟨2, _⟩ => ⟨S4096x1152, .bf16⟩
  | .local _ .vmem, ⟨3, _⟩ => ⟨S4096x1152, .bf16⟩
  | .local _ .vmem, ⟨4, _⟩ => ⟨S1x512x1152, .bf16⟩
  | .local _ .vmem, ⟨5, _⟩ => ⟨S1x512x1152, .bf16⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BQkvDwReferenceIdeal.lean ====
abbrev S4096x2048 : Shape := ⟨2, ![4096, 2048]⟩
abbrev S4096x9216 : Shape := ⟨2, ![4096, 9216]⟩
abbrev S_ : Shape := ⟨0, ![]⟩
abbrev S2048x9216 : Shape := ⟨2, ![2048, 9216]⟩
abbrev S9216x2048 : Shape := ⟨2, ![9216, 2048]⟩
abbrev S2048x4x2304 : Shape := ⟨3, ![2048, 4, 2304]⟩
abbrev S4x2048x2304 : Shape := ⟨3, ![4, 2048, 2304]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x9216, .f32⟩
  | .hbm, ⟨2, _⟩ => ⟨S_, .f32⟩
  | .hbm, ⟨3, _⟩ => ⟨S2048x9216, .f32⟩
  | .hbm, ⟨4, _⟩ => ⟨S4096x9216, .f32⟩
  | .hbm, ⟨5, _⟩ => ⟨S9216x2048, .f32⟩
  | .hbm, ⟨6, _⟩ => ⟨S2048x9216, .f32⟩
  | .hbm, ⟨7, _⟩ => ⟨S2048x9216, .bf16⟩
  | .hbm, ⟨8, _⟩ => ⟨S2048x4x2304, .bf16⟩
  | .hbm, ⟨9, _⟩ => ⟨S4x2048x2304, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BOutDx.lean ====
abbrev S3072x2048 : Shape := ⟨2, ![3072, 2048]⟩
abbrev S4096x2048 : Shape := ⟨2, ![4096, 2048]⟩
abbrev S1x3072x2048 : Shape := ⟨3, ![1, 3072, 2048]⟩
abbrev S4096x3072 : Shape := ⟨2, ![4096, 3072]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S3072x2048, .f32⟩
  | .hbm, ⟨1, _⟩ => ⟨S4096x2048, .f32⟩
  | .hbm, ⟨2, _⟩ => ⟨S4096x2048, .bf16⟩
  | .hbm, ⟨3, _⟩ => ⟨S3072x2048, .bf16⟩
  | .hbm, ⟨4, _⟩ => ⟨S1x3072x2048, .bf16⟩
  | .hbm, ⟨5, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BOutDxReferenceIdeal.lean ====
abbrev S3072x2048 : Shape := ⟨2, ![3072, 2048]⟩
abbrev S4096x2048 : Shape := ⟨2, ![4096, 2048]⟩
abbrev S_ : Shape := ⟨0, ![]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S3072x2048, .f32⟩
  | .hbm, ⟨1, _⟩ => ⟨S4096x2048, .f32⟩
  | .hbm, ⟨2, _⟩ => ⟨S_, .f32⟩
  | .hbm, ⟨3, _⟩ => ⟨S4096x3072, .f32⟩
  | .hbm, ⟨4, _⟩ => ⟨S4096x2048, .f32⟩
  | .hbm, ⟨5, _⟩ => ⟨S4096x3072, .f32⟩
  | _, _ => ⟨S3072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BOutDw.lean ====
abbrev S4096x3072 : Shape := ⟨2, ![4096, 3072]⟩
abbrev S4096x2048 : Shape := ⟨2, ![4096, 2048]⟩
abbrev S3072x2048 : Shape := ⟨2, ![3072, 2048]⟩
abbrev S4096x512 : Shape := ⟨2, ![4096, 512]⟩
abbrev S4096x1024 : Shape := ⟨2, ![4096, 1024]⟩
abbrev S512x1024 : Shape := ⟨2, ![512, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x3072, .bf16⟩
  | .hbm, ⟨3, _⟩ => ⟨S4096x2048, .bf16⟩
  | .hbm, ⟨4, _⟩ => ⟨S3072x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutDwReferenceIdeal.lean ====
abbrev S4096x3072 : Shape := ⟨2, ![4096, 3072]⟩
abbrev S4096x2048 : Shape := ⟨2, ![4096, 2048]⟩
abbrev S_ : Shape := ⟨0, ![]⟩
abbrev S3072x2048 : Shape := ⟨2, ![3072, 2048]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S_, .f32⟩
  | .hbm, ⟨3, _⟩ => ⟨S3072x2048, .f32⟩
  | .hbm, ⟨4, _⟩ => ⟨S4096x2048, .f32⟩
  | .hbm, ⟨5, _⟩ => ⟨S2048x3072, .f32⟩
  | .hbm, ⟨6, _⟩ => ⟨S3072x2048, .f32⟩
  | .hbm, ⟨7, _⟩ => ⟨S3072x2048, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BQkvG0.lean ====
abbrev S4096x2048 : Shape := ⟨2, ![4096, 2048]⟩
abbrev S2048x9216 : Shape := ⟨2, ![2048, 9216]⟩
abbrev S2048x4x2304 : Shape := ⟨3, ![2048, 4, 2304]⟩
abbrev S4x2048x2304 : Shape := ⟨3, ![4, 2048, 2304]⟩
abbrev S1x4x2048x2304 : Shape := ⟨4, ![1, 4, 2048, 2304]⟩
abbrev S1x4096x3072 : Shape := ⟨3, ![1, 4096, 3072]⟩
abbrev S1024x2048 : Shape := ⟨2, ![1024, 2048]⟩
abbrev S1x1x2048x768 : Shape := ⟨4, ![1, 1, 2048, 768]⟩
abbrev S1x1024x768 : Shape := ⟨3, ![1, 1024, 768]⟩
abbrev S6x1024x128 : Shape := ⟨3, ![6, 1024, 128]⟩
abbrev S2048x768 : Shape := ⟨2, ![2048, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x2048, .bf16⟩
  | .hbm, ⟨3, _⟩ => ⟨S2048x9216, .bf16⟩
  | .hbm, ⟨4, _⟩ => ⟨S2048x4x2304, .bf16⟩
  | .hbm, ⟨5, _⟩ => ⟨S4x2048x2304, .bf16⟩
  | .hbm, ⟨6, _⟩ => ⟨S1x4x2048x2304, .bf16⟩
  | .hbm, ⟨7, _⟩ => ⟨S1x4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S6x1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32_5 : BitVec 32 := 3#32
  let c0_i32_6 : BitVec 32 := 0#32
  let v18 : BitVec 1 := Scalar.cmpi .eq c3_i32_5 c0_i32_6
  let c1_i32_7 : BitVec 32 := 1#32
  let v19 : BitVec 32 := Scalar.select v18 c1_i32_7 c3_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  let c0_i32_13 : BitVec 32 := 0#32
  ![c0_i32_11.toNat, v17.toNat, c0_i32_12.toNat, v27.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BQkvG0ReferenceIdeal.lean ====
abbrev S4096x2048 : Shape := ⟨2, ![4096, 2048]⟩
abbrev S2048x9216 : Shape := ⟨2, ![2048, 9216]⟩
abbrev S4096x9216 : Shape := ⟨2, ![4096, 9216]⟩
abbrev S4096x3072 : Shape := ⟨2, ![4096, 3072]⟩
abbrev S4096x1x3072 : Shape := ⟨3, ![4096, 1, 3072]⟩
abbrev S1x4096x3072 : Shape := ⟨3, ![1, 4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x9216, .f32⟩
  | .hbm, ⟨3, _⟩ => ⟨S4096x3072, .f32⟩
  | .hbm, ⟨4, _⟩ => ⟨S4096x1x3072, .f32⟩
  | .hbm, ⟨5, _⟩ => ⟨S1x4096x3072, .f32⟩
  | .hbm, ⟨6, _⟩ => ⟨S1x4096x3072, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BQkvG1.lean ====
abbrev S4096x2048 : Shape := ⟨2, ![4096, 2048]⟩
abbrev S2048x9216 : Shape := ⟨2, ![2048, 9216]⟩
abbrev S2048x4x2304 : Shape := ⟨3, ![2048, 4, 2304]⟩
abbrev S4x2048x2304 : Shape := ⟨3, ![4, 2048, 2304]⟩
abbrev S1x4x2048x2304 : Shape := ⟨4, ![1, 4, 2048, 2304]⟩
abbrev S4x1024x3072 : Shape := ⟨3, ![4, 1024, 3072]⟩
abbrev S1024x2048 : Shape := ⟨2, ![1024, 2048]⟩
abbrev S1x1x2048x768 : Shape := ⟨4, ![1, 1, 2048, 768]⟩
abbrev S4x256x768 : Shape := ⟨3, ![4, 256, 768]⟩
abbrev S6x1024x128 : Shape := ⟨3, ![6, 1024, 128]⟩
abbrev S2048x768 : Shape := ⟨2, ![2048, 768]⟩
abbrev S1024x768 : Shape := ⟨2, ![1024, 768]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x2048, .bf16⟩
  | .hbm, ⟨3, _⟩ => ⟨S2048x9216, .bf16⟩
  | .hbm, ⟨4, _⟩ => ⟨S2048x4x2304, .bf16⟩
  | .hbm, ⟨5, _⟩ => ⟨S4x2048x2304, .bf16⟩
  | .hbm, ⟨6, _⟩ => ⟨S1x4x2048x2304, .bf16⟩
  | .hbm, ⟨7, _⟩ => ⟨S4x1024x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S4x256x768, .bf16⟩
  | .local _ .vmem, ⟨5, _⟩ => ⟨S4x256x768, .bf16⟩
  | .local _ .vmem, ⟨6, _⟩ => ⟨S6x1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![c0_i32_10.toNat, v17.toNat, c0_i32_11.toNat, v27.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BQkvG1ReferenceIdeal.lean ====
abbrev S4096x2048 : Shape := ⟨2, ![4096, 2048]⟩
abbrev S2048x9216 : Shape := ⟨2, ![2048, 9216]⟩
abbrev S4096x9216 : Shape := ⟨2, ![4096, 9216]⟩
abbrev S4096x3072 : Shape := ⟨2, ![4096, 3072]⟩
abbrev S1024x4x3072 : Shape := ⟨3, ![1024, 4, 3072]⟩
abbrev S4x1024x3072 : Shape := ⟨3, ![4, 1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x9216, .f32⟩
  | .hbm, ⟨3, _⟩ => ⟨S4096x3072, .f32⟩
  | .hbm, ⟨4, _⟩ => ⟨S1024x4x3072, .f32⟩
  | .hbm, ⟨5, _⟩ => ⟨S4x1024x3072, .f32⟩
  | .hbm, ⟨6, _⟩ => ⟨S4x1024x3072, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BQkvG2.lean ====
abbrev S4096x2048 : Shape := ⟨2, ![4096, 2048]⟩
abbrev S2048x9216 : Shape := ⟨2, ![2048, 9216]⟩
abbrev S2048x4x2304 : Shape := ⟨3, ![2048, 4, 2304]⟩
abbrev S4x2048x2304 : Shape := ⟨3, ![4, 2048, 2304]⟩
abbrev S1x4x2048x2304 : Shape := ⟨4, ![1, 4, 2048, 2304]⟩
abbrev S16x256x3072 : Shape := ⟨3, ![16, 256, 3072]⟩
abbrev S1024x2048 : Shape := ⟨2, ![1024, 2048]⟩
abbrev S1x1x2048x768 : Shape := ⟨4, ![1, 1, 2048, 768]⟩
abbrev S16x64x768 : Shape := ⟨3, ![16, 64, 768]⟩
abbrev S6x1024x128 : Shape := ⟨3, ![6, 1024, 128]⟩
abbrev S2048x768 : Shape := ⟨2, ![2048, 768]⟩
abbrev S1024x768 : Shape := ⟨2, ![1024, 768]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x2048, .bf16⟩
  | .hbm, ⟨3, _⟩ => ⟨S2048x9216, .bf16⟩
  | .hbm, ⟨4, _⟩ => ⟨S2048x4x2304, .bf16⟩
  | .hbm, ⟨5, _⟩ => ⟨S4x2048x2304, .bf16⟩
  | .hbm, ⟨6, _⟩ => ⟨S1x4x2048x2304, .bf16⟩
  | .hbm, ⟨7, _⟩ => ⟨S16x256x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S16x64x768, .bf16⟩
  | .local _ .vmem, ⟨5, _⟩ => ⟨S16x64x768, .bf16⟩
  | .local _ .vmem, ⟨6, _⟩ => ⟨S6x1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![c0_i32_10.toNat, v17.toNat, c0_i32_11.toNat, v27.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BQkvG2ReferenceIdeal.lean ====
abbrev S4096x2048 : Shape := ⟨2, ![4096, 2048]⟩
abbrev S2048x9216 : Shape := ⟨2, ![2048, 9216]⟩
abbrev S4096x9216 : Shape := ⟨2, ![4096, 9216]⟩
abbrev S4096x3072 : Shape := ⟨2, ![4096, 3072]⟩
abbrev S256x16x3072 : Shape := ⟨3, ![256, 16, 3072]⟩
abbrev S16x256x3072 : Shape := ⟨3, ![16, 256, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x9216, .f32⟩
  | .hbm, ⟨3, _⟩ => ⟨S4096x3072, .f32⟩
  | .hbm, ⟨4, _⟩ => ⟨S256x16x3072, .f32⟩
  | .hbm, ⟨5, _⟩ => ⟨S16x256x3072, .f32⟩
  | .hbm, ⟨6, _⟩ => ⟨S16x256x3072, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ActDx.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S3x4x2816 : Shape := ⟨3, ![3, 4, 2816]⟩
abbrev S4x3x2816 : Shape := ⟨3, ![4, 3, 2816]⟩
abbrev S1x4x3x2816 : Shape := ⟨4, ![1, 4, 3, 2816]⟩
abbrev S1x1x11264 : Shape := ⟨3, ![1, 1, 11264]⟩
abbrev S8x5632 : Shape := ⟨2, ![8, 5632]⟩
abbrev S1024x256 : Shape := ⟨2, ![1024, 256]⟩
abbrev S8x256 : Shape := ⟨2, ![8, 256]⟩
abbrev S1x1x3x256 : Shape := ⟨4, ![1, 1, 3, 256]⟩
abbrev S1x1x256 : Shape := ⟨3, ![1, 1, 256]⟩
abbrev S1040x256 : Shape := ⟨2, ![1040, 256]⟩
abbrev S1x1x1x256 : Shape := ⟨4, ![1, 1, 1, 256]⟩
abbrev S1x256 : Shape := ⟨2, ![1, 256]⟩
abbrev S256 : Shape := ⟨1, ![256]⟩

abbrev nBuf : Space → Nat
  | .hbm => 12
  | .vmem => 34
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S4096x5632, .f32⟩
  | .hbm, ⟨4, _⟩ => ⟨S3x4x2816, .f32⟩
  | .hbm, ⟨5, _⟩ => ⟨S4x3x2816, .f32⟩
  | .hbm, ⟨6, _⟩ => ⟨S1x4x3x2816, .f32⟩
  | .hbm, ⟨7, _⟩ => ⟨S1x1x11264, .f32⟩
  | .hbm, ⟨8, _⟩ => ⟨S4096x5632, .bf16⟩
  | .hbm, ⟨9, _⟩ => ⟨S4096x5632, .bf16⟩
  | .hbm, ⟨10, _⟩ => ⟨S8x5632, .f32⟩
  | .hbm, ⟨11, _⟩ => ⟨S8x5632, .f32⟩
  | .local _ .vmem, ⟨0, _⟩ => ⟨S1024x256, .f32⟩
  | .local _ .vmem, ⟨1, _⟩ => ⟨S1024x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S1024x256, .f32⟩
  | .local _ .vmem, ⟨7, _⟩ => ⟨S1024x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S1024x256, .f32⟩
  | .local _ .vmem, ⟨13, _⟩ => ⟨S1024x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S1x1x3x256, .f32⟩
  | .local _ .vmem, ⟨19, _⟩ => ⟨S1x1x3x256, .f32⟩
  | .local _ .vmem, ⟨20, _⟩ => ⟨S1x1x3x256, .f32⟩
  | .local _ .vmem, ⟨21, _⟩ => ⟨S1x1x3x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S8x256, .f32⟩
  | .local _ .vmem, ⟨31, _⟩ => ⟨S8x256, .f32⟩
  | .local _ .vmem, ⟨32, _⟩ => ⟨S8x256, .f32⟩
  | .local _ .vmem, ⟨33, _⟩ => ⟨S8x256, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![22, 4], ![false, false]⟩

def cc0_transform_0 (i : grid0.Coords) : Fin 2 → Nat :=
  let arg0 : BitVec 32 := BitVec.ofNat 32 (i 0).val
  let arg1 : BitVec 32 := BitVec.ofNat 32 (i 1).val
  let c22_i32 : BitVec 32 := 22#32
  let c0_i32 : BitVec 32 := 0#32
  let v0 : BitVec 1 := Scalar.cmpi .eq c22_i32 c0_i32
  let c1_i32 : BitVec 32 := 1#32
  let v1 : BitVec 32 := Scalar.select v0 c1_i32 c22_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi v9 c0_i32_3
  let c0_i32_4 : BitVec 32 := 0#32
  ![arg1.toNat, v10.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let c0_i32_0 : BitVec 32 := 0#32
  let v3 : BitVec 1 := Scalar.cmpi .eq c22_i32 c0_i32_0
  let c1_i32_1 : BitVec 32 := 1#32
  let v4 : BitVec 32 := Scalar.select v3 c1_i32_1 c22_i32
  let v5 : BitVec 32 := Scalar.remsi arg0 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let v13 : BitVec 32 := Scalar.addi v12 c0_i32_5
  let c0_i32_6 : BitVec 32 := 0#32
  ![v2.toNat, v13.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c22_i32 : BitVec 32 := 22#32
  let c0_i32 : BitVec 32 := 0#32
  let v3 : BitVec 1 := Scalar.cmpi .eq c22_i32 c0_i32
  let c1_i32_0 : BitVec 32 := 1#32
  let v4 : BitVec 32 := Scalar.select v3 c1_i32_0 c22_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let v13 : BitVec 32 := Scalar.addi v12 c0_i32_4
  let c0_i32_5 : BitVec 32 := 0#32
  ![v2.toNat, v13.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let c0_i32 : BitVec 32 := 0#32
  let v0 : BitVec 1 := Scalar.cmpi .eq c22_i32 c0_i32
  let c1_i32 : BitVec 32 := 1#32
  let v1 : BitVec 32 := Scalar.select v0 c1_i32 c22_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c22_i32_3 : BitVec 32 := 22#32
  let v10 : BitVec 32 := Scalar.addi v9 c22_i32_3
  let c0_i32_4 : BitVec 32 := 0#32
  ![arg1.toNat, v10.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let c0_i32_0 : BitVec 32 := 0#32
  let v3 : BitVec 1 := Scalar.cmpi .eq c22_i32 c0_i32_0
  let c1_i32_1 : BitVec 32 := 1#32
  let v4 : BitVec 32 := Scalar.select v3 c1_i32_1 c22_i32
  let v5 : BitVec 32 := Scalar.remsi arg0 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c22_i32_5 : BitVec 32 := 22#32
  let v13 : BitVec 32 := Scalar.addi v12 c22_i32_5
  let c0_i32_6 : BitVec 32 := 0#32
  ![v2.toNat, v13.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c22_i32 : BitVec 32 := 22#32
  let c0_i32 : BitVec 32 := 0#32
  let v3 : BitVec 1 := Scalar.cmpi .eq c22_i32 c0_i32
  let c1_i32_0 : BitVec 32 := 1#32
  let v4 : BitVec 32 := Scalar.select v3 c1_i32_0 c22_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c22_i32_4 : BitVec 32 := 22#32
  let v13 : BitVec 32 := Scalar.addi v12 c22_i32_4
  let c0_i32_5 : BitVec 32 := 0#32
  ![v2.toNat, v13.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_9 (i : grid0.Coords) : Fin 4 → Nat :=
  let arg0 : BitVec 32 := BitVec.ofNat 32 (i 0).val
  let arg1 : BitVec 32 := BitVec.ofNat 32 (i 1).val
  let c22_i32 : BitVec 32 := 22#32
  let c0_i32 : BitVec 32 := 0#32
  let v0 : BitVec 1 := Scalar.cmpi .eq c22_i32 c0_i32
  let c1_i32 : BitVec 32 := 1#32
  let v1 : BitVec 32 := Scalar.select v0 c1_i32 c22_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi v9 c0_i32_3
  let c11_i32 : BitVec 32 := 11#32
  let v11 : BitVec 32 := Scalar.divsi v10 c11_i32
  let c0_i32_4 : BitVec 32 := 0#32
  let v12 : BitVec 1 := Scalar.cmpi .sgt v10 c0_i32_4
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c0_i32_6 : BitVec 32 := 0#32
  let v17 : BitVec 1 := Scalar.cmpi .sgt c11_i32 c0_i32_6
  let v18 : BitVec 32 := Scalar.extui v17
  let c0_i32_7 : BitVec 32 := 0#32
  let v19 : BitVec 1 := Scalar.cmpi .slt c11_i32 c0_i32_7
  let v20 : BitVec 32 := Scalar.extui v19
  let v21 : BitVec 32 := Scalar.subi v18 v20
  let v22 : BitVec 1 := Scalar.cmpi .ne v16 v21
  let v23 : BitVec 32 := Scalar.remsi v10 c11_i32
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c11_i32_10 : BitVec 32 := 11#32
  let c0_i32_11 : BitVec 32 := 0#32
  let v28 : BitVec 1 := Scalar.cmpi .eq c11_i32_10 c0_i32_11
  let c1_i32_12 : BitVec 32 := 1#32
  let v29 : BitVec 32 := Scalar.select v28 c1_i32_12 c11_i32_10
  let v30 : BitVec 32 := Scalar.remsi v10 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c0_i32_16 : BitVec 32 := 0#32
  let c0_i32_17 : BitVec 32 := 0#32
  let c0_i32_18 : BitVec 32 := 0#32
  ![c0_i32_16.toNat, v27.toNat, c0_i32_17.toNat, v37.toNat]

def cc0_transform_10 (i : grid0.Coords) : Fin 4 → Nat :=
  let arg0 : BitVec 32 := BitVec.ofNat 32 (i 0).val
  let arg1 : BitVec 32 := BitVec.ofNat 32 (i 1).val
  let c22_i32 : BitVec 32 := 22#32
  let c0_i32 : BitVec 32 := 0#32
  let v0 : BitVec 1 := Scalar.cmpi .eq c22_i32 c0_i32
  let c1_i32 : BitVec 32 := 1#32
  let v1 : BitVec 32 := Scalar.select v0 c1_i32 c22_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c22_i32_3 : BitVec 32 := 22#32
  let v10 : BitVec 32 := Scalar.addi v9 c22_i32_3
  let c11_i32 : BitVec 32 := 11#32
  let v11 : BitVec 32 := Scalar.divsi v10 c11_i32
  let c0_i32_4 : BitVec 32 := 0#32
  let v12 : BitVec 1 := Scalar.cmpi .sgt v10 c0_i32_4
  let v13 : BitVec 32 := Scalar.extui v12
  let c0_i32_5 : BitVec 32 := 0#32
  let v14 : BitVec 1 := Scalar.cmpi .slt v10 c0_i32_5
  let v15 : BitVec 32 := Scalar.extui v14
  let v16 : BitVec 32 := Scalar.subi v13 v15
  let c0_i32_6 : BitVec 32 := 0#32
  let v17 : BitVec 1 := Scalar.cmpi .sgt c11_i32 c0_i32_6
  let v18 : BitVec 32 := Scalar.extui v17
  let c0_i32_7 : BitVec 32 := 0#32
  let v19 : BitVec 1 := Scalar.cmpi .slt c11_i32 c0_i32_7
  let v20 : BitVec 32 := Scalar.extui v19
  let v21 : BitVec 32 := Scalar.subi v18 v20
  let v22 : BitVec 1 := Scalar.cmpi .ne v16 v21
  let v23 : BitVec 32 := Scalar.remsi v10 c11_i32
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c11_i32_10 : BitVec 32 := 11#32
  let c0_i32_11 : BitVec 32 := 0#32
  let v28 : BitVec 1 := Scalar.cmpi .eq c11_i32_10 c0_i32_11
  let c1_i32_12 : BitVec 32 := 1#32
  let v29 : BitVec 32 := Scalar.select v28 c1_i32_12 c11_i32_10
  let v30 : BitVec 32 := Scalar.remsi v10 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c0_i32_16 : BitVec 32 := 0#32
  let c0_i32_17 : BitVec 32 := 0#32
  let c0_i32_18 : BitVec 32 := 0#32
  ![c0_i32_16.toNat, v27.toNat, c0_i32_17.toNat, v37.toNat]

def cc0_transform_11 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  let v0 : BitVec 1 := Scalar.cmpi .eq c22_i32 c0_i32
  let c1_i32 : BitVec 32 := 1#32
  let v1 : BitVec 32 := Scalar.select v0 c1_i32 c22_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi v9 c0_i32_3
  let c0_i32_4 : BitVec 32 := 0#32
  let c0_i32_5 : BitVec 32 := 0#32
  let c0_i32_6 : BitVec 32 := 0#32
  ![c0_i32_4.toNat, c0_i32_5.toNat, v10.toNat]

def cc0_transform_12 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  let v0 : BitVec 1 := Scalar.cmpi .eq c22_i32 c0_i32
  let c1_i32 : BitVec 32 := 1#32
  let v1 : BitVec 32 := Scalar.select v0 c1_i32 c22_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c22_i32_3 : BitVec 32 := 22#32
  let v10 : BitVec 32 := Scalar.addi v9 c22_i32_3
  let c0_i32_4 : BitVec 32 := 0#32
  let c0_i32_5 : BitVec 32 := 0#32
  let c0_i32_6 : BitVec 32 := 0#32
  ![c0_i32_4.toNat, c0_i32_5.toNat, v10.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ActDxReferenceIdeal.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S_ : Shape := ⟨0, ![]⟩
abbrev S1x11264 : Shape := ⟨2, ![1, 11264]⟩
abbrev S4095x11264 : Shape := ⟨2, ![4095, 11264]⟩
abbrev S4x11264 : Shape := ⟨2, ![4, 11264]⟩
abbrev S8x11264 : Shape := ⟨2, ![8, 11264]⟩
abbrev S8x5632 : Shape := ⟨2, ![8, 5632]⟩

abbrev nBuf : Space → Nat
  | .hbm => 117
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S4096x5632, .f32⟩
  | .hbm, ⟨4, _⟩ => ⟨S_, .f32⟩
  | .hbm, ⟨5, _⟩ => ⟨S1x11264, .f32⟩
  | .hbm, ⟨6, _⟩ => ⟨S4095x11264, .f32⟩
  | .hbm, ⟨7, _⟩ => ⟨S4096x11264, .f32⟩
  | .hbm, ⟨8, _⟩ => ⟨S_, .f32⟩
  | .hbm, ⟨9, _⟩ => ⟨S1x11264, .f32⟩
  | .hbm, ⟨10, _⟩ => ⟨S4095x11264, .f32⟩
  | .hbm, ⟨11, _⟩ => ⟨S4096x11264, .f32⟩
  | .hbm, ⟨12, _⟩ => ⟨S_, .f32⟩
  | .hbm, ⟨13, _⟩ => ⟨S1x11264, .f32⟩
  | .hbm, ⟨14, _⟩ => ⟨S1x11264, .f32⟩
  | .hbm, ⟨15, _⟩ => ⟨S11264, .f32⟩
  | .hbm, ⟨16, _⟩ => ⟨S1x11264, .f32⟩
  | .hbm, ⟨17, _⟩ => ⟨S4096x11264, .f32⟩
  | .hbm, ⟨18, _⟩ => ⟨S4096x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S1x11264, .f32⟩
  | .hbm, ⟨26, _⟩ => ⟨S11264, .f32⟩
  | .hbm, ⟨27, _⟩ => ⟨S1x11264, .f32⟩
  | .hbm, ⟨28, _⟩ => ⟨S4096x11264, .f32⟩
  | .hbm, ⟨29, _⟩ => ⟨S4096x11264, .f32⟩
  | .hbm, ⟨30, _⟩ => ⟨S4096x11264, .f32⟩
  | .hbm, ⟨31, _⟩ => ⟨S1x11264, .f32⟩
  | .hbm, ⟨32, _⟩ => ⟨S4096x11264, .f32⟩
  | .hbm, ⟨33, _⟩ => ⟨S4096x11264, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S_, .f32⟩
  | .hbm, ⟨42, _⟩ => ⟨S4096x5632, .f32⟩
  | .hbm, ⟨43, _⟩ => ⟨S4096x5632, .f32⟩
  | .hbm, ⟨44, _⟩ => ⟨S_, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x11264, .f32⟩
  | .hbm, ⟨57, _⟩ => ⟨S_, .f32⟩
  | .hbm, ⟨58, _⟩ => ⟨S11264, .f32⟩
  | .hbm, ⟨59, _⟩ => ⟨S1x11264, .f32⟩
  | .hbm, ⟨60, _⟩ => ⟨S_, .f32⟩
  | .hbm, ⟨61, _⟩ => ⟨S11264, .f32⟩
  | .hbm, ⟨62, _⟩ => ⟨S4096x11264, .f32⟩
  | .hbm, ⟨63, _⟩ => ⟨S4096x11264, .f32⟩
  | .hbm, ⟨64, _⟩ => ⟨S4096x11264, .f32⟩
  | .hbm, ⟨65, _⟩ => ⟨S_, .f32⟩
  | .hbm, ⟨66, _⟩ => ⟨S11264, .f32⟩
  | .hbm, ⟨67, _⟩ => ⟨S1x11264, .f32⟩
  | .hbm, ⟨68, _⟩ => ⟨S_, .f32⟩
  | .hbm, ⟨69, _⟩ => ⟨S11264, .f32⟩
  | .hbm, ⟨70, _⟩ => ⟨S1x11264, .f32⟩
  | .hbm, ⟨71, _⟩ => ⟨S_, .f32⟩
  | .hbm, ⟨72, _⟩ => ⟨S3x11264, .f32⟩
  | .hbm, ⟨73, _⟩ => ⟨S4096x11264, .f32⟩
  | .hbm, ⟨74, _⟩ => ⟨S4096x11264, .f32⟩
  | .hbm, ⟨75, _⟩ => ⟨S4096x11264, .f32⟩
  | .hbm, ⟨76, _⟩ => ⟨S_, .f32⟩
  | .hbm, ⟨77, _⟩ => ⟨S11264, .f32⟩
  | .hbm, ⟨78, _⟩ => ⟨S1x11264, .f32⟩
  | .hbm, ⟨79, _⟩ => ⟨S_, .f32⟩
  | .hbm, ⟨80, _⟩ => ⟨S11264, .f32⟩
  | .hbm, ⟨81, _⟩ => ⟨S1x11264, .f32⟩
  | .hbm, ⟨82, _⟩ => ⟨S_, .f32⟩
  | .hbm, ⟨83, _⟩ => ⟨S3x11264, .f32⟩
  | .hbm, ⟨84, _⟩ => ⟨S3x11264, .f32⟩
  | .hbm, ⟨85, _⟩ => ⟨S4096x11264, .f32⟩
  | .hbm, ⟨86, _⟩ => ⟨S4096x11264, .f32⟩
  | .hbm, ⟨87, _⟩ => ⟨S4096x11264, .f32⟩
  | .hbm, ⟨88, _⟩ => ⟨S_, .f32⟩
  | .hbm, ⟨89, _⟩ => ⟨S11264, .f32⟩
  | .hbm, ⟨90, _⟩ => ⟨S1x11264, .f32⟩
  | .hbm, ⟨91, _⟩ => ⟨S_, .f32⟩
  | .hbm, ⟨92, _⟩ => ⟨S11264, .f32⟩
  | .hbm, ⟨93, _⟩ => ⟨S1x11264, .f32⟩
  | .hbm, ⟨94, _⟩ => ⟨S_, .f32⟩
  | .hbm, ⟨95, _⟩ => ⟨S3x11264, .f32⟩
  | .hbm, ⟨96, _⟩ => ⟨S3x11264, .f32⟩
  | .hbm, ⟨97, _⟩ => ⟨S4095x11264, .f32⟩
  | .hbm, ⟨98, _⟩ => ⟨S1x11264, .f32⟩
  | .hbm, ⟨99, _⟩ => ⟨S_, .f32⟩
  | .hbm, ⟨100, _⟩ => ⟨S4096x11264, .f32⟩
  | .hbm, ⟨101, _⟩ => ⟨S4096x11264, .f32⟩
  | .hbm, ⟨102, _⟩ => ⟨S1x11264, .f32⟩
  | .hbm, ⟨103, _⟩ => ⟨S4095x11264, .f32⟩
  | .hbm, ⟨104, _⟩ => ⟨S_, .f32⟩
  | .hbm, ⟨105, _⟩ => ⟨S4096x11264, .f32⟩
  | .hbm, ⟨106, _⟩ => ⟨S4096x11264, .f32⟩
  | .hbm, ⟨107, _⟩ => ⟨S1x11264, .f32⟩
  | .hbm, ⟨108, _⟩ => ⟨S_, .f32⟩
  | .hbm, ⟨109, _⟩ => ⟨S4x11264, .f32⟩
  | .hbm, ⟨110, _⟩ => ⟨S8x11264, .f32⟩
  | .hbm, ⟨111, _⟩ => ⟨S4096x5632, .f32⟩
  | .hbm, ⟨112, _⟩ => ⟨S4096x5632, .bf16⟩
  | .hbm, ⟨113, _⟩ => ⟨S4096x5632, .f32⟩
  | .hbm, ⟨114, _⟩ => ⟨S4096x5632, .bf16⟩
  | .hbm, ⟨115, _⟩ => ⟨S8x5632, .f32⟩
  | .hbm, ⟨116, _⟩ => ⟨S8x5632, .f32⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Flash.lean ====
abbrev S4096x2048 : Shape := ⟨2, ![4096, 2048]⟩
abbrev S4096x512 : Shape := ⟨2, ![4096, 512]⟩
abbrev S_ : Shape := ⟨0, ![]⟩
abbrev S4096x3072 : Shape := ⟨2, ![4096, 3072]⟩
abbrev S1024x128 : Shape := ⟨2, ![1024, 128]⟩
abbrev S4096x128 : Shape := ⟨2, ![4096, 128]⟩
abbrev S256x128 : Shape := ⟨2, ![256, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩

abbrev nBuf : Space → Nat
  | .hbm => 17
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x512, .bf16⟩
  | .hbm, ⟨13, _⟩ => ⟨S4096x512, .bf16⟩
  | .hbm, ⟨14, _⟩ => ⟨S4096x3072, .bf16⟩
  | .hbm, ⟨15, _⟩ => ⟨S4096x2048, .bf16⟩
  | .hbm, ⟨16, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c20_i32 : BitVec 32 := 20#32
  let v17 : BitVec 32 := Scalar.addi c20_i32 v16
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashIdeal.lean ====
variable {F : FTy → Type} [FloatOps F] [Named F]
def κ : String → Option EReal := fun
  | "ln2" => some ((Real.log 2 : ℝ) : EReal)
  | _ => none
-- ==== FlashReferenceIdeal.lean ====
abbrev S4096x2048 : Shape := ⟨2, ![4096, 2048]⟩
abbrev S4096x512 : Shape := ⟨2, ![4096, 512]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4096x4x4 : Shape := ⟨3, ![4096, 4, 4]⟩
abbrev S4096x16 : Shape := ⟨2, ![4096, 16]⟩
abbrev S4096x16x128 : Shape := ⟨3, ![4096, 16, 128]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x4x4x128, .f32⟩
  | .hbm, ⟨4, _⟩ => ⟨S4096x4x128, .f32⟩
  | .hbm, ⟨5, _⟩ => ⟨S4096x4x128, .f32⟩
  | .hbm, ⟨6, _⟩ => ⟨S4x4096x4096x4, .f32⟩
  | .hbm, ⟨7, _⟩ => ⟨S4x4x4096x4096, .f32⟩
  | .hbm, ⟨8, _⟩ => ⟨S_, .f32⟩
  | .hbm, ⟨9, _⟩ => ⟨S4x4x4096x4096, .f32⟩
  | .hbm, ⟨10, _⟩ => ⟨S4x4x4096x4096, .f32⟩
  | .hbm, ⟨11, _⟩ => ⟨S_, .f32⟩
  | .hbm, ⟨12, _⟩ => ⟨S4x4x4096, .f32⟩
  | .hbm, ⟨13, _⟩ => ⟨S_, .f32⟩
  | .hbm, ⟨14, _⟩ => ⟨S4x4x4096, .f32⟩
  | .hbm, ⟨15, _⟩ => ⟨S4x4x4096, .f32⟩
  | .hbm, ⟨16, _⟩ => ⟨S4x4x4096x1, .f32⟩
  | .hbm, ⟨17, _⟩ => ⟨S4x4x4096x4096, .f32⟩
  | .hbm, ⟨18, _⟩ => ⟨S4x4x4096x4096, .f32⟩
  | .hbm, ⟨19, _⟩ => ⟨S4x4x4096x4096, .f32⟩
  | .hbm, ⟨20, _⟩ => ⟨S_, .f32⟩
  | .hbm, ⟨21, _⟩ => ⟨S4x4x4096, .f32⟩
  | .hbm, ⟨22, _⟩ => ⟨S4x4x4096x1, .f32⟩
  | .hbm, ⟨23, _⟩ => ⟨S4x4x4096x4096, .f32⟩
  | .hbm, ⟨24, _⟩ => ⟨S4x4x4096x4096, .f32⟩
  | .hbm, ⟨25, _⟩ => ⟨S4x128x4x4096, .f32⟩
  | .hbm, ⟨26, _⟩ => ⟨S4096x4x4x128, .f32⟩
  | .hbm, ⟨27, _⟩ => ⟨S4096x2048, .f32⟩
  | .hbm, ⟨28, _⟩ => ⟨S4096x2048, .bf16⟩
  | .hbm, ⟨29, _⟩ => ⟨S4096x4x4x128, .f32⟩
  | .hbm, ⟨30, _⟩ => ⟨S4096x4x128, .f32⟩
  | .hbm, ⟨31, _⟩ => ⟨S4096x4x128, .f32⟩
  | .hbm, ⟨32, _⟩ => ⟨S4x4096x4096x4, .f32⟩
  | .hbm, ⟨33, _⟩ => ⟨S4x4x4096x4096, .f32⟩
  | .hbm, ⟨34, _⟩ => ⟨S_, .f32⟩
  | .hbm, ⟨35, _⟩ => ⟨S4x4x4096x4096, .f32⟩
  | .hbm, ⟨36, _⟩ => ⟨S4x4x4096x4096, .f32⟩
  | .hbm, ⟨37, _⟩ => ⟨S_, .f32⟩
  | .hbm, ⟨38, _⟩ => ⟨S4x4x4096, .f32⟩
  | .hbm, ⟨39, _⟩ => ⟨S4x4x4096x1, .f32⟩
  | .hbm, ⟨40, _⟩ => ⟨S4x4x4096x4096, .f32⟩
  | .hbm, ⟨41, _⟩ => ⟨S4x4x4096x4096, .f32⟩
  | .hbm, ⟨42, _⟩ => ⟨S4x4x4096x4096, .f32⟩
  | .hbm, ⟨43, _⟩ => ⟨S_, .f32⟩
  | .hbm, ⟨44, _⟩ => ⟨S4x4x4096, .f32⟩
  | .hbm, ⟨45, _⟩ => ⟨S4x4x4096, .f32⟩
  | .hbm, ⟨46, _⟩ => ⟨S4x4x4096, .f32⟩
  | .hbm, ⟨47, _⟩ => ⟨S4096x4x4, .f32⟩
  | .hbm, ⟨48, _⟩ => ⟨S4096x16, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x16, .f32⟩
  | .hbm, ⟨54, _⟩ => ⟨S4096x16, .f32⟩
  | .hbm, ⟨55, _⟩ => ⟨S4096x16x128, .f32⟩
  | .hbm, ⟨56, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Proof.DownDx.lean ====
/- The gradient of the down projection's left operand: the kernel's array holds the product of the incoming gradient with the
   transposed weights, as the reference's does. -/
module

public import proofs.«01_k».proof.Defs
public import proofs.«01_k».proof.Proof.Gen.DownDx
public import proofs.«01_k».proof.Proof.Gen.DownDxIdeal
public import proofs.«01_k».proof.Proof.Gen.DownDxReferenceIdeal
public import proofs.«01_k».proof.Proof.Gen.DownDxIdeal.Value
public import proofs.«01_k».proof.Proof.Gen.DownDxReferenceIdeal.Run
public import proofs.«01_k».proof.Proof.Gen.DownDxReferenceIdeal.Read
public import Idealize.ShloMosaic.Lib.Pipeline.ValueKit
public import Idealize.ShloMosaic.Lib.StableHlo.RunRead

@[expose] public section

set_option maxRecDepth 16384

noncomputable section

namespace Cert.DownDxValue

open Cert.DownDxIdeal Cert.DownDxIdeal.Gen Idealize.ShloMosaic Idealize.ShloMosaic.TcCoe Idealize.SL.Sem Idealize.ShloMosaic.StableHlo

variable (m : (ℓ : Loc nD τ sig) → Buf (Elt Ideal) ℓ) (c : Dev nD)

/-- The weights and the incoming gradient. -/
abbrev w : S5632x2048.Idx → EReal := m ((c : Thread nD τ).loc main_arg0)
@[inherit_doc w] abbrev ct : S4096x2048.Idx → EReal := m ((c : Thread nD τ).loc main_arg1)

/-- The gradient of the product's left operand. -/
def grad (W : S5632x2048.Idx → EReal) (C : S4096x2048.Idx → EReal) (i : S4096x5632.Idx) : EReal :=
  ∑ k : Fin 2048, C (ix2 (i 0) k) * W (ix2 (i 1) k)

/-- The block index of the incoming gradient. -/
theorem idx0 : ∀ t : Fin cfg0.N, win0_0.index t = ![t.val / 11, 0] := by decide +kernel
/-- The block index of the weights. -/
theorem idx1 : ∀ t : Fin cfg0.N, win0_1.index t = ![0, t.val % 11, 0] := by decide +kernel
/-- The block index of the result. -/
theorem idx2 : ∀ t : Fin cfg0.N, win0_2.index t = ![t.val / 11, t.val % 11] := by decide +kernel

theorem lt (t : Fin cfg0.N) : t.val < 44 := t.isLt

/-- The host's rounding of the incoming gradient is the identity. -/
theorem V0 : V m c main_v0 = ct m c := by
  unfold V
  after_reads_simp
  rfl

/-- The host's copy of the weights, with a leading axis of one. -/
theorem V2 : V m c main_v2 = broadcastInDim S1x5632x2048 ![1, 2] bcast_S5632x2048_S1x5632x2048_1_2 (w m c) := by
  unfold V
  after_reads_simp
  rfl

/-- Block 0 of grid point `t`: rows of the incoming gradient. -/
abbrev ib0 (t : Fin cfg0.N) : S1024x2048.Idx → EReal := iblk m c 0 t
/-- Block 1 of grid point `t`: rows of the weights. -/
abbrev ib1 (t : Fin cfg0.N) : S1x512x2048.Idx → EReal := iblk m c 1 t

/-- The incoming gradient's block. -/
theorem b0 (t : Fin cfg0.N) (r : Fin 1024) (k : Fin 2048) : ib0 m c t (ix2 r k)
    = ct m c (ix2 ⟨1024 * (t.val / 11) + r.val, by have := lt t; omega⟩ k) := by
  have e : ib0 m c t (ix2 r k) = (V m c main_v0 : S4096x2048.Idx → EReal) (ix2 ⟨1024 * (t.val / 11) + r.val, by have := lt t; omega⟩ k) := by
    unfold ib0
    blk_ext [iblk, idx0 t]
  rw [e, V0]

/-- The weights' block. -/
theorem b1 (t : Fin cfg0.N) (r : Fin 512) (k : Fin 2048) : ib1 m c t (ix3 0 r k)
    = w m c (ix2 ⟨512 * (t.val % 11) + r.val, by omega⟩ k) := by
  have e : ib1 m c t (ix3 0 r k)
      = (V m c main_v2 : S1x5632x2048.Idx → EReal) (ix3 0 ⟨512 * (t.val % 11) + r.val, by omega⟩ k) := by
    unfold ib1
    blk_ext [iblk, idx1 t]
  rw [e, V2]
  pointwise

/-- One entry of a block of the result. -/
theorem entry (t : Fin cfg0.N) (r : Fin 1024) (s : Fin 512) : out0_2 (iblk m c 0 t) (iblk m c 1 t) (ix2 r s)
    = ∑ k : Fin 2048, ct m c (ix2 ⟨1024 * (t.val / 11) + r.val, by have := lt t; omega⟩ k) * w m c (ix2 ⟨512 * (t.val % 11) + s.val, by omega⟩ k) := by
  have e : out0_2 (iblk m c 0 t) (iblk m c 1 t) (ix2 r s) = ∑ k : Fin 2048, ib0 m c t (ix2 r k) * ib1 m c t (ix3 0 s k) := by
    frame_out
    unfold_payloads
    pointwise
  rw [e]
  exact Finset.sum_congr rfl fun k _ => by rw [b0, b1]

/-- A block of the result. -/
theorem block (t : Fin cfg0.N) (z : S1024x512.Idx) : out0_2 (iblk m c 0 t) (iblk m c 1 t) z
    = ∑ k : Fin 2048, ct m c (ix2 ⟨1024 * (t.val / 11) + (z 0).val, by have := lt t; have : (z 0).val < 1024 := (z 0).isLt; omega⟩ k)
      * w m c (ix2 ⟨512 * (t.val % 11) + (z 1).val, by have : (z 1).val < 512 := (z 1).isLt; omega⟩ k) := by
  rw [eq_ix2 z]
  exact entry m c t (z 0) (z 1)

/-- The gradient at row `r`, column `s`. -/
theorem grad_at (W : S5632x2048.Idx → EReal) (C : S4096x2048.Idx → EReal) (i : S4096x5632.Idx) (r : Fin 4096) (s : Fin 5632)
    (h0 : (i 0).val = r.val) (h1 : (i 1).val = s.val) : grad W C i = ∑ k : Fin 2048, C (ix2 r k) * W (ix2 s k) := by
  unfold grad
  rw [show i 0 = r from Fin.ext h0, show i 1 = s from Fin.ext h1]

/-- After the run the result is the gradient. -/
theorem arr : (dats m 0 c).arrAt 2 cfg0.N = grad (w m c) (ct m c) := by
  refine (dats m 0 c).arrAt_eq_of_covers 2 _ (by decide +kernel) fun t hf y => ?_
  blk_simp
  rw [after0_2]
  refine (block m c t _).trans (grad_at _ _ _ _ _ ?_ ?_).symm
  · blk_simp [idx2 t]
    dsimp only
    omega
  · blk_simp [idx2 t]
    dsimp only
    omega

/-- The reference's array. -/
theorem ref (W : S5632x2048.Idx → EReal) (C : S4096x2048.Idx → EReal) :
    DownDxReferenceIdeal.Read.val_main_v2 (F := Ideal) W C = grad W C := by
  funext i
  rw [DownDxReferenceIdeal.Read.val_main_v2_apply]
  refine Finset.sum_congr rfl fun k _ => ?_
  congr 1
  · exact congrArg C (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.DownDx.defs₀ (F := Bits) = Cert.DownDxIdeal.defs₀ (F := Bits) := by
  unfold Cert.DownDx.defs₀ Cert.DownDxIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.DownDx.defs (F := Bits) = Cert.DownDxIdeal.defs (F := Bits) := congrArg (Pipeline.defs _) bodies_eq

/-- The kernel ends without fault, with its arguments unchanged and no counter above zero. -/
theorem frame_k : Cert.quiescent_DownDx (hDownDx := Cert.DownDx.Gen.facts) := fun m ρ _ => by
  rw [defs_eq]
  exact Cert.DownDxIdeal.Gen.frame (F := Bits) m ρ

/-- The reference ends without fault, with its arguments unchanged and no counter above zero. -/
theorem frame_r : Cert.quiescent_DownDxReferenceIdeal (hDownDxReferenceIdeal := Cert.DownDxReferenceIdeal.Gen.facts) := by
  intro m ρ _
  exact (θ_run Cert.DownDxReferenceIdeal.defs _ _).mono (fun r h => ⟨fun c => (h c).2,
      Idealize.ShloMosaic.sem_eq_zero_of_no_sems (by decide) r.2⟩)
    (Cert.DownDxReferenceIdeal.Value.run (F := Ideal) m ρ)

/-- Kernel and reference end with equal results. -/
theorem equal : Cert.algebraic_DownDxIdeal_DownDxReferenceIdeal (hDownDxIdeal := Cert.DownDxIdeal.Gen.facts)
    (hDownDxReferenceIdeal := Cert.DownDxReferenceIdeal.Gen.facts) := by
  intro m ρ m' ρ' _ hagree
  refine ⟨fun c => (Cert.DownDxIdeal.Gen.dats m 0 c).arrAt 2 Cert.DownDxIdeal.cfg0.N, Cert.DownDxIdeal.Value.run_blocks (F := Ideal) m ρ, ?_⟩
  refine (θ_run Cert.DownDxReferenceIdeal.defs _ _).mono (fun r h c => ?_) (Cert.DownDxReferenceIdeal.Value.run (F := Ideal) m' ρ')
  obtain ⟨h0, hargs⟩ := h c
  obtain ⟨g0, g1⟩ := hagree c
  rw [Cert.DownDxReferenceIdeal.Read.val_main_v2_eq, g0, g1] at h0
  exact ⟨h0.trans ((ref (w m c) (ct m c)).trans (arr m c).symm), hargs⟩

end Cert.DownDxValue

end
-- ==== Proof.DownDw.lean ====
/- The gradient of the down projection's right operand: the kernel's array holds the product of the transposed activations with the
   incoming gradient, as the reference's does. -/
module

public import proofs.«01_k».proof.Defs
public import proofs.«01_k».proof.Proof.Gen.DownDw
public import proofs.«01_k».proof.Proof.Gen.DownDwIdeal
public import proofs.«01_k».proof.Proof.Gen.DownDwReferenceIdeal
public import proofs.«01_k».proof.Proof.Gen.DownDwIdeal.Value
public import proofs.«01_k».proof.Proof.Gen.DownDwReferenceIdeal.Run
public import proofs.«01_k».proof.Proof.Gen.DownDwReferenceIdeal.Read
public import Idealize.ShloMosaic.Lib.Pipeline.ValueKit
public import Idealize.ShloMosaic.Lib.StableHlo.RunRead

@[expose] public section

set_option maxRecDepth 16384

noncomputable section

namespace Cert.DownDwValue

open Cert.DownDwIdeal Cert.DownDwIdeal.Gen Idealize.ShloMosaic Idealize.ShloMosaic.TcCoe Idealize.SL.Sem Idealize.ShloMosaic.StableHlo

variable (m : (ℓ : Loc nD τ sig) → Buf (Elt Ideal) ℓ) (c : Dev nD)

/-- The activations and the incoming gradient. -/
abbrev act : S4096x5632.Idx → EReal := m ((c : Thread nD τ).loc main_arg0)
@[inherit_doc act] abbrev ct : S4096x2048.Idx → EReal := m ((c : Thread nD τ).loc main_arg1)

/-- The gradient of the product's right operand. -/
def grad (A : S4096x5632.Idx → EReal) (C : S4096x2048.Idx → EReal) (i : S5632x2048.Idx) : EReal :=
  ∑ k : Fin 4096, A (ix2 k (i 0)) * C (ix2 k (i 1))

/-- The block index of the activations. -/
theorem idx0 : ∀ t : Fin cfg0.N, win0_0.index t = ![0, t.val / 2] := by decide +kernel
/-- The block index of the incoming gradient. -/
theorem idx1 : ∀ t : Fin cfg0.N, win0_1.index t = ![0, t.val % 2] := by decide +kernel
/-- The block index of the result. -/
theorem idx2 : ∀ t : Fin cfg0.N, win0_2.index t = ![t.val / 2, t.val % 2] := by decide +kernel

theorem lt (t : Fin cfg0.N) : t.val < 22 := t.isLt

/-- The host's rounding of the activations is the identity. -/
theorem V0 : V m c main_v0 = act m c := by
  unfold V
  after_reads_simp
  rfl

/-- The host's rounding of the incoming gradient is the identity. -/
theorem V1 : V m c main_v1 = ct m c := by
  unfold V
  after_reads_simp
  rfl

/-- Block 0 of grid point `t`: columns of the activations. -/
abbrev ib0 (t : Fin cfg0.N) : S4096x512.Idx → EReal := iblk m c 0 t
/-- Block 1 of grid point `t`: columns of the incoming gradient. -/
abbrev ib1 (t : Fin cfg0.N) : S4096x1024.Idx → EReal := iblk m c 1 t

/-- The activations' block. -/
theorem b0 (t : Fin cfg0.N) (k : Fin 4096) (r : Fin 512) : ib0 m c t (ix2 k r)
    = act m c (ix2 k ⟨512 * (t.val / 2) + r.val, by have := lt t; omega⟩) := by
  have e : ib0 m c t (ix2 k r) = (V m c main_v0 : S4096x5632.Idx → EReal) (ix2 k ⟨512 * (t.val / 2) + r.val, by have := lt t; omega⟩) := by
    unfold ib0
    blk_ext [iblk, idx0 t]
  rw [e, V0]

/-- The incoming gradient's block. -/
theorem b1 (t : Fin cfg0.N) (k : Fin 4096) (r : Fin 1024) : ib1 m c t (ix2 k r)
    = ct m c (ix2 k ⟨1024 * (t.val % 2) + r.val, by omega⟩) := by
  have e : ib1 m c t (ix2 k r) = (V m c main_v1 : S4096x2048.Idx → EReal) (ix2 k ⟨1024 * (t.val % 2) + r.val, by omega⟩) := by
    unfold ib1
    blk_ext [iblk, idx1 t]
  rw [e, V1]

/-- One entry of a block of the result. -/
theorem entry (t : Fin cfg0.N) (r : Fin 512) (s : Fin 1024) : outsAt0 m c t (ix2 r s)
    = ∑ k : Fin 4096, act m c (ix2 k ⟨512 * (t.val / 2) + r.val, by have := lt t; omega⟩) * ct m c (ix2 k ⟨1024 * (t.val % 2) + s.val, by omega⟩) := by
  have e : outsAt0 m c t (ix2 r s) = ∑ k : Fin 4096, ib0 m c t (ix2 k r) * ib1 m c t (ix2 k s) := by
    unfold outsAt0
    frame_out
    open_payloads
    pointwise
  rw [e]
  exact Finset.sum_congr rfl fun k _ => by rw [b0, b1]

/-- A block of the result. -/
theorem block (t : Fin cfg0.N) (z : S512x1024.Idx) : outsAt0 m c t z
    = ∑ k : Fin 4096, act m c (ix2 k ⟨512 * (t.val / 2) + (z 0).val, by have := lt t; have : (z 0).val < 512 := (z 0).isLt; omega⟩)
      * ct m c (ix2 k ⟨1024 * (t.val % 2) + (z 1).val, by have : (z 1).val < 1024 := (z 1).isLt; omega⟩) := by
  rw [eq_ix2 z]
  exact entry m c t (z 0) (z 1)

/-- The gradient at row `r`, column `s`. -/
theorem grad_at (A : S4096x5632.Idx → EReal) (C : S4096x2048.Idx → EReal) (i : S5632x2048.Idx) (r : Fin 5632) (s : Fin 2048)
    (h0 : (i 0).val = r.val) (h1 : (i 1).val = s.val) : grad A C i = ∑ k : Fin 4096, A (ix2 k r) * C (ix2 k s) := by
  unfold grad
  rw [show i 0 = r from Fin.ext h0, show i 1 = s from Fin.ext h1]

/-- After the run the result is the gradient. -/
theorem arr : (dats m 0 c).arrAt 2 cfg0.N = grad (act m c) (ct m c) := by
  refine (dats m 0 c).arrAt_eq_of_covers 2 _ (by decide +kernel) fun t hf y => ?_
  blk_simp
  rw [after0_2]
  refine (block m c t _).trans (grad_at _ _ _ _ _ ?_ ?_).symm
  · blk_simp [idx2 t]
    dsimp only
    omega
  · blk_simp [idx2 t]
    dsimp only
    omega

/-- The reference's array. -/
theorem ref (A : S4096x5632.Idx → EReal) (C : S4096x2048.Idx → EReal) :
    DownDwReferenceIdeal.Read.val_main_v4 (F := Ideal) A C = grad A C := by
  funext i
  rw [DownDwReferenceIdeal.Read.val_main_v4_apply, DownDwReferenceIdeal.Read.val_main_v3_apply]
  refine (DownDwReferenceIdeal.Read.val_main_v2_apply A C _).trans (Finset.sum_congr rfl fun k _ => ?_)
  refine (mul_comm _ _).trans ?_
  congr 1
  · exact congrArg A (by funext a; match a with | ⟨0, _⟩ => rfl | ⟨1, _⟩ => rfl)
  · exact congrArg C (by funext a; match a with | ⟨0, _⟩ => rfl | ⟨1, _⟩ => rfl)

/-- The kernel's bodies are the idealized kernel's: the two programs are one text. -/
theorem bodies_eq : Cert.DownDw.defs₀ (F := Bits) = Cert.DownDwIdeal.defs₀ (F := Bits) := by
  unfold Cert.DownDw.defs₀ Cert.DownDwIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.DownDw.defs (F := Bits) = Cert.DownDwIdeal.defs (F := Bits) := congrArg (Pipeline.defs _) bodies_eq

/-- The kernel ends without fault, with its arguments unchanged and no counter above zero. -/
theorem frame_k : Cert.quiescent_DownDw (hDownDw := Cert.DownDw.Gen.facts) := fun m ρ _ => by
  rw [defs_eq]
  exact Cert.DownDwIdeal.Gen.frame (F := Bits) m ρ

/-- The reference ends without fault, with its arguments unchanged and no counter above zero. -/
theorem frame_r : Cert.quiescent_DownDwReferenceIdeal (hDownDwReferenceIdeal := Cert.DownDwReferenceIdeal.Gen.facts) := by
  intro m ρ _
  exact (θ_run Cert.DownDwReferenceIdeal.defs _ _).mono (fun r h => ⟨fun c => (h c).2,
      Idealize.ShloMosaic.sem_eq_zero_of_no_sems (by decide) r.2⟩)
    (Cert.DownDwReferenceIdeal.Value.run (F := Ideal) m ρ)

/-- Kernel and reference end with equal results. -/
theorem equal : Cert.algebraic_DownDwIdeal_DownDwReferenceIdeal (hDownDwIdeal := Cert.DownDwIdeal.Gen.facts)
    (hDownDwReferenceIdeal := Cert.DownDwReferenceIdeal.Gen.facts) := by
  intro m ρ m' ρ' _ hagree
  refine ⟨fun c => (Cert.DownDwIdeal.Gen.dats m 0 c).arrAt 2 Cert.DownDwIdeal.cfg0.N, Cert.DownDwIdeal.Value.run_blocks (F := Ideal) m ρ, ?_⟩
  refine (θ_run Cert.DownDwReferenceIdeal.defs _ _).mono (fun r h c => ?_) (Cert.DownDwReferenceIdeal.Value.run (F := Ideal) m' ρ')
  obtain ⟨h0, hargs⟩ := h c
  obtain ⟨g0, g1⟩ := hagree c
  rw [Cert.DownDwReferenceIdeal.Read.val_main_v4_eq, g0, g1] at h0
  exact ⟨h0.trans ((ref (act m c) (ct m c)).trans (arr m c).symm), hargs⟩

end Cert.DownDwValue

end
-- ==== Proof.Sums.lean ====
/- A finite sum taken in equal consecutive blocks. -/
module

public import Idealize.ShloMosaic.PureOps.Ideal

@[expose] public section

namespace Cert.Sums

/-- A sum over `n * b` indices is the sum over `n` blocks of the sums over `b` consecutive indices. -/
theorem sum_blocks {β : Type*} [AddCommMonoid β] (n b N : ℕ) (hN : N = n * b) (f : Fin N → β) :
    ∑ k, f k = ∑ p : Fin n, ∑ x : Fin b, f ⟨b * p.val + x.val, by
      subst hN
      calc b * p.val + x.val < b * p.val + b := Nat.add_lt_add_left x.isLt _
        _ = b * (p.val + 1) := rfl
        _ ≤ b * n := Nat.mul_le_mul_left _ p.isLt
        _ = n * b := Nat.mul_comm _ _⟩ := by
  subst hN
  rw [← finProdFinEquiv.sum_comp, Fintype.sum_prod_type]
  refine Finset.sum_congr rfl fun p _ => Finset.sum_congr rfl fun x _ => congrArg f (Fin.ext ?_)
  show x.val + b * p.val = b * p.val + x.val
  exact Nat.add_comm _ _

end Cert.Sums
-- ==== Proof.UpDx.lean ====
/- The gradient of the up projection's left operand: the kernel adds four products, one per group of 2816 columns, and its array
   holds the product of the incoming gradient with the transposed weights, as the reference's does. -/
module

public import proofs.«01_k».proof.Defs
public import proofs.«01_k».proof.Proof.Gen.UpDx
public import proofs.«01_k».proof.Proof.Gen.UpDxIdeal
public import proofs.«01_k».proof.Proof.Gen.UpDxReferenceIdeal
public import proofs.«01_k».proof.Proof.Gen.UpDxIdeal.Value
public import proofs.«01_k».proof.Proof.Gen.UpDxReferenceIdeal.Run
public import proofs.«01_k».proof.Proof.Gen.UpDxReferenceIdeal.Read
public import proofs.«01_k».proof.Proof.Sums
public import Idealize.ShloMosaic.Lib.Pipeline.ValueKit
public import Idealize.ShloMosaic.Lib.StableHlo.RunRead

@[expose] public section

set_option maxRecDepth 16384

noncomputable section

namespace Cert.UpDxValue

open Cert.UpDxIdeal Cert.UpDxIdeal.Gen Idealize.ShloMosaic Idealize.ShloMosaic.TcCoe Idealize.SL.Sem Idealize.ShloMosaic.StableHlo

variable (m : (ℓ : Loc nD τ sig) → Buf (Elt Ideal) ℓ) (c : Dev nD)

/-- The weights and the incoming gradient. -/
abbrev w : S2048x11264.Idx → EReal := m ((c : Thread nD τ).loc main_arg0)
@[inherit_doc w] abbrev ct : S4096x11264.Idx → EReal := m ((c : Thread nD τ).loc main_arg1)

/-- The gradient of the product's left operand. -/
def grad (W : S2048x11264.Idx → EReal) (C : S4096x11264.Idx → EReal) (i : S4096x2048.Idx) : EReal :=
  ∑ k : Fin 11264, C (ix2 (i 0) k) * W (ix2 (i 1) k)

/-- The block index of the incoming gradient's left half. -/
theorem idx0 : ∀ t : Fin cfg0.N, win0_0.index t = ![t.val / 8, min (t.val % 4) 1] := by decide +kernel
/-- The block index of the incoming gradient's right half. -/
theorem idx1 : ∀ t : Fin cfg0.N, win0_1.index t = ![t.val / 8, t.val % 4 - 2] := by decide +kernel
/-- The block index of the weights. -/
theorem idx2 : ∀ t : Fin cfg0.N, win0_2.index t = ![0, t.val % 4, t.val / 4 % 2, 0] := by decide +kernel
/-- The block index of the result. -/
theorem idx3 : ∀ t : Fin cfg0.N, win0_3.index t = ![t.val / 8, t.val / 4 % 2] := by decide +kernel

theorem lt (t : Fin cfg0.N) : t.val < 32 := t.isLt

/-- The left half of the incoming gradient on the host. -/
theorem V1 : V m c main_v1 = extractStridedSlice S4096x5632 ![0, 0] (ct m c) slices_S4096x11264_S4096x5632_0_0 := by
  unfold V
  after_reads_simp
  rfl

/-- The right half of the incoming gradient on the host. -/
theorem V2 : V m c main_v2 = extractStridedSlice S4096x5632 ![0, 5632] (ct m c) slices_S4096x11264_S4096x5632_0_5632 := by
  unfold V
  after_reads_simp
  rfl

/-- The host's copy of the weights, its columns in four groups. -/
theorem V6 : V m c main_v6 = broadcastInDim S1x4x2048x2816 ![1, 2, 3] bcast_S4x2048x2816_S1x4x2048x2816_1_2_3
    (transpose S4x2048x2816 [1, 0, 2] (shapeCast S2048x4x2816 (w m c) shapeCasts_S2048x11264_S2048x4x2816)
      transposes_S2048x4x2816_S4x2048x2816_1_0_2) := by
  unfold V
  after_reads_simp
  rfl

/-- The grouped weights at an index. -/
theorem V6_apply (p : Fin 4) (r : Fin 2048) (k : Fin 2816) : (V m c main_v6 : S1x4x2048x2816.Idx → EReal) (ix4 0 p r k)
    = w m c (ix2 r ⟨2816 * p.val + k.val, by omega⟩) := by
  rw [V6]
  pointwise
  exact congrArg (w m c) (congrArg _ (Fin.ext (show p.val * 2816 + k.val = 2816 * p.val + k.val by omega)))

/-- Block 0 of grid point `t`: of the incoming gradient's left half. -/
abbrev ib0 (t : Fin cfg0.N) : S1024x2816.Idx → EReal := iblk m c 0 t
/-- Block 1 of grid point `t`: of the incoming gradient's right half. -/
abbrev ib1 (t : Fin cfg0.N) : S1024x2816.Idx → EReal := iblk m c 1 t
/-- Block 2 of grid point `t`: of the weights. -/
abbrev ib2 (t : Fin cfg0.N) : S1x1x1024x2816.Idx → EReal := iblk m c 2 t

/-- The incoming gradient's block, at the points that use the left half. -/
theorem b0 (t : Fin cfg0.N) (h : t.val % 4 ≤ 1) (r : Fin 1024) (k : Fin 2816) : ib0 m c t (ix2 r k)
    = ct m c (ix2 ⟨1024 * (t.val / 8) + r.val, by have := lt t; omega⟩ ⟨2816 * (t.val % 4) + k.val, by omega⟩) := by
  have e : ib0 m c t (ix2 r k) = (V m c main_v1 : S4096x5632.Idx → EReal)
      (ix2 ⟨1024 * (t.val / 8) + r.val, by have := lt t; omega⟩ ⟨2816 * (t.val % 4) + k.val, by omega⟩) := by
    unfold ib0
    blk_ext [iblk, idx0 t]
  rw [e, V1]
  pointwise

/-- The incoming gradient's block, at the points that use the right half. -/
theorem b1 (t : Fin cfg0.N) (h : 2 ≤ t.val % 4) (r : Fin 1024) (k : Fin 2816) : ib1 m c t (ix2 r k)
    = ct m c (ix2 ⟨1024 * (t.val / 8) + r.val, by have := lt t; omega⟩ ⟨2816 * (t.val % 4) + k.val, by omega⟩) := by
  have e : ib1 m c t (ix2 r k) = (V m c main_v2 : S4096x5632.Idx → EReal)
      (ix2 ⟨1024 * (t.val / 8) + r.val, by have := lt t; omega⟩ ⟨2816 * (t.val % 4 - 2) + k.val, by omega⟩) := by
    unfold ib1
    blk_ext [iblk, idx1 t]
  rw [e, V2]
  pointwise
  exact congrArg (ct m c) (congrArg _ (Fin.ext (show 5632 + (2816 * (t.val % 4 - 2) + k.val) = 2816 * (t.val % 4) + k.val by omega)))

/-- The weights' block. -/
theorem b2 (t : Fin cfg0.N) (r : Fin 1024) (k : Fin 2816) : ib2 m c t (ix4 0 0 r k)
    = w m c (ix2 ⟨1024 * (t.val / 4 % 2) + r.val, by omega⟩ ⟨2816 * (t.val % 4) + k.val, by omega⟩) := by
  have e : ib2 m c t (ix4 0 0 r k) = (V m c main_v6 : S1x4x2048x2816.Idx → EReal)
      (ix4 0 ⟨t.val % 4, by omega⟩ ⟨1024 * (t.val / 4 % 2) + r.val, by omega⟩ k) := by
    unfold ib2
    blk_ext [iblk, idx2 t]
  rw [e, V6_apply]

/-- The product of one group of columns, at the row `a` and column `b` of the result. -/
def part (W : S2048x11264.Idx → EReal) (C : S4096x11264.Idx → EReal) (a : Fin 4096) (b : Fin 2048) (p : Fin 4) : EReal :=
  ∑ k : Fin 2816, C (ix2 a ⟨2816 * p.val + k.val, by omega⟩) * W (ix2 b ⟨2816 * p.val + k.val, by omega⟩)

/-- The row of the result at row `r` of point `t`'s block. -/
def row (t : Fin cfg0.N) (r : Fin 1024) : Fin 4096 := ⟨1024 * (t.val / 8) + r.val, by have := lt t; omega⟩
/-- The column of the result at column `s` of point `t`'s block. -/
def col (t : Fin cfg0.N) (s : Fin 1024) : Fin 2048 := ⟨1024 * (t.val / 4 % 2) + s.val, by omega⟩

/-- What the points that use the left half add. -/
theorem left (t : Fin cfg0.N) (h : t.val % 4 ≤ 1) (r s : Fin 1024) :
    ∑ k : Fin 2816, ib0 m c t (ix2 r k) * ib2 m c t (ix4 0 0 s k)
      = part (w m c) (ct m c) (row t r) (col t s) ⟨t.val % 4, by omega⟩ :=
  Finset.sum_congr rfl fun k _ => by rw [b0 m c t h, b2]; rfl

/-- What the points that use the right half add. -/
theorem right (t : Fin cfg0.N) (h : 2 ≤ t.val % 4) (r s : Fin 1024) :
    ∑ k : Fin 2816, ib1 m c t (ix2 r k) * ib2 m c t (ix4 0 0 s k)
      = part (w m c) (ct m c) (row t r) (col t s) ⟨t.val % 4, by omega⟩ :=
  Finset.sum_congr rfl fun k _ => by rw [b1 m c t h, b2]; rfl

/-- At the first group the accumulator is that group's product. -/
theorem accA (t : Fin cfg0.N) (h0 : t.val % 4 = 0) (r s : Fin 1024) : (outsAt0 m c t.val t.isLt).2 (ix2 r s)
    = part (w m c) (ct m c) (row t r) (col t s) ⟨t.val % 4, by omega⟩ := by
  rw [outsAt0_A m c t h0 (by omega) (by omega) (by omega)]
  frame_out
  unfold_payloads
  pointwise
  exact left m c t (by omega) r s

/-- At the second group the accumulator is the one before plus that group's product. -/
theorem accB (t : Fin cfg0.N) (h0 : t.val % 4 = 1) (r s : Fin 1024) : (outsAt0 m c t.val t.isLt).2 (ix2 r s)
    = (outsAt0 m c (t.val - 1) (Nat.lt_of_le_of_lt (Nat.sub_le _ _) t.isLt)).2 (ix2 r s)
      + part (w m c) (ct m c) (row t r) (col t s) ⟨t.val % 4, by omega⟩ := by
  rw [outsAt0_B m c t (by omega) (by omega) (by omega) (by omega)]
  frame_out
  unfold_payloads
  pointwise
  exact congrArg₂ (· + ·) (congrFun ((Memref.isWhole_whole _).read_unread _) _) (left m c t (by omega) r s)

/-- At the third group the accumulator is the one before plus that group's product. -/
theorem accC (t : Fin cfg0.N) (h0 : t.val % 4 = 2) (r s : Fin 1024) : (outsAt0 m c t.val t.isLt).2 (ix2 r s)
    = (outsAt0 m c (t.val - 1) (Nat.lt_of_le_of_lt (Nat.sub_le _ _) t.isLt)).2 (ix2 r s)
      + part (w m c) (ct m c) (row t r) (col t s) ⟨t.val % 4, by omega⟩ := by
  rw [outsAt0_C m c t (by omega) (by omega) (by omega) (by omega)]
  frame_out
  unfold_payloads
  pointwise
  exact congrArg₂ (· + ·) (congrFun ((Memref.isWhole_whole _).read_unread _) _) (right m c t (by omega) r s)

/-- At the last group the result's block is the accumulator before plus that group's product. -/
theorem outD (t : Fin cfg0.N) (h0 : t.val % 4 = 3) (r s : Fin 1024) : (outsAt0 m c t.val t.isLt).1 (ix2 r s)
    = (outsAt0 m c (t.val - 1) (Nat.lt_of_le_of_lt (Nat.sub_le _ _) t.isLt)).2 (ix2 r s)
      + part (w m c) (ct m c) (row t r) (col t s) ⟨t.val % 4, by omega⟩ := by
  rw [outsAt0_D m c t (by omega) (by omega) (by omega) (by omega)]
  frame_out
  unfold_payloads
  pointwise
  exact congrArg₂ (· + ·) (congrFun ((Memref.isWhole_whole _).read_unread _) _) (right m c t (by omega) r s)

/-- The gradient at row `a`, column `b`, from the four groups. -/
theorem grad_at (W : S2048x11264.Idx → EReal) (C : S4096x11264.Idx → EReal) (i : S4096x2048.Idx) (a : Fin 4096) (b : Fin 2048)
    (h0 : (i 0).val = a.val) (h1 : (i 1).val = b.val) :
    grad W C i = part W C a b 0 + part W C a b 1 + part W C a b 2 + part W C a b 3 := by
  unfold grad
  rw [show i 0 = a from Fin.ext h0, show i 1 = b from Fin.ext h1, Sums.sum_blocks 4 2816 11264 rfl, Fin.sum_univ_four]
  rfl

/-- A block of the result, where it is written back. -/
theorem block (t : Fin cfg0.N) (h : t.val % 4 = 3) (z : S1024x1024.Idx) : (outsAt0 m c t.val t.isLt).1 z
    = part (w m c) (ct m c) (row t (z 0)) (col t (z 1)) 0 + part (w m c) (ct m c) (row t (z 0)) (col t (z 1)) 1
      + part (w m c) (ct m c) (row t (z 0)) (col t (z 1)) 2 + part (w m c) (ct m c) (row t (z 0)) (col t (z 1)) 3 := by
  have l := lt t
  have q : ∀ (u : Fin cfg0.N) (n : ℕ) (p : Fin 4), n < 4 → u.val = t.val - n → p.val = 3 - n →
      part (w m c) (ct m c) (row u (z 0)) (col u (z 1)) ⟨u.val % 4, by omega⟩ = part (w m c) (ct m c) (row t (z 0)) (col t (z 1)) p := by
    intro u n p hn hu hp
    have e1 : row u (z 0) = row t (z 0) := Fin.ext (show 1024 * (u.val / 8) + (z 0).val = 1024 * (t.val / 8) + (z 0).val by omega)
    have e2 : col u (z 1) = col t (z 1) := Fin.ext (show 1024 * (u.val / 4 % 2) + (z 1).val = 1024 * (t.val / 4 % 2) + (z 1).val by omega)
    rw [e1, e2]
    exact congrArg _ (Fin.ext (show u.val % 4 = p.val by omega))
  have t1 : t.val - 1 < cfg0.N := Nat.lt_of_le_of_lt (Nat.sub_le _ _) t.isLt
  have t2 : t.val - 1 - 1 < cfg0.N := Nat.lt_of_le_of_lt (Nat.sub_le _ _) t1
  have t3 : t.val - 1 - 1 - 1 < cfg0.N := Nat.lt_of_le_of_lt (Nat.sub_le _ _) t2
  have eA := accA m c ⟨t.val - 1 - 1 - 1, t3⟩ (show (t.val - 1 - 1 - 1) % 4 = 0 by omega) (z 0) (z 1)
  have eB := accB m c ⟨t.val - 1 - 1, t2⟩ (show (t.val - 1 - 1) % 4 = 1 by omega) (z 0) (z 1)
  have eC := accC m c ⟨t.val - 1, t1⟩ (show (t.val - 1) % 4 = 2 by omega) (z 0) (z 1)
  have eD := outD m c t h (z 0) (z 1)
  rw [q _ 3 0 (by omega) (show t.val - 1 - 1 - 1 = t.val - 3 by omega) rfl] at eA
  rw [q _ 2 1 (by omega) (show t.val - 1 - 1 = t.val - 2 by omega) rfl] at eB
  rw [q _ 1 2 (by omega) rfl rfl] at eC
  rw [q _ 0 3 (by omega) rfl rfl] at eD
  dsimp only at eA eB eC
  rw [eC, eB, eA] at eD
  rw [eq_ix2 z]
  exact eD

/-- After the run the result is the gradient. -/
theorem arr : (dats m 0 c).arrAt 3 cfg0.N = grad (w m c) (ct m c) := by
  refine (dats m 0 c).arrAt_eq_of_covers 3 _ (by decide +kernel) fun t hf y => ?_
  have h3 := (flush0_3 t).mp hf
  blk_simp
  rw [after0_3]
  refine (block m c t h3 _).trans (grad_at _ _ _ _ _ ?_ ?_).symm
  · unfold row
    blk_simp [idx3 t]
    dsimp only
    omega
  · unfold col
    blk_simp [idx3 t]
    dsimp only
    omega

/-- The reference's array. -/
theorem ref (W : S2048x11264.Idx → EReal) (C : S4096x11264.Idx → EReal) :
    UpDxReferenceIdeal.Read.val_main_v2 (F := Ideal) W C = grad W C := by
  funext i
  rw [UpDxReferenceIdeal.Read.val_main_v2_apply]
  refine Finset.sum_congr rfl fun k _ => ?_
  congr 1
  · exact congrArg C (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.UpDx.defs₀ (F := Bits) = Cert.UpDxIdeal.defs₀ (F := Bits) := by
  unfold Cert.UpDx.defs₀ Cert.UpDxIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.UpDx.defs (F := Bits) = Cert.UpDxIdeal.defs (F := Bits) := congrArg (Pipeline.defs _) bodies_eq

/-- The kernel ends without fault, with its arguments unchanged and no counter above zero. -/
theorem frame_k : Cert.quiescent_UpDx (hUpDx := Cert.UpDx.Gen.facts) := fun m ρ _ => by
  rw [defs_eq]
  exact Cert.UpDxIdeal.Gen.frame (F := Bits) m ρ

/-- The reference ends without fault, with its arguments unchanged and no counter above zero. -/
theorem frame_r : Cert.quiescent_UpDxReferenceIdeal (hUpDxReferenceIdeal := Cert.UpDxReferenceIdeal.Gen.facts) := by
  intro m ρ _
  exact (θ_run Cert.UpDxReferenceIdeal.defs _ _).mono (fun r h => ⟨fun c => (h c).2,
      Idealize.ShloMosaic.sem_eq_zero_of_no_sems (by decide) r.2⟩)
    (Cert.UpDxReferenceIdeal.Value.run (F := Ideal) m ρ)

/-- Kernel and reference end with equal results. -/
theorem equal : Cert.algebraic_UpDxIdeal_UpDxReferenceIdeal (hUpDxIdeal := Cert.UpDxIdeal.Gen.facts)
    (hUpDxReferenceIdeal := Cert.UpDxReferenceIdeal.Gen.facts) := by
  intro m ρ m' ρ' _ hagree
  refine ⟨fun c => (Cert.UpDxIdeal.Gen.dats m 0 c).arrAt 3 Cert.UpDxIdeal.cfg0.N, Cert.UpDxIdeal.Value.run_blocks (F := Ideal) m ρ, ?_⟩
  refine (θ_run Cert.UpDxReferenceIdeal.defs _ _).mono (fun r h c => ?_) (Cert.UpDxReferenceIdeal.Value.run (F := Ideal) m' ρ')
  obtain ⟨h0, hargs⟩ := h c
  obtain ⟨g0, g1⟩ := hagree c
  rw [Cert.UpDxReferenceIdeal.Read.val_main_v2_eq, g0, g1] at h0
  exact ⟨h0.trans ((ref (w m c) (ct m c)).trans (arr m c).symm), hargs⟩

end Cert.UpDxValue

end
-- ==== Proof.UpDw.lean ====
/- The gradient of the up projection's right operand: the kernel adds the products of the two halves of the tokens, and its array
   holds the product of the transposed input with the incoming gradient, its columns in four groups, as the reference's does. -/
module

public import proofs.«01_k».proof.Defs
public import proofs.«01_k».proof.Proof.Gen.UpDw
public import proofs.«01_k».proof.Proof.Gen.UpDwIdeal
public import proofs.«01_k».proof.Proof.Gen.UpDwReferenceIdeal
public import proofs.«01_k».proof.Proof.Gen.UpDwIdeal.Value
public import proofs.«01_k».proof.Proof.Gen.UpDwReferenceIdeal.Run
public import proofs.«01_k».proof.Proof.Gen.UpDwReferenceIdeal.Read
public import proofs.«01_k».proof.Proof.Sums
public import Idealize.ShloMosaic.Lib.Pipeline.ValueKit
public import Idealize.ShloMosaic.Lib.StableHlo.RunRead

@[expose] public section

set_option maxRecDepth 16384

noncomputable section

namespace Cert.UpDwValue

open Cert.UpDwIdeal Cert.UpDwIdeal.Gen Idealize.ShloMosaic Idealize.ShloMosaic.TcCoe Idealize.SL.Sem Idealize.ShloMosaic.StableHlo

variable (m : (ℓ : Loc nD τ sig) → Buf (Elt Ideal) ℓ) (c : Dev nD)

/-- The product's left operand and the incoming gradient. -/
abbrev x : S4096x2048.Idx → EReal := m ((c : Thread nD τ).loc main_arg0)
@[inherit_doc x] abbrev ct : S4096x11264.Idx → EReal := m ((c : Thread nD τ).loc main_arg1)

/-- The product over the tokens of group `s` (one half of them), for the row `a` and the column `b`. -/
def part (A : S4096x2048.Idx → EReal) (C : S4096x11264.Idx → EReal) (a : Fin 2048) (b : Fin 11264) (s : Fin 2) : EReal :=
  ∑ k : Fin 2048, A (ix2 ⟨2048 * s.val + k.val, by omega⟩ a) * C (ix2 ⟨2048 * s.val + k.val, by omega⟩ b)

/-- The column of the gradient that the grouped array's index names. -/
def wide (i : S4x2048x2816.Idx) : Fin 11264 :=
  ⟨2816 * (i 0).val + (i 2).val, by have h0 : (i 0).val < 4 := (i 0).isLt; have h2 : (i 2).val < 2816 := (i 2).isLt; omega⟩

/-- The gradient of the product's right operand, its columns in four groups. -/
def grad (A : S4096x2048.Idx → EReal) (C : S4096x11264.Idx → EReal) (i : S4x2048x2816.Idx) : EReal :=
  ∑ k : Fin 4096, A (ix2 k (i 1)) * C (ix2 k (wide i))

/-- The block index of the left operand. -/
theorem idx0 : ∀ t : Fin cfg0.N, win0_0.index t = ![t.val % 2, t.val / 16] := by decide +kernel
/-- The block index of the incoming gradient's left half, where it is used. -/
theorem idx1 : ∀ t : Fin cfg0.N, t.val / 2 % 8 ≤ 3 → win0_1.index t = ![t.val % 2, t.val / 2 % 8] := by decide +kernel
/-- The block index of the incoming gradient's right half, where it is used. -/
theorem idx2 : ∀ t : Fin cfg0.N, 4 ≤ t.val / 2 % 8 → win0_2.index t = ![t.val % 2, t.val / 2 % 8 - 4] := by decide +kernel
/-- The block index of the result. -/
theorem idx3 : ∀ t : Fin cfg0.N, win0_3.index t = ![t.val / 4 % 4, t.val / 16, t.val / 2 % 2] := by decide +kernel

theorem lt (t : Fin cfg0.N) : t.val < 64 := t.isLt

/-- The host's rounding of the left operand is the identity. -/
theorem V1 : V m c main_v1 = x m c := by
  unfold V
  after_reads_simp
  rfl

/-- The left half of the incoming gradient on the host. -/
theorem V2 : V m c main_v2 = extractStridedSlice S4096x5632 ![0, 0] (ct m c) slices_S4096x11264_S4096x5632_0_0 := by
  unfold V
  after_reads_simp
  rfl

/-- The right half of the incoming gradient on the host. -/
theorem V3 : V m c main_v3 = extractStridedSlice S4096x5632 ![0, 5632] (ct m c) slices_S4096x11264_S4096x5632_0_5632 := by
  unfold V
  after_reads_simp
  rfl

/-- Block 0 of grid point `t`: of the left operand. -/
abbrev ib0 (t : Fin cfg0.N) : S2048x512.Idx → EReal := iblk m c 0 t
/-- Block 1 of grid point `t`: of the incoming gradient's left half. -/
abbrev ib1 (t : Fin cfg0.N) : S2048x1408.Idx → EReal := iblk m c 1 t
/-- Block 2 of grid point `t`: of the incoming gradient's right half. -/
abbrev ib2 (t : Fin cfg0.N) : S2048x1408.Idx → EReal := iblk m c 2 t

/-- The row of the gradient at row `r` of point `t`'s block. -/
def row (t : Fin cfg0.N) (r : Fin 512) : Fin 2048 := ⟨512 * (t.val / 16) + r.val, by have := lt t; omega⟩
/-- The column of the gradient at column `s` of point `t`'s block. -/
def col (t : Fin cfg0.N) (s : Fin 1408) : Fin 11264 := ⟨1408 * (t.val / 2 % 8) + s.val, by omega⟩
/-- The token at row `k` of point `t`'s blocks. -/
def tok (t : Fin cfg0.N) (k : Fin 2048) : Fin 4096 := ⟨2048 * (t.val % 2) + k.val, by omega⟩

/-- The left operand's block. -/
theorem b0 (t : Fin cfg0.N) (k : Fin 2048) (r : Fin 512) : ib0 m c t (ix2 k r) = x m c (ix2 (tok t k) (row t r)) := by
  have e : ib0 m c t (ix2 k r) = (V m c main_v1 : S4096x2048.Idx → EReal) (ix2 (tok t k) (row t r)) := by
    unfold ib0 tok row
    blk_ext [iblk, idx0 t]
  rw [e, V1]

/-- The incoming gradient's block, at the points that use the left half. -/
theorem b1 (t : Fin cfg0.N) (h : t.val / 2 % 8 ≤ 3) (k : Fin 2048) (s : Fin 1408) : ib1 m c t (ix2 k s) = ct m c (ix2 (tok t k) (col t s)) := by
  have e : ib1 m c t (ix2 k s) = (V m c main_v2 : S4096x5632.Idx → EReal) (ix2 (tok t k) ⟨1408 * (t.val / 2 % 8) + s.val, by omega⟩) := by
    unfold ib1 tok
    blk_ext [iblk, idx1 t h]
  rw [e, V2]
  pointwise
  rfl

/-- The incoming gradient's block, at the points that use the right half. -/
theorem b2 (t : Fin cfg0.N) (h : 4 ≤ t.val / 2 % 8) (k : Fin 2048) (s : Fin 1408) : ib2 m c t (ix2 k s) = ct m c (ix2 (tok t k) (col t s)) := by
  have e : ib2 m c t (ix2 k s) = (V m c main_v3 : S4096x5632.Idx → EReal) (ix2 (tok t k) ⟨1408 * (t.val / 2 % 8 - 4) + s.val, by omega⟩) := by
    unfold ib2 tok
    blk_ext [iblk, idx2 t h]
  rw [e, V3]
  pointwise
  exact congrArg (ct m c) (congrArg _ (Fin.ext (show 5632 + (1408 * (t.val / 2 % 8 - 4) + s.val) = 1408 * (t.val / 2 % 8) + s.val by omega)))

/-- A point's product, where it uses the left half. -/
theorem left (t : Fin cfg0.N) (h : t.val / 2 % 8 ≤ 3) (r : Fin 512) (s : Fin 1408) :
    ∑ k : Fin 2048, ib0 m c t (ix2 k r) * ib1 m c t (ix2 k s) = part (x m c) (ct m c) (row t r) (col t s) ⟨t.val % 2, by omega⟩ :=
  Finset.sum_congr rfl fun k _ => by rw [b0, b1 m c t h]; rfl

/-- A point's product, where it uses the right half. -/
theorem right (t : Fin cfg0.N) (h : 4 ≤ t.val / 2 % 8) (r : Fin 512) (s : Fin 1408) :
    ∑ k : Fin 2048, ib0 m c t (ix2 k r) * ib2 m c t (ix2 k s) = part (x m c) (ct m c) (row t r) (col t s) ⟨t.val % 2, by omega⟩ :=
  Finset.sum_congr rfl fun k _ => by rw [b0, b2 m c t h]; rfl

/-- At the first half of the tokens the accumulator is that half's product. -/
theorem acc (t : Fin cfg0.N) (h : t.val % 2 = 0) (r : Fin 512) (s : Fin 1408) : (outsAt0 m c t.val t.isLt).2 (ix2 r s)
    = part (x m c) (ct m c) (row t r) (col t s) ⟨t.val % 2, by omega⟩ := by
  by_cases h0 : t.val / 2 % 8 ≤ 3
  · rw [outsAt0_A m c t h0 h (by omega) (by omega)]
    frame_out
    unfold_payloads
    pointwise
    exact left m c t h0 r s
  · rw [outsAt0_C m c t h0 (by omega) h (by omega)]
    frame_out
    unfold_payloads
    pointwise
    exact right m c t (by omega) r s

/-- At the second half the result's block is the accumulator before plus that half's product. -/
theorem outs (t : Fin cfg0.N) (h : t.val % 2 = 1) (r : Fin 512) (s : Fin 1408) : (outsAt0 m c t.val t.isLt).1 (ix3 0 r s)
    = (outsAt0 m c (t.val - 1) (Nat.lt_of_le_of_lt (Nat.sub_le _ _) t.isLt)).2 (ix2 r s)
      + part (x m c) (ct m c) (row t r) (col t s) ⟨t.val % 2, by omega⟩ := by
  by_cases h0 : t.val / 2 % 8 ≤ 3
  · rw [outsAt0_B m c t h0 (by omega) h (by omega)]
    frame_out
    unfold_payloads
    pointwise
    exact congrArg₂ (· + ·) (congrFun ((Memref.isWhole_whole _).read_unread _) _) (left m c t h0 r s)
  · rw [outsAt0_D m c t h0 (by omega) (by omega) h]
    frame_out
    unfold_payloads
    pointwise
    exact congrArg₂ (· + ·) (congrFun ((Memref.isWhole_whole _).read_unread _) _) (right m c t (by omega) r s)

/-- The gradient at row `a`, column `b`, from the two halves of the tokens. -/
theorem grad_at (A : S4096x2048.Idx → EReal) (C : S4096x11264.Idx → EReal) (i : S4x2048x2816.Idx) (a : Fin 2048) (b : Fin 11264)
    (h0 : (i 1).val = a.val) (h1 : 2816 * (i 0).val + (i 2).val = b.val) : grad A C i = part A C a b 0 + part A C a b 1 := by
  unfold grad
  rw [show i 1 = a from Fin.ext h0, show wide i = b from Fin.ext h1, Sums.sum_blocks 2 2048 4096 rfl, Fin.sum_univ_two]
  rfl

/-- A block of the result, where it is written back. -/
theorem block (t : Fin cfg0.N) (h : t.val % 2 = 1) (z : S1x512x1408.Idx) : (outsAt0 m c t.val t.isLt).1 z
    = part (x m c) (ct m c) (row t (z 1)) (col t (z 2)) 0 + part (x m c) (ct m c) (row t (z 1)) (col t (z 2)) 1 := by
  have t1 : t.val - 1 < cfg0.N := Nat.lt_of_le_of_lt (Nat.sub_le _ _) t.isLt
  have e1 : row ⟨t.val - 1, t1⟩ (z 1) = row t (z 1) :=
    Fin.ext (show 512 * ((t.val - 1) / 16) + (z 1).val = 512 * (t.val / 16) + (z 1).val by omega)
  have e2 : col ⟨t.val - 1, t1⟩ (z 2) = col t (z 2) :=
    Fin.ext (show 1408 * ((t.val - 1) / 2 % 8) + (z 2).val = 1408 * (t.val / 2 % 8) + (z 2).val by omega)
  have eA := acc m c ⟨t.val - 1, t1⟩ (show (t.val - 1) % 2 = 0 by omega) (z 1) (z 2)
  have eB := outs m c t h (z 1) (z 2)
  rw [e1, e2, show (⟨(⟨t.val - 1, t1⟩ : Fin cfg0.N).val % 2, by omega⟩ : Fin 2) = 0 from Fin.ext (show (t.val - 1) % 2 = 0 by omega)] at eA
  rw [show (⟨t.val % 2, by omega⟩ : Fin 2) = 1 from Fin.ext h] at eB
  dsimp only at eA
  rw [eA] at eB
  have ez : z = ix3 0 (z 1) (z 2) := by
    have := eq_ix3 z
    rwa [show z 0 = (0 : Fin 1) from Fin.ext (show (z 0).val = 0 by have : (z 0).val < 1 := (z 0).isLt; omega)] at this
  rw [ez]
  exact eB

/-- After the run the result is the gradient. -/
theorem arr : (dats m 0 c).arrAt 3 cfg0.N = grad (x m c) (ct m c) := by
  refine (dats m 0 c).arrAt_eq_of_covers 3 _ (by decide +kernel) fun t hf y => ?_
  have h1 := (flush0_3 t).mp hf
  blk_simp
  rw [after0_3]
  refine (block m c t h1 _).trans (grad_at _ _ _ _ _ ?_ ?_).symm
  · unfold row
    blk_simp [idx3 t]
    dsimp only
    omega
  · unfold col
    blk_simp [idx3 t]
    dsimp only
    omega

/-- The reference's array. -/
theorem ref (A : S4096x2048.Idx → EReal) (C : S4096x11264.Idx → EReal) :
    UpDwReferenceIdeal.Read.val_main_v6 (F := Ideal) A C = grad A C := by
  funext i
  have h0 : (i 0).val < 4 := (i 0).isLt
  have h1 : (i 1).val < 2048 := (i 1).isLt
  have h2 : (i 2).val < 2816 := (i 2).isLt
  rw [UpDwReferenceIdeal.Read.val_main_v6_apply, UpDwReferenceIdeal.Read.val_main_v5_apply, UpDwReferenceIdeal.Read.val_main_v4_apply,
    UpDwReferenceIdeal.Read.val_main_v3_apply]
  refine (UpDwReferenceIdeal.Read.val_main_v2_apply A C _).trans (Finset.sum_congr rfl fun k _ => ?_)
  refine (mul_comm _ _).trans (congrArg₂ (· * ·) (congrArg A ?_) (congrArg C ?_))
  · funext a
    match a with
    | ⟨0, _⟩ => rfl
    | ⟨1, _⟩ => exact Fin.ext (show (((i 1).val * 4 + (i 0).val) * 2816 + (i 2).val) / 11264 = (i 1).val by omega)
  · funext a
    match a with
    | ⟨0, _⟩ => rfl
    | ⟨1, _⟩ => exact Fin.ext (show (((i 1).val * 4 + (i 0).val) * 2816 + (i 2).val) % 11264 = 2816 * (i 0).val + (i 2).val by omega)

/-- The kernel's bodies are the idealized kernel's: the two programs are one text. -/
theorem bodies_eq : Cert.UpDw.defs₀ (F := Bits) = Cert.UpDwIdeal.defs₀ (F := Bits) := by
  unfold Cert.UpDw.defs₀ Cert.UpDwIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.UpDw.defs (F := Bits) = Cert.UpDwIdeal.defs (F := Bits) := congrArg (Pipeline.defs _) bodies_eq

/-- The kernel ends without fault, with its arguments unchanged and no counter above zero. -/
theorem frame_k : Cert.quiescent_UpDw (hUpDw := Cert.UpDw.Gen.facts) := fun m ρ _ => by
  rw [defs_eq]
  exact Cert.UpDwIdeal.Gen.frame (F := Bits) m ρ

/-- The reference ends without fault, with its arguments unchanged and no counter above zero. -/
theorem frame_r : Cert.quiescent_UpDwReferenceIdeal (hUpDwReferenceIdeal := Cert.UpDwReferenceIdeal.Gen.facts) := by
  intro m ρ _
  exact (θ_run Cert.UpDwReferenceIdeal.defs _ _).mono (fun r h => ⟨fun c => (h c).2,
      Idealize.ShloMosaic.sem_eq_zero_of_no_sems (by decide) r.2⟩)
    (Cert.UpDwReferenceIdeal.Value.run (F := Ideal) m ρ)

/-- Kernel and reference end with equal results. -/
theorem equal : Cert.algebraic_UpDwIdeal_UpDwReferenceIdeal (hUpDwIdeal := Cert.UpDwIdeal.Gen.facts)
    (hUpDwReferenceIdeal := Cert.UpDwReferenceIdeal.Gen.facts) := by
  intro m ρ m' ρ' _ hagree
  refine ⟨fun c => (Cert.UpDwIdeal.Gen.dats m 0 c).arrAt 3 Cert.UpDwIdeal.cfg0.N, Cert.UpDwIdeal.Value.run_blocks (F := Ideal) m ρ, ?_⟩
  refine (θ_run Cert.UpDwReferenceIdeal.defs _ _).mono (fun r h c => ?_) (Cert.UpDwReferenceIdeal.Value.run (F := Ideal) m' ρ')
  obtain ⟨h0, hargs⟩ := h c
  obtain ⟨g0, g1⟩ := hagree c
  rw [Cert.UpDwReferenceIdeal.Read.val_main_v6_eq, g0, g1] at h0
  exact ⟨h0.trans ((ref (x m c) (ct m c)).trans (arr m c).symm), hargs⟩

end Cert.UpDwValue

end
-- ==== Proof.Products.lean ====
/- Products of matrices over the extended reals, and what the kernels' blockings of them have in common. -/
module

public import proofs.«01_k».proof.Proof.Sums
public import Idealize.ShloMosaic.Lib.Pipeline.ValueKit

@[expose] public section

noncomputable section

namespace Cert.Products

open Idealize.ShloMosaic

/-- A matrix of extended reals. -/
abbrev Mat (M N : ℕ) : Type := (⟨2, ![M, N]⟩ : Shape).Idx → EReal

variable {M K N : ℕ}

/-- Rows of the left matrix times columns of the right one. -/
def nn (A : Mat M K) (B : Mat K N) : Mat M N := fun i => ∑ k : Fin K, A (ix2 (i 0) k) * B (ix2 k (i 1))
/-- Rows of the left matrix times rows of the right one. -/
def nt (A : Mat M K) (B : Mat N K) : Mat M N := fun i => ∑ k : Fin K, A (ix2 (i 0) k) * B (ix2 (i 1) k)
/-- Columns of the left matrix times columns of the right one. -/
def tn (A : Mat K M) (B : Mat K N) : Mat M N := fun i => ∑ k : Fin K, A (ix2 k (i 0)) * B (ix2 k (i 1))

/-- `nn` at the row `r` and the column `s`. -/
theorem nn_at (A : Mat M K) (B : Mat K N) (i : (⟨2, ![M, N]⟩ : Shape).Idx) (r : Fin M) (s : Fin N)
    (h0 : (i 0).val = r.val) (h1 : (i 1).val = s.val) : nn A B i = ∑ k : Fin K, A (ix2 r k) * B (ix2 k s) := by
  unfold nn
  rw [show i 0 = r from Fin.ext h0, show i 1 = s from Fin.ext h1]

/-- `nt` at the row `r` and the column `s`. -/
theorem nt_at (A : Mat M K) (B : Mat N K) (i : (⟨2, ![M, N]⟩ : Shape).Idx) (r : Fin M) (s : Fin N)
    (h0 : (i 0).val = r.val) (h1 : (i 1).val = s.val) : nt A B i = ∑ k : Fin K, A (ix2 r k) * B (ix2 s k) := by
  unfold nt
  rw [show i 0 = r from Fin.ext h0, show i 1 = s from Fin.ext h1]

/-- `tn` at the row `r` and the column `s`. -/
theorem tn_at (A : Mat K M) (B : Mat K N) (i : (⟨2, ![M, N]⟩ : Shape).Idx) (r : Fin M) (s : Fin N)
    (h0 : (i 0).val = r.val) (h1 : (i 1).val = s.val) : tn A B i = ∑ k : Fin K, A (ix2 k r) * B (ix2 k s) := by
  unfold tn
  rw [show i 0 = r from Fin.ext h0, show i 1 = s from Fin.ext h1]

/-- A matrix's columns in four groups, one after the other: the group, the row and the column in the group. -/
def grouped {q : ℕ} (X : Mat M (4 * q)) : (⟨3, ![4, M, q]⟩ : Shape).Idx → EReal := fun i =>
  X (ix2 (i 1) ⟨q * (i 0).val + (i 2).val, by
    have h0 : (i 0).val < 4 := (i 0).isLt
    have h2 : (i 2).val < q := (i 2).isLt
    nlinarith⟩)

/-- The grouped `tn` at the row `r` and the column `s`. -/
theorem grouped_tn_at {q : ℕ} (A : Mat K M) (B : Mat K (4 * q)) (i : (⟨3, ![4, M, q]⟩ : Shape).Idx) (r : Fin M) (s : Fin (4 * q))
    (h0 : (i 1).val = r.val) (h1 : q * (i 0).val + (i 2).val = s.val) :
    grouped (tn A B) i = ∑ k : Fin K, A (ix2 k r) * B (ix2 k s) :=
  tn_at A B _ r s h0 h1

/-- The part of a `nt` that the group `p` of the contracted columns gives. -/
def part {q : ℕ} (A : Mat M (4 * q)) (B : Mat N (4 * q)) (r : Fin M) (s : Fin N) (p : Fin 4) : EReal :=
  ∑ k : Fin q, A (ix2 r ⟨q * p.val + k.val, by have := p.isLt; have := k.isLt; nlinarith⟩)
    * B (ix2 s ⟨q * p.val + k.val, by have := p.isLt; have := k.isLt; nlinarith⟩)

/-- `nt` at the row `r` and the column `s`, from the four groups. -/
theorem nt_parts {q : ℕ} (A : Mat M (4 * q)) (B : Mat N (4 * q)) (i : (⟨2, ![M, N]⟩ : Shape).Idx) (r : Fin M) (s : Fin N)
    (h0 : (i 0).val = r.val) (h1 : (i 1).val = s.val) :
    nt A B i = part A B r s 0 + part A B r s 1 + part A B r s 2 + part A B r s 3 := by
  rw [nt_at A B i r s h0 h1, Sums.sum_blocks 4 q (4 * q) rfl, Fin.sum_univ_four]
  rfl

/-- Four consecutive points that add up: the first one stores its term `P`, the next two add theirs, and what the fourth one adds
    to the accumulator is the sum of the four terms, `Q` by their number. -/
theorem fold4 {n : ℕ} (a P : (t : ℕ) → t < n → EReal) (Q : Fin 4 → EReal)
    (hA : ∀ t h, t % 4 = 0 → a t h = P t h)
    (hB : ∀ t h, t % 4 ≠ 0 → t % 4 ≠ 3 → a t h = a (t - 1) (Nat.lt_of_le_of_lt (Nat.sub_le _ _) h) + P t h)
    (t : ℕ) (h : t < n) (ht : t % 4 = 3) (hQ : ∀ u h (p : Fin 4), u / 4 = t / 4 → u % 4 = p.val → P u h = Q p) :
    a (t - 1) (Nat.lt_of_le_of_lt (Nat.sub_le _ _) h) + P t h = Q 0 + Q 1 + Q 2 + Q 3 := by
  have h1 : t - 1 < n := Nat.lt_of_le_of_lt (Nat.sub_le _ _) h
  have h2 : t - 1 - 1 < n := Nat.lt_of_le_of_lt (Nat.sub_le _ _) h1
  have h3 : t - 1 - 1 - 1 < n := Nat.lt_of_le_of_lt (Nat.sub_le _ _) h2
  rw [hB (t - 1) h1 (by omega) (by omega), hB (t - 1 - 1) h2 (by omega) (by omega), hA (t - 1 - 1 - 1) h3 (by omega),
    hQ (t - 1 - 1 - 1) h3 0 (by omega) (show _ = 0 by omega), hQ (t - 1 - 1) h2 1 (by omega) (show _ = 1 by omega),
    hQ (t - 1) h1 2 (by omega) (show _ = 2 by omega), hQ t h 3 rfl ht]

end Cert.Products

end
-- ==== Proof.Up.lean ====
/- The up projection: the kernel's array holds the product of the activations with the weights, as the reference's does. -/
module

public import proofs.«01_k».proof.Defs
public import proofs.«01_k».proof.Proof.Gen.Up
public import proofs.«01_k».proof.Proof.Gen.UpIdeal
public import proofs.«01_k».proof.Proof.Gen.UpReferenceIdeal
public import proofs.«01_k».proof.Proof.Gen.UpIdeal.Value
public import proofs.«01_k».proof.Proof.Gen.UpReferenceIdeal.Run
public import proofs.«01_k».proof.Proof.Gen.UpReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.UpValue

open Cert.UpIdeal Cert.UpIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The activations and the weights. -/
abbrev x : S4096x2048.Idx → EReal := m ((c : Thread nD τ).loc main_arg0)
@[inherit_doc x] abbrev w : S2048x11264.Idx → EReal := m ((c : Thread nD τ).loc main_arg1)

/-- The block index of the activations. -/
theorem idx0 : ∀ t : Fin cfg0.N, win0_0.index t = ![t.val / 8, 0] := by decide +kernel
/-- The block index of the weights. -/
theorem idx1 : ∀ t : Fin cfg0.N, win0_1.index t = ![0, t.val % 8 / 2, 0, t.val % 8 % 2] := by decide +kernel
/-- The block index of the result. -/
theorem idx2 : ∀ t : Fin cfg0.N, win0_2.index t = ![t.val / 8, t.val % 8] := by decide +kernel

theorem lt (t : Fin cfg0.N) : t.val < 32 := t.isLt

/-- The host's rounding of the activations is the identity. -/
theorem V0 : V m c main_v0 = x m c := by
  unfold V
  after_reads_simp
  rfl

/-- The host's copy of the weights, its columns in four groups. -/
theorem V4 : V m c main_v4 = broadcastInDim S1x4x2048x2816 ![1, 2, 3] bcast_S4x2048x2816_S1x4x2048x2816_1_2_3
    (transpose S4x2048x2816 [1, 0, 2] (shapeCast S2048x4x2816 (w m c) shapeCasts_S2048x11264_S2048x4x2816)
      transposes_S2048x4x2816_S4x2048x2816_1_0_2) := by
  unfold V
  after_reads_simp
  rfl

/-- The grouped weights at an index. -/
theorem V4_apply (p : Fin 4) (r : Fin 2048) (k : Fin 2816) : (V m c main_v4 : S1x4x2048x2816.Idx → EReal) (ix4 0 p r k)
    = w m c (ix2 r ⟨2816 * p.val + k.val, by omega⟩) := by
  rw [V4]
  pointwise
  exact congrArg (w m c) (congrArg _ (Fin.ext (show p.val * 2816 + k.val = 2816 * p.val + k.val by omega)))

/-- Block 0 of grid point `t`: rows of the activations. -/
abbrev ib0 (t : Fin cfg0.N) : S1024x2048.Idx → EReal := iblk m c 0 t
/-- Block 1 of grid point `t`: columns of the weights. -/
abbrev ib1 (t : Fin cfg0.N) : S1x1x2048x1408.Idx → EReal := iblk m c 1 t

/-- The row of the result at row `r` of point `t`'s block. -/
def row (t : Fin cfg0.N) (r : Fin 1024) : Fin 4096 := ⟨1024 * (t.val / 8) + r.val, by have := lt t; omega⟩
/-- The column of the result at column `s` of point `t`'s block. -/
def col (t : Fin cfg0.N) (s : Fin 1408) : Fin 11264 := ⟨1408 * (t.val % 8) + s.val, by omega⟩

/-- The activations' block. -/
theorem b0 (t : Fin cfg0.N) (r : Fin 1024) (k : Fin 2048) : ib0 m c t (ix2 r k) = x m c (ix2 (row t r) k) := by
  have e : ib0 m c t (ix2 r k) = (V m c main_v0 : S4096x2048.Idx → EReal) (ix2 (row t r) k) := by
    unfold ib0 row
    blk_ext [iblk, idx0 t]
  rw [e, V0]

/-- The weights' block. -/
theorem b1 (t : Fin cfg0.N) (k : Fin 2048) (s : Fin 1408) : ib1 m c t (ix4 0 0 k s) = w m c (ix2 k (col t s)) := by
  have e : ib1 m c t (ix4 0 0 k s) = (V m c main_v4 : S1x4x2048x2816.Idx → EReal)
      (ix4 0 ⟨t.val % 8 / 2, by omega⟩ k ⟨1408 * (t.val % 8 % 2) + s.val, by omega⟩) := by
    unfold ib1
    blk_ext [iblk, idx1 t]
  rw [e, V4_apply]
  exact congrArg (w m c) (congrArg _ (Fin.ext (show 2816 * (t.val % 8 / 2) + (1408 * (t.val % 8 % 2) + s.val) = 1408 * (t.val % 8) + s.val by omega)))

/-- One entry of a block of the result. -/
theorem entry (t : Fin cfg0.N) (r : Fin 1024) (s : Fin 1408) : out0_2 (iblk m c 0 t) (iblk m c 1 t) (ix2 r s)
    = ∑ k : Fin 2048, x m c (ix2 (row t r) k) * w m c (ix2 k (col t s)) := by
  have e : out0_2 (iblk m c 0 t) (iblk m c 1 t) (ix2 r s) = ∑ k : Fin 2048, ib0 m c t (ix2 r k) * ib1 m c t (ix4 0 0 k s) := by
    frame_out
    unfold_payloads
    pointwise
  rw [e]
  exact Finset.sum_congr rfl fun k _ => by rw [b0, b1]

/-- A block of the result. -/
theorem block (t : Fin cfg0.N) (z : S1024x1408.Idx) : out0_2 (iblk m c 0 t) (iblk m c 1 t) z
    = ∑ k : Fin 2048, x m c (ix2 (row t (z 0)) k) * w m c (ix2 k (col t (z 1))) := by
  rw [eq_ix2 z]
  exact entry m c t (z 0) (z 1)

/-- After the run the result is the product. -/
theorem arr : (dats m 0 c).arrAt 2 cfg0.N = nn (x m c) (w m c) := by
  refine (dats m 0 c).arrAt_eq_of_covers 2 _ (by decide +kernel) fun t hf y => ?_
  blk_simp
  rw [after0_2]
  refine (block m c t _).trans (nn_at _ _ _ _ _ ?_ ?_).symm
  · unfold row
    blk_simp [idx2 t]
    dsimp only
    omega
  · unfold col
    blk_simp [idx2 t]
    dsimp only
    omega

/-- The reference's array. -/
theorem ref (A : S4096x2048.Idx → EReal) (W : S2048x11264.Idx → EReal) :
    UpReferenceIdeal.Read.val_main_v0 (F := Ideal) A W = nn A W := by
  funext i
  rw [UpReferenceIdeal.Read.val_main_v0_apply]
  refine Finset.sum_congr rfl fun k _ => ?_
  congr 1
  · exact congrArg A (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.Up.defs₀ (F := Bits) = Cert.UpIdeal.defs₀ (F := Bits) := by
  unfold Cert.Up.defs₀ Cert.UpIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Up.defs (F := Bits) = Cert.UpIdeal.defs (F := Bits) := congrArg (Pipeline.defs _) bodies_eq

/-- The kernel ends without fault, with its arguments unchanged and no counter above zero. -/
theorem frame_k : Cert.quiescent_Up (hUp := Cert.Up.Gen.facts) := fun m ρ _ => by
  rw [defs_eq]
  exact Cert.UpIdeal.Gen.frame (F := Bits) m ρ

/-- The reference ends without fault, with its arguments unchanged and no counter above zero. -/
theorem frame_r : Cert.quiescent_UpReferenceIdeal (hUpReferenceIdeal := Cert.UpReferenceIdeal.Gen.facts) := by
  intro m ρ _
  exact (θ_run Cert.UpReferenceIdeal.defs _ _).mono (fun r h => ⟨fun c => (h c).2,
      Idealize.ShloMosaic.sem_eq_zero_of_no_sems (by decide) r.2⟩)
    (Cert.UpReferenceIdeal.Value.run (F := Ideal) m ρ)

/-- Kernel and reference end with equal results. -/
theorem equal : Cert.algebraic_UpIdeal_UpReferenceIdeal (hUpIdeal := Cert.UpIdeal.Gen.facts)
    (hUpReferenceIdeal := Cert.UpReferenceIdeal.Gen.facts) := by
  intro m ρ m' ρ' _ hagree
  refine ⟨fun c => (Cert.UpIdeal.Gen.dats m 0 c).arrAt 2 Cert.UpIdeal.cfg0.N, Cert.UpIdeal.Value.run_blocks (F := Ideal) m ρ, ?_⟩
  refine (θ_run Cert.UpReferenceIdeal.defs _ _).mono (fun r h c => ?_) (Cert.UpReferenceIdeal.Value.run (F := Ideal) m' ρ')
  obtain ⟨h0, hargs⟩ := h c
  obtain ⟨g0, g1⟩ := hagree c
  rw [Cert.UpReferenceIdeal.Read.val_main_v0_eq, g0, g1] at h0
  exact ⟨h0.trans ((ref (x m c) (w m c)).trans (arr m c).symm), hargs⟩

end Cert.UpValue

end
-- ==== Proof.Down.lean ====
/- The down projection, added to the stream: the kernel's array holds the stream plus the product of the activations with the weights, as the reference's
   does. -/
module

public import proofs.«01_k».proof.Defs
public import proofs.«01_k».proof.Proof.Gen.Down
public import proofs.«01_k».proof.Proof.Gen.DownIdeal
public import proofs.«01_k».proof.Proof.Gen.DownReferenceIdeal
public import proofs.«01_k».proof.Proof.Gen.DownIdeal.Value
public import proofs.«01_k».proof.Proof.Gen.DownReferenceIdeal.Run
public import proofs.«01_k».proof.Proof.Gen.DownReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.DownValue

open Cert.DownIdeal Cert.DownIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The stream, the activations and the weights. -/
abbrev res : S4096x2048.Idx → EReal := m ((c : Thread nD τ).loc main_arg0)
@[inherit_doc res] abbrev x : S4096x5632.Idx → EReal := m ((c : Thread nD τ).loc main_arg1)
@[inherit_doc res] abbrev w : S5632x2048.Idx → EReal := m ((c : Thread nD τ).loc main_arg2)

/-- The stream plus the product. -/
def sum (H : S4096x2048.Idx → EReal) (A : S4096x5632.Idx → EReal) (W : S5632x2048.Idx → EReal) (i : S4096x2048.Idx) : EReal :=
  H i + nn A W i

/-- The block index of the activations. -/
theorem idx0 : ∀ t : Fin cfg0.N, win0_0.index t = ![t.val / 2, 0] := by decide +kernel
/-- The block index of the weights. -/
theorem idx1 : ∀ t : Fin cfg0.N, win0_1.index t = ![0, 0, t.val % 2] := by decide +kernel
/-- The block index of the stream. -/
theorem idx2 : ∀ t : Fin cfg0.N, win0_2.index t = ![t.val / 2, t.val % 2] := by decide +kernel
/-- The block index of the result. -/
theorem idx3 : ∀ t : Fin cfg0.N, win0_3.index t = ![t.val / 2, t.val % 2] := by decide +kernel

theorem lt (t : Fin cfg0.N) : t.val < 16 := t.isLt

/-- The host's rounding of the activations is the identity. -/
theorem V0 : V m c main_v0 = x m c := by
  unfold V
  after_reads_simp
  rfl

/-- The host's copy of the weights, with a leading axis of one. -/
theorem V2 : V m c main_v2 = broadcastInDim S1x5632x2048 ![1, 2] bcast_S5632x2048_S1x5632x2048_1_2 (w m c) := by
  unfold V
  after_reads_simp
  rfl

/-- Block 0 of grid point `t`: rows of the activations. -/
abbrev ib0 (t : Fin cfg0.N) : S512x5632.Idx → EReal := iblk m c 0 t
/-- Block 1 of grid point `t`: columns of the weights. -/
abbrev ib1 (t : Fin cfg0.N) : S1x5632x1024.Idx → EReal := iblk m c 1 t
/-- Block 2 of grid point `t`: of the stream. -/
abbrev ib2 (t : Fin cfg0.N) : S512x1024.Idx → EReal := iblk m c 2 t

/-- The row of the result at row `r` of point `t`'s block. -/
def row (t : Fin cfg0.N) (r : Fin 512) : Fin 4096 := ⟨512 * (t.val / 2) + r.val, by have := lt t; omega⟩
/-- The column of the result at column `s` of point `t`'s block. -/
def col (t : Fin cfg0.N) (s : Fin 1024) : Fin 2048 := ⟨1024 * (t.val % 2) + s.val, by omega⟩

/-- The activations' block. -/
theorem b0 (t : Fin cfg0.N) (r : Fin 512) (k : Fin 5632) : ib0 m c t (ix2 r k) = x m c (ix2 (row t r) k) := by
  have e : ib0 m c t (ix2 r k) = (V m c main_v0 : S4096x5632.Idx → EReal) (ix2 (row t r) k) := by
    unfold ib0 row
    blk_ext [iblk, idx0 t]
  rw [e, V0]

/-- The weights' block. -/
theorem b1 (t : Fin cfg0.N) (k : Fin 5632) (s : Fin 1024) : ib1 m c t (ix3 0 k s) = w m c (ix2 k (col t s)) := by
  have e : ib1 m c t (ix3 0 k s) = (V m c main_v2 : S1x5632x2048.Idx → EReal) (ix3 0 k (col t s)) := by
    unfold ib1 col
    blk_ext [iblk, idx1 t]
  rw [e, V2]
  pointwise

/-- The stream's block. -/
theorem b2 (t : Fin cfg0.N) (r : Fin 512) (s : Fin 1024) : ib2 m c t (ix2 r s) = res m c (ix2 (row t r) (col t s)) := by
  have e : ib2 m c t (ix2 r s) = (V m c main_arg0 : S4096x2048.Idx → EReal) (ix2 (row t r) (col t s)) := by
    unfold ib2 row col
    blk_ext [iblk, idx2 t]
  rw [e, V_main_arg0]

/-- One entry of a block of the result. -/
theorem entry (t : Fin cfg0.N) (r : Fin 512) (s : Fin 1024) : out0_3 (iblk m c 0 t) (iblk m c 1 t) (iblk m c 2 t) (ix2 r s)
    = res m c (ix2 (row t r) (col t s)) + ∑ k : Fin 5632, x m c (ix2 (row t r) k) * w m c (ix2 k (col t s)) := by
  have e : out0_3 (iblk m c 0 t) (iblk m c 1 t) (iblk m c 2 t) (ix2 r s)
      = ib2 m c t (ix2 r s) + ∑ k : Fin 5632, ib0 m c t (ix2 r k) * ib1 m c t (ix3 0 k s) := by
    frame_out
    unfold_payloads
    pointwise
  rw [e, b2]
  exact congrArg _ (Finset.sum_congr rfl fun k _ => by rw [b0, b1])

/-- A block of the result. -/
theorem block (t : Fin cfg0.N) (z : S512x1024.Idx) : out0_3 (iblk m c 0 t) (iblk m c 1 t) (iblk m c 2 t) z
    = res m c (ix2 (row t (z 0)) (col t (z 1))) + ∑ k : Fin 5632, x m c (ix2 (row t (z 0)) k) * w m c (ix2 k (col t (z 1))) := by
  rw [eq_ix2 z]
  exact entry m c t (z 0) (z 1)

/-- The sum at the row `r` and the column `s`. -/
theorem sum_at (H : S4096x2048.Idx → EReal) (A : S4096x5632.Idx → EReal) (W : S5632x2048.Idx → EReal) (i : S4096x2048.Idx)
    (r : Fin 4096) (s : Fin 2048) (h0 : (i 0).val = r.val) (h1 : (i 1).val = s.val) :
    sum H A W i = H (ix2 r s) + ∑ k : Fin 5632, A (ix2 r k) * W (ix2 k s) := by
  unfold sum
  rw [nn_at A W i r s h0 h1, eq_ix2 i, show i 0 = r from Fin.ext h0, show i 1 = s from Fin.ext h1]

/-- After the run the result is the sum. -/
theorem arr : (dats m 0 c).arrAt 3 cfg0.N = sum (res m c) (x m c) (w m c) := by
  refine (dats m 0 c).arrAt_eq_of_covers 3 _ (by decide +kernel) fun t hf y => ?_
  blk_simp
  rw [after0_3]
  refine (block m c t _).trans (sum_at _ _ _ _ _ _ ?_ ?_).symm
  · unfold row
    blk_simp [idx3 t]
    dsimp only
    omega
  · unfold col
    blk_simp [idx3 t]
    dsimp only
    omega

/-- The reference's array. -/
theorem ref (H : S4096x2048.Idx → EReal) (A : S4096x5632.Idx → EReal) (W : S5632x2048.Idx → EReal) :
    DownReferenceIdeal.Read.val_main_v1 (F := Ideal) H A W = sum H A W := by
  funext i
  rw [DownReferenceIdeal.Read.val_main_v1_apply, DownReferenceIdeal.Read.val_main_v0_apply]
  refine congrArg (H i + ·) (Finset.sum_congr rfl fun k _ => ?_)
  congr 1
  · exact congrArg A (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.Down.defs₀ (F := Bits) = Cert.DownIdeal.defs₀ (F := Bits) := by
  unfold Cert.Down.defs₀ Cert.DownIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Down.defs (F := Bits) = Cert.DownIdeal.defs (F := Bits) := congrArg (Pipeline.defs _) bodies_eq

/-- The kernel ends without fault, with its arguments unchanged and no counter above zero. -/
theorem frame_k : Cert.quiescent_Down (hDown := Cert.Down.Gen.facts) := fun m ρ _ => by
  rw [defs_eq]
  exact Cert.DownIdeal.Gen.frame (F := Bits) m ρ

/-- The reference ends without fault, with its arguments unchanged and no counter above zero. -/
theorem frame_r : Cert.quiescent_DownReferenceIdeal (hDownReferenceIdeal := Cert.DownReferenceIdeal.Gen.facts) := by
  intro m ρ _
  exact (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

/-- Kernel and reference end with equal results. -/
theorem equal : Cert.algebraic_DownIdeal_DownReferenceIdeal (hDownIdeal := Cert.DownIdeal.Gen.facts)
    (hDownReferenceIdeal := Cert.DownReferenceIdeal.Gen.facts) := by
  intro m ρ m' ρ' _ hagree
  refine ⟨fun c => (Cert.DownIdeal.Gen.dats m 0 c).arrAt 3 Cert.DownIdeal.cfg0.N, Cert.DownIdeal.Value.run_blocks (F := Ideal) m ρ, ?_⟩
  refine (θ_run Cert.DownReferenceIdeal.defs _ _).mono (fun r h c => ?_) (Cert.DownReferenceIdeal.Value.run (F := Ideal) m' ρ')
  obtain ⟨h0, hargs⟩ := h c
  obtain ⟨g0, g1, g2⟩ := hagree c
  rw [Cert.DownReferenceIdeal.Read.val_main_v1_eq, g0, g1, g2] at h0
  exact ⟨h0.trans ((ref (res m c) (x m c) (w m c)).trans (arr m c).symm), hargs⟩

end Cert.DownValue

end
-- ==== Proof.AQkv.lean ====
/- The grouped-query attention's input projection: the kernel's array holds the product of the activations with the weights, as the reference's does. -/
module

public import proofs.«01_k».proof.Defs
public import proofs.«01_k».proof.Proof.Gen.AQkv
public import proofs.«01_k».proof.Proof.Gen.AQkvIdeal
public import proofs.«01_k».proof.Proof.Gen.AQkvReferenceIdeal
public import proofs.«01_k».proof.Proof.Gen.AQkvIdeal.Value
public import proofs.«01_k».proof.Proof.Gen.AQkvReferenceIdeal.Run
public import proofs.«01_k».proof.Proof.Gen.AQkvReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.AQkvValue

open Cert.AQkvIdeal Cert.AQkvIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The activations and the weights. -/
abbrev x : S4096x2048.Idx → EReal := m ((c : Thread nD τ).loc main_arg0)
@[inherit_doc x] abbrev w : S2048x3072.Idx → EReal := m ((c : Thread nD τ).loc main_arg1)

/-- The block index of the activations. -/
theorem idx0 : ∀ t : Fin cfg0.N, win0_0.index t = ![t.val / 4, 0] := by decide +kernel
/-- The block index of the weights. -/
theorem idx1 : ∀ t : Fin cfg0.N, win0_1.index t = ![0, t.val % 4, 0, 0] := by decide +kernel
/-- The block index of the result. -/
theorem idx2 : ∀ t : Fin cfg0.N, win0_2.index t = ![t.val / 4, t.val % 4] := by decide +kernel

theorem lt (t : Fin cfg0.N) : t.val < 16 := t.isLt

/-- The host's rounding of the activations is the identity. -/
theorem V0 : V m c main_v0 = x m c := by
  unfold V
  after_reads_simp
  rfl

/-- The host's copy of the weights, its columns in four groups. -/
theorem V4 : V m c main_v4 = broadcastInDim S1x4x2048x768 ![1, 2, 3] bcast_S4x2048x768_S1x4x2048x768_1_2_3
    (transpose S4x2048x768 [1, 0, 2] (shapeCast S2048x4x768 (w m c) shapeCasts_S2048x3072_S2048x4x768)
      transposes_S2048x4x768_S4x2048x768_1_0_2) := by
  unfold V
  after_reads_simp
  rfl

/-- The grouped weights at an index. -/
theorem V4_apply (p : Fin 4) (r : Fin 2048) (k : Fin 768) : (V m c main_v4 : S1x4x2048x768.Idx → EReal) (ix4 0 p r k)
    = w m c (ix2 r ⟨768 * p.val + k.val, by omega⟩) := by
  rw [V4]
  pointwise
  exact congrArg (w m c) (congrArg _ (Fin.ext (show p.val * 768 + k.val = 768 * p.val + k.val by omega)))

/-- Block 0 of grid point `t`: rows of the activations. -/
abbrev ib0 (t : Fin cfg0.N) : S1024x2048.Idx → EReal := iblk m c 0 t
/-- Block 1 of grid point `t`: columns of the weights. -/
abbrev ib1 (t : Fin cfg0.N) : S1x1x2048x768.Idx → EReal := iblk m c 1 t

/-- The row of the result at row `r` of point `t`'s block. -/
def row (t : Fin cfg0.N) (r : Fin 1024) : Fin 4096 := ⟨1024 * (t.val / 4) + r.val, by have := lt t; omega⟩
/-- The column of the result at column `s` of point `t`'s block. -/
def col (t : Fin cfg0.N) (s : Fin 768) : Fin 3072 := ⟨768 * (t.val % 4) + s.val, by omega⟩

/-- The activations' block. -/
theorem b0 (t : Fin cfg0.N) (r : Fin 1024) (k : Fin 2048) : ib0 m c t (ix2 r k) = x m c (ix2 (row t r) k) := by
  have e : ib0 m c t (ix2 r k) = (V m c main_v0 : S4096x2048.Idx → EReal) (ix2 (row t r) k) := by
    unfold ib0 row
    blk_ext [iblk, idx0 t]
  rw [e, V0]

/-- The weights' block. -/
theorem b1 (t : Fin cfg0.N) (k : Fin 2048) (s : Fin 768) : ib1 m c t (ix4 0 0 k s) = w m c (ix2 k (col t s)) := by
  have e : ib1 m c t (ix4 0 0 k s) = (V m c main_v4 : S1x4x2048x768.Idx → EReal)
      (ix4 0 ⟨t.val % 4, by omega⟩ k ⟨s.val, by omega⟩) := by
    unfold ib1
    blk_ext [iblk, idx1 t]
  rw [e, V4_apply]
  exact congrArg (w m c) (congrArg _ (Fin.ext (show 768 * (t.val % 4) + s.val = 768 * (t.val % 4) + s.val by omega)))

/-- One entry of a block of the result. -/
theorem entry (t : Fin cfg0.N) (r : Fin 1024) (s : Fin 768) : out0_2 (iblk m c 0 t) (iblk m c 1 t) (ix2 r s)
    = ∑ k : Fin 2048, x m c (ix2 (row t r) k) * w m c (ix2 k (col t s)) := by
  have e : out0_2 (iblk m c 0 t) (iblk m c 1 t) (ix2 r s) = ∑ k : Fin 2048, ib0 m c t (ix2 r k) * ib1 m c t (ix4 0 0 k s) := by
    frame_out
    unfold_payloads
    pointwise
  rw [e]
  exact Finset.sum_congr rfl fun k _ => by rw [b0, b1]

/-- A block of the result. -/
theorem block (t : Fin cfg0.N) (z : S1024x768.Idx) : out0_2 (iblk m c 0 t) (iblk m c 1 t) z
    = ∑ k : Fin 2048, x m c (ix2 (row t (z 0)) k) * w m c (ix2 k (col t (z 1))) := by
  rw [eq_ix2 z]
  exact entry m c t (z 0) (z 1)

/-- After the run the result is the product. -/
theorem arr : (dats m 0 c).arrAt 2 cfg0.N = nn (x m c) (w m c) := by
  refine (dats m 0 c).arrAt_eq_of_covers 2 _ (by decide +kernel) fun t hf y => ?_
  blk_simp
  rw [after0_2]
  refine (block m c t _).trans (nn_at _ _ _ _ _ ?_ ?_).symm
  · unfold row
    blk_simp [idx2 t]
    dsimp only
    omega
  · unfold col
    blk_simp [idx2 t]
    dsimp only
    omega

/-- The reference's array. -/
theorem ref (A : S4096x2048.Idx → EReal) (W : S2048x3072.Idx → EReal) :
    AQkvReferenceIdeal.Read.val_main_v0 (F := Ideal) A W = nn A W := by
  funext i
  rw [AQkvReferenceIdeal.Read.val_main_v0_apply]
  refine Finset.sum_congr rfl fun k _ => ?_
  congr 1
  · exact congrArg A (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.AQkv.defs₀ (F := Bits) = Cert.AQkvIdeal.defs₀ (F := Bits) := by
  unfold Cert.AQkv.defs₀ Cert.AQkvIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.AQkv.defs (F := Bits) = Cert.AQkvIdeal.defs (F := Bits) := congrArg (Pipeline.defs _) bodies_eq

/-- The kernel ends without fault, with its arguments unchanged and no counter above zero. -/
theorem frame_k : Cert.quiescent_AQkv (hAQkv := Cert.AQkv.Gen.facts) := fun m ρ _ => by
  rw [defs_eq]
  exact Cert.AQkvIdeal.Gen.frame (F := Bits) m ρ

/-- The reference ends without fault, with its arguments unchanged and no counter above zero. -/
theorem frame_r : Cert.quiescent_AQkvReferenceIdeal (hAQkvReferenceIdeal := Cert.AQkvReferenceIdeal.Gen.facts) := by
  intro m ρ _
  exact (θ_run Cert.AQkvReferenceIdeal.defs _ _).mono (fun r h => ⟨fun c => (h c).2,
      Idealize.ShloMosaic.sem_eq_zero_of_no_sems (by decide) r.2⟩)
    (Cert.AQkvReferenceIdeal.Value.run (F := Ideal) m ρ)

/-- Kernel and reference end with equal results. -/
theorem equal : Cert.algebraic_AQkvIdeal_AQkvReferenceIdeal (hAQkvIdeal := Cert.AQkvIdeal.Gen.facts)
    (hAQkvReferenceIdeal := Cert.AQkvReferenceIdeal.Gen.facts) := by
  intro m ρ m' ρ' _ hagree
  refine ⟨fun c => (Cert.AQkvIdeal.Gen.dats m 0 c).arrAt 2 Cert.AQkvIdeal.cfg0.N, Cert.AQkvIdeal.Value.run_blocks (F := Ideal) m ρ, ?_⟩
  refine (θ_run Cert.AQkvReferenceIdeal.defs _ _).mono (fun r h c => ?_) (Cert.AQkvReferenceIdeal.Value.run (F := Ideal) m' ρ')
  obtain ⟨h0, hargs⟩ := h c
  obtain ⟨g0, g1⟩ := hagree c
  rw [Cert.AQkvReferenceIdeal.Read.val_main_v0_eq, g0, g1] at h0
  exact ⟨h0.trans ((ref (x m c) (w m c)).trans (arr m c).symm), hargs⟩

end Cert.AQkvValue

end
-- ==== Proof.AOut.lean ====
/- The grouped-query attention's output projection, added to the stream: the kernel's array holds the stream plus the product of the activations with the weights, as the reference's
   does. -/
module

public import proofs.«01_k».proof.Defs
public import proofs.«01_k».proof.Proof.Gen.AOut
public import proofs.«01_k».proof.Proof.Gen.AOutIdeal
public import proofs.«01_k».proof.Proof.Gen.AOutReferenceIdeal
public import proofs.«01_k».proof.Proof.Gen.AOutIdeal.Value
public import proofs.«01_k».proof.Proof.Gen.AOutReferenceIdeal.Run
public import proofs.«01_k».proof.Proof.Gen.AOutReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.AOutValue

open Cert.AOutIdeal Cert.AOutIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The stream, the activations and the weights. -/
abbrev res : S4096x2048.Idx → EReal := m ((c : Thread nD τ).loc main_arg0)
@[inherit_doc res] abbrev x : S4096x2048.Idx → EReal := m ((c : Thread nD τ).loc main_arg1)
@[inherit_doc res] abbrev w : S2048x2048.Idx → EReal := m ((c : Thread nD τ).loc main_arg2)

/-- The stream plus the product. -/
def sum (H : S4096x2048.Idx → EReal) (A : S4096x2048.Idx → EReal) (W : S2048x2048.Idx → EReal) (i : S4096x2048.Idx) : EReal :=
  H i + nn A W i

/-- The block index of the activations. -/
theorem idx0 : ∀ t : Fin cfg0.N, win0_0.index t = ![t.val / 2, 0] := by decide +kernel
/-- The block index of the weights. -/
theorem idx1 : ∀ t : Fin cfg0.N, win0_1.index t = ![0, 0, t.val % 2] := by decide +kernel
/-- The block index of the stream. -/
theorem idx2 : ∀ t : Fin cfg0.N, win0_2.index t = ![t.val / 2, t.val % 2] := by decide +kernel
/-- The block index of the result. -/
theorem idx3 : ∀ t : Fin cfg0.N, win0_3.index t = ![t.val / 2, t.val % 2] := by decide +kernel

theorem lt (t : Fin cfg0.N) : t.val < 8 := t.isLt

/-- The host's rounding of the activations is the identity. -/
theorem V0 : V m c main_v0 = x m c := by
  unfold V
  after_reads_simp
  rfl

/-- The host's copy of the weights, with a leading axis of one. -/
theorem V2 : V m c main_v2 = broadcastInDim S1x2048x2048 ![1, 2] bcast_S2048x2048_S1x2048x2048_1_2 (w m c) := by
  unfold V
  after_reads_simp
  rfl

/-- Block 0 of grid point `t`: rows of the activations. -/
abbrev ib0 (t : Fin cfg0.N) : S1024x2048.Idx → EReal := iblk m c 0 t
/-- Block 1 of grid point `t`: columns of the weights. -/
abbrev ib1 (t : Fin cfg0.N) : S1x2048x1024.Idx → EReal := iblk m c 1 t
/-- Block 2 of grid point `t`: of the stream. -/
abbrev ib2 (t : Fin cfg0.N) : S1024x1024.Idx → EReal := iblk m c 2 t

/-- The row of the result at row `r` of point `t`'s block. -/
def row (t : Fin cfg0.N) (r : Fin 1024) : Fin 4096 := ⟨1024 * (t.val / 2) + r.val, by have := lt t; omega⟩
/-- The column of the result at column `s` of point `t`'s block. -/
def col (t : Fin cfg0.N) (s : Fin 1024) : Fin 2048 := ⟨1024 * (t.val % 2) + s.val, by omega⟩

/-- The activations' block. -/
theorem b0 (t : Fin cfg0.N) (r : Fin 1024) (k : Fin 2048) : ib0 m c t (ix2 r k) = x m c (ix2 (row t r) k) := by
  have e : ib0 m c t (ix2 r k) = (V m c main_v0 : S4096x2048.Idx → EReal) (ix2 (row t r) k) := by
    unfold ib0 row
    blk_ext [iblk, idx0 t]
  rw [e, V0]

/-- The weights' block. -/
theorem b1 (t : Fin cfg0.N) (k : Fin 2048) (s : Fin 1024) : ib1 m c t (ix3 0 k s) = w m c (ix2 k (col t s)) := by
  have e : ib1 m c t (ix3 0 k s) = (V m c main_v2 : S1x2048x2048.Idx → EReal) (ix3 0 k (col t s)) := by
    unfold ib1 col
    blk_ext [iblk, idx1 t]
  rw [e, V2]
  pointwise

/-- The stream's block. -/
theorem b2 (t : Fin cfg0.N) (r : Fin 1024) (s : Fin 1024) : ib2 m c t (ix2 r s) = res m c (ix2 (row t r) (col t s)) := by
  have e : ib2 m c t (ix2 r s) = (V m c main_arg0 : S4096x2048.Idx → EReal) (ix2 (row t r) (col t s)) := by
    unfold ib2 row col
    blk_ext [iblk, idx2 t]
  rw [e, V_main_arg0]

/-- One entry of a block of the result. -/
theorem entry (t : Fin cfg0.N) (r : Fin 1024) (s : Fin 1024) : out0_3 (iblk m c 0 t) (iblk m c 1 t) (iblk m c 2 t) (ix2 r s)
    = res m c (ix2 (row t r) (col t s)) + ∑ k : Fin 2048, x m c (ix2 (row t r) k) * w m c (ix2 k (col t s)) := by
  have e : out0_3 (iblk m c 0 t) (iblk m c 1 t) (iblk m c 2 t) (ix2 r s)
      = ib2 m c t (ix2 r s) + ∑ k : Fin 2048, ib0 m c t (ix2 r k) * ib1 m c t (ix3 0 k s) := by
    frame_out
    unfold_payloads
    pointwise
  rw [e, b2]
  exact congrArg _ (Finset.sum_congr rfl fun k _ => by rw [b0, b1])

/-- A block of the result. -/
theorem block (t : Fin cfg0.N) (z : S1024x1024.Idx) : out0_3 (iblk m c 0 t) (iblk m c 1 t) (iblk m c 2 t) z
    = res m c (ix2 (row t (z 0)) (col t (z 1))) + ∑ k : Fin 2048, x m c (ix2 (row t (z 0)) k) * w m c (ix2 k (col t (z 1))) := by
  rw [eq_ix2 z]
  exact entry m c t (z 0) (z 1)

/-- The sum at the row `r` and the column `s`. -/
theorem sum_at (H : S4096x2048.Idx → EReal) (A : S4096x2048.Idx → EReal) (W : S2048x2048.Idx → EReal) (i : S4096x2048.Idx)
    (r : Fin 4096) (s : Fin 2048) (h0 : (i 0).val = r.val) (h1 : (i 1).val = s.val) :
    sum H A W i = H (ix2 r s) + ∑ k : Fin 2048, A (ix2 r k) * W (ix2 k s) := by
  unfold sum
  rw [nn_at A W i r s h0 h1, eq_ix2 i, show i 0 = r from Fin.ext h0, show i 1 = s from Fin.ext h1]

/-- After the run the result is the sum. -/
theorem arr : (dats m 0 c).arrAt 3 cfg0.N = sum (res m c) (x m c) (w m c) := by
  refine (dats m 0 c).arrAt_eq_of_covers 3 _ (by decide +kernel) fun t hf y => ?_
  blk_simp
  rw [after0_3]
  refine (block m c t _).trans (sum_at _ _ _ _ _ _ ?_ ?_).symm
  · unfold row
    blk_simp [idx3 t]
    dsimp only
    omega
  · unfold col
    blk_simp [idx3 t]
    dsimp only
    omega

/-- The reference's array. -/
theorem ref (H : S4096x2048.Idx → EReal) (A : S4096x2048.Idx → EReal) (W : S2048x2048.Idx → EReal) :
    AOutReferenceIdeal.Read.val_main_v1 (F := Ideal) H A W = sum H A W := by
  funext i
  rw [AOutReferenceIdeal.Read.val_main_v1_apply, AOutReferenceIdeal.Read.val_main_v0_apply]
  refine congrArg (H i + ·) (Finset.sum_congr rfl fun k _ => ?_)
  congr 1
  · exact congrArg A (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.AOut.defs₀ (F := Bits) = Cert.AOutIdeal.defs₀ (F := Bits) := by
  unfold Cert.AOut.defs₀ Cert.AOutIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.AOut.defs (F := Bits) = Cert.AOutIdeal.defs (F := Bits) := congrArg (Pipeline.defs _) bodies_eq

/-- The kernel ends without fault, with its arguments unchanged and no counter above zero. -/
theorem frame_k : Cert.quiescent_AOut (hAOut := Cert.AOut.Gen.facts) := fun m ρ _ => by
  rw [defs_eq]
  exact Cert.AOutIdeal.Gen.frame (F := Bits) m ρ

/-- The reference ends without fault, with its arguments unchanged and no counter above zero. -/
theorem frame_r : Cert.quiescent_AOutReferenceIdeal (hAOutReferenceIdeal := Cert.AOutReferenceIdeal.Gen.facts) := by
  intro m ρ _
  exact (θ_run Cert.AOutReferenceIdeal.defs _ _).mono (fun r h => ⟨fun c => (h c).2,
      Idealize.ShloMosaic.sem_eq_zero_of_no_sems (by decide) r.2⟩)
    (Cert.AOutReferenceIdeal.Value.run (F := Ideal) m ρ)

/-- Kernel and reference end with equal results. -/
theorem equal : Cert.algebraic_AOutIdeal_AOutReferenceIdeal (hAOutIdeal := Cert.AOutIdeal.Gen.facts)
    (hAOutReferenceIdeal := Cert.AOutReferenceIdeal.Gen.facts) := by
  intro m ρ m' ρ' _ hagree
  refine ⟨fun c => (Cert.AOutIdeal.Gen.dats m 0 c).arrAt 3 Cert.AOutIdeal.cfg0.N, Cert.AOutIdeal.Value.run_blocks (F := Ideal) m ρ, ?_⟩
  refine (θ_run Cert.AOutReferenceIdeal.defs _ _).mono (fun r h c => ?_) (Cert.AOutReferenceIdeal.Value.run (F := Ideal) m' ρ')
  obtain ⟨h0, hargs⟩ := h c
  obtain ⟨g0, g1, g2⟩ := hagree c
  rw [Cert.AOutReferenceIdeal.Read.val_main_v1_eq, g0, g1, g2] at h0
  exact ⟨h0.trans ((ref (res m c) (x m c) (w m c)).trans (arr m c).symm), hargs⟩

end Cert.AOutValue

end
-- ==== Proof.BOut.lean ====
/- The dilated attention's output projection, added to the stream: the kernel's array holds the stream plus the product of the activations with the weights, as the reference's
   does. -/
module

public import proofs.«01_k».proof.Defs
public import proofs.«01_k».proof.Proof.Gen.BOut
public import proofs.«01_k».proof.Proof.Gen.BOutIdeal
public import proofs.«01_k».proof.Proof.Gen.BOutReferenceIdeal
public import proofs.«01_k».proof.Proof.Gen.BOutIdeal.Value
public import proofs.«01_k».proof.Proof.Gen.BOutReferenceIdeal.Run
public import proofs.«01_k».proof.Proof.Gen.BOutReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.BOutValue

open Cert.BOutIdeal Cert.BOutIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The stream, the activations and the weights. -/
abbrev res : S4096x2048.Idx → EReal := m ((c : Thread nD τ).loc main_arg0)
@[inherit_doc res] abbrev x : S4096x3072.Idx → EReal := m ((c : Thread nD τ).loc main_arg1)
@[inherit_doc res] abbrev w : S3072x2048.Idx → EReal := m ((c : Thread nD τ).loc main_arg2)

/-- The stream plus the product. -/
def sum (H : S4096x2048.Idx → EReal) (A : S4096x3072.Idx → EReal) (W : S3072x2048.Idx → EReal) (i : S4096x2048.Idx) : EReal :=
  H i + nn A W i

/-- The block index of the activations. -/
theorem idx0 : ∀ t : Fin cfg0.N, win0_0.index t = ![t.val / 2, 0] := by decide +kernel
/-- The block index of the weights. -/
theorem idx1 : ∀ t : Fin cfg0.N, win0_1.index t = ![0, 0, t.val % 2] := by decide +kernel
/-- The block index of the stream. -/
theorem idx2 : ∀ t : Fin cfg0.N, win0_2.index t = ![t.val / 2, t.val % 2] := by decide +kernel
/-- The block index of the result. -/
theorem idx3 : ∀ t : Fin cfg0.N, win0_3.index t = ![t.val / 2, t.val % 2] := by decide +kernel

theorem lt (t : Fin cfg0.N) : t.val < 8 := t.isLt

/-- The host's rounding of the activations is the identity. -/
theorem V0 : V m c main_v0 = x m c := by
  unfold V
  after_reads_simp
  rfl

/-- The host's copy of the weights, with a leading axis of one. -/
theorem V2 : V m c main_v2 = broadcastInDim S1x3072x2048 ![1, 2] bcast_S3072x2048_S1x3072x2048_1_2 (w m c) := by
  unfold V
  after_reads_simp
  rfl

/-- Block 0 of grid point `t`: rows of the activations. -/
abbrev ib0 (t : Fin cfg0.N) : S1024x3072.Idx → EReal := iblk m c 0 t
/-- Block 1 of grid point `t`: columns of the weights. -/
abbrev ib1 (t : Fin cfg0.N) : S1x3072x1024.Idx → EReal := iblk m c 1 t
/-- Block 2 of grid point `t`: of the stream. -/
abbrev ib2 (t : Fin cfg0.N) : S1024x1024.Idx → EReal := iblk m c 2 t

/-- The row of the result at row `r` of point `t`'s block. -/
def row (t : Fin cfg0.N) (r : Fin 1024) : Fin 4096 := ⟨1024 * (t.val / 2) + r.val, by have := lt t; omega⟩
/-- The column of the result at column `s` of point `t`'s block. -/
def col (t : Fin cfg0.N) (s : Fin 1024) : Fin 2048 := ⟨1024 * (t.val % 2) + s.val, by omega⟩

/-- The activations' block. -/
theorem b0 (t : Fin cfg0.N) (r : Fin 1024) (k : Fin 3072) : ib0 m c t (ix2 r k) = x m c (ix2 (row t r) k) := by
  have e : ib0 m c t (ix2 r k) = (V m c main_v0 : S4096x3072.Idx → EReal) (ix2 (row t r) k) := by
    unfold ib0 row
    blk_ext [iblk, idx0 t]
  rw [e, V0]

/-- The weights' block. -/
theorem b1 (t : Fin cfg0.N) (k : Fin 3072) (s : Fin 1024) : ib1 m c t (ix3 0 k s) = w m c (ix2 k (col t s)) := by
  have e : ib1 m c t (ix3 0 k s) = (V m c main_v2 : S1x3072x2048.Idx → EReal) (ix3 0 k (col t s)) := by
    unfold ib1 col
    blk_ext [iblk, idx1 t]
  rw [e, V2]
  pointwise

/-- The stream's block. -/
theorem b2 (t : Fin cfg0.N) (r : Fin 1024) (s : Fin 1024) : ib2 m c t (ix2 r s) = res m c (ix2 (row t r) (col t s)) := by
  have e : ib2 m c t (ix2 r s) = (V m c main_arg0 : S4096x2048.Idx → EReal) (ix2 (row t r) (col t s)) := by
    unfold ib2 row col
    blk_ext [iblk, idx2 t]
  rw [e, V_main_arg0]

/-- One entry of a block of the result. -/
theorem entry (t : Fin cfg0.N) (r : Fin 1024) (s : Fin 1024) : out0_3 (iblk m c 0 t) (iblk m c 1 t) (iblk m c 2 t) (ix2 r s)
    = res m c (ix2 (row t r) (col t s)) + ∑ k : Fin 3072, x m c (ix2 (row t r) k) * w m c (ix2 k (col t s)) := by
  have e : out0_3 (iblk m c 0 t) (iblk m c 1 t) (iblk m c 2 t) (ix2 r s)
      = ib2 m c t (ix2 r s) + ∑ k : Fin 3072, ib0 m c t (ix2 r k) * ib1 m c t (ix3 0 k s) := by
    frame_out
    unfold_payloads
    pointwise
  rw [e, b2]
  exact congrArg _ (Finset.sum_congr rfl fun k _ => by rw [b0, b1])

/-- A block of the result. -/
theorem block (t : Fin cfg0.N) (z : S1024x1024.Idx) : out0_3 (iblk m c 0 t) (iblk m c 1 t) (iblk m c 2 t) z
    = res m c (ix2 (row t (z 0)) (col t (z 1))) + ∑ k : Fin 3072, x m c (ix2 (row t (z 0)) k) * w m c (ix2 k (col t (z 1))) := by
  rw [eq_ix2 z]
  exact entry m c t (z 0) (z 1)

/-- The sum at the row `r` and the column `s`. -/
theorem sum_at (H : S4096x2048.Idx → EReal) (A : S4096x3072.Idx → EReal) (W : S3072x2048.Idx → EReal) (i : S4096x2048.Idx)
    (r : Fin 4096) (s : Fin 2048) (h0 : (i 0).val = r.val) (h1 : (i 1).val = s.val) :
    sum H A W i = H (ix2 r s) + ∑ k : Fin 3072, A (ix2 r k) * W (ix2 k s) := by
  unfold sum
  rw [nn_at A W i r s h0 h1, eq_ix2 i, show i 0 = r from Fin.ext h0, show i 1 = s from Fin.ext h1]

/-- After the run the result is the sum. -/
theorem arr : (dats m 0 c).arrAt 3 cfg0.N = sum (res m c) (x m c) (w m c) := by
  refine (dats m 0 c).arrAt_eq_of_covers 3 _ (by decide +kernel) fun t hf y => ?_
  blk_simp
  rw [after0_3]
  refine (block m c t _).trans (sum_at _ _ _ _ _ _ ?_ ?_).symm
  · unfold row
    blk_simp [idx3 t]
    dsimp only
    omega
  · unfold col
    blk_simp [idx3 t]
    dsimp only
    omega

/-- The reference's array. -/
theorem ref (H : S4096x2048.Idx → EReal) (A : S4096x3072.Idx → EReal) (W : S3072x2048.Idx → EReal) :
    BOutReferenceIdeal.Read.val_main_v1 (F := Ideal) H A W = sum H A W := by
  funext i
  rw [BOutReferenceIdeal.Read.val_main_v1_apply, BOutReferenceIdeal.Read.val_main_v0_apply]
  refine congrArg (H i + ·) (Finset.sum_congr rfl fun k _ => ?_)
  congr 1
  · exact congrArg A (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.BOut.defs₀ (F := Bits) = Cert.BOutIdeal.defs₀ (F := Bits) := by
  unfold Cert.BOut.defs₀ Cert.BOutIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.BOut.defs (F := Bits) = Cert.BOutIdeal.defs (F := Bits) := congrArg (Pipeline.defs _) bodies_eq

/-- The kernel ends without fault, with its arguments unchanged and no counter above zero. -/
theorem frame_k : Cert.quiescent_BOut (hBOut := Cert.BOut.Gen.facts) := fun m ρ _ => by
  rw [defs_eq]
  exact Cert.BOutIdeal.Gen.frame (F := Bits) m ρ

/-- The reference ends without fault, with its arguments unchanged and no counter above zero. -/
theorem frame_r : Cert.quiescent_BOutReferenceIdeal (hBOutReferenceIdeal := Cert.BOutReferenceIdeal.Gen.facts) := by
  intro m ρ _
  exact (θ_run Cert.BOutReferenceIdeal.defs _ _).mono (fun r h => ⟨fun c => (h c).2,
      Idealize.ShloMosaic.sem_eq_zero_of_no_sems (by decide) r.2⟩)
    (Cert.BOutReferenceIdeal.Value.run (F := Ideal) m ρ)

/-- Kernel and reference end with equal results. -/
theorem equal : Cert.algebraic_BOutIdeal_BOutReferenceIdeal (hBOutIdeal := Cert.BOutIdeal.Gen.facts)
    (hBOutReferenceIdeal := Cert.BOutReferenceIdeal.Gen.facts) := by
  intro m ρ m' ρ' _ hagree
  refine ⟨fun c => (Cert.BOutIdeal.Gen.dats m 0 c).arrAt 3 Cert.BOutIdeal.cfg0.N, Cert.BOutIdeal.Value.run_blocks (F := Ideal) m ρ, ?_⟩
  refine (θ_run Cert.BOutReferenceIdeal.defs _ _).mono (fun r h c => ?_) (Cert.BOutReferenceIdeal.Value.run (F := Ideal) m' ρ')
  obtain ⟨h0, hargs⟩ := h c
  obtain ⟨g0, g1, g2⟩ := hagree c
  rw [Cert.BOutReferenceIdeal.Read.val_main_v1_eq, g0, g1, g2] at h0
  exact ⟨h0.trans ((ref (res m c) (x m c) (w m c)).trans (arr m c).symm), hargs⟩

end Cert.BOutValue

end
-- ==== Proof.AQkvDx.lean ====
/- The gradient of the grouped-query attention's input projection's left operand: the kernel adds four products, one per group of 768 columns, and its
   array holds the product of the incoming gradient with the transposed weights, as the reference's does. -/
module

public import proofs.«01_k».proof.Defs
public import proofs.«01_k».proof.Proof.Gen.AQkvDx
public import proofs.«01_k».proof.Proof.Gen.AQkvDxIdeal
public import proofs.«01_k».proof.Proof.Gen.AQkvDxReferenceIdeal
public import proofs.«01_k».proof.Proof.Gen.AQkvDxIdeal.Value
public import proofs.«01_k».proof.Proof.Gen.AQkvDxReferenceIdeal.Run
public import proofs.«01_k».proof.Proof.Gen.AQkvDxReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.AQkvDxValue

open Cert.AQkvDxIdeal Cert.AQkvDxIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The weights and the incoming gradient. -/
abbrev w : S2048x3072.Idx → EReal := m ((c : Thread nD τ).loc main_arg0)
@[inherit_doc w] abbrev ct : S4096x3072.Idx → EReal := m ((c : Thread nD τ).loc main_arg1)

/-- The block index of the incoming gradient. -/
theorem idx0 : ∀ t : Fin cfg0.N, win0_0.index t = ![t.val / 8, t.val % 4] := by decide +kernel
/-- The block index of the weights. -/
theorem idx1 : ∀ t : Fin cfg0.N, win0_1.index t = ![0, t.val % 4, t.val / 4 % 2, 0] := by decide +kernel
/-- The block index of the result. -/
theorem idx2 : ∀ t : Fin cfg0.N, win0_2.index t = ![t.val / 8, t.val / 4 % 2] := by decide +kernel

theorem lt (t : Fin cfg0.N) : t.val < 32 := t.isLt

/-- The host's rounding of the incoming gradient is the identity. -/
theorem V0 : V m c main_v0 = ct m c := by
  unfold V
  after_reads_simp
  rfl

/-- The host's copy of the weights, its columns in four groups. -/
theorem V4 : V m c main_v4 = broadcastInDim S1x4x2048x768 ![1, 2, 3] bcast_S4x2048x768_S1x4x2048x768_1_2_3
    (transpose S4x2048x768 [1, 0, 2] (shapeCast S2048x4x768 (w m c) shapeCasts_S2048x3072_S2048x4x768)
      transposes_S2048x4x768_S4x2048x768_1_0_2) := by
  unfold V
  after_reads_simp
  rfl

/-- The grouped weights at an index. -/
theorem V4_apply (p : Fin 4) (r : Fin 2048) (k : Fin 768) : (V m c main_v4 : S1x4x2048x768.Idx → EReal) (ix4 0 p r k)
    = w m c (ix2 r ⟨768 * p.val + k.val, by omega⟩) := by
  rw [V4]
  pointwise
  exact congrArg (w m c) (congrArg _ (Fin.ext (show p.val * 768 + k.val = 768 * p.val + k.val by omega)))

/-- Block 0 of grid point `t`: of the incoming gradient. -/
abbrev ib0 (t : Fin cfg0.N) : S1024x768.Idx → EReal := iblk m c 0 t
/-- Block 1 of grid point `t`: of the weights. -/
abbrev ib1 (t : Fin cfg0.N) : S1x1x1024x768.Idx → EReal := iblk m c 1 t

/-- The row of the result at row `r` of point `t`'s block. -/
def row (t : Fin cfg0.N) (r : Fin 1024) : Fin 4096 := ⟨1024 * (t.val / 8) + r.val, by have := lt t; omega⟩
/-- The column of the result at column `s` of point `t`'s block. -/
def col (t : Fin cfg0.N) (s : Fin 1024) : Fin 2048 := ⟨1024 * (t.val / 4 % 2) + s.val, by omega⟩

/-- The incoming gradient's block. -/
theorem b0 (t : Fin cfg0.N) (r : Fin 1024) (k : Fin 768) : ib0 m c t (ix2 r k)
    = ct m c (ix2 (row t r) ⟨768 * (t.val % 4) + k.val, by omega⟩) := by
  have e : ib0 m c t (ix2 r k) = (V m c main_v0 : S4096x3072.Idx → EReal) (ix2 (row t r) ⟨768 * (t.val % 4) + k.val, by omega⟩) := by
    unfold ib0 row
    blk_ext [iblk, idx0 t]
  rw [e, V0]

/-- The weights' block. -/
theorem b1 (t : Fin cfg0.N) (r : Fin 1024) (k : Fin 768) : ib1 m c t (ix4 0 0 r k)
    = w m c (ix2 (col t r) ⟨768 * (t.val % 4) + k.val, by omega⟩) := by
  have e : ib1 m c t (ix4 0 0 r k) = (V m c main_v4 : S1x4x2048x768.Idx → EReal) (ix4 0 ⟨t.val % 4, by omega⟩ (col t r) k) := by
    unfold ib1 col
    blk_ext [iblk, idx1 t]
  rw [e, V4_apply]

/-- What a point adds to its block. -/
def term (t : Fin cfg0.N) (r s : Fin 1024) : EReal :=
  part (q := 768) (ct m c) (w m c) (row t r) (col t s) ⟨t.val % 4, by omega⟩

theorem dot (t : Fin cfg0.N) (r s : Fin 1024) : ∑ k : Fin 768, ib0 m c t (ix2 r k) * ib1 m c t (ix4 0 0 s k) = term m c t r s := by
  unfold term part
  exact Finset.sum_congr rfl fun k _ => by rw [b0, b1]

/-- At the first group the accumulator is that group's product. -/
theorem accA (t : Fin cfg0.N) (h0 : t.val % 4 = 0) (r s : Fin 1024) : (outsAt0 m c t.val t.isLt).2 (ix2 r s) = term m c t r s := by
  rw [outsAt0_A m c t h0 (by omega)]
  frame_out
  unfold_payloads
  pointwise
  exact dot m c t r s

/-- At the groups in between the accumulator is the one before plus that group's product. -/
theorem accB (t : Fin cfg0.N) (h0 : t.val % 4 ≠ 0) (h1 : t.val % 4 ≠ 3) (r s : Fin 1024) : (outsAt0 m c t.val t.isLt).2 (ix2 r s)
    = (outsAt0 m c (t.val - 1) (Nat.lt_of_le_of_lt (Nat.sub_le _ _) t.isLt)).2 (ix2 r s) + term m c t r s := by
  rw [outsAt0_B m c t h0 h1]
  frame_out
  unfold_payloads
  pointwise
  exact congrArg₂ (· + ·) (congrFun ((Memref.isWhole_whole _).read_unread _) _) (dot m c t r s)

/-- At the last group the result's block is the accumulator before plus that group's product. -/
theorem outC (t : Fin cfg0.N) (h0 : t.val % 4 = 3) (r s : Fin 1024) : (outsAt0 m c t.val t.isLt).1 (ix2 r s)
    = (outsAt0 m c (t.val - 1) (Nat.lt_of_le_of_lt (Nat.sub_le _ _) t.isLt)).2 (ix2 r s) + term m c t r s := by
  rw [outsAt0_C m c t (by omega) h0]
  frame_out
  unfold_payloads
  pointwise
  exact congrArg₂ (· + ·) (congrFun ((Memref.isWhole_whole _).read_unread _) _) (dot m c t r s)

/-- A block of the result, where it is written back. -/
theorem block (t : Fin cfg0.N) (h : t.val % 4 = 3) (z : S1024x1024.Idx) : (outsAt0 m c t.val t.isLt).1 z
    = part (q := 768) (ct m c) (w m c) (row t (z 0)) (col t (z 1)) 0 + part (q := 768) (ct m c) (w m c) (row t (z 0)) (col t (z 1)) 1
      + part (q := 768) (ct m c) (w m c) (row t (z 0)) (col t (z 1)) 2 + part (q := 768) (ct m c) (w m c) (row t (z 0)) (col t (z 1)) 3 := by
  have e := fold4 (n := cfg0.N) (fun u h => (outsAt0 m c u h).2 (ix2 (z 0) (z 1))) (fun u h => term m c ⟨u, h⟩ (z 0) (z 1))
    (part (q := 768) (ct m c) (w m c) (row t (z 0)) (col t (z 1)))
    (fun u h h0 => accA m c ⟨u, h⟩ h0 (z 0) (z 1)) (fun u h h0 h1 => accB m c ⟨u, h⟩ h0 h1 (z 0) (z 1)) t.val t.isLt h
    (fun u hu p h0 h1 => by
      have e1 : row ⟨u, hu⟩ (z 0) = row t (z 0) := Fin.ext (show 1024 * (u / 8) + (z 0).val = 1024 * (t.val / 8) + (z 0).val by omega)
      have e2 : col ⟨u, hu⟩ (z 1) = col t (z 1) := Fin.ext (show 1024 * (u / 4 % 2) + (z 1).val = 1024 * (t.val / 4 % 2) + (z 1).val by omega)
      unfold term
      rw [e1, e2]
      exact congrArg _ (Fin.ext h1))
  rw [eq_ix2 z]
  exact (outC m c t h (z 0) (z 1)).trans e

/-- After the run the result is the gradient. -/
theorem arr : (dats m 0 c).arrAt 2 cfg0.N = nt (ct m c) (w m c) := by
  refine (dats m 0 c).arrAt_eq_of_covers 2 _ (by decide +kernel) fun t hf y => ?_
  have h3 := (flush0_2 t).mp hf
  blk_simp
  rw [after0_2]
  refine (block m c t h3 _).trans (nt_parts (q := 768) _ _ _ _ _ ?_ ?_).symm
  · unfold row
    blk_simp [idx2 t]
    dsimp only
    omega
  · unfold col
    blk_simp [idx2 t]
    dsimp only
    omega

/-- The reference's array. -/
theorem ref (W : S2048x3072.Idx → EReal) (C : S4096x3072.Idx → EReal) :
    AQkvDxReferenceIdeal.Read.val_main_v2 (F := Ideal) W C = nt C W := by
  funext i
  rw [AQkvDxReferenceIdeal.Read.val_main_v2_apply]
  refine Finset.sum_congr rfl fun k _ => ?_
  congr 1
  · exact congrArg C (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.AQkvDx.defs₀ (F := Bits) = Cert.AQkvDxIdeal.defs₀ (F := Bits) := by
  unfold Cert.AQkvDx.defs₀ Cert.AQkvDxIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.AQkvDx.defs (F := Bits) = Cert.AQkvDxIdeal.defs (F := Bits) := congrArg (Pipeline.defs _) bodies_eq

/-- The kernel ends without fault, with its arguments unchanged and no counter above zero. -/
theorem frame_k : Cert.quiescent_AQkvDx (hAQkvDx := Cert.AQkvDx.Gen.facts) := fun m ρ _ => by
  rw [defs_eq]
  exact Cert.AQkvDxIdeal.Gen.frame (F := Bits) m ρ

/-- The reference ends without fault, with its arguments unchanged and no counter above zero. -/
theorem frame_r : Cert.quiescent_AQkvDxReferenceIdeal (hAQkvDxReferenceIdeal := Cert.AQkvDxReferenceIdeal.Gen.facts) := by
  intro m ρ _
  exact (θ_run Cert.AQkvDxReferenceIdeal.defs _ _).mono (fun r h => ⟨fun c => (h c).2,
      Idealize.ShloMosaic.sem_eq_zero_of_no_sems (by decide) r.2⟩)
    (Cert.AQkvDxReferenceIdeal.Value.run (F := Ideal) m ρ)

/-- Kernel and reference end with equal results. -/
theorem equal : Cert.algebraic_AQkvDxIdeal_AQkvDxReferenceIdeal (hAQkvDxIdeal := Cert.AQkvDxIdeal.Gen.facts)
    (hAQkvDxReferenceIdeal := Cert.AQkvDxReferenceIdeal.Gen.facts) := by
  intro m ρ m' ρ' _ hagree
  refine ⟨fun c => (Cert.AQkvDxIdeal.Gen.dats m 0 c).arrAt 2 Cert.AQkvDxIdeal.cfg0.N, Cert.AQkvDxIdeal.Value.run_blocks (F := Ideal) m ρ, ?_⟩
  refine (θ_run Cert.AQkvDxReferenceIdeal.defs _ _).mono (fun r h c => ?_) (Cert.AQkvDxReferenceIdeal.Value.run (F := Ideal) m' ρ')
  obtain ⟨h0, hargs⟩ := h c
  obtain ⟨g0, g1⟩ := hagree c
  rw [Cert.AQkvDxReferenceIdeal.Read.val_main_v2_eq, g0, g1] at h0
  exact ⟨h0.trans ((ref (w m c) (ct m c)).trans (arr m c).symm), hargs⟩

end Cert.AQkvDxValue

end
-- ==== Proof.AQkvDw.lean ====
/- The gradient of the grouped-query attention's input projection's right operand: the kernel's array holds the product of the transposed input with
   the incoming gradient, its columns in four groups, as the reference's does. -/
module

public import proofs.«01_k».proof.Defs
public import proofs.«01_k».proof.Proof.Gen.AQkvDw
public import proofs.«01_k».proof.Proof.Gen.AQkvDwIdeal
public import proofs.«01_k».proof.Proof.Gen.AQkvDwReferenceIdeal
public import proofs.«01_k».proof.Proof.Gen.AQkvDwIdeal.Value
public import proofs.«01_k».proof.Proof.Gen.AQkvDwReferenceIdeal.Run
public import proofs.«01_k».proof.Proof.Gen.AQkvDwReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.AQkvDwValue

open Cert.AQkvDwIdeal Cert.AQkvDwIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The product's left operand and the incoming gradient. -/
abbrev x : S4096x2048.Idx → EReal := m ((c : Thread nD τ).loc main_arg0)
@[inherit_doc x] abbrev ct : S4096x3072.Idx → EReal := m ((c : Thread nD τ).loc main_arg1)

/-- The block index of the left operand. -/
theorem idx0 : ∀ t : Fin cfg0.N, win0_0.index t = ![0, t.val / 4] := by decide +kernel
/-- The block index of the incoming gradient. -/
theorem idx1 : ∀ t : Fin cfg0.N, win0_1.index t = ![0, t.val % 4] := by decide +kernel
/-- The block index of the result. -/
theorem idx2 : ∀ t : Fin cfg0.N, win0_2.index t = ![t.val % 4, t.val / 4, 0] := by decide +kernel

theorem lt (t : Fin cfg0.N) : t.val < 16 := t.isLt

/-- The host's rounding of the left operand is the identity. -/
theorem V0 : V m c main_v0 = x m c := by
  unfold V
  after_reads_simp
  rfl

/-- The host's rounding of the incoming gradient is the identity. -/
theorem V1 : V m c main_v1 = ct m c := by
  unfold V
  after_reads_simp
  rfl

/-- Block 0 of grid point `t`: columns of the left operand. -/
abbrev ib0 (t : Fin cfg0.N) : S4096x512.Idx → EReal := iblk m c 0 t
/-- Block 1 of grid point `t`: columns of the incoming gradient. -/
abbrev ib1 (t : Fin cfg0.N) : S4096x768.Idx → EReal := iblk m c 1 t

/-- The row of the gradient at row `r` of point `t`'s block. -/
def row (t : Fin cfg0.N) (r : Fin 512) : Fin 2048 := ⟨512 * (t.val / 4) + r.val, by have := lt t; omega⟩
/-- The column of the gradient at column `s` of point `t`'s block. -/
def col (t : Fin cfg0.N) (s : Fin 768) : Fin (4 * 768) := ⟨768 * (t.val % 4) + s.val, by omega⟩

/-- The left operand's block. -/
theorem b0 (t : Fin cfg0.N) (k : Fin 4096) (r : Fin 512) : ib0 m c t (ix2 k r) = x m c (ix2 k (row t r)) := by
  have e : ib0 m c t (ix2 k r) = (V m c main_v0 : S4096x2048.Idx → EReal) (ix2 k (row t r)) := by
    unfold ib0 row
    blk_ext [iblk, idx0 t]
  rw [e, V0]

/-- The incoming gradient's block. -/
theorem b1 (t : Fin cfg0.N) (k : Fin 4096) (s : Fin 768) : ib1 m c t (ix2 k s) = ct m c (ix2 k (col t s)) := by
  have e : ib1 m c t (ix2 k s) = (V m c main_v1 : S4096x3072.Idx → EReal) (ix2 k (col t s)) := by
    unfold ib1 col
    blk_ext [iblk, idx1 t]
  rw [e, V1]

/-- One entry of a block of the result. -/
theorem entry (t : Fin cfg0.N) (r : Fin 512) (s : Fin 768) : outsAt0 m c t (ix3 0 r s)
    = ∑ k : Fin 4096, x m c (ix2 k (row t r)) * ct m c (ix2 k (col t s)) := by
  have e : outsAt0 m c t (ix3 0 r s) = ∑ k : Fin 4096, ib0 m c t (ix2 k r) * ib1 m c t (ix2 k s) := by
    unfold outsAt0
    frame_out
    open_payloads
    pointwise
  rw [e]
  exact Finset.sum_congr rfl fun k _ => by rw [b0, b1]

/-- A block of the result. -/
theorem block (t : Fin cfg0.N) (z : S1x512x768.Idx) : outsAt0 m c t z
    = ∑ k : Fin 4096, x m c (ix2 k (row t (z 1))) * ct m c (ix2 k (col t (z 2))) := by
  have ez : z = ix3 0 (z 1) (z 2) := by
    have := eq_ix3 z
    rwa [show z 0 = (0 : Fin 1) from Fin.ext (show (z 0).val = 0 by have : (z 0).val < 1 := (z 0).isLt; omega)] at this
  rw [ez]
  exact entry m c t (z 1) (z 2)

/-- After the run the result is the gradient. -/
theorem arr : (dats m 0 c).arrAt 2 cfg0.N = grouped (q := 768) (tn (x m c) (ct m c)) := by
  refine (dats m 0 c).arrAt_eq_of_covers 2 _ (by decide +kernel) fun t hf y => ?_
  blk_simp
  rw [after0_2]
  refine (block m c t _).trans (grouped_tn_at (q := 768) _ _ _ _ _ ?_ ?_).symm
  · unfold row
    blk_simp [idx2 t]
    dsimp only
    omega
  · unfold col
    blk_simp [idx2 t]

/-- The reference's array. -/
theorem ref (A : S4096x2048.Idx → EReal) (C : S4096x3072.Idx → EReal) :
    AQkvDwReferenceIdeal.Read.val_main_v6 (F := Ideal) A C = grouped (q := 768) (tn A C) := by
  funext i
  have h0 : (i 0).val < 4 := (i 0).isLt
  have h1 : (i 1).val < 2048 := (i 1).isLt
  have h2 : (i 2).val < 768 := (i 2).isLt
  rw [AQkvDwReferenceIdeal.Read.val_main_v6_apply, AQkvDwReferenceIdeal.Read.val_main_v5_apply, AQkvDwReferenceIdeal.Read.val_main_v4_apply,
    AQkvDwReferenceIdeal.Read.val_main_v3_apply]
  refine (AQkvDwReferenceIdeal.Read.val_main_v2_apply A C _).trans ((Finset.sum_congr rfl fun k _ => ?_).trans
    (grouped_tn_at (q := 768) A C i (i 1) ⟨768 * (i 0).val + (i 2).val, by omega⟩ rfl rfl).symm)
  refine (mul_comm _ _).trans (congrArg₂ (· * ·) (congrArg A ?_) (congrArg C ?_))
  · funext a
    match a with
    | ⟨0, _⟩ => rfl
    | ⟨1, _⟩ => exact Fin.ext (show (((i 1).val * 4 + (i 0).val) * 768 + (i 2).val) / 3072 = (i 1).val by omega)
  · funext a
    match a with
    | ⟨0, _⟩ => rfl
    | ⟨1, _⟩ => exact Fin.ext (show (((i 1).val * 4 + (i 0).val) * 768 + (i 2).val) % 3072 = 768 * (i 0).val + (i 2).val by omega)

/-- The kernel's bodies are the idealized kernel's: the two programs are one text. -/
theorem bodies_eq : Cert.AQkvDw.defs₀ (F := Bits) = Cert.AQkvDwIdeal.defs₀ (F := Bits) := by
  unfold Cert.AQkvDw.defs₀ Cert.AQkvDwIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.AQkvDw.defs (F := Bits) = Cert.AQkvDwIdeal.defs (F := Bits) := congrArg (Pipeline.defs _) bodies_eq

/-- The kernel ends without fault, with its arguments unchanged and no counter above zero. -/
theorem frame_k : Cert.quiescent_AQkvDw (hAQkvDw := Cert.AQkvDw.Gen.facts) := fun m ρ _ => by
  rw [defs_eq]
  exact Cert.AQkvDwIdeal.Gen.frame (F := Bits) m ρ

/-- The reference ends without fault, with its arguments unchanged and no counter above zero. -/
theorem frame_r : Cert.quiescent_AQkvDwReferenceIdeal (hAQkvDwReferenceIdeal := Cert.AQkvDwReferenceIdeal.Gen.facts) := by
  intro m ρ _
  exact (θ_run Cert.AQkvDwReferenceIdeal.defs _ _).mono (fun r h => ⟨fun c => (h c).2,
      Idealize.ShloMosaic.sem_eq_zero_of_no_sems (by decide) r.2⟩)
    (Cert.AQkvDwReferenceIdeal.Value.run (F := Ideal) m ρ)

/-- Kernel and reference end with equal results. -/
theorem equal : Cert.algebraic_AQkvDwIdeal_AQkvDwReferenceIdeal (hAQkvDwIdeal := Cert.AQkvDwIdeal.Gen.facts)
    (hAQkvDwReferenceIdeal := Cert.AQkvDwReferenceIdeal.Gen.facts) := by
  intro m ρ m' ρ' _ hagree
  refine ⟨fun c => (Cert.AQkvDwIdeal.Gen.dats m 0 c).arrAt 2 Cert.AQkvDwIdeal.cfg0.N, Cert.AQkvDwIdeal.Value.run_blocks (F := Ideal) m ρ, ?_⟩
  refine (θ_run Cert.AQkvDwReferenceIdeal.defs _ _).mono (fun r h c => ?_) (Cert.AQkvDwReferenceIdeal.Value.run (F := Ideal) m' ρ')
  obtain ⟨h0, hargs⟩ := h c
  obtain ⟨g0, g1⟩ := hagree c
  rw [Cert.AQkvDwReferenceIdeal.Read.val_main_v6_eq, g0, g1] at h0
  exact ⟨h0.trans ((ref (x m c) (ct m c)).trans (arr m c).symm), hargs⟩

end Cert.AQkvDwValue

end
-- ==== Proof.AOutDx.lean ====
/- The gradient of the grouped-query attention's output projection's left operand: the kernel's array holds the product of the incoming gradient with
   the transposed weights, as the reference's does. -/
module

public import proofs.«01_k».proof.Defs
public import proofs.«01_k».proof.Proof.Gen.AOutDx
public import proofs.«01_k».proof.Proof.Gen.AOutDxIdeal
public import proofs.«01_k».proof.Proof.Gen.AOutDxReferenceIdeal
public import proofs.«01_k».proof.Proof.Gen.AOutDxIdeal.Value
public import proofs.«01_k».proof.Proof.Gen.AOutDxReferenceIdeal.Run
public import proofs.«01_k».proof.Proof.Gen.AOutDxReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.AOutDxValue

open Cert.AOutDxIdeal Cert.AOutDxIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The weights and the incoming gradient. -/
abbrev w : S2048x2048.Idx → EReal := m ((c : Thread nD τ).loc main_arg0)
@[inherit_doc w] abbrev ct : S4096x2048.Idx → EReal := m ((c : Thread nD τ).loc main_arg1)

/-- The block index of the incoming gradient. -/
theorem idx0 : ∀ t : Fin cfg0.N, win0_0.index t = ![t.val / 2, 0] := by decide +kernel
/-- The block index of the weights. -/
theorem idx1 : ∀ t : Fin cfg0.N, win0_1.index t = ![0, t.val % 2, 0] := by decide +kernel
/-- The block index of the result. -/
theorem idx2 : ∀ t : Fin cfg0.N, win0_2.index t = ![t.val / 2, t.val % 2] := by decide +kernel

theorem lt (t : Fin cfg0.N) : t.val < 8 := t.isLt

/-- The host's rounding of the incoming gradient is the identity. -/
theorem V0 : V m c main_v0 = ct m c := by
  unfold V
  after_reads_simp
  rfl

/-- The host's copy of the weights, with a leading axis of one. -/
theorem V2 : V m c main_v2 = broadcastInDim S1x2048x2048 ![1, 2] bcast_S2048x2048_S1x2048x2048_1_2 (w m c) := by
  unfold V
  after_reads_simp
  rfl

/-- Block 0 of grid point `t`: rows of the incoming gradient. -/
abbrev ib0 (t : Fin cfg0.N) : S1024x2048.Idx → EReal := iblk m c 0 t
/-- Block 1 of grid point `t`: rows of the weights. -/
abbrev ib1 (t : Fin cfg0.N) : S1x1024x2048.Idx → EReal := iblk m c 1 t

/-- The row of the gradient at row `r` of point `t`'s block. -/
def row (t : Fin cfg0.N) (r : Fin 1024) : Fin 4096 := ⟨1024 * (t.val / 2) + r.val, by have := lt t; omega⟩
/-- The column of the gradient at column `s` of point `t`'s block. -/
def col (t : Fin cfg0.N) (s : Fin 1024) : Fin 2048 := ⟨1024 * (t.val % 2) + s.val, by omega⟩

/-- The incoming gradient's block. -/
theorem b0 (t : Fin cfg0.N) (r : Fin 1024) (k : Fin 2048) : ib0 m c t (ix2 r k) = ct m c (ix2 (row t r) k) := by
  have e : ib0 m c t (ix2 r k) = (V m c main_v0 : S4096x2048.Idx → EReal) (ix2 (row t r) k) := by
    unfold ib0 row
    blk_ext [iblk, idx0 t]
  rw [e, V0]

/-- The weights' block. -/
theorem b1 (t : Fin cfg0.N) (s : Fin 1024) (k : Fin 2048) : ib1 m c t (ix3 0 s k) = w m c (ix2 (col t s) k) := by
  have e : ib1 m c t (ix3 0 s k) = (V m c main_v2 : S1x2048x2048.Idx → EReal) (ix3 0 (col t s) k) := by
    unfold ib1 col
    blk_ext [iblk, idx1 t]
  rw [e, V2]
  pointwise

/-- One entry of a block of the result. -/
theorem entry (t : Fin cfg0.N) (r : Fin 1024) (s : Fin 1024) : out0_2 (iblk m c 0 t) (iblk m c 1 t) (ix2 r s)
    = ∑ k : Fin 2048, ct m c (ix2 (row t r) k) * w m c (ix2 (col t s) k) := by
  have e : out0_2 (iblk m c 0 t) (iblk m c 1 t) (ix2 r s) = ∑ k : Fin 2048, ib0 m c t (ix2 r k) * ib1 m c t (ix3 0 s k) := by
    frame_out
    unfold_payloads
    pointwise
  rw [e]
  exact Finset.sum_congr rfl fun k _ => by rw [b0, b1]

/-- A block of the result. -/
theorem block (t : Fin cfg0.N) (z : S1024x1024.Idx) : out0_2 (iblk m c 0 t) (iblk m c 1 t) z
    = ∑ k : Fin 2048, ct m c (ix2 (row t (z 0)) k) * w m c (ix2 (col t (z 1)) k) := by
  rw [eq_ix2 z]
  exact entry m c t (z 0) (z 1)

/-- After the run the result is the gradient. -/
theorem arr : (dats m 0 c).arrAt 2 cfg0.N = nt (ct m c) (w m c) := by
  refine (dats m 0 c).arrAt_eq_of_covers 2 _ (by decide +kernel) fun t hf y => ?_
  blk_simp
  rw [after0_2]
  refine (block m c t _).trans (nt_at _ _ _ _ _ ?_ ?_).symm
  · unfold row
    blk_simp [idx2 t]
    dsimp only
    omega
  · unfold col
    blk_simp [idx2 t]
    dsimp only
    omega

/-- The reference's array. -/
theorem ref (W : S2048x2048.Idx → EReal) (C : S4096x2048.Idx → EReal) :
    AOutDxReferenceIdeal.Read.val_main_v2 (F := Ideal) W C = nt C W := by
  funext i
  rw [AOutDxReferenceIdeal.Read.val_main_v2_apply]
  refine Finset.sum_congr rfl fun k _ => ?_
  congr 1
  · exact congrArg C (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.AOutDx.defs₀ (F := Bits) = Cert.AOutDxIdeal.defs₀ (F := Bits) := by
  unfold Cert.AOutDx.defs₀ Cert.AOutDxIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.AOutDx.defs (F := Bits) = Cert.AOutDxIdeal.defs (F := Bits) := congrArg (Pipeline.defs _) bodies_eq

/-- The kernel ends without fault, with its arguments unchanged and no counter above zero. -/
theorem frame_k : Cert.quiescent_AOutDx (hAOutDx := Cert.AOutDx.Gen.facts) := fun m ρ _ => by
  rw [defs_eq]
  exact Cert.AOutDxIdeal.Gen.frame (F := Bits) m ρ

/-- The reference ends without fault, with its arguments unchanged and no counter above zero. -/
theorem frame_r : Cert.quiescent_AOutDxReferenceIdeal (hAOutDxReferenceIdeal := Cert.AOutDxReferenceIdeal.Gen.facts) := by
  intro m ρ _
  exact (θ_run Cert.AOutDxReferenceIdeal.defs _ _).mono (fun r h => ⟨fun c => (h c).2,
      Idealize.ShloMosaic.sem_eq_zero_of_no_sems (by decide) r.2⟩)
    (Cert.AOutDxReferenceIdeal.Value.run (F := Ideal) m ρ)

/-- Kernel and reference end with equal results. -/
theorem equal : Cert.algebraic_AOutDxIdeal_AOutDxReferenceIdeal (hAOutDxIdeal := Cert.AOutDxIdeal.Gen.facts)
    (hAOutDxReferenceIdeal := Cert.AOutDxReferenceIdeal.Gen.facts) := by
  intro m ρ m' ρ' _ hagree
  refine ⟨fun c => (Cert.AOutDxIdeal.Gen.dats m 0 c).arrAt 2 Cert.AOutDxIdeal.cfg0.N, Cert.AOutDxIdeal.Value.run_blocks (F := Ideal) m ρ, ?_⟩
  refine (θ_run Cert.AOutDxReferenceIdeal.defs _ _).mono (fun r h c => ?_) (Cert.AOutDxReferenceIdeal.Value.run (F := Ideal) m' ρ')
  obtain ⟨h0, hargs⟩ := h c
  obtain ⟨g0, g1⟩ := hagree c
  rw [Cert.AOutDxReferenceIdeal.Read.val_main_v2_eq, g0, g1] at h0
  exact ⟨h0.trans ((ref (w m c) (ct m c)).trans (arr m c).symm), hargs⟩

end Cert.AOutDxValue

end
-- ==== Proof.AOutDw.lean ====
/- The gradient of the grouped-query attention's output projection's right operand: the kernel's array holds the product of the transposed input with
   the incoming gradient, as the reference's does. -/
module

public import proofs.«01_k».proof.Defs
public import proofs.«01_k».proof.Proof.Gen.AOutDw
public import proofs.«01_k».proof.Proof.Gen.AOutDwIdeal
public import proofs.«01_k».proof.Proof.Gen.AOutDwReferenceIdeal
public import proofs.«01_k».proof.Proof.Gen.AOutDwIdeal.Value
public import proofs.«01_k».proof.Proof.Gen.AOutDwReferenceIdeal.Run
public import proofs.«01_k».proof.Proof.Gen.AOutDwReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.AOutDwValue

open Cert.AOutDwIdeal Cert.AOutDwIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The product's left operand and the incoming gradient. -/
abbrev x : S4096x2048.Idx → EReal := m ((c : Thread nD τ).loc main_arg0)
@[inherit_doc x] abbrev ct : S4096x2048.Idx → EReal := m ((c : Thread nD τ).loc main_arg1)

/-- The block index of the left operand. -/
theorem idx0 : ∀ t : Fin cfg0.N, win0_0.index t = ![0, t.val / 2] := by decide +kernel
/-- The block index of the incoming gradient. -/
theorem idx1 : ∀ t : Fin cfg0.N, win0_1.index t = ![0, t.val % 2] := by decide +kernel
/-- The block index of the result. -/
theorem idx2 : ∀ t : Fin cfg0.N, win0_2.index t = ![t.val / 2, t.val % 2] := by decide +kernel

theorem lt (t : Fin cfg0.N) : t.val < 8 := t.isLt

/-- The host's rounding of the left operand is the identity. -/
theorem V0 : V m c main_v0 = x m c := by
  unfold V
  after_reads_simp
  rfl

/-- The host's rounding of the incoming gradient is the identity. -/
theorem V1 : V m c main_v1 = ct m c := by
  unfold V
  after_reads_simp
  rfl

/-- Block 0 of grid point `t`: columns of the left operand. -/
abbrev ib0 (t : Fin cfg0.N) : S4096x512.Idx → EReal := iblk m c 0 t
/-- Block 1 of grid point `t`: columns of the incoming gradient. -/
abbrev ib1 (t : Fin cfg0.N) : S4096x1024.Idx → EReal := iblk m c 1 t

/-- The row of the gradient at row `r` of point `t`'s block. -/
def row (t : Fin cfg0.N) (r : Fin 512) : Fin 2048 := ⟨512 * (t.val / 2) + r.val, by have := lt t; omega⟩
/-- The column of the gradient at column `s` of point `t`'s block. -/
def col (t : Fin cfg0.N) (s : Fin 1024) : Fin 2048 := ⟨1024 * (t.val % 2) + s.val, by omega⟩

/-- The left operand's block. -/
theorem b0 (t : Fin cfg0.N) (k : Fin 4096) (r : Fin 512) : ib0 m c t (ix2 k r) = x m c (ix2 k (row t r)) := by
  have e : ib0 m c t (ix2 k r) = (V m c main_v0 : S4096x2048.Idx → EReal) (ix2 k (row t r)) := by
    unfold ib0 row
    blk_ext [iblk, idx0 t]
  rw [e, V0]

/-- The incoming gradient's block. -/
theorem b1 (t : Fin cfg0.N) (k : Fin 4096) (s : Fin 1024) : ib1 m c t (ix2 k s) = ct m c (ix2 k (col t s)) := by
  have e : ib1 m c t (ix2 k s) = (V m c main_v1 : S4096x2048.Idx → EReal) (ix2 k (col t s)) := by
    unfold ib1 col
    blk_ext [iblk, idx1 t]
  rw [e, V1]

/-- One entry of a block of the result. -/
theorem entry (t : Fin cfg0.N) (r : Fin 512) (s : Fin 1024) : outsAt0 m c t (ix2 r s)
    = ∑ k : Fin 4096, x m c (ix2 k (row t r)) * ct m c (ix2 k (col t s)) := by
  have e : outsAt0 m c t (ix2 r s) = ∑ k : Fin 4096, ib0 m c t (ix2 k r) * ib1 m c t (ix2 k s) := by
    unfold outsAt0
    frame_out
    open_payloads
    pointwise
  rw [e]
  exact Finset.sum_congr rfl fun k _ => by rw [b0, b1]

/-- A block of the result. -/
theorem block (t : Fin cfg0.N) (z : S512x1024.Idx) : outsAt0 m c t z
    = ∑ k : Fin 4096, x m c (ix2 k (row t (z 0))) * ct m c (ix2 k (col t (z 1))) := by
  rw [eq_ix2 z]
  exact entry m c t (z 0) (z 1)

/-- After the run the result is the gradient. -/
theorem arr : (dats m 0 c).arrAt 2 cfg0.N = tn (x m c) (ct m c) := by
  refine (dats m 0 c).arrAt_eq_of_covers 2 _ (by decide +kernel) fun t hf y => ?_
  blk_simp
  rw [after0_2]
  refine (block m c t _).trans (tn_at _ _ _ _ _ ?_ ?_).symm
  · unfold row
    blk_simp [idx2 t]
    dsimp only
    omega
  · unfold col
    blk_simp [idx2 t]
    dsimp only
    omega

/-- The reference's array. -/
theorem ref (A : S4096x2048.Idx → EReal) (C : S4096x2048.Idx → EReal) :
    AOutDwReferenceIdeal.Read.val_main_v4 (F := Ideal) A C = tn A C := by
  funext i
  rw [AOutDwReferenceIdeal.Read.val_main_v4_apply, AOutDwReferenceIdeal.Read.val_main_v3_apply]
  refine (AOutDwReferenceIdeal.Read.val_main_v2_apply A C _).trans (Finset.sum_congr rfl fun k _ => ?_)
  refine (mul_comm _ _).trans ?_
  congr 1
  · exact congrArg A (by funext a; match a with | ⟨0, _⟩ => rfl | ⟨1, _⟩ => rfl)
  · exact congrArg C (by funext a; match a with | ⟨0, _⟩ => rfl | ⟨1, _⟩ => rfl)

/-- The kernel's bodies are the idealized kernel's: the two programs are one text. -/
theorem bodies_eq : Cert.AOutDw.defs₀ (F := Bits) = Cert.AOutDwIdeal.defs₀ (F := Bits) := by
  unfold Cert.AOutDw.defs₀ Cert.AOutDwIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.AOutDw.defs (F := Bits) = Cert.AOutDwIdeal.defs (F := Bits) := congrArg (Pipeline.defs _) bodies_eq

/-- The kernel ends without fault, with its arguments unchanged and no counter above zero. -/
theorem frame_k : Cert.quiescent_AOutDw (hAOutDw := Cert.AOutDw.Gen.facts) := fun m ρ _ => by
  rw [defs_eq]
  exact Cert.AOutDwIdeal.Gen.frame (F := Bits) m ρ

/-- The reference ends without fault, with its arguments unchanged and no counter above zero. -/
theorem frame_r : Cert.quiescent_AOutDwReferenceIdeal (hAOutDwReferenceIdeal := Cert.AOutDwReferenceIdeal.Gen.facts) := by
  intro m ρ _
  exact (θ_run Cert.AOutDwReferenceIdeal.defs _ _).mono (fun r h => ⟨fun c => (h c).2,
      Idealize.ShloMosaic.sem_eq_zero_of_no_sems (by decide) r.2⟩)
    (Cert.AOutDwReferenceIdeal.Value.run (F := Ideal) m ρ)

/-- Kernel and reference end with equal results. -/
theorem equal : Cert.algebraic_AOutDwIdeal_AOutDwReferenceIdeal (hAOutDwIdeal := Cert.AOutDwIdeal.Gen.facts)
    (hAOutDwReferenceIdeal := Cert.AOutDwReferenceIdeal.Gen.facts) := by
  intro m ρ m' ρ' _ hagree
  refine ⟨fun c => (Cert.AOutDwIdeal.Gen.dats m 0 c).arrAt 2 Cert.AOutDwIdeal.cfg0.N, Cert.AOutDwIdeal.Value.run_blocks (F := Ideal) m ρ, ?_⟩
  refine (θ_run Cert.AOutDwReferenceIdeal.defs _ _).mono (fun r h c => ?_) (Cert.AOutDwReferenceIdeal.Value.run (F := Ideal) m' ρ')
  obtain ⟨h0, hargs⟩ := h c
  obtain ⟨g0, g1⟩ := hagree c
  rw [Cert.AOutDwReferenceIdeal.Read.val_main_v4_eq, g0, g1] at h0
  exact ⟨h0.trans ((ref (x m c) (ct m c)).trans (arr m c).symm), hargs⟩

end Cert.AOutDwValue

end
-- ==== Proof.BQkvDx.lean ====
/- The gradient of the dilated attention's input projection's left operand: the kernel adds four products, one per group of 2304 columns, and its
   array holds the product of the incoming gradient with the transposed weights, as the reference's does. -/
module

public import proofs.«01_k».proof.Defs
public import proofs.«01_k».proof.Proof.Gen.BQkvDx
public import proofs.«01_k».proof.Proof.Gen.BQkvDxIdeal
public import proofs.«01_k».proof.Proof.Gen.BQkvDxReferenceIdeal
public import proofs.«01_k».proof.Proof.Gen.BQkvDxIdeal.Value
public import proofs.«01_k».proof.Proof.Gen.BQkvDxReferenceIdeal.Run
public import proofs.«01_k».proof.Proof.Gen.BQkvDxReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.BQkvDxValue

open Cert.BQkvDxIdeal Cert.BQkvDxIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The weights and the incoming gradient. -/
abbrev w : S2048x9216.Idx → EReal := m ((c : Thread nD τ).loc main_arg0)
@[inherit_doc w] abbrev ct : S4096x9216.Idx → EReal := m ((c : Thread nD τ).loc main_arg1)

/-- The block index of the incoming gradient. -/
theorem idx0 : ∀ t : Fin cfg0.N, win0_0.index t = ![t.val / 8, t.val % 4] := by decide +kernel
/-- The block index of the weights. -/
theorem idx1 : ∀ t : Fin cfg0.N, win0_1.index t = ![0, t.val % 4, t.val / 4 % 2, 0] := by decide +kernel
/-- The block index of the result. -/
theorem idx2 : ∀ t : Fin cfg0.N, win0_2.index t = ![t.val / 8, t.val / 4 % 2] := by decide +kernel

theorem lt (t : Fin cfg0.N) : t.val < 32 := t.isLt

/-- The host's rounding of the incoming gradient is the identity. -/
theorem V0 : V m c main_v0 = ct m c := by
  unfold V
  after_reads_simp
  rfl

/-- The host's copy of the weights, its columns in four groups. -/
theorem V4 : V m c main_v4 = broadcastInDim S1x4x2048x2304 ![1, 2, 3] bcast_S4x2048x2304_S1x4x2048x2304_1_2_3
    (transpose S4x2048x2304 [1, 0, 2] (shapeCast S2048x4x2304 (w m c) shapeCasts_S2048x9216_S2048x4x2304)
      transposes_S2048x4x2304_S4x2048x2304_1_0_2) := by
  unfold V
  after_reads_simp
  rfl

/-- The grouped weights at an index. -/
theorem V4_apply (p : Fin 4) (r : Fin 2048) (k : Fin 2304) : (V m c main_v4 : S1x4x2048x2304.Idx → EReal) (ix4 0 p r k)
    = w m c (ix2 r ⟨2304 * p.val + k.val, by omega⟩) := by
  rw [V4]
  pointwise
  exact congrArg (w m c) (congrArg _ (Fin.ext (show p.val * 2304 + k.val = 2304 * p.val + k.val by omega)))

/-- Block 0 of grid point `t`: of the incoming gradient. -/
abbrev ib0 (t : Fin cfg0.N) : S1024x2304.Idx → EReal := iblk m c 0 t
/-- Block 1 of grid point `t`: of the weights. -/
abbrev ib1 (t : Fin cfg0.N) : S1x1x1024x2304.Idx → EReal := iblk m c 1 t

/-- The row of the result at row `r` of point `t`'s block. -/
def row (t : Fin cfg0.N) (r : Fin 1024) : Fin 4096 := ⟨1024 * (t.val / 8) + r.val, by have := lt t; omega⟩
/-- The column of the result at column `s` of point `t`'s block. -/
def col (t : Fin cfg0.N) (s : Fin 1024) : Fin 2048 := ⟨1024 * (t.val / 4 % 2) + s.val, by omega⟩

/-- The incoming gradient's block. -/
theorem b0 (t : Fin cfg0.N) (r : Fin 1024) (k : Fin 2304) : ib0 m c t (ix2 r k)
    = ct m c (ix2 (row t r) ⟨2304 * (t.val % 4) + k.val, by omega⟩) := by
  have e : ib0 m c t (ix2 r k) = (V m c main_v0 : S4096x9216.Idx → EReal) (ix2 (row t r) ⟨2304 * (t.val % 4) + k.val, by omega⟩) := by
    unfold ib0 row
    blk_ext [iblk, idx0 t]
  rw [e, V0]

/-- The weights' block. -/
theorem b1 (t : Fin cfg0.N) (r : Fin 1024) (k : Fin 2304) : ib1 m c t (ix4 0 0 r k)
    = w m c (ix2 (col t r) ⟨2304 * (t.val % 4) + k.val, by omega⟩) := by
  have e : ib1 m c t (ix4 0 0 r k) = (V m c main_v4 : S1x4x2048x2304.Idx → EReal) (ix4 0 ⟨t.val % 4, by omega⟩ (col t r) k) := by
    unfold ib1 col
    blk_ext [iblk, idx1 t]
  rw [e, V4_apply]

/-- What a point adds to its block. -/
def term (t : Fin cfg0.N) (r s : Fin 1024) : EReal :=
  part (q := 2304) (ct m c) (w m c) (row t r) (col t s) ⟨t.val % 4, by omega⟩

theorem dot (t : Fin cfg0.N) (r s : Fin 1024) : ∑ k : Fin 2304, ib0 m c t (ix2 r k) * ib1 m c t (ix4 0 0 s k) = term m c t r s := by
  unfold term part
  exact Finset.sum_congr rfl fun k _ => by rw [b0, b1]

/-- At the first group the accumulator is that group's product. -/
theorem accA (t : Fin cfg0.N) (h0 : t.val % 4 = 0) (r s : Fin 1024) : (outsAt0 m c t.val t.isLt).2 (ix2 r s) = term m c t r s := by
  rw [outsAt0_A m c t h0 (by omega)]
  frame_out
  unfold_payloads
  pointwise
  exact dot m c t r s

/-- At the groups in between the accumulator is the one before plus that group's product. -/
theorem accB (t : Fin cfg0.N) (h0 : t.val % 4 ≠ 0) (h1 : t.val % 4 ≠ 3) (r s : Fin 1024) : (outsAt0 m c t.val t.isLt).2 (ix2 r s)
    = (outsAt0 m c (t.val - 1) (Nat.lt_of_le_of_lt (Nat.sub_le _ _) t.isLt)).2 (ix2 r s) + term m c t r s := by
  rw [outsAt0_B m c t h0 h1]
  frame_out
  unfold_payloads
  pointwise
  exact congrArg₂ (· + ·) (congrFun ((Memref.isWhole_whole _).read_unread _) _) (dot m c t r s)

/-- At the last group the result's block is the accumulator before plus that group's product. -/
theorem outC (t : Fin cfg0.N) (h0 : t.val % 4 = 3) (r s : Fin 1024) : (outsAt0 m c t.val t.isLt).1 (ix2 r s)
    = (outsAt0 m c (t.val - 1) (Nat.lt_of_le_of_lt (Nat.sub_le _ _) t.isLt)).2 (ix2 r s) + term m c t r s := by
  rw [outsAt0_C m c t (by omega) h0]
  frame_out
  unfold_payloads
  pointwise
  exact congrArg₂ (· + ·) (congrFun ((Memref.isWhole_whole _).read_unread _) _) (dot m c t r s)

/-- A block of the result, where it is written back. -/
theorem block (t : Fin cfg0.N) (h : t.val % 4 = 3) (z : S1024x1024.Idx) : (outsAt0 m c t.val t.isLt).1 z
    = part (q := 2304) (ct m c) (w m c) (row t (z 0)) (col t (z 1)) 0 + part (q := 2304) (ct m c) (w m c) (row t (z 0)) (col t (z 1)) 1
      + part (q := 2304) (ct m c) (w m c) (row t (z 0)) (col t (z 1)) 2 + part (q := 2304) (ct m c) (w m c) (row t (z 0)) (col t (z 1)) 3 := by
  have e := fold4 (n := cfg0.N) (fun u h => (outsAt0 m c u h).2 (ix2 (z 0) (z 1))) (fun u h => term m c ⟨u, h⟩ (z 0) (z 1))
    (part (q := 2304) (ct m c) (w m c) (row t (z 0)) (col t (z 1)))
    (fun u h h0 => accA m c ⟨u, h⟩ h0 (z 0) (z 1)) (fun u h h0 h1 => accB m c ⟨u, h⟩ h0 h1 (z 0) (z 1)) t.val t.isLt h
    (fun u hu p h0 h1 => by
      have e1 : row ⟨u, hu⟩ (z 0) = row t (z 0) := Fin.ext (show 1024 * (u / 8) + (z 0).val = 1024 * (t.val / 8) + (z 0).val by omega)
      have e2 : col ⟨u, hu⟩ (z 1) = col t (z 1) := Fin.ext (show 1024 * (u / 4 % 2) + (z 1).val = 1024 * (t.val / 4 % 2) + (z 1).val by omega)
      unfold term
      rw [e1, e2]
      exact congrArg _ (Fin.ext h1))
  rw [eq_ix2 z]
  exact (outC m c t h (z 0) (z 1)).trans e

/-- After the run the result is the gradient. -/
theorem arr : (dats m 0 c).arrAt 2 cfg0.N = nt (ct m c) (w m c) := by
  refine (dats m 0 c).arrAt_eq_of_covers 2 _ (by decide +kernel) fun t hf y => ?_
  have h3 := (flush0_2 t).mp hf
  blk_simp
  rw [after0_2]
  refine (block m c t h3 _).trans (nt_parts (q := 2304) _ _ _ _ _ ?_ ?_).symm
  · unfold row
    blk_simp [idx2 t]
    dsimp only
    omega
  · unfold col
    blk_simp [idx2 t]
    dsimp only
    omega

/-- The reference's array. -/
theorem ref (W : S2048x9216.Idx → EReal) (C : S4096x9216.Idx → EReal) :
    BQkvDxReferenceIdeal.Read.val_main_v2 (F := Ideal) W C = nt C W := by
  funext i
  rw [BQkvDxReferenceIdeal.Read.val_main_v2_apply]
  refine Finset.sum_congr rfl fun k _ => ?_
  congr 1
  · exact congrArg C (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.BQkvDx.defs₀ (F := Bits) = Cert.BQkvDxIdeal.defs₀ (F := Bits) := by
  unfold Cert.BQkvDx.defs₀ Cert.BQkvDxIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.BQkvDx.defs (F := Bits) = Cert.BQkvDxIdeal.defs (F := Bits) := congrArg (Pipeline.defs _) bodies_eq

/-- The kernel ends without fault, with its arguments unchanged and no counter above zero. -/
theorem frame_k : Cert.quiescent_BQkvDx (hBQkvDx := Cert.BQkvDx.Gen.facts) := fun m ρ _ => by
  rw [defs_eq]
  exact Cert.BQkvDxIdeal.Gen.frame (F := Bits) m ρ

/-- The reference ends without fault, with its arguments unchanged and no counter above zero. -/
theorem frame_r : Cert.quiescent_BQkvDxReferenceIdeal (hBQkvDxReferenceIdeal := Cert.BQkvDxReferenceIdeal.Gen.facts) := by
  intro m ρ _
  exact (θ_run Cert.BQkvDxReferenceIdeal.defs _ _).mono (fun r h => ⟨fun c => (h c).2,
      Idealize.ShloMosaic.sem_eq_zero_of_no_sems (by decide) r.2⟩)
    (Cert.BQkvDxReferenceIdeal.Value.run (F := Ideal) m ρ)

/-- Kernel and reference end with equal results. -/
theorem equal : Cert.algebraic_BQkvDxIdeal_BQkvDxReferenceIdeal (hBQkvDxIdeal := Cert.BQkvDxIdeal.Gen.facts)
    (hBQkvDxReferenceIdeal := Cert.BQkvDxReferenceIdeal.Gen.facts) := by
  intro m ρ m' ρ' _ hagree
  refine ⟨fun c => (Cert.BQkvDxIdeal.Gen.dats m 0 c).arrAt 2 Cert.BQkvDxIdeal.cfg0.N, Cert.BQkvDxIdeal.Value.run_blocks (F := Ideal) m ρ, ?_⟩
  refine (θ_run Cert.BQkvDxReferenceIdeal.defs _ _).mono (fun r h c => ?_) (Cert.BQkvDxReferenceIdeal.Value.run (F := Ideal) m' ρ')
  obtain ⟨h0, hargs⟩ := h c
  obtain ⟨g0, g1⟩ := hagree c
  rw [Cert.BQkvDxReferenceIdeal.Read.val_main_v2_eq, g0, g1] at h0
  exact ⟨h0.trans ((ref (w m c) (ct m c)).trans (arr m c).symm), hargs⟩

end Cert.BQkvDxValue

end
-- ==== Proof.BQkvDw.lean ====
/- The gradient of the dilated attention's input projection's right operand: the kernel's array holds the product of the transposed input with
   the incoming gradient, its columns in four groups, as the reference's does. -/
module

public import proofs.«01_k».proof.Defs
public import proofs.«01_k».proof.Proof.Gen.BQkvDw
public import proofs.«01_k».proof.Proof.Gen.BQkvDwIdeal
public import proofs.«01_k».proof.Proof.Gen.BQkvDwReferenceIdeal
public import proofs.«01_k».proof.Proof.Gen.BQkvDwIdeal.Value
public import proofs.«01_k».proof.Proof.Gen.BQkvDwReferenceIdeal.Run
public import proofs.«01_k».proof.Proof.Gen.BQkvDwReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.BQkvDwValue

open Cert.BQkvDwIdeal Cert.BQkvDwIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The product's left operand and the incoming gradient. -/
abbrev x : S4096x2048.Idx → EReal := m ((c : Thread nD τ).loc main_arg0)
@[inherit_doc x] abbrev ct : S4096x9216.Idx → EReal := m ((c : Thread nD τ).loc main_arg1)

/-- The block index of the left operand. -/
theorem idx0 : ∀ t : Fin cfg0.N, win0_0.index t = ![0, t.val / 8] := by decide +kernel
/-- The block index of the incoming gradient. -/
theorem idx1 : ∀ t : Fin cfg0.N, win0_1.index t = ![0, t.val % 8] := by decide +kernel
/-- The block index of the result. -/
theorem idx2 : ∀ t : Fin cfg0.N, win0_2.index t = ![t.val % 8 / 2, t.val / 8, t.val % 8 % 2] := by decide +kernel

theorem lt (t : Fin cfg0.N) : t.val < 32 := t.isLt

/-- The host's rounding of the left operand is the identity. -/
theorem V0 : V m c main_v0 = x m c := by
  unfold V
  after_reads_simp
  rfl

/-- The host's rounding of the incoming gradient is the identity. -/
theorem V1 : V m c main_v1 = ct m c := by
  unfold V
  after_reads_simp
  rfl

/-- Block 0 of grid point `t`: columns of the left operand. -/
abbrev ib0 (t : Fin cfg0.N) : S4096x512.Idx → EReal := iblk m c 0 t
/-- Block 1 of grid point `t`: columns of the incoming gradient. -/
abbrev ib1 (t : Fin cfg0.N) : S4096x1152.Idx → EReal := iblk m c 1 t

/-- The row of the gradient at row `r` of point `t`'s block. -/
def row (t : Fin cfg0.N) (r : Fin 512) : Fin 2048 := ⟨512 * (t.val / 8) + r.val, by have := lt t; omega⟩
/-- The column of the gradient at column `s` of point `t`'s block. -/
def col (t : Fin cfg0.N) (s : Fin 1152) : Fin (4 * 2304) := ⟨1152 * (t.val % 8) + s.val, by omega⟩

/-- The left operand's block. -/
theorem b0 (t : Fin cfg0.N) (k : Fin 4096) (r : Fin 512) : ib0 m c t (ix2 k r) = x m c (ix2 k (row t r)) := by
  have e : ib0 m c t (ix2 k r) = (V m c main_v0 : S4096x2048.Idx → EReal) (ix2 k (row t r)) := by
    unfold ib0 row
    blk_ext [iblk, idx0 t]
  rw [e, V0]

/-- The incoming gradient's block. -/
theorem b1 (t : Fin cfg0.N) (k : Fin 4096) (s : Fin 1152) : ib1 m c t (ix2 k s) = ct m c (ix2 k (col t s)) := by
  have e : ib1 m c t (ix2 k s) = (V m c main_v1 : S4096x9216.Idx → EReal) (ix2 k (col t s)) := by
    unfold ib1 col
    blk_ext [iblk, idx1 t]
  rw [e, V1]

/-- One entry of a block of the result. -/
theorem entry (t : Fin cfg0.N) (r : Fin 512) (s : Fin 1152) : outsAt0 m c t (ix3 0 r s)
    = ∑ k : Fin 4096, x m c (ix2 k (row t r)) * ct m c (ix2 k (col t s)) := by
  have e : outsAt0 m c t (ix3 0 r s) = ∑ k : Fin 4096, ib0 m c t (ix2 k r) * ib1 m c t (ix2 k s) := by
    unfold outsAt0
    frame_out
    open_payloads
    pointwise
  rw [e]
  exact Finset.sum_congr rfl fun k _ => by rw [b0, b1]

/-- A block of the result. -/
theorem block (t : Fin cfg0.N) (z : S1x512x1152.Idx) : outsAt0 m c t z
    = ∑ k : Fin 4096, x m c (ix2 k (row t (z 1))) * ct m c (ix2 k (col t (z 2))) := by
  have ez : z = ix3 0 (z 1) (z 2) := by
    have := eq_ix3 z
    rwa [show z 0 = (0 : Fin 1) from Fin.ext (show (z 0).val = 0 by have : (z 0).val < 1 := (z 0).isLt; omega)] at this
  rw [ez]
  exact entry m c t (z 1) (z 2)

/-- After the run the result is the gradient. -/
theorem arr : (dats m 0 c).arrAt 2 cfg0.N = grouped (q := 2304) (tn (x m c) (ct m c)) := by
  refine (dats m 0 c).arrAt_eq_of_covers 2 _ (by decide +kernel) fun t hf y => ?_
  blk_simp
  rw [after0_2]
  refine (block m c t _).trans (grouped_tn_at (q := 2304) _ _ _ _ _ ?_ ?_).symm
  · unfold row
    blk_simp [idx2 t]
    dsimp only
    omega
  · unfold col
    blk_simp [idx2 t]
    dsimp only
    omega

/-- The reference's array. -/
theorem ref (A : S4096x2048.Idx → EReal) (C : S4096x9216.Idx → EReal) :
    BQkvDwReferenceIdeal.Read.val_main_v6 (F := Ideal) A C = grouped (q := 2304) (tn A C) := by
  funext i
  have h0 : (i 0).val < 4 := (i 0).isLt
  have h1 : (i 1).val < 2048 := (i 1).isLt
  have h2 : (i 2).val < 2304 := (i 2).isLt
  rw [BQkvDwReferenceIdeal.Read.val_main_v6_apply, BQkvDwReferenceIdeal.Read.val_main_v5_apply, BQkvDwReferenceIdeal.Read.val_main_v4_apply,
    BQkvDwReferenceIdeal.Read.val_main_v3_apply]
  refine (BQkvDwReferenceIdeal.Read.val_main_v2_apply A C _).trans ((Finset.sum_congr rfl fun k _ => ?_).trans
    (grouped_tn_at (q := 2304) A C i (i 1) ⟨2304 * (i 0).val + (i 2).val, by omega⟩ rfl rfl).symm)
  refine (mul_comm _ _).trans (congrArg₂ (· * ·) (congrArg A ?_) (congrArg C ?_))
  · funext a
    match a with
    | ⟨0, _⟩ => rfl
    | ⟨1, _⟩ => exact Fin.ext (show (((i 1).val * 4 + (i 0).val) * 2304 + (i 2).val) / 9216 = (i 1).val by omega)
  · funext a
    match a with
    | ⟨0, _⟩ => rfl
    | ⟨1, _⟩ => exact Fin.ext (show (((i 1).val * 4 + (i 0).val) * 2304 + (i 2).val) % 9216 = 2304 * (i 0).val + (i 2).val by omega)

/-- The kernel's bodies are the idealized kernel's: the two programs are one text. -/
theorem bodies_eq : Cert.BQkvDw.defs₀ (F := Bits) = Cert.BQkvDwIdeal.defs₀ (F := Bits) := by
  unfold Cert.BQkvDw.defs₀ Cert.BQkvDwIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.BQkvDw.defs (F := Bits) = Cert.BQkvDwIdeal.defs (F := Bits) := congrArg (Pipeline.defs _) bodies_eq

/-- The kernel ends without fault, with its arguments unchanged and no counter above zero. -/
theorem frame_k : Cert.quiescent_BQkvDw (hBQkvDw := Cert.BQkvDw.Gen.facts) := fun m ρ _ => by
  rw [defs_eq]
  exact Cert.BQkvDwIdeal.Gen.frame (F := Bits) m ρ

/-- The reference ends without fault, with its arguments unchanged and no counter above zero. -/
theorem frame_r : Cert.quiescent_BQkvDwReferenceIdeal (hBQkvDwReferenceIdeal := Cert.BQkvDwReferenceIdeal.Gen.facts) := by
  intro m ρ _
  exact (θ_run Cert.BQkvDwReferenceIdeal.defs _ _).mono (fun r h => ⟨fun c => (h c).2,
      Idealize.ShloMosaic.sem_eq_zero_of_no_sems (by decide) r.2⟩)
    (Cert.BQkvDwReferenceIdeal.Value.run (F := Ideal) m ρ)

/-- Kernel and reference end with equal results. -/
theorem equal : Cert.algebraic_BQkvDwIdeal_BQkvDwReferenceIdeal (hBQkvDwIdeal := Cert.BQkvDwIdeal.Gen.facts)
    (hBQkvDwReferenceIdeal := Cert.BQkvDwReferenceIdeal.Gen.facts) := by
  intro m ρ m' ρ' _ hagree
  refine ⟨fun c => (Cert.BQkvDwIdeal.Gen.dats m 0 c).arrAt 2 Cert.BQkvDwIdeal.cfg0.N, Cert.BQkvDwIdeal.Value.run_blocks (F := Ideal) m ρ, ?_⟩
  refine (θ_run Cert.BQkvDwReferenceIdeal.defs _ _).mono (fun r h c => ?_) (Cert.BQkvDwReferenceIdeal.Value.run (F := Ideal) m' ρ')
  obtain ⟨h0, hargs⟩ := h c
  obtain ⟨g0, g1⟩ := hagree c
  rw [Cert.BQkvDwReferenceIdeal.Read.val_main_v6_eq, g0, g1] at h0
  exact ⟨h0.trans ((ref (x m c) (ct m c)).trans (arr m c).symm), hargs⟩

end Cert.BQkvDwValue

end
-- ==== Proof.BOutDx.lean ====
/- The gradient of the dilated attention's output projection's left operand: the kernel's array holds the product of the incoming gradient with
   the transposed weights, as the reference's does. -/
module

public import proofs.«01_k».proof.Defs
public import proofs.«01_k».proof.Proof.Gen.BOutDx
public import proofs.«01_k».proof.Proof.Gen.BOutDxIdeal
public import proofs.«01_k».proof.Proof.Gen.BOutDxReferenceIdeal
public import proofs.«01_k».proof.Proof.Gen.BOutDxIdeal.Value
public import proofs.«01_k».proof.Proof.Gen.BOutDxReferenceIdeal.Run
public import proofs.«01_k».proof.Proof.Gen.BOutDxReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.BOutDxValue

open Cert.BOutDxIdeal Cert.BOutDxIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The weights and the incoming gradient. -/
abbrev w : S3072x2048.Idx → EReal := m ((c : Thread nD τ).loc main_arg0)
@[inherit_doc w] abbrev ct : S4096x2048.Idx → EReal := m ((c : Thread nD τ).loc main_arg1)

/-- The block index of the incoming gradient. -/
theorem idx0 : ∀ t : Fin cfg0.N, win0_0.index t = ![t.val / 3, 0] := by decide +kernel
/-- The block index of the weights. -/
theorem idx1 : ∀ t : Fin cfg0.N, win0_1.index t = ![0, t.val % 3, 0] := by decide +kernel
/-- The block index of the result. -/
theorem idx2 : ∀ t : Fin cfg0.N, win0_2.index t = ![t.val / 3, t.val % 3] := by decide +kernel

theorem lt (t : Fin cfg0.N) : t.val < 12 := t.isLt

/-- The host's rounding of the incoming gradient is the identity. -/
theorem V0 : V m c main_v0 = ct m c := by
  unfold V
  after_reads_simp
  rfl

/-- The host's copy of the weights, with a leading axis of one. -/
theorem V2 : V m c main_v2 = broadcastInDim S1x3072x2048 ![1, 2] bcast_S3072x2048_S1x3072x2048_1_2 (w m c) := by
  unfold V
  after_reads_simp
  rfl

/-- Block 0 of grid point `t`: rows of the incoming gradient. -/
abbrev ib0 (t : Fin cfg0.N) : S1024x2048.Idx → EReal := iblk m c 0 t
/-- Block 1 of grid point `t`: rows of the weights. -/
abbrev ib1 (t : Fin cfg0.N) : S1x1024x2048.Idx → EReal := iblk m c 1 t

/-- The row of the gradient at row `r` of point `t`'s block. -/
def row (t : Fin cfg0.N) (r : Fin 1024) : Fin 4096 := ⟨1024 * (t.val / 3) + r.val, by have := lt t; omega⟩
/-- The column of the gradient at column `s` of point `t`'s block. -/
def col (t : Fin cfg0.N) (s : Fin 1024) : Fin 3072 := ⟨1024 * (t.val % 3) + s.val, by omega⟩

/-- The incoming gradient's block. -/
theorem b0 (t : Fin cfg0.N) (r : Fin 1024) (k : Fin 2048) : ib0 m c t (ix2 r k) = ct m c (ix2 (row t r) k) := by
  have e : ib0 m c t (ix2 r k) = (V m c main_v0 : S4096x2048.Idx → EReal) (ix2 (row t r) k) := by
    unfold ib0 row
    blk_ext [iblk, idx0 t]
  rw [e, V0]

/-- The weights' block. -/
theorem b1 (t : Fin cfg0.N) (s : Fin 1024) (k : Fin 2048) : ib1 m c t (ix3 0 s k) = w m c (ix2 (col t s) k) := by
  have e : ib1 m c t (ix3 0 s k) = (V m c main_v2 : S1x3072x2048.Idx → EReal) (ix3 0 (col t s) k) := by
    unfold ib1 col
    blk_ext [iblk, idx1 t]
  rw [e, V2]
  pointwise

/-- One entry of a block of the result. -/
theorem entry (t : Fin cfg0.N) (r : Fin 1024) (s : Fin 1024) : out0_2 (iblk m c 0 t) (iblk m c 1 t) (ix2 r s)
    = ∑ k : Fin 2048, ct m c (ix2 (row t r) k) * w m c (ix2 (col t s) k) := by
  have e : out0_2 (iblk m c 0 t) (iblk m c 1 t) (ix2 r s) = ∑ k : Fin 2048, ib0 m c t (ix2 r k) * ib1 m c t (ix3 0 s k) := by
    frame_out
    unfold_payloads
    pointwise
  rw [e]
  exact Finset.sum_congr rfl fun k _ => by rw [b0, b1]

/-- A block of the result. -/
theorem block (t : Fin cfg0.N) (z : S1024x1024.Idx) : out0_2 (iblk m c 0 t) (iblk m c 1 t) z
    = ∑ k : Fin 2048, ct m c (ix2 (row t (z 0)) k) * w m c (ix2 (col t (z 1)) k) := by
  rw [eq_ix2 z]
  exact entry m c t (z 0) (z 1)

/-- After the run the result is the gradient. -/
theorem arr : (dats m 0 c).arrAt 2 cfg0.N = nt (ct m c) (w m c) := by
  refine (dats m 0 c).arrAt_eq_of_covers 2 _ (by decide +kernel) fun t hf y => ?_
  blk_simp
  rw [after0_2]
  refine (block m c t _).trans (nt_at _ _ _ _ _ ?_ ?_).symm
  · unfold row
    blk_simp [idx2 t]
    dsimp only
    omega
  · unfold col
    blk_simp [idx2 t]
    dsimp only
    omega

/-- The reference's array. -/
theorem ref (W : S3072x2048.Idx → EReal) (C : S4096x2048.Idx → EReal) :
    BOutDxReferenceIdeal.Read.val_main_v2 (F := Ideal) W C = nt C W := by
  funext i
  rw [BOutDxReferenceIdeal.Read.val_main_v2_apply]
  refine Finset.sum_congr rfl fun k _ => ?_
  congr 1
  · exact congrArg C (by funext a; match a with | ⟨0, _⟩ => rfl | ⟨1, _⟩ => rfl)
  · exact congrArg W (by funext a; match a with | ⟨0, _⟩ => rfl | ⟨1, _⟩ => rfl)

/-- The kernel's bodies are the idealized kernel's: the two programs are one text. -/
theorem bodies_eq : Cert.BOutDx.defs₀ (F := Bits) = Cert.BOutDxIdeal.defs₀ (F := Bits) := by
  unfold Cert.BOutDx.defs₀ Cert.BOutDxIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.BOutDx.defs (F := Bits) = Cert.BOutDxIdeal.defs (F := Bits) := congrArg (Pipeline.defs _) bodies_eq

/-- The kernel ends without fault, with its arguments unchanged and no counter above zero. -/
theorem frame_k : Cert.quiescent_BOutDx (hBOutDx := Cert.BOutDx.Gen.facts) := fun m ρ _ => by
  rw [defs_eq]
  exact Cert.BOutDxIdeal.Gen.frame (F := Bits) m ρ

/-- The reference ends without fault, with its arguments unchanged and no counter above zero. -/
theorem frame_r : Cert.quiescent_BOutDxReferenceIdeal (hBOutDxReferenceIdeal := Cert.BOutDxReferenceIdeal.Gen.facts) := by
  intro m ρ _
  exact (θ_run Cert.BOutDxReferenceIdeal.defs _ _).mono (fun r h => ⟨fun c => (h c).2,
      Idealize.ShloMosaic.sem_eq_zero_of_no_sems (by decide) r.2⟩)
    (Cert.BOutDxReferenceIdeal.Value.run (F := Ideal) m ρ)

/-- Kernel and reference end with equal results. -/
theorem equal : Cert.algebraic_BOutDxIdeal_BOutDxReferenceIdeal (hBOutDxIdeal := Cert.BOutDxIdeal.Gen.facts)
    (hBOutDxReferenceIdeal := Cert.BOutDxReferenceIdeal.Gen.facts) := by
  intro m ρ m' ρ' _ hagree
  refine ⟨fun c => (Cert.BOutDxIdeal.Gen.dats m 0 c).arrAt 2 Cert.BOutDxIdeal.cfg0.N, Cert.BOutDxIdeal.Value.run_blocks (F := Ideal) m ρ, ?_⟩
  refine (θ_run Cert.BOutDxReferenceIdeal.defs _ _).mono (fun r h c => ?_) (Cert.BOutDxReferenceIdeal.Value.run (F := Ideal) m' ρ')
  obtain ⟨h0, hargs⟩ := h c
  obtain ⟨g0, g1⟩ := hagree c
  rw [Cert.BOutDxReferenceIdeal.Read.val_main_v2_eq, g0, g1] at h0
  exact ⟨h0.trans ((ref (w m c) (ct m c)).trans (arr m c).symm), hargs⟩

end Cert.BOutDxValue

end
-- ==== Proof.BOutDw.lean ====
/- The gradient of the dilated attention's output projection's right operand: the kernel's array holds the product of the transposed input with
   the incoming gradient, as the reference's does. -/
module

public import proofs.«01_k».proof.Defs
public import proofs.«01_k».proof.Proof.Gen.BOutDw
public import proofs.«01_k».proof.Proof.Gen.BOutDwIdeal
public import proofs.«01_k».proof.Proof.Gen.BOutDwReferenceIdeal
public import proofs.«01_k».proof.Proof.Gen.BOutDwIdeal.Value
public import proofs.«01_k».proof.Proof.Gen.BOutDwReferenceIdeal.Run
public import proofs.«01_k».proof.Proof.Gen.BOutDwReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.BOutDwValue

open Cert.BOutDwIdeal Cert.BOutDwIdeal.Gen Cert.Products Idealize.ShloMosaic Idealize.ShloMosaic.TcCoe Idealize.SL.Sem Idealize.ShloMosaic.StableHlo

variable (m : (ℓ : Loc nD τ sig) → Buf (Elt Ideal) ℓ) (c : Dev nD)

/-- The product's left operand and the incoming gradient. -/
abbrev x : S4096x3072.Idx → EReal := m ((c : Thread nD τ).loc main_arg0)
@[inherit_doc x] abbrev ct : S4096x2048.Idx → EReal := m ((c : Thread nD τ).loc main_arg1)

/-- The block index of the left operand. -/
theorem idx0 : ∀ t : Fin cfg0.N, win0_0.index t = ![0, t.val / 2] := by decide +kernel
/-- The block index of the incoming gradient. -/
theorem idx1 : ∀ t : Fin cfg0.N, win0_1.index t = ![0, t.val % 2] := by decide +kernel
/-- The block index of the result. -/
theorem idx2 : ∀ t : Fin cfg0.N, win0_2.index t = ![t.val / 2, t.val % 2] := by decide +kernel

theorem lt (t : Fin cfg0.N) : t.val < 12 := t.isLt

/-- The host's rounding of the left operand is the identity. -/
theorem V0 : V m c main_v0 = x m c := by
  unfold V
  after_reads_simp
  rfl

/-- The host's rounding of the incoming gradient is the identity. -/
theorem V1 : V m c main_v1 = ct m c := by
  unfold V
  after_reads_simp
  rfl

/-- Block 0 of grid point `t`: columns of the left operand. -/
abbrev ib0 (t : Fin cfg0.N) : S4096x512.Idx → EReal := iblk m c 0 t
/-- Block 1 of grid point `t`: columns of the incoming gradient. -/
abbrev ib1 (t : Fin cfg0.N) : S4096x1024.Idx → EReal := iblk m c 1 t

/-- The row of the gradient at row `r` of point `t`'s block. -/
def row (t : Fin cfg0.N) (r : Fin 512) : Fin 3072 := ⟨512 * (t.val / 2) + r.val, by have := lt t; omega⟩
/-- The column of the gradient at column `s` of point `t`'s block. -/
def col (t : Fin cfg0.N) (s : Fin 1024) : Fin 2048 := ⟨1024 * (t.val % 2) + s.val, by omega⟩

/-- The left operand's block. -/
theorem b0 (t : Fin cfg0.N) (k : Fin 4096) (r : Fin 512) : ib0 m c t (ix2 k r) = x m c (ix2 k (row t r)) := by
  have e : ib0 m c t (ix2 k r) = (V m c main_v0 : S4096x3072.Idx → EReal) (ix2 k (row t r)) := by
    unfold ib0 row
    blk_ext [iblk, idx0 t]
  rw [e, V0]

/-- The incoming gradient's block. -/
theorem b1 (t : Fin cfg0.N) (k : Fin 4096) (s : Fin 1024) : ib1 m c t (ix2 k s) = ct m c (ix2 k (col t s)) := by
  have e : ib1 m c t (ix2 k s) = (V m c main_v1 : S4096x2048.Idx → EReal) (ix2 k (col t s)) := by
    unfold ib1 col
    blk_ext [iblk, idx1 t]
  rw [e, V1]

/-- One entry of a block of the result. -/
theorem entry (t : Fin cfg0.N) (r : Fin 512) (s : Fin 1024) : outsAt0 m c t (ix2 r s)
    = ∑ k : Fin 4096, x m c (ix2 k (row t r)) * ct m c (ix2 k (col t s)) := by
  have e : outsAt0 m c t (ix2 r s) = ∑ k : Fin 4096, ib0 m c t (ix2 k r) * ib1 m c t (ix2 k s) := by
    unfold outsAt0
    frame_out
    open_payloads
    pointwise
  rw [e]
  exact Finset.sum_congr rfl fun k _ => by rw [b0, b1]

/-- A block of the result. -/
theorem block (t : Fin cfg0.N) (z : S512x1024.Idx) : outsAt0 m c t z
    = ∑ k : Fin 4096, x m c (ix2 k (row t (z 0))) * ct m c (ix2 k (col t (z 1))) := by
  rw [eq_ix2 z]
  exact entry m c t (z 0) (z 1)

/-- After the run the result is the gradient. -/
theorem arr : (dats m 0 c).arrAt 2 cfg0.N = tn (x m c) (ct m c) := by
  refine (dats m 0 c).arrAt_eq_of_covers 2 _ (by decide +kernel) fun t hf y => ?_
  blk_simp
  rw [after0_2]
  refine (block m c t _).trans (tn_at _ _ _ _ _ ?_ ?_).symm
  · unfold row
    blk_simp [idx2 t]
    dsimp only
    omega
  · unfold col
    blk_simp [idx2 t]
    dsimp only
    omega

/-- The reference's array. -/
theorem ref (A : S4096x3072.Idx → EReal) (C : S4096x2048.Idx → EReal) :
    BOutDwReferenceIdeal.Read.val_main_v4 (F := Ideal) A C = tn A C := by
  funext i
  rw [BOutDwReferenceIdeal.Read.val_main_v4_apply, BOutDwReferenceIdeal.Read.val_main_v3_apply]
  refine (BOutDwReferenceIdeal.Read.val_main_v2_apply A C _).trans (Finset.sum_congr rfl fun k _ => ?_)
  refine (mul_comm _ _).trans ?_
  congr 1
  · exact congrArg A (by funext a; match a with | ⟨0, _⟩ => rfl | ⟨1, _⟩ => rfl)
  · exact congrArg C (by funext a; match a with | ⟨0, _⟩ => rfl | ⟨1, _⟩ => rfl)

/-- The kernel's bodies are the idealized kernel's: the two programs are one text. -/
theorem bodies_eq : Cert.BOutDw.defs₀ (F := Bits) = Cert.BOutDwIdeal.defs₀ (F := Bits) := by
  unfold Cert.BOutDw.defs₀ Cert.BOutDwIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.BOutDw.defs (F := Bits) = Cert.BOutDwIdeal.defs (F := Bits) := congrArg (Pipeline.defs _) bodies_eq

/-- The kernel ends without fault, with its arguments unchanged and no counter above zero. -/
theorem frame_k : Cert.quiescent_BOutDw (hBOutDw := Cert.BOutDw.Gen.facts) := fun m ρ _ => by
  rw [defs_eq]
  exact Cert.BOutDwIdeal.Gen.frame (F := Bits) m ρ

/-- The reference ends without fault, with its arguments unchanged and no counter above zero. -/
theorem frame_r : Cert.quiescent_BOutDwReferenceIdeal (hBOutDwReferenceIdeal := Cert.BOutDwReferenceIdeal.Gen.facts) := by
  intro m ρ _
  exact (θ_run Cert.BOutDwReferenceIdeal.defs _ _).mono (fun r h => ⟨fun c => (h c).2,
      Idealize.ShloMosaic.sem_eq_zero_of_no_sems (by decide) r.2⟩)
    (Cert.BOutDwReferenceIdeal.Value.run (F := Ideal) m ρ)

/-- Kernel and reference end with equal results. -/
theorem equal : Cert.algebraic_BOutDwIdeal_BOutDwReferenceIdeal (hBOutDwIdeal := Cert.BOutDwIdeal.Gen.facts)
    (hBOutDwReferenceIdeal := Cert.BOutDwReferenceIdeal.Gen.facts) := by
  intro m ρ m' ρ' _ hagree
  refine ⟨fun c => (Cert.BOutDwIdeal.Gen.dats m 0 c).arrAt 2 Cert.BOutDwIdeal.cfg0.N, Cert.BOutDwIdeal.Value.run_blocks (F := Ideal) m ρ, ?_⟩
  refine (θ_run Cert.BOutDwReferenceIdeal.defs _ _).mono (fun r h c => ?_) (Cert.BOutDwReferenceIdeal.Value.run (F := Ideal) m' ρ')
  obtain ⟨h0, hargs⟩ := h c
  obtain ⟨g0, g1⟩ := hagree c
  rw [Cert.BOutDwReferenceIdeal.Read.val_main_v4_eq, g0, g1] at h0
  exact ⟨h0.trans ((ref (x m c) (ct m c)).trans (arr m c).symm), hargs⟩

end Cert.BOutDwValue

end
-- ==== Proof.BQkvG0.lean ====
/- The windowed attention's input projection, the columns of its first group: the kernel's array holds the product of the
   activations with those columns of the weights, as the reference's does. -/
module

public import proofs.«01_k».proof.Defs
public import proofs.«01_k».proof.Proof.Gen.BQkvG0
public import proofs.«01_k».proof.Proof.Gen.BQkvG0Ideal
public import proofs.«01_k».proof.Proof.Gen.BQkvG0ReferenceIdeal
public import proofs.«01_k».proof.Proof.Gen.BQkvG0Ideal.Value
public import proofs.«01_k».proof.Proof.Gen.BQkvG0ReferenceIdeal.Run
public import proofs.«01_k».proof.Proof.Gen.BQkvG0ReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.BQkvG0Value

open Cert.BQkvG0Ideal Cert.BQkvG0Ideal.Gen Cert.Products Idealize.ShloMosaic Idealize.ShloMosaic.TcCoe Idealize.SL.Sem Idealize.ShloMosaic.StableHlo

variable (m : (ℓ : Loc nD τ sig) → Buf (Elt Ideal) ℓ) (c : Dev nD)

/-- The activations and the weights. -/
abbrev x : S4096x2048.Idx → EReal := m ((c : Thread nD τ).loc main_arg0)
@[inherit_doc x] abbrev w : S2048x9216.Idx → EReal := m ((c : Thread nD τ).loc main_arg1)

/-- The block index of the activations. -/
theorem idx0 : ∀ t : Fin cfg0.N, win0_0.index t = ![t.val / 4, 0] := by decide +kernel
/-- The block index of the weights. -/
theorem idx1 : ∀ t : Fin cfg0.N, win0_1.index t = ![0, t.val % 4 / 3, 0, t.val % 4 % 3] := by decide +kernel
/-- The block index of the result. -/
theorem idx2 : ∀ t : Fin cfg0.N, win0_2.index t = ![0, t.val / 4, t.val % 4] := by decide +kernel

theorem lt (t : Fin cfg0.N) : t.val < 16 := t.isLt

/-- The host's rounding of the activations is the identity. -/
theorem V0 : V m c main_v0 = x m c := by
  unfold V
  after_reads_simp
  rfl

/-- The host's copy of the weights, its columns in four groups. -/
theorem V4 : V m c main_v4 = broadcastInDim S1x4x2048x2304 ![1, 2, 3] bcast_S4x2048x2304_S1x4x2048x2304_1_2_3
    (transpose S4x2048x2304 [1, 0, 2] (shapeCast S2048x4x2304 (w m c) shapeCasts_S2048x9216_S2048x4x2304)
      transposes_S2048x4x2304_S4x2048x2304_1_0_2) := by
  unfold V
  after_reads_simp
  rfl

/-- The grouped weights at an index. -/
theorem V4_apply (p : Fin 4) (r : Fin 2048) (k : Fin 2304) : (V m c main_v4 : S1x4x2048x2304.Idx → EReal) (ix4 0 p r k)
    = w m c (ix2 r ⟨2304 * p.val + k.val, by omega⟩) := by
  rw [V4]
  pointwise
  exact congrArg (w m c) (congrArg _ (Fin.ext (show p.val * 2304 + k.val = 2304 * p.val + k.val by omega)))

/-- Block 0 of grid point `t`: rows of the activations. -/
abbrev ib0 (t : Fin cfg0.N) : S1024x2048.Idx → EReal := iblk m c 0 t
/-- Block 1 of grid point `t`: columns of the weights. -/
abbrev ib1 (t : Fin cfg0.N) : S1x1x2048x768.Idx → EReal := iblk m c 1 t

/-- The row of the result at row `r` of point `t`'s block. -/
def row (t : Fin cfg0.N) (r : Fin 1024) : Fin 4096 := ⟨1024 * (t.val / 4) + r.val, by have := lt t; omega⟩
/-- The column of the result at column `s` of point `t`'s block. -/
def col (t : Fin cfg0.N) (s : Fin 768) : Fin 9216 := ⟨768 * (t.val % 4) + s.val, by omega⟩

/-- The activations' block. -/
theorem b0 (t : Fin cfg0.N) (r : Fin 1024) (k : Fin 2048) : ib0 m c t (ix2 r k) = x m c (ix2 (row t r) k) := by
  have e : ib0 m c t (ix2 r k) = (V m c main_v0 : S4096x2048.Idx → EReal) (ix2 (row t r) k) := by
    unfold ib0 row
    blk_ext [iblk, idx0 t]
  rw [e, V0]

/-- The weights' block. -/
theorem b1 (t : Fin cfg0.N) (k : Fin 2048) (s : Fin 768) : ib1 m c t (ix4 0 0 k s) = w m c (ix2 k (col t s)) := by
  have e : ib1 m c t (ix4 0 0 k s) = (V m c main_v4 : S1x4x2048x2304.Idx → EReal)
      (ix4 0 ⟨t.val % 4 / 3, by omega⟩ k ⟨768 * (t.val % 4 % 3) + s.val, by omega⟩) := by
    unfold ib1
    blk_ext [iblk, idx1 t]
  rw [e, V4_apply]
  exact congrArg (w m c) (congrArg _ (Fin.ext (show 2304 * (t.val % 4 / 3) + (768 * (t.val % 4 % 3) + s.val) = 768 * (t.val % 4) + s.val by omega)))

/-- One entry of a block of the result. -/
theorem entry (t : Fin cfg0.N) (r : Fin 1024) (s : Fin 768) : outsAt0 m c t (ix3 0 r s)
    = ∑ k : Fin 2048, x m c (ix2 (row t r) k) * w m c (ix2 k (col t s)) := by
  have e : outsAt0 m c t (ix3 0 r s) = ∑ k : Fin 2048, ib0 m c t (ix2 r k) * ib1 m c t (ix4 0 0 k s) := by
    unfold outsAt0
    frame_out
    unfold_payloads
    pointwise
  rw [e]
  exact Finset.sum_congr rfl fun k _ => by rw [b0, b1]

/-- The product with the first 3072 columns of the weights, as an array of one class of positions. -/
def first (A : S4096x2048.Idx → EReal) (W : S2048x9216.Idx → EReal) : S1x4096x3072.Idx → EReal := fun i =>
  ∑ k : Fin 2048, A (ix2 (i 1) k) * W (ix2 k ⟨(i 2).val, by have : (i 2).val < 3072 := (i 2).isLt; omega⟩)

/-- `first` at the row `r` and the column `s`. -/
theorem first_at (A : S4096x2048.Idx → EReal) (W : S2048x9216.Idx → EReal) (i : S1x4096x3072.Idx) (r : Fin 4096) (s : Fin 9216)
    (h1 : (i 1).val = r.val) (h2 : (i 2).val = s.val) : first A W i = ∑ k : Fin 2048, A (ix2 r k) * W (ix2 k s) := by
  unfold first
  rw [show i 1 = r from Fin.ext h1]
  exact Finset.sum_congr rfl fun k _ => congrArg (fun j => A (ix2 r k) * W (ix2 k j)) (Fin.ext h2)

/-- A block of the result. -/
theorem block (t : Fin cfg0.N) (z : S1x1024x768.Idx) : outsAt0 m c t z
    = ∑ k : Fin 2048, x m c (ix2 (row t (z 1)) k) * w m c (ix2 k (col t (z 2))) := by
  have h : z = ix3 0 (z 1) (z 2) := (eq_ix3 z).trans (congrArg (fun a => ix3 a (z 1) (z 2)) (Fin.ext (by have : (z 0).val < 1 := (z 0).isLt; show (z 0).val = 0; omega)))
  exact (congrArg _ h).trans (entry m c t (z 1) (z 2))

/-- After the run the result is the product with those columns. -/
theorem arr : (dats m 0 c).arrAt 2 cfg0.N = first (x m c) (w m c) := by
  refine (dats m 0 c).arrAt_eq_of_covers 2 _ (by decide +kernel) fun t hf y => ?_
  blk_simp
  rw [after0_2]
  refine (block m c t _).trans (first_at _ _ _ _ _ ?_ ?_).symm
  · unfold row
    blk_simp [idx2 t]
    dsimp only
    omega
  · unfold col
    blk_simp [idx2 t]
    dsimp only
    omega

/-- The reference's array. -/
theorem ref (A : S4096x2048.Idx → EReal) (W : S2048x9216.Idx → EReal) :
    BQkvG0ReferenceIdeal.Read.val_main_v4 (F := Ideal) A W = first A W := by
  funext i
  have h0 : (i 0).val < 1 := (i 0).isLt
  have h1 : (i 1).val < 4096 := (i 1).isLt
  have h2 : (i 2).val < 3072 := (i 2).isLt
  refine (BQkvG0ReferenceIdeal.Read.val_main_v4_apply (F := Ideal) A W i).trans ?_
  rw [BQkvG0ReferenceIdeal.Read.val_main_v3_apply, BQkvG0ReferenceIdeal.Read.val_main_v2_apply,
    BQkvG0ReferenceIdeal.Read.val_main_v1_apply, BQkvG0ReferenceIdeal.Read.val_main_v0_apply]
  refine Finset.sum_congr rfl fun k _ => ?_
  congr 1
  · exact congrArg A (by
      funext a
      match a with
      | ⟨0, _⟩ => exact Fin.ext (show (((i 1).val * 1 + (i 0).val) * 3072 + (i 2).val) / 3072 = (i 1).val by omega)
      | ⟨1, _⟩ => rfl)
  · exact congrArg W (by
      funext a
      match a with
      | ⟨0, _⟩ => rfl
      | ⟨1, _⟩ => exact Fin.ext (show (((i 1).val * 1 + (i 0).val) * 3072 + (i 2).val) % 3072 = (i 2).val by omega))

/-- The kernel's bodies are the idealized kernel's: the two programs are one text. -/
theorem bodies_eq : Cert.BQkvG0.defs₀ (F := Bits) = Cert.BQkvG0Ideal.defs₀ (F := Bits) := by
  unfold Cert.BQkvG0.defs₀ Cert.BQkvG0Ideal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.BQkvG0.defs (F := Bits) = Cert.BQkvG0Ideal.defs (F := Bits) := congrArg (Pipeline.defs _) bodies_eq

/-- The kernel ends without fault, with its arguments unchanged and no counter above zero. -/
theorem frame_k : Cert.quiescent_BQkvG0 (hBQkvG0 := Cert.BQkvG0.Gen.facts) := fun m ρ _ => by
  rw [defs_eq]
  exact Cert.BQkvG0Ideal.Gen.frame (F := Bits) m ρ

/-- The reference ends without fault, with its arguments unchanged and no counter above zero. -/
theorem frame_r : Cert.quiescent_BQkvG0ReferenceIdeal (hBQkvG0ReferenceIdeal := Cert.BQkvG0ReferenceIdeal.Gen.facts) := by
  intro m ρ _
  exact (θ_run Cert.BQkvG0ReferenceIdeal.defs _ _).mono (fun r h => ⟨fun c => (h c).2,
      Idealize.ShloMosaic.sem_eq_zero_of_no_sems (by decide) r.2⟩)
    (Cert.BQkvG0ReferenceIdeal.Value.run (F := Ideal) m ρ)

/-- Kernel and reference end with equal results. -/
theorem equal : Cert.algebraic_BQkvG0Ideal_BQkvG0ReferenceIdeal (hBQkvG0Ideal := Cert.BQkvG0Ideal.Gen.facts)
    (hBQkvG0ReferenceIdeal := Cert.BQkvG0ReferenceIdeal.Gen.facts) := by
  intro m ρ m' ρ' _ hagree
  refine ⟨fun c => (Cert.BQkvG0Ideal.Gen.dats m 0 c).arrAt 2 Cert.BQkvG0Ideal.cfg0.N, Cert.BQkvG0Ideal.Value.run_blocks (F := Ideal) m ρ, ?_⟩
  refine (θ_run Cert.BQkvG0ReferenceIdeal.defs _ _).mono (fun r h c => ?_) (Cert.BQkvG0ReferenceIdeal.Value.run (F := Ideal) m' ρ')
  obtain ⟨h0, hargs⟩ := h c
  obtain ⟨g0, g1⟩ := hagree c
  rw [Cert.BQkvG0ReferenceIdeal.Read.val_main_v4_eq, g0, g1] at h0
  exact ⟨h0.trans ((ref (x m c) (w m c)).trans (arr m c).symm), hargs⟩

end Cert.BQkvG0Value

end
-- ==== Proof.BQkvG1.lean ====
/- The windowed attention's input projection, the columns of its second group: the kernel's array holds the product of the
   activations with those columns of the weights, as the reference's does. -/
module

public import proofs.«01_k».proof.Defs
public import proofs.«01_k».proof.Proof.Gen.BQkvG1
public import proofs.«01_k».proof.Proof.Gen.BQkvG1Ideal
public import proofs.«01_k».proof.Proof.Gen.BQkvG1ReferenceIdeal
public import proofs.«01_k».proof.Proof.Gen.BQkvG1Ideal.Value
public import proofs.«01_k».proof.Proof.Gen.BQkvG1ReferenceIdeal.Run
public import proofs.«01_k».proof.Proof.Gen.BQkvG1ReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.BQkvG1Value

open Cert.BQkvG1Ideal Cert.BQkvG1Ideal.Gen Cert.Products Idealize.ShloMosaic Idealize.ShloMosaic.TcCoe Idealize.SL.Sem Idealize.ShloMosaic.StableHlo

variable (m : (ℓ : Loc nD τ sig) → Buf (Elt Ideal) ℓ) (c : Dev nD)

/-- The activations and the weights. -/
abbrev x : S4096x2048.Idx → EReal := m ((c : Thread nD τ).loc main_arg0)
@[inherit_doc x] abbrev w : S2048x9216.Idx → EReal := m ((c : Thread nD τ).loc main_arg1)

/-- The block index of the activations. -/
theorem idx0 : ∀ t : Fin cfg0.N, win0_0.index t = ![t.val / 4, 0] := by decide +kernel
/-- The block index of the weights. -/
theorem idx1 : ∀ t : Fin cfg0.N, win0_1.index t = ![0, (4 + t.val % 4) / 3, 0, (4 + t.val % 4) % 3] := by decide +kernel
/-- The block index of the result. -/
theorem idx2 : ∀ t : Fin cfg0.N, win0_2.index t = ![0, t.val / 4, t.val % 4] := by decide +kernel

theorem lt (t : Fin cfg0.N) : t.val < 16 := t.isLt

/-- The host's rounding of the activations is the identity. -/
theorem V0 : V m c main_v0 = x m c := by
  unfold V
  after_reads_simp
  rfl

/-- The host's copy of the weights, its columns in four groups. -/
theorem V4 : V m c main_v4 = broadcastInDim S1x4x2048x2304 ![1, 2, 3] bcast_S4x2048x2304_S1x4x2048x2304_1_2_3
    (transpose S4x2048x2304 [1, 0, 2] (shapeCast S2048x4x2304 (w m c) shapeCasts_S2048x9216_S2048x4x2304)
      transposes_S2048x4x2304_S4x2048x2304_1_0_2) := by
  unfold V
  after_reads_simp
  rfl

/-- The grouped weights at an index. -/
theorem V4_apply (p : Fin 4) (r : Fin 2048) (k : Fin 2304) : (V m c main_v4 : S1x4x2048x2304.Idx → EReal) (ix4 0 p r k)
    = w m c (ix2 r ⟨2304 * p.val + k.val, by omega⟩) := by
  rw [V4]
  pointwise
  exact congrArg (w m c) (congrArg _ (Fin.ext (show p.val * 2304 + k.val = 2304 * p.val + k.val by omega)))

/-- Block 0 of grid point `t`: rows of the activations. -/
abbrev ib0 (t : Fin cfg0.N) : S1024x2048.Idx → EReal := iblk m c 0 t
/-- Block 1 of grid point `t`: columns of the weights. -/
abbrev ib1 (t : Fin cfg0.N) : S1x1x2048x768.Idx → EReal := iblk m c 1 t

/-- The row of the activations at class `p` and row `r` of point `t`'s block. -/
def row (t : Fin cfg0.N) (p : Fin 4) (r : Fin 256) : Fin 4096 := ⟨1024 * (t.val / 4) + (4 * r.val + p.val), by have := lt t; omega⟩
/-- The column of the weights at column `s` of point `t`'s block. -/
def col (t : Fin cfg0.N) (s : Fin 768) : Fin 9216 := ⟨3072 + (768 * (t.val % 4) + s.val), by omega⟩

/-- The activations' block. -/
theorem b0 (t : Fin cfg0.N) (p : Fin 4) (r : Fin 256) (k : Fin 2048) :
    ib0 m c t (ix2 ⟨4 * r.val + p.val, by omega⟩ k) = x m c (ix2 (row t p r) k) := by
  have e : ib0 m c t (ix2 ⟨4 * r.val + p.val, by omega⟩ k) = (V m c main_v0 : S4096x2048.Idx → EReal) (ix2 (row t p r) k) := by
    unfold ib0 row
    blk_ext [iblk, idx0 t]
  rw [e, V0]

/-- The weights' block. -/
theorem b1 (t : Fin cfg0.N) (k : Fin 2048) (s : Fin 768) : ib1 m c t (ix4 0 0 k s) = w m c (ix2 k (col t s)) := by
  have e : ib1 m c t (ix4 0 0 k s) = (V m c main_v4 : S1x4x2048x2304.Idx → EReal)
      (ix4 0 ⟨(4 + t.val % 4) / 3, by omega⟩ k ⟨768 * ((4 + t.val % 4) % 3) + s.val, by omega⟩) := by
    unfold ib1
    blk_ext [iblk, idx1 t]
  rw [e, V4_apply]
  exact congrArg (w m c) (congrArg _ (Fin.ext (show 2304 * ((4 + t.val % 4) / 3) + (768 * ((4 + t.val % 4) % 3) + s.val) = 3072 + (768 * (t.val % 4) + s.val) by omega)))

/-- The product's block the kernel computes before it reorders the rows. -/
theorem product (X : S1024x2048.Idx → EReal) (W : S1x1x2048x768.Idx → EReal) (r : Fin 1024) (s : Fin 768) :
    k0_pay2 (F := Ideal) X W (ix2 r s) = ∑ k : Fin 2048, X (ix2 r k) * W (ix4 0 0 k s) := by
  unfold_payloads
  pointwise

/-- The six stores of that block, 128 columns each, the last first. -/
abbrev stores (X : S1024x2048.Idx → EReal) (W : S1x1x2048x768.Idx → EReal) : List (View.Piece (Elt Ideal) S6x1024x128 .f32) :=
  [⟨Rect.unit ![5, 0, 0] ![1, 1024, 128] inb_S6x1024x128_S1x1024x128_5_0_0, k0_pay9 (F := Ideal) (k0_pay8 (F := Ideal) X W)⟩,
    ⟨Rect.unit ![4, 0, 0] ![1, 1024, 128] inb_S6x1024x128_S1x1024x128_4_0_0, k0_pay7 (F := Ideal) X W⟩,
    ⟨Rect.unit ![3, 0, 0] ![1, 1024, 128] inb_S6x1024x128_S1x1024x128_3_0_0, k0_pay6 (F := Ideal) X W⟩,
    ⟨Rect.unit ![2, 0, 0] ![1, 1024, 128] inb_S6x1024x128_S1x1024x128_2_0_0, k0_pay5 (F := Ideal) X W⟩,
    ⟨Rect.unit ![1, 0, 0] ![1, 1024, 128] inb_S6x1024x128_S1x1024x128_1_0_0, k0_pay4 (F := Ideal) X W⟩,
    ⟨Rect.unit ![0, 0, 0] ![1, 1024, 128] inb_S6x1024x128_S1x1024x128_0_0_0, k0_pay3 (F := Ideal) X W⟩]

/-- One store's value at an index: the block at the store's columns. -/
theorem slice (A : S1024x768.Idx → EReal) (o : Nat) (h : S1024x768.Slices ![0, o] S1024x128) (z : S1x1024x128.Idx) (y : S6x1024x128.Idx)
    (ho : 128 * (o / 128) = o) (h0 : (y 0).val = o / 128 + (z 0).val) (h1 : (y 1).val = (z 1).val) (h2 : (y 2).val = (z 2).val) :
    shapeCast S1x1024x128 (extractStridedSlice S1024x128 ![0, o] A h) shapeCasts_S1024x128_S1x1024x128 z
      = A (ix2 (y 1) ⟨128 * (y 0).val + (y 2).val, by have : (y 0).val < 6 := (y 0).isLt; have : (y 2).val < 128 := (y 2).isLt; omega⟩) := by
  have hz : (z 0).val < 1 := (z 0).isLt
  pointwise
  exact congrArg A (congrArg₂ ix2 (Fin.ext h1.symm) (Fin.ext (show o + (z 2).val = 128 * (y 0).val + (y 2).val by omega)))

/-- What the six stores leave. -/
theorem left (X : S1024x2048.Idx → EReal) (W : S1x1x2048x768.Idx → EReal) (y : S6x1024x128.Idx) :
    View.canon (stores X W) y = k0_pay2 (F := Ideal) X W (ix2 (y 1) ⟨128 * (y 0).val + (y 2).val, by have : (y 0).val < 6 := (y 0).isLt; have : (y 2).val < 128 := (y 2).isLt; omega⟩) := by
  canon_tiles y h
  all_goals try unfold k0_pay9 k0_pay8
  all_goals exact slice _ _ _ _ _ rfl (by omega) (by omega) (by omega)

/-- One of the result's pieces: rows `p`, `p + 4`, … of 128 columns. -/
theorem piece (X : S1024x2048.Idx → EReal) (W : S1x1x2048x768.Idx → EReal) (k p : Nat) (inb) (z : S1x256x128.Idx) (y : S4x256x768.Idx)
    (h0 : (y 0).val = p + (z 0).val) (h1 : (y 1).val = (z 1).val) (h2 : (y 2).val = 128 * k + (z 2).val) :
    (View.whole cc0_scratch0).readCov (stores X W) ⟨![k, p, 0], ![1, 256, 128], ![1, 4, 1], inb⟩ z
      = k0_pay2 (F := Ideal) X W (ix2 ⟨4 * (y 1).val + (y 0).val, by have : (y 0).val < 4 := (y 0).isLt; have : (y 1).val < 256 := (y 1).isLt; omega⟩ (y 2)) := by
  rw [View.readCov_eq_canon']
  refine (left X W _).trans ?_
  have hz : (z 0).val < 1 := (z 0).isLt
  exact congrArg (k0_pay2 (F := Ideal) X W) (congrArg₂ ix2
    (Fin.ext (show p + 4 * (z 1).val = 4 * (y 1).val + (y 0).val by omega))
    (Fin.ext (show 128 * (k + 1 * (z 0).val) + (0 + 1 * (z 2).val) = (y 2).val by omega)))

/-- The cast of a piece to the result's type is the identity. -/
theorem cast_id (v : S1x256x128.Idx → EReal) (z : S1x256x128.Idx) :
    shapeCast S1x256x128 (truncf (F := Ideal) (φ := .f32) .bf16 (shapeCast S256x128 v shapeCasts_S1x256x128_S256x128) bitsLt_bf16_f32) shapeCasts_S256x128_S1x256x128 z = v z := by
  pointwise

/-- A block of the result before the product is opened. -/
theorem tiles (t : Fin cfg0.N) (y : S4x256x768.Idx) : outsAt0 m c t y
    = k0_pay2 (F := Ideal) (ib0 m c t) (ib1 m c t) (ix2 ⟨4 * (y 1).val + (y 0).val, by have : (y 0).val < 4 := (y 0).isLt; have : (y 1).val < 256 := (y 1).isLt; omega⟩ (y 2)) := by
  unfold outsAt0
  frame_out
  canon_tiles y h
  all_goals exact (cast_id _ _).trans (piece _ _ _ _ _ _ _ (by omega) (by omega) (by omega))

/-- A block of the result. -/
theorem block (t : Fin cfg0.N) (z : S4x256x768.Idx) : outsAt0 m c t z
    = ∑ k : Fin 2048, x m c (ix2 (row t (z 0) (z 1)) k) * w m c (ix2 k (col t (z 2))) :=
  ((tiles m c t z).trans (product _ _ _ _)).trans (Finset.sum_congr rfl fun k _ => congrArg₂ (· * ·) (b0 m c t (z 0) (z 1) k) (b1 m c t k (z 2)))

/-- The product with the columns of that group, its rows in 4 classes: row `r` of class `p` is row `4 * r + p`. -/
def group (A : S4096x2048.Idx → EReal) (W : S2048x9216.Idx → EReal) : S4x1024x3072.Idx → EReal := fun i =>
  ∑ k : Fin 2048, A (ix2 ⟨4 * (i 1).val + (i 0).val, by have : (i 0).val < 4 := (i 0).isLt; have : (i 1).val < 1024 := (i 1).isLt; omega⟩ k)
    * W (ix2 k ⟨3072 + (i 2).val, by have : (i 2).val < 3072 := (i 2).isLt; omega⟩)

/-- `group` at the row `r` and the column `s`. -/
theorem group_at (A : S4096x2048.Idx → EReal) (W : S2048x9216.Idx → EReal) (i : S4x1024x3072.Idx) (r : Fin 4096) (s : Fin 9216)
    (h1 : 4 * (i 1).val + (i 0).val = r.val) (h2 : 3072 + (i 2).val = s.val) :
    group A W i = ∑ k : Fin 2048, A (ix2 r k) * W (ix2 k s) :=
  Finset.sum_congr rfl fun k _ => congrArg₂ (fun a b => A (ix2 a k) * W (ix2 k b)) (Fin.ext h1) (Fin.ext h2)

/-- After the run the result is the product with those columns. -/
theorem arr : (dats m 0 c).arrAt 2 cfg0.N = group (x m c) (w m c) := by
  refine (dats m 0 c).arrAt_eq_of_covers 2 _ (by decide +kernel) fun t hf y => ?_
  blk_simp
  rw [after0_2]
  refine (block m c t _).trans (group_at _ _ _ _ _ ?_ ?_).symm
  · unfold row
    blk_simp [idx2 t]
    dsimp only
    omega
  · unfold col
    blk_simp [idx2 t]
    dsimp only
    omega

/-- The reference's array. -/
theorem ref (A : S4096x2048.Idx → EReal) (W : S2048x9216.Idx → EReal) :
    BQkvG1ReferenceIdeal.Read.val_main_v4 (F := Ideal) A W = group A W := by
  funext i
  have h0 : (i 0).val < 4 := (i 0).isLt
  have h1 : (i 1).val < 1024 := (i 1).isLt
  have h2 : (i 2).val < 3072 := (i 2).isLt
  refine (BQkvG1ReferenceIdeal.Read.val_main_v4_apply (F := Ideal) A W i).trans ?_
  rw [BQkvG1ReferenceIdeal.Read.val_main_v3_apply, BQkvG1ReferenceIdeal.Read.val_main_v2_apply,
    BQkvG1ReferenceIdeal.Read.val_main_v1_apply, BQkvG1ReferenceIdeal.Read.val_main_v0_apply]
  refine Finset.sum_congr rfl fun k _ => ?_
  congr 1
  · exact congrArg A (by
      funext a
      match a with
      | ⟨0, _⟩ => exact Fin.ext (show (((i 1).val * 4 + (i 0).val) * 3072 + (i 2).val) / 3072 = 4 * (i 1).val + (i 0).val by omega)
      | ⟨1, _⟩ => rfl)
  · exact congrArg W (by
      funext a
      match a with
      | ⟨0, _⟩ => rfl
      | ⟨1, _⟩ => exact Fin.ext (show 3072 + (((i 1).val * 4 + (i 0).val) * 3072 + (i 2).val) % 3072 = 3072 + (i 2).val by omega))

/-- The kernel's bodies are the idealized kernel's: the two programs are one text. -/
theorem bodies_eq : Cert.BQkvG1.defs₀ (F := Bits) = Cert.BQkvG1Ideal.defs₀ (F := Bits) := by
  unfold Cert.BQkvG1.defs₀ Cert.BQkvG1Ideal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.BQkvG1.defs (F := Bits) = Cert.BQkvG1Ideal.defs (F := Bits) := congrArg (Pipeline.defs _) bodies_eq

/-- The kernel ends without fault, with its arguments unchanged and no counter above zero. -/
theorem frame_k : Cert.quiescent_BQkvG1 (hBQkvG1 := Cert.BQkvG1.Gen.facts) := fun m ρ _ => by
  rw [defs_eq]
  exact Cert.BQkvG1Ideal.Gen.frame (F := Bits) m ρ

/-- The reference ends without fault, with its arguments unchanged and no counter above zero. -/
theorem frame_r : Cert.quiescent_BQkvG1ReferenceIdeal (hBQkvG1ReferenceIdeal := Cert.BQkvG1ReferenceIdeal.Gen.facts) := by
  intro m ρ _
  exact (θ_run Cert.BQkvG1ReferenceIdeal.defs _ _).mono (fun r h => ⟨fun c => (h c).2,
      Idealize.ShloMosaic.sem_eq_zero_of_no_sems (by decide) r.2⟩)
    (Cert.BQkvG1ReferenceIdeal.Value.run (F := Ideal) m ρ)

/-- Kernel and reference end with equal results. -/
theorem equal : Cert.algebraic_BQkvG1Ideal_BQkvG1ReferenceIdeal (hBQkvG1Ideal := Cert.BQkvG1Ideal.Gen.facts)
    (hBQkvG1ReferenceIdeal := Cert.BQkvG1ReferenceIdeal.Gen.facts) := by
  intro m ρ m' ρ' _ hagree
  refine ⟨fun c => (Cert.BQkvG1Ideal.Gen.dats m 0 c).arrAt 2 Cert.BQkvG1Ideal.cfg0.N, Cert.BQkvG1Ideal.Value.run_blocks (F := Ideal) m ρ, ?_⟩
  refine (θ_run Cert.BQkvG1ReferenceIdeal.defs _ _).mono (fun r h c => ?_) (Cert.BQkvG1ReferenceIdeal.Value.run (F := Ideal) m' ρ')
  obtain ⟨h0, hargs⟩ := h c
  obtain ⟨g0, g1⟩ := hagree c
  rw [Cert.BQkvG1ReferenceIdeal.Read.val_main_v4_eq, g0, g1] at h0
  exact ⟨h0.trans ((ref (x m c) (w m c)).trans (arr m c).symm), hargs⟩

end Cert.BQkvG1Value

end
-- ==== Proof.BQkvG2.lean ====
/- The windowed attention's input projection, the columns of its third group: the kernel's array holds the product of the
   activations with those columns of the weights, as the reference's does. -/
module

public import proofs.«01_k».proof.Defs
public import proofs.«01_k».proof.Proof.Gen.BQkvG2
public import proofs.«01_k».proof.Proof.Gen.BQkvG2Ideal
public import proofs.«01_k».proof.Proof.Gen.BQkvG2ReferenceIdeal
public import proofs.«01_k».proof.Proof.Gen.BQkvG2Ideal.Value
public import proofs.«01_k».proof.Proof.Gen.BQkvG2ReferenceIdeal.Run
public import proofs.«01_k».proof.Proof.Gen.BQkvG2ReferenceIdeal.Read
public import proofs.«01_k».proof.Proof.Products
public import Idealize.ShloMosaic.Lib.Pipeline.ValueKit
public import Idealize.ShloMosaic.Lib.StableHlo.RunRead

@[expose] public section

set_option maxRecDepth 16384

noncomputable section

namespace Cert.BQkvG2Value

open Cert.BQkvG2Ideal Cert.BQkvG2Ideal.Gen Cert.Products Idealize.ShloMosaic Idealize.ShloMosaic.TcCoe Idealize.SL.Sem Idealize.ShloMosaic.StableHlo

variable (m : (ℓ : Loc nD τ sig) → Buf (Elt Ideal) ℓ) (c : Dev nD)

/-- The activations and the weights. -/
abbrev x : S4096x2048.Idx → EReal := m ((c : Thread nD τ).loc main_arg0)
@[inherit_doc x] abbrev w : S2048x9216.Idx → EReal := m ((c : Thread nD τ).loc main_arg1)

/-- The block index of the activations. -/
theorem idx0 : ∀ t : Fin cfg0.N, win0_0.index t = ![t.val / 4, 0] := by decide +kernel
/-- The block index of the weights. -/
theorem idx1 : ∀ t : Fin cfg0.N, win0_1.index t = ![0, (8 + t.val % 4) / 3, 0, (8 + t.val % 4) % 3] := by decide +kernel
/-- The block index of the result. -/
theorem idx2 : ∀ t : Fin cfg0.N, win0_2.index t = ![0, t.val / 4, t.val % 4] := by decide +kernel

theorem lt (t : Fin cfg0.N) : t.val < 16 := t.isLt

/-- The host's rounding of the activations is the identity. -/
theorem V0 : V m c main_v0 = x m c := by
  unfold V
  after_reads_simp
  rfl

/-- The host's copy of the weights, its columns in four groups. -/
theorem V4 : V m c main_v4 = broadcastInDim S1x4x2048x2304 ![1, 2, 3] bcast_S4x2048x2304_S1x4x2048x2304_1_2_3
    (transpose S4x2048x2304 [1, 0, 2] (shapeCast S2048x4x2304 (w m c) shapeCasts_S2048x9216_S2048x4x2304)
      transposes_S2048x4x2304_S4x2048x2304_1_0_2) := by
  unfold V
  after_reads_simp
  rfl

/-- The grouped weights at an index. -/
theorem V4_apply (p : Fin 4) (r : Fin 2048) (k : Fin 2304) : (V m c main_v4 : S1x4x2048x2304.Idx → EReal) (ix4 0 p r k)
    = w m c (ix2 r ⟨2304 * p.val + k.val, by omega⟩) := by
  rw [V4]
  pointwise
  exact congrArg (w m c) (congrArg _ (Fin.ext (show p.val * 2304 + k.val = 2304 * p.val + k.val by omega)))

/-- Block 0 of grid point `t`: rows of the activations. -/
abbrev ib0 (t : Fin cfg0.N) : S1024x2048.Idx → EReal := iblk m c 0 t
/-- Block 1 of grid point `t`: columns of the weights. -/
abbrev ib1 (t : Fin cfg0.N) : S1x1x2048x768.Idx → EReal := iblk m c 1 t

/-- The row of the activations at class `p` and row `r` of point `t`'s block. -/
def row (t : Fin cfg0.N) (p : Fin 16) (r : Fin 64) : Fin 4096 := ⟨1024 * (t.val / 4) + (16 * r.val + p.val), by have := lt t; omega⟩
/-- The column of the weights at column `s` of point `t`'s block. -/
def col (t : Fin cfg0.N) (s : Fin 768) : Fin 9216 := ⟨6144 + (768 * (t.val % 4) + s.val), by omega⟩

/-- The activations' block. -/
theorem b0 (t : Fin cfg0.N) (p : Fin 16) (r : Fin 64) (k : Fin 2048) :
    ib0 m c t (ix2 ⟨16 * r.val + p.val, by omega⟩ k) = x m c (ix2 (row t p r) k) := by
  have e : ib0 m c t (ix2 ⟨16 * r.val + p.val, by omega⟩ k) = (V m c main_v0 : S4096x2048.Idx → EReal) (ix2 (row t p r) k) := by
    unfold ib0 row
    blk_ext [iblk, idx0 t]
  rw [e, V0]

/-- The weights' block. -/
theorem b1 (t : Fin cfg0.N) (k : Fin 2048) (s : Fin 768) : ib1 m c t (ix4 0 0 k s) = w m c (ix2 k (col t s)) := by
  have e : ib1 m c t (ix4 0 0 k s) = (V m c main_v4 : S1x4x2048x2304.Idx → EReal)
      (ix4 0 ⟨(8 + t.val % 4) / 3, by omega⟩ k ⟨768 * ((8 + t.val % 4) % 3) + s.val, by omega⟩) := by
    unfold ib1
    blk_ext [iblk, idx1 t]
  rw [e, V4_apply]
  exact congrArg (w m c) (congrArg _ (Fin.ext (show 2304 * ((8 + t.val % 4) / 3) + (768 * ((8 + t.val % 4) % 3) + s.val) = 6144 + (768 * (t.val % 4) + s.val) by omega)))

/-- The product's block the kernel computes before it reorders the rows. -/
theorem product (X : S1024x2048.Idx → EReal) (W : S1x1x2048x768.Idx → EReal) (r : Fin 1024) (s : Fin 768) :
    k0_pay2 (F := Ideal) X W (ix2 r s) = ∑ k : Fin 2048, X (ix2 r k) * W (ix4 0 0 k s) := by
  unfold_payloads
  pointwise

/-- The six stores of that block, 128 columns each, the last first. -/
abbrev stores (X : S1024x2048.Idx → EReal) (W : S1x1x2048x768.Idx → EReal) : List (View.Piece (Elt Ideal) S6x1024x128 .f32) :=
  [⟨Rect.unit ![5, 0, 0] ![1, 1024, 128] inb_S6x1024x128_S1x1024x128_5_0_0, k0_pay9 (F := Ideal) (k0_pay8 (F := Ideal) X W)⟩,
    ⟨Rect.unit ![4, 0, 0] ![1, 1024, 128] inb_S6x1024x128_S1x1024x128_4_0_0, k0_pay7 (F := Ideal) X W⟩,
    ⟨Rect.unit ![3, 0, 0] ![1, 1024, 128] inb_S6x1024x128_S1x1024x128_3_0_0, k0_pay6 (F := Ideal) X W⟩,
    ⟨Rect.unit ![2, 0, 0] ![1, 1024, 128] inb_S6x1024x128_S1x1024x128_2_0_0, k0_pay5 (F := Ideal) X W⟩,
    ⟨Rect.unit ![1, 0, 0] ![1, 1024, 128] inb_S6x1024x128_S1x1024x128_1_0_0, k0_pay4 (F := Ideal) X W⟩,
    ⟨Rect.unit ![0, 0, 0] ![1, 1024, 128] inb_S6x1024x128_S1x1024x128_0_0_0, k0_pay3 (F := Ideal) X W⟩]

/-- One store's value at an index: the block at the store's columns. -/
theorem slice (A : S1024x768.Idx → EReal) (o : Nat) (h : S1024x768.Slices ![0, o] S1024x128) (z : S1x1024x128.Idx) (y : S6x1024x128.Idx)
    (ho : 128 * (o / 128) = o) (h0 : (y 0).val = o / 128 + (z 0).val) (h1 : (y 1).val = (z 1).val) (h2 : (y 2).val = (z 2).val) :
    shapeCast S1x1024x128 (extractStridedSlice S1024x128 ![0, o] A h) shapeCasts_S1024x128_S1x1024x128 z
      = A (ix2 (y 1) ⟨128 * (y 0).val + (y 2).val, by have : (y 0).val < 6 := (y 0).isLt; have : (y 2).val < 128 := (y 2).isLt; omega⟩) := by
  have hz : (z 0).val < 1 := (z 0).isLt
  pointwise
  exact congrArg A (congrArg₂ ix2 (Fin.ext h1.symm) (Fin.ext (show o + (z 2).val = 128 * (y 0).val + (y 2).val by omega)))

/-- What the six stores leave. -/
theorem left (X : S1024x2048.Idx → EReal) (W : S1x1x2048x768.Idx → EReal) (y : S6x1024x128.Idx) :
    View.canon (stores X W) y = k0_pay2 (F := Ideal) X W (ix2 (y 1) ⟨128 * (y 0).val + (y 2).val, by have : (y 0).val < 6 := (y 0).isLt; have : (y 2).val < 128 := (y 2).isLt; omega⟩) := by
  canon_tiles y h
  all_goals try unfold k0_pay9 k0_pay8
  all_goals exact slice _ _ _ _ _ rfl (by omega) (by omega) (by omega)

/-- One of the result's pieces: rows `p`, `p + 16`, … of 128 columns. -/
theorem piece (X : S1024x2048.Idx → EReal) (W : S1x1x2048x768.Idx → EReal) (k p : Nat) (inb) (z : S1x64x128.Idx) (y : S16x64x768.Idx)
    (h0 : (y 0).val = p + (z 0).val) (h1 : (y 1).val = (z 1).val) (h2 : (y 2).val = 128 * k + (z 2).val) :
    (View.whole cc0_scratch0).readCov (stores X W) ⟨![k, p, 0], ![1, 64, 128], ![1, 16, 1], inb⟩ z
      = k0_pay2 (F := Ideal) X W (ix2 ⟨16 * (y 1).val + (y 0).val, by have : (y 0).val < 16 := (y 0).isLt; have : (y 1).val < 64 := (y 1).isLt; omega⟩ (y 2)) := by
  rw [View.readCov_eq_canon']
  refine (left X W _).trans ?_
  have hz : (z 0).val < 1 := (z 0).isLt
  exact congrArg (k0_pay2 (F := Ideal) X W) (congrArg₂ ix2
    (Fin.ext (show p + 16 * (z 1).val = 16 * (y 1).val + (y 0).val by omega))
    (Fin.ext (show 128 * (k + 1 * (z 0).val) + (0 + 1 * (z 2).val) = (y 2).val by omega)))

/-- The cast of a piece to the result's type is the identity. -/
theorem cast_id (v : S1x64x128.Idx → EReal) (z : S1x64x128.Idx) :
    shapeCast S1x64x128 (truncf (F := Ideal) (φ := .f32) .bf16 (shapeCast S64x128 v shapeCasts_S1x64x128_S64x128) bitsLt_bf16_f32) shapeCasts_S64x128_S1x64x128 z = v z := by
  pointwise

/-- A block of the result before the product is opened. -/
theorem tiles (t : Fin cfg0.N) (y : S16x64x768.Idx) : outsAt0 m c t y
    = k0_pay2 (F := Ideal) (ib0 m c t) (ib1 m c t) (ix2 ⟨16 * (y 1).val + (y 0).val, by have : (y 0).val < 16 := (y 0).isLt; have : (y 1).val < 64 := (y 1).isLt; omega⟩ (y 2)) := by
  unfold outsAt0
  frame_out
  canon_tiles y h
  all_goals exact (cast_id _ _).trans (piece _ _ _ _ _ _ _ (by omega) (by omega) (by omega))

/-- A block of the result. -/
theorem block (t : Fin cfg0.N) (z : S16x64x768.Idx) : outsAt0 m c t z
    = ∑ k : Fin 2048, x m c (ix2 (row t (z 0) (z 1)) k) * w m c (ix2 k (col t (z 2))) :=
  ((tiles m c t z).trans (product _ _ _ _)).trans (Finset.sum_congr rfl fun k _ => congrArg₂ (· * ·) (b0 m c t (z 0) (z 1) k) (b1 m c t k (z 2)))

/-- The product with the columns of that group, its rows in 16 classes: row `r` of class `p` is row `16 * r + p`. -/
def group (A : S4096x2048.Idx → EReal) (W : S2048x9216.Idx → EReal) : S16x256x3072.Idx → EReal := fun i =>
  ∑ k : Fin 2048, A (ix2 ⟨16 * (i 1).val + (i 0).val, by have : (i 0).val < 16 := (i 0).isLt; have : (i 1).val < 256 := (i 1).isLt; omega⟩ k)
    * W (ix2 k ⟨6144 + (i 2).val, by have : (i 2).val < 3072 := (i 2).isLt; omega⟩)

/-- `group` at the row `r` and the column `s`. -/
theorem group_at (A : S4096x2048.Idx → EReal) (W : S2048x9216.Idx → EReal) (i : S16x256x3072.Idx) (r : Fin 4096) (s : Fin 9216)
    (h1 : 16 * (i 1).val + (i 0).val = r.val) (h2 : 6144 + (i 2).val = s.val) :
    group A W i = ∑ k : Fin 2048, A (ix2 r k) * W (ix2 k s) :=
  Finset.sum_congr rfl fun k _ => congrArg₂ (fun a b => A (ix2 a k) * W (ix2 k b)) (Fin.ext h1) (Fin.ext h2)

/-- After the run the result is the product with those columns. -/
theorem arr : (dats m 0 c).arrAt 2 cfg0.N = group (x m c) (w m c) := by
  refine (dats m 0 c).arrAt_eq_of_covers 2 _ (by decide +kernel) fun t hf y => ?_
  blk_simp
  rw [after0_2]
  refine (block m c t _).trans (group_at _ _ _ _ _ ?_ ?_).symm
  · unfold row
    blk_simp [idx2 t]
    dsimp only
    omega
  · unfold col
    blk_simp [idx2 t]
    dsimp only
    omega

/-- The reference's array. -/
theorem ref (A : S4096x2048.Idx → EReal) (W : S2048x9216.Idx → EReal) :
    BQkvG2ReferenceIdeal.Read.val_main_v4 (F := Ideal) A W = group A W := by
  funext i
  have h0 : (i 0).val < 16 := (i 0).isLt
  have h1 : (i 1).val < 256 := (i 1).isLt
  have h2 : (i 2).val < 3072 := (i 2).isLt
  refine (BQkvG2ReferenceIdeal.Read.val_main_v4_apply (F := Ideal) A W i).trans ?_
  rw [BQkvG2ReferenceIdeal.Read.val_main_v3_apply, BQkvG2ReferenceIdeal.Read.val_main_v2_apply,
    BQkvG2ReferenceIdeal.Read.val_main_v1_apply, BQkvG2ReferenceIdeal.Read.val_main_v0_apply]
  refine Finset.sum_congr rfl fun k _ => ?_
  congr 1
  · exact congrArg A (by
      funext a
      match a with
      | ⟨0, _⟩ => exact Fin.ext (show (((i 1).val * 16 + (i 0).val) * 3072 + (i 2).val) / 3072 = 16 * (i 1).val + (i 0).val by omega)
      | ⟨1, _⟩ => rfl)
  · exact congrArg W (by
      funext a
      match a with
      | ⟨0, _⟩ => rfl
      | ⟨1, _⟩ => exact Fin.ext (show 6144 + (((i 1).val * 16 + (i 0).val) * 3072 + (i 2).val) % 3072 = 6144 + (i 2).val by omega))

/-- The kernel's bodies are the idealized kernel's: the two programs are one text. -/
theorem bodies_eq : Cert.BQkvG2.defs₀ (F := Bits) = Cert.BQkvG2Ideal.defs₀ (F := Bits) := by
  unfold Cert.BQkvG2.defs₀ Cert.BQkvG2Ideal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.BQkvG2.defs (F := Bits) = Cert.BQkvG2Ideal.defs (F := Bits) := congrArg (Pipeline.defs _) bodies_eq

/-- The kernel ends without fault, with its arguments unchanged and no counter above zero. -/
theorem frame_k : Cert.quiescent_BQkvG2 (hBQkvG2 := Cert.BQkvG2.Gen.facts) := fun m ρ _ => by
  rw [defs_eq]
  exact Cert.BQkvG2Ideal.Gen.frame (F := Bits) m ρ

/-- The reference ends without fault, with its arguments unchanged and no counter above zero. -/
theorem frame_r : Cert.quiescent_BQkvG2ReferenceIdeal (hBQkvG2ReferenceIdeal := Cert.BQkvG2ReferenceIdeal.Gen.facts) := by
  intro m ρ _
  exact (θ_run Cert.BQkvG2ReferenceIdeal.defs _ _).mono (fun r h => ⟨fun c => (h c).2,
      Idealize.ShloMosaic.sem_eq_zero_of_no_sems (by decide) r.2⟩)
    (Cert.BQkvG2ReferenceIdeal.Value.run (F := Ideal) m ρ)

/-- Kernel and reference end with equal results. -/
theorem equal : Cert.algebraic_BQkvG2Ideal_BQkvG2ReferenceIdeal (hBQkvG2Ideal := Cert.BQkvG2Ideal.Gen.facts)
    (hBQkvG2ReferenceIdeal := Cert.BQkvG2ReferenceIdeal.Gen.facts) := by
  intro m ρ m' ρ' _ hagree
  refine ⟨fun c => (Cert.BQkvG2Ideal.Gen.dats m 0 c).arrAt 2 Cert.BQkvG2Ideal.cfg0.N, Cert.BQkvG2Ideal.Value.run_blocks (F := Ideal) m ρ, ?_⟩
  refine (θ_run Cert.BQkvG2ReferenceIdeal.defs _ _).mono (fun r h c => ?_) (Cert.BQkvG2ReferenceIdeal.Value.run (F := Ideal) m' ρ')
  obtain ⟨h0, hargs⟩ := h c
  obtain ⟨g0, g1⟩ := hagree c
  rw [Cert.BQkvG2ReferenceIdeal.Read.val_main_v4_eq, g0, g1] at h0
  exact ⟨h0.trans ((ref (x m c) (w m c)).trans (arr m c).symm), hargs⟩

end Cert.BQkvG2Value

end
-- ==== Proof.FlashPay.lean ====
/- The forward attention's body on a quarter of a block's queries, as one function of the queries, the keys and the values:
   the four parts of what the body stores are this function at the four quarters. -/
module

public import proofs.«01_k».proof.Proof.Gen.FlashIdeal.Frame

@[expose] public section

set_option maxRecDepth 65536

noncomputable section

namespace Cert.FlashPay

open Cert.FlashIdeal Cert.FlashIdeal.Gen Idealize.ShloMosaic

/-- A quarter of a block of queries. -/
def quarter (b : Fin 4) (x : Vec Ideal S1024x128 .bf16) : Vec Ideal S256x128 .bf16 :=
  match b with
  | 0 => View.ld (Val := Elt Ideal) x r0_0
  | 1 => View.ld (Val := Elt Ideal) x r0_1
  | 2 => View.ld (Val := Elt Ideal) x r0_2
  | 3 => View.ld (Val := Elt Ideal) x r0_3

/-- A stretch of 512 keys or values. -/
def stretch (c : Fin 8) (x : Vec Ideal S4096x128 .bf16) : Vec Ideal S512x128 .bf16 :=
  match c with
  | 0 => View.ld (Val := Elt Ideal) x r0_4
  | 1 => View.ld (Val := Elt Ideal) x r0_5
  | 2 => View.ld (Val := Elt Ideal) x r0_6
  | 3 => View.ld (Val := Elt Ideal) x r0_7
  | 4 => View.ld (Val := Elt Ideal) x r0_8
  | 5 => View.ld (Val := Elt Ideal) x r0_9
  | 6 => View.ld (Val := Elt Ideal) x r0_10
  | 7 => View.ld (Val := Elt Ideal) x r0_11

/-- The logits of 256 queries against 512 keys. -/
def logits (q : Vec Ideal S256x128 .bf16) (k : Vec Ideal S512x128 .bf16) : FVec Ideal S256x512 .f32 :=
  matmul dot_S256x128_S512x128_S256x512_1_1_0_0_n_n none (shapeCast S256x128 q shapeCasts_S256x128_S256x128 : FVec Ideal S256x128 .bf16)
    (shapeCast S512x128 k shapeCasts_S512x128_S512x128 : FVec Ideal S512x128 .bf16) (constant S256x512 .f32 0x00000000#32)

/-- The running maxima, column by column modulo 128, with 512 more logits. -/
def larger (m : FVec Ideal S256x128 .f32) (s : FVec Ideal S256x512 .f32) : FVec Ideal S256x128 .f32 :=
  maximumf (maximumf (maximumf (maximumf m
    (extractStridedSlice S256x128 ![0, 0] s slices_S256x512_o0_0_S256x128))
    (extractStridedSlice S256x128 ![0, 128] s slices_S256x512_o0_128_S256x128))
    (extractStridedSlice S256x128 ![0, 256] s slices_S256x512_o0_256_S256x128))
    (extractStridedSlice S256x128 ![0, 384] s slices_S256x512_o0_384_S256x128)

/-- The greatest logit of each query over the 4096 keys. -/
def greatest (q : Vec Ideal S256x128 .bf16) (x1 : Vec Ideal S4096x128 .bf16) : FVec Ideal S256x1 .f32 :=
  shapeCast S256x1 (multiReduction .maximumf [1] S256
    (larger (larger (larger (larger (larger (larger (larger (larger (broadcast S256x128 (Scalar.ofBits .f32 0xFF800000#32))
      (logits q (stretch 0 x1))) (logits q (stretch 1 x1))) (logits q (stretch 2 x1))) (logits q (stretch 3 x1)))
      (logits q (stretch 4 x1))) (logits q (stretch 5 x1))) (logits q (stretch 6 x1))) (logits q (stretch 7 x1)))
    0xFF800000#32 reduces_S256x128_S256 (.inl rfl) rfl) shapeCasts_S256_S256x1

/-- The base-two exponentials of the logits less `m`. -/
def exps (m : FVec Ideal S256x1 .f32) (s : FVec Ideal S256x512 .f32) : FVec Ideal S256x512 .f32 :=
  exp2 (subf s (broadcastTo S256x512 m broadcasts_S256x1_S256x512))

/-- The running sums, column by column modulo 128, with 512 more exponentials. -/
def more (l : FVec Ideal S256x128 .f32) (p : FVec Ideal S256x512 .f32) : FVec Ideal S256x128 .f32 :=
  addf (addf (addf (addf l
    (extractStridedSlice S256x128 ![0, 0] p slices_S256x512_o0_0_S256x128))
    (extractStridedSlice S256x128 ![0, 128] p slices_S256x512_o0_128_S256x128))
    (extractStridedSlice S256x128 ![0, 256] p slices_S256x512_o0_256_S256x128))
    (extractStridedSlice S256x128 ![0, 384] p slices_S256x512_o0_384_S256x128)

/-- The running product of the exponentials with the values, with 512 more keys. -/
def gather (a : FVec Ideal S256x128 .f32) (p : FVec Ideal S256x512 .f32) (v : Vec Ideal S512x128 .bf16) : FVec Ideal S256x128 .f32 :=
  addf a (matmul dot_S256x512_S512x128_S256x128_1_0_0_1_n_n none (truncf .bf16 p bitsLt_bf16_f32)
    (shapeCast S512x128 v shapeCasts_S512x128_S512x128 : FVec Ideal S512x128 .bf16) (constant S256x128 .f32 0x00000000#32))

/-- The running sums of each query's exponentials, column by column modulo 128, over the 4096 keys. -/
def lanes (m : FVec Ideal S256x1 .f32) (q : Vec Ideal S256x128 .bf16) (x1 : Vec Ideal S4096x128 .bf16) : FVec Ideal S256x128 .f32 :=
  more (more (more (more (more (more (more (more (broadcast S256x128 (Scalar.ofBits .f32 0x00000000#32))
    (exps m (logits q (stretch 0 x1)))) (exps m (logits q (stretch 1 x1))))
    (exps m (logits q (stretch 2 x1)))) (exps m (logits q (stretch 3 x1))))
    (exps m (logits q (stretch 4 x1)))) (exps m (logits q (stretch 5 x1))))
    (exps m (logits q (stretch 6 x1)))) (exps m (logits q (stretch 7 x1)))

/-- The sums of each query's exponentials over the 4096 keys. -/
def sums (l : FVec Ideal S256x128 .f32) : FVec Ideal S256x1 .f32 :=
  shapeCast S256x1 (multiReduction .add [1] S256 l 0x00000000#32 reduces_S256x128_S256 (.inl rfl) rfl) shapeCasts_S256_S256x1

/-- The product of the exponentials with the values. -/
def gathered (m : FVec Ideal S256x1 .f32) (q : Vec Ideal S256x128 .bf16) (x1 x2 : Vec Ideal S4096x128 .bf16) : FVec Ideal S256x128 .f32 :=
  gather (gather (gather (gather (gather (gather (gather (gather (broadcast S256x128 (Scalar.ofBits .f32 0x00000000#32))
    (exps m (logits q (stretch 0 x1))) (stretch 0 x2)) (exps m (logits q (stretch 1 x1))) (stretch 1 x2))
    (exps m (logits q (stretch 2 x1))) (stretch 2 x2)) (exps m (logits q (stretch 3 x1))) (stretch 3 x2))
    (exps m (logits q (stretch 4 x1))) (stretch 4 x2)) (exps m (logits q (stretch 5 x1))) (stretch 5 x2))
    (exps m (logits q (stretch 6 x1))) (stretch 6 x2)) (exps m (logits q (stretch 7 x1))) (stretch 7 x2)

/-- The attention's output for 256 queries, from the sums and the product. -/
def output (l a : FVec Ideal S256x128 .f32) : FVec Ideal S256x128 .bf16 :=
  truncf .bf16 (mulf a (broadcastTo S256x128 (divf (broadcast S256x1 (Scalar.ofBits .f32 0x3F800000#32)) (sums l))
    broadcasts_S256x1_S256x128)) bitsLt_bf16_f32

/-- The base-two log-sum-exps of 256 queries, over the 128 columns, from the maxima and the sums. -/
def logsum (m : FVec Ideal S256x1 .f32) (l : FVec Ideal S256x128 .f32) : FVec Ideal S256x128 .f32 :=
  broadcastTo S256x128 (shapeCast S256x1 (addf m (divf (log (sums l)) (broadcast S256x1 (Named.named (F := Ideal) κ "ln2" 0x3F317218#32))))
    shapeCasts_S256x1_S256x1) broadcasts_S256x1_S256x128

variable (x0 : Vec Ideal S1024x128 .bf16) (x1 x2 : Vec Ideal S4096x128 .bf16)

/-- The maxima of quarter 0. -/
theorem m0 : k0_pay196 x0 x1 x2 = greatest (quarter 0 x0) x1 := by
  delta k0_pay196 k0_pay46 k0_pay195 k0_pay43 k0_pay42 k0_pay39 k0_pay38 k0_pay37 k0_pay33 k0_pay28 k0_pay27 k0_pay24 k0_pay23 k0_pay20 k0_pay19 k0_pay188 k0_pay5 k0_pay15 k0_pay14 k0_pay11 k0_pay10
  delta greatest larger logits quarter stretch
  rfl

/-- The running sums of quarter 0. -/
theorem l0 : k0_pay219 x0 x1 x2 = lanes (k0_pay196 x0 x1 x2) (quarter 0 x0) x1 := by
  delta k0_pay219 k0_pay92 k0_pay91 k0_pay89 k0_pay77 k0_pay76 k0_pay74 k0_pay62 k0_pay61 k0_pay60 k0_pay58 k0_pay50 k0_pay211 k0_pay188 k0_pay5 k0_pay119 k0_pay117 k0_pay202 k0_pay166 k0_pay165 k0_pay163 k0_pay152 k0_pay151 k0_pay149 k0_pay136 k0_pay135 k0_pay133 k0_pay121 k0_pay120 k0_pay106 k0_pay105 k0_pay103
  delta lanes more exps logits quarter stretch
  rfl

/-- The maxima of quarter 1. -/
theorem m1 : k0_pay197 x0 x1 x2 = greatest (quarter 1 x0) x1 := by
  delta k0_pay197 k0_pay47 k0_pay44 k0_pay42 k0_pay34 k0_pay33 k0_pay29 k0_pay27 k0_pay26 k0_pay25 k0_pay23 k0_pay194 k0_pay37 k0_pay192 k0_pay19 k0_pay189 k0_pay6 k0_pay16 k0_pay14 k0_pay12 k0_pay10
  delta greatest larger logits quarter stretch
  rfl

/-- The running sums of quarter 1. -/
theorem l1 : k0_pay220 x0 x1 x2 = lanes (k0_pay197 x0 x1 x2) (quarter 1 x0) x1 := by
  delta k0_pay220 k0_pay95 k0_pay94 k0_pay89 k0_pay80 k0_pay79 k0_pay74 k0_pay65 k0_pay64 k0_pay51 k0_pay217 k0_pay163 k0_pay209 k0_pay117 k0_pay207 k0_pay103 k0_pay206 k0_pay200 k0_pay58 k0_pay189 k0_pay6 k0_pay170 k0_pay169 k0_pay155 k0_pay154 k0_pay149 k0_pay139 k0_pay138 k0_pay133 k0_pay124 k0_pay123 k0_pay109 k0_pay108
  delta lanes more exps logits quarter stretch
  rfl

/-- The maxima of quarter 2. -/
theorem m2 : k0_pay198 x0 x1 x2 = greatest (quarter 2 x0) x1 := by
  delta k0_pay198 k0_pay48 k0_pay45 k0_pay42 k0_pay40 k0_pay35 k0_pay33 k0_pay30 k0_pay27 k0_pay21 k0_pay194 k0_pay37 k0_pay193 k0_pay23 k0_pay192 k0_pay19 k0_pay190 k0_pay7 k0_pay17 k0_pay14 k0_pay13 k0_pay10
  delta greatest larger logits quarter stretch
  rfl

/-- The running sums of quarter 2. -/
theorem l2 : k0_pay221 x0 x1 x2 = lanes (k0_pay198 x0 x1 x2) (quarter 2 x0) x1 := by
  delta k0_pay221 k0_pay98 k0_pay97 k0_pay83 k0_pay82 k0_pay74 k0_pay68 k0_pay67 k0_pay52 k0_pay217 k0_pay163 k0_pay215 k0_pay149 k0_pay209 k0_pay117 k0_pay207 k0_pay103 k0_pay204 k0_pay89 k0_pay200 k0_pay58 k0_pay190 k0_pay7 k0_pay173 k0_pay172 k0_pay158 k0_pay157 k0_pay144 k0_pay143 k0_pay141 k0_pay133 k0_pay142 k0_pay127 k0_pay126 k0_pay112 k0_pay111
  delta lanes more exps logits quarter stretch
  rfl

/-- The maxima of quarter 3. -/
theorem m3 : k0_pay199 x0 x1 x2 = greatest (quarter 3 x0) x1 := by
  delta k0_pay199 k0_pay9 k0_pay49 k0_pay42 k0_pay41 k0_pay36 k0_pay33 k0_pay32 k0_pay31 k0_pay27 k0_pay22 k0_pay194 k0_pay37 k0_pay193 k0_pay23 k0_pay192 k0_pay19 k0_pay191 k0_pay8 k0_pay18 k0_pay14 k0_pay10
  delta greatest larger logits quarter stretch
  rfl

/-- The running sums of quarter 3. -/
theorem l3 : k0_pay222 x0 x1 x2 = lanes (k0_pay199 x0 x1 x2) (quarter 3 x0) x1 := by
  delta k0_pay222 k0_pay87 k0_pay86 k0_pay71 k0_pay70 k0_pay53 k0_pay217 k0_pay163 k0_pay215 k0_pay149 k0_pay213 k0_pay133 k0_pay212 k0_pay209 k0_pay117 k0_pay191 k0_pay8 k0_pay129 k0_pay207 k0_pay103 k0_pay204 k0_pay89 k0_pay203 k0_pay74 k0_pay200 k0_pay58 k0_pay176 k0_pay175 k0_pay161 k0_pay160 k0_pay147 k0_pay146 k0_pay131 k0_pay130 k0_pay115 k0_pay114 k0_pay101 k0_pay100
  delta lanes more exps logits quarter stretch
  rfl

/-- The output block's pieces are the attention's output for the four quarters of the queries. -/
theorem out3 : out0_3 x0 x1 x2 = View.canon [⟨r0_3, output (k0_pay222 x0 x1 x2) (gathered (k0_pay199 x0 x1 x2) (quarter 3 x0) x1 x2)⟩,
    ⟨r0_2, output (k0_pay221 x0 x1 x2) (gathered (k0_pay198 x0 x1 x2) (quarter 2 x0) x1 x2)⟩,
    ⟨r0_1, output (k0_pay220 x0 x1 x2) (gathered (k0_pay197 x0 x1 x2) (quarter 1 x0) x1 x2)⟩,
    ⟨r0_0, output (k0_pay219 x0 x1 x2) (gathered (k0_pay196 x0 x1 x2) (quarter 0 x0) x1 x2)⟩] := by
  delta out0_3 k0_pay99 k0_pay97 k0_pay96 k0_pay94 k0_pay89 k0_pay90 k0_pay93 k0_pay91 k0_pay88 k0_pay86 k0_pay85 k0_pay84 k0_pay82 k0_pay74 k0_pay75 k0_pay81 k0_pay79 k0_pay78 k0_pay76 k0_pay73 k0_pay72 k0_pay70 k0_pay69 k0_pay67 k0_pay66 k0_pay64 k0_pay63 k0_pay57 k0_pay56 k0_pay55 k0_pay54 k0_pay3 k0_pay2 k0_pay218 k0_pay164 k0_pay217 k0_pay163 k0_pay216 k0_pay150 k0_pay215 k0_pay149 k0_pay214 k0_pay134 k0_pay213 k0_pay133 k0_pay212 k0_pay209 k0_pay117 k0_pay191 k0_pay8 k0_pay129 k0_pay211 k0_pay188 k0_pay5 k0_pay119 k0_pay210 k0_pay118 k0_pay208 k0_pay104 k0_pay207 k0_pay103 k0_pay206 k0_pay205 k0_pay204 k0_pay203 k0_pay202 k0_pay60 k0_pay58 k0_pay201 k0_pay59 k0_pay200 k0_pay190 k0_pay7 k0_pay189 k0_pay6 k0_pay186 k0_pay185 k0_pay183 k0_pay182 k0_pay180 k0_pay179 k0_pay178 k0_pay177 k0_pay175 k0_pay174 k0_pay172 k0_pay171 k0_pay169 k0_pay168 k0_pay167 k0_pay165 k0_pay162 k0_pay160 k0_pay159 k0_pay157 k0_pay156 k0_pay154 k0_pay153 k0_pay151 k0_pay148 k0_pay146 k0_pay145 k0_pay141 k0_pay140 k0_pay138 k0_pay137 k0_pay135 k0_pay132 k0_pay128 k0_pay126 k0_pay125 k0_pay123 k0_pay122 k0_pay120 k0_pay116 k0_pay114 k0_pay113 k0_pay111 k0_pay110 k0_pay108 k0_pay107 k0_pay105 k0_pay102 k0_pay100
  delta output gathered gather sums exps logits quarter stretch
  rfl

/-- The log-sum block's pieces are the log-sum-exps for the four quarters of the queries. -/
theorem out4 : out0_4 x0 x1 x2 = View.canon [⟨r0_3, logsum (k0_pay199 x0 x1 x2) (k0_pay222 x0 x1 x2)⟩,
    ⟨r0_2, logsum (k0_pay198 x0 x1 x2) (k0_pay221 x0 x1 x2)⟩,
    ⟨r0_1, logsum (k0_pay197 x0 x1 x2) (k0_pay220 x0 x1 x2)⟩,
    ⟨r0_0, logsum (k0_pay196 x0 x1 x2) (k0_pay219 x0 x1 x2)⟩] := by
  delta out0_4 k0_pay4 k0_pay2 k0_pay187 k0_pay185 k0_pay184 k0_pay182 k0_pay181 k0_pay178 k0_pay1
  delta logsum sums
  rfl

end Cert.FlashPay

end
-- ==== Proof.Softmax.lean ====
/- Real arithmetic of one row of softmax attention: the probabilities written with a base-two exponential, the sum
   `delta` in its two forms, the gradient of the logits in the form the derivative rules give it and in the short
   form, and finite sums and exponentials of reals seen as extended reals. No program appears here. -/
module

public import Idealize.ShloMosaic.PureOps.Ideal
public import Mathlib.Data.EReal.Operations

@[expose] public section

noncomputable section

namespace Cert.Softmax

open Idealize.ShloMosaic

variable {σ δ : Type} [Fintype σ] [Fintype δ]

/-- The sum of the exponentials of a row of logits `l`, each taken less `m`. -/
def total (l : σ → ℝ) (m : ℝ) : ℝ := ∑ s, Real.exp (l s - m)

/-- The softmax probability of entry `s` of a row of logits `l`, computed with the shift `m`. -/
def prob (l : σ → ℝ) (m : ℝ) (s : σ) : ℝ := Real.exp (l s - m) / total l m

/-- The sum of the exponentials of a nonempty row is positive. -/
theorem total_pos [Nonempty σ] (l : σ → ℝ) (m : ℝ) : 0 < total l m :=
  Finset.sum_pos (fun _ _ => Real.exp_pos _) Finset.univ_nonempty

/-- The base-two exponential of a logit less the row's log-sum-exp, both divided by `log 2`, is the probability. -/
theorem exp2_eq_prob [Nonempty σ] (l : σ → ℝ) (m : ℝ) (s : σ) :
    Real.rpow 2 (l s * (1 / Real.log 2) - (m + Real.log (total l m)) * (1 / Real.log 2)) = prob l m s := by
  have h2 : Real.log 2 ≠ 0 := (Real.log_pos (by norm_num)).ne'
  have hz := total_pos l m
  show (2 : ℝ) ^ (_ : ℝ) = _
  rw [Real.rpow_def_of_pos (by norm_num : (0 : ℝ) < 2), prob]
  have : Real.log 2 * (l s * (1 / Real.log 2) - (m + Real.log (total l m)) * (1 / Real.log 2))
      = (l s - m) - Real.log (total l m) := by
    field_simp; ring
  rw [this, Real.exp_sub, Real.exp_log hz]

/-- A row's sum of exponentials taken with another shift. -/
theorem total_shift (l : σ → ℝ) (m m' : ℝ) : total l m = Real.exp (m' - m) * total l m' := by
  unfold total
  rw [Finset.mul_sum]
  exact Finset.sum_congr rfl fun s _ => by rw [← Real.exp_add]; congr 1; ring

/-- The probabilities do not depend on the shift. -/
theorem prob_shift (l : σ → ℝ) (m m' : ℝ) (s : σ) : prob l m s = prob l m' s := by
  unfold prob
  rw [total_shift l m m', show l s - m = (m' - m) + (l s - m') by ring, Real.exp_add]
  exact mul_div_mul_left _ _ (Real.exp_pos _).ne'

/-- The log-sum-exp does not depend on the shift. -/
theorem lse_shift [Nonempty σ] (l : σ → ℝ) (m m' : ℝ) : m + Real.log (total l m) = m' + Real.log (total l m') := by
  rw [total_shift l m m', Real.log_mul (Real.exp_pos _).ne' (total_pos _ _).ne', Real.log_exp]
  ring

/-- The base-two exponential of a logit over `log 2` less a shift. -/
theorem rpow_eq_exp (x μ : ℝ) : Real.rpow 2 (x * (1 / Real.log 2) - μ) = Real.exp (x - μ * Real.log 2) := by
  have h2 : Real.log 2 ≠ 0 := (Real.log_pos (by norm_num)).ne'
  show (2 : ℝ) ^ (_ : ℝ) = _
  rw [Real.rpow_def_of_pos (by norm_num : (0 : ℝ) < 2)]
  congr 1
  field_simp

/-- The gradient of the logits, as the short rule writes it: the probability times (the gradient `dp` of the
    probability less the probabilities' mean of `dp`). -/
def dlogit (l : σ → ℝ) (m : ℝ) (dp : σ → ℝ) (s : σ) : ℝ := prob l m s * (dp s - ∑ r, dp r * prob l m r)

/-- The inner product of the output gradient `w` with the output `∑ₛ vₛ pₛ` is the probabilities' mean of
    `dp = ∑ w v`. -/
theorem delta_eq (w : δ → ℝ) (v : σ → δ → ℝ) (p : σ → ℝ) :
    ∑ d, w d * ∑ s, v s d * p s = ∑ s, (∑ d, w d * v s d) * p s := by
  simp only [Finset.mul_sum, Finset.sum_mul]
  rw [Finset.sum_comm]
  exact Finset.sum_congr rfl fun s _ => Finset.sum_congr rfl fun d _ => by ring

/-- The derivative of softmax taken through its quotient — `dp / Z` less the sum of `dp · (1 / Z²) · e`, times
    `e` — is the short rule. -/
theorem quotient_rule_eq [Nonempty σ] (l : σ → ℝ) (m : ℝ) (dp : σ → ℝ) (s : σ) :
    (dp s * (1 / total l m) + -(∑ r, dp r * (1 * (1 / (total l m * total l m))) * Real.exp (l r - m))) * Real.exp (l s - m)
      = dlogit l m dp s := by
  have hz := (total_pos l m).ne'
  unfold dlogit prob
  have : ∑ r, dp r * (1 * (1 / (total l m * total l m))) * Real.exp (l r - m)
      = (1 / total l m) * ∑ r, dp r * (Real.exp (l r - m) / total l m) := by
    rw [Finset.mul_sum]
    exact Finset.sum_congr rfl fun r _ => by field_simp
  rw [this]
  field_simp
  ring

/-! ## Extended reals -/

/-- A finite sum of reals, taken in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of reals, taken in the extended reals, is a real. -/
theorem sum_mul_coe {ι : Type} (s : Finset ι) (f g : ι → ℝ) :
    ∑ i ∈ s, ((f i : ℝ) : EReal) * ((g i : ℝ) : EReal) = ((∑ i ∈ s, f i * g i : ℝ) : EReal) := by
  rw [coe_sum]; exact Finset.sum_congr rfl fun i _ => (EReal.coe_mul _ _).symm

/-- A quotient of reals by a nonzero real, in the extended reals. -/
theorem div_coe_coe (x : ℝ) {y : ℝ} (h : y ≠ 0) : Ideal.div (x : EReal) (y : EReal) = ((x * (1 / y) : ℝ) : EReal) := by
  rw [Ideal.div_coe h, EReal.coe_mul]

/-- The greatest of finitely many (at least one) reals, taken in the extended reals from `-∞`, is a real. -/
theorem fold_max_real {ι : Type} [Fintype ι] [Nonempty ι] (f : ι → ℝ) :
    ∃ M : ℝ, (Finset.univ : Finset ι).fold max (⊥ : EReal) (fun i => ((f i : ℝ) : EReal)) = (M : EReal) := by
  have e : (Finset.univ : Finset ι).fold max (⊥ : EReal) (fun i => ((f i : ℝ) : EReal))
      = (Finset.univ : Finset ι).sup (fun i => ((f i : ℝ) : EReal)) := rfl
  rw [e, ← Finset.sup'_eq_sup Finset.univ_nonempty]
  obtain ⟨i, -, hi⟩ := Finset.exists_mem_eq_sup' Finset.univ_nonempty (fun i => ((f i : ℝ) : EReal))
  exact ⟨f i, hi⟩

end Cert.Softmax

end
-- ==== Proof.FlashEntry.lean ====
/- The forward attention's values on one block of queries, entry by entry, the queries and keys holding reals: the logits, some
   real shift per query, the sums of the base-two exponentials, their product with the values, and from these the
   output and the log-sum-exp. -/
module

public import proofs.«01_k».proof.Proof.FlashPay
public import proofs.«01_k».proof.Proof.Softmax
public import proofs.«01_k».proof.Proof.Sums
public import Idealize.ShloMosaic.Lib.Pipeline.ValueKit
public import Idealize.ShloMosaic.Lib.Pointwise
public import Idealize.ShloMosaic.Lib.IdealHost

@[expose] public section

set_option maxRecDepth 16384

noncomputable section

namespace Cert.FlashPay

open Cert.FlashIdeal Cert.FlashIdeal.Gen Idealize.ShloMosaic Cert.Softmax

/-- A quarter's row is the block's row. -/
theorem quarter_apply (b : Fin 4) (x : Vec Ideal S1024x128 .bf16) (r : Fin 256) (d : Fin 128) :
    quarter b x (ix2 r d) = x (ix2 ⟨256 * b.val + r.val, by omega⟩ d) := by
  match b with
  | 0 => exact congrArg x (by idx_ext)
  | 1 => exact congrArg x (by idx_ext)
  | 2 => exact congrArg x (by idx_ext)
  | 3 => exact congrArg x (by idx_ext)

/-- The entry of the logits. -/
theorem logits_apply (q : Vec Ideal S256x128 .bf16) (k : Vec Ideal S512x128 .bf16) (r : Fin 256) (j : Fin 512) :
    logits q k (ix2 r j) = ∑ d : Fin 128, (q (ix2 r d) : EReal) * (k (ix2 j d) : EReal) := by
  unfold logits
  pointwise

/-- A stretch's row is the array's row. -/
theorem stretch_apply (c : Fin 8) (x : Vec Ideal S4096x128 .bf16) (j : Fin 512) (d : Fin 128) :
    stretch c x (ix2 j d) = x (ix2 ⟨512 * c.val + j.val, by omega⟩ d) := by
  match c with
  | 0 => exact congrArg x (by idx_ext)
  | 1 => exact congrArg x (by idx_ext)
  | 2 => exact congrArg x (by idx_ext)
  | 3 => exact congrArg x (by idx_ext)
  | 4 => exact congrArg x (by idx_ext)
  | 5 => exact congrArg x (by idx_ext)
  | 6 => exact congrArg x (by idx_ext)
  | 7 => exact congrArg x (by idx_ext)

/-- The attention's output for 256 queries. -/
def outPiece (q : Vec Ideal S256x128 .bf16) (x1 x2 : Vec Ideal S4096x128 .bf16) : FVec Ideal S256x128 .bf16 :=
  output (lanes (greatest q x1) q x1) (gathered (greatest q x1) q x1 x2)

/-- The base-two log-sum-exps of 256 queries. -/
def logPiece (q : Vec Ideal S256x128 .bf16) (x1 : Vec Ideal S4096x128 .bf16) : FVec Ideal S256x128 .f32 :=
  logsum (greatest q x1) (lanes (greatest q x1) q x1)

/-- The output block, quarter by quarter. -/
theorem out3_pieces (x0 : Vec Ideal S1024x128 .bf16) (x1 x2 : Vec Ideal S4096x128 .bf16) : out0_3 x0 x1 x2
    = View.canon [⟨r0_3, outPiece (quarter 3 x0) x1 x2⟩, ⟨r0_2, outPiece (quarter 2 x0) x1 x2⟩,
      ⟨r0_1, outPiece (quarter 1 x0) x1 x2⟩, ⟨r0_0, outPiece (quarter 0 x0) x1 x2⟩] := by
  rw [out3, l0, l1, l2, l3, m0, m1, m2, m3]
  rfl

/-- The log-sum block, quarter by quarter. -/
theorem out4_pieces (x0 : Vec Ideal S1024x128 .bf16) (x1 x2 : Vec Ideal S4096x128 .bf16) : out0_4 x0 x1 x2
    = View.canon [⟨r0_3, logPiece (quarter 3 x0) x1⟩, ⟨r0_2, logPiece (quarter 2 x0) x1⟩,
      ⟨r0_1, logPiece (quarter 1 x0) x1⟩, ⟨r0_0, logPiece (quarter 0 x0) x1⟩] := by
  rw [out4, l0, l1, l2, l3, m0, m1, m2, m3]
  rfl

/-! ## The shift -/

/-- An extended real that is a real. -/
def Real' (x : EReal) : Prop := ∃ y : ℝ, x = (y : EReal)

/-- The larger of anything but `+∞` and a real is a real. -/
theorem max_real {x y : EReal} (hx : x = ⊥ ∨ Real' x) (hy : Real' y) : Real' (max x y) := by
  obtain ⟨b, rfl⟩ := hy
  rcases hx with rfl | ⟨a, rfl⟩
  · exact ⟨b, max_eq_right bot_le⟩
  · rcases le_total a b with h | h
    · exact ⟨b, max_eq_right (EReal.coe_le_coe_iff.2 h)⟩
    · exact ⟨a, max_eq_left (EReal.coe_le_coe_iff.2 h)⟩

/-- One step of the running maxima keeps them reals. -/
theorem larger_real {m : FVec Ideal S256x128 .f32} {s : FVec Ideal S256x512 .f32} {r : Fin 256} {x : Fin 128}
    (hm : m (ix2 r x) = ⊥ ∨ Real' (m (ix2 r x))) (hs : ∀ j, Real' (s (ix2 r j))) : Real' (larger m s (ix2 r x)) := by
  unfold larger
  pointwise
  exact max_real (.inr (max_real (.inr (max_real (.inr (max_real hm (hs _))) (hs _))) (hs _))) (hs _)

section
variable {q : Vec Ideal S256x128 .bf16} {x1 x2 : Vec Ideal S4096x128 .bf16}
variable {r : Fin 256} {L : Fin 4096 → ℝ}

/-- The row of logits of query `r` is `L`. -/
def Row (q : Vec Ideal S256x128 .bf16) (x1 : Vec Ideal S4096x128 .bf16) (r : Fin 256) (L : Fin 4096 → ℝ) : Prop :=
  ∀ (c : Fin 8) (j : Fin 512), logits q (stretch c x1) (ix2 r j) = ((L ⟨512 * c.val + j.val, by omega⟩ : ℝ) : EReal)

/-- The row of logits, the blocks holding reals. -/
theorem row_of {A : Fin 128 → ℝ} {K : Fin 4096 → Fin 128 → ℝ} (hq : ∀ d, q (ix2 r d) = ((A d : ℝ) : EReal))
    (hk : ∀ s d, x1 (ix2 s d) = ((K s d : ℝ) : EReal)) : Row q x1 r fun s => ∑ d, A d * K s d := by
  intro c j
  rw [logits_apply]
  simp only [stretch_apply, hq, hk]
  exact sum_mul_coe _ _ _

variable (hL : Row q x1 r L)
include hL

/-- The shift of a row of reals is a real. -/
theorem greatest_real : Real' (greatest q x1 (ix2 r 0)) := by
  have hb : Ideal.ofBits .f32 0xFF800000#32 = (⊥ : EReal) := by simp [Ideal.ofBits, Ideal.ieee]
  have hr : ∀ c j, Real' (logits q (stretch c x1) (ix2 r j)) := fun c j => ⟨_, hL c j⟩
  have h : ∀ x, Real' ((larger (larger (larger (larger (larger (larger (larger (larger (broadcast S256x128 (Scalar.ofBits .f32 0xFF800000#32))
      (logits q (stretch 0 x1))) (logits q (stretch 1 x1))) (logits q (stretch 2 x1))) (logits q (stretch 3 x1)))
      (logits q (stretch 4 x1))) (logits q (stretch 5 x1))) (logits q (stretch 6 x1))) (logits q (stretch 7 x1))) (ix2 r x)) := fun x =>
    larger_real (.inr (larger_real (.inr (larger_real (.inr (larger_real (.inr (larger_real (.inr (larger_real (.inr (larger_real (.inr
      (larger_real (.inl hb) (hr 0))) (hr 1))) (hr 2))) (hr 3))) (hr 4))) (hr 5))) (hr 6))) (hr 7)
  choose f hf using h
  unfold greatest
  generalize larger _ _ = Z at hf ⊢
  pointwise
  rw [hb]
  simp only [hf]
  exact fold_max_real f

/-! ## The sums -/

variable {m : FVec Ideal S256x1 .f32} {μ : ℝ} (hm : m (ix2 r 0) = ((μ : ℝ) : EReal))

/-- The base-two exponential of the logit of key `s` less the shift. -/
def pow (L : Fin 4096 → ℝ) (μ : ℝ) (s : Fin 4096) : ℝ := Real.rpow 2 (L s - μ)

include hm in
/-- The exponentials. -/
theorem exps_apply (c : Fin 8) (j : Fin 512) : exps m (logits q (stretch c x1)) (ix2 r j)
    = ((pow L μ ⟨512 * c.val + j.val, by omega⟩ : ℝ) : EReal) := by
  unfold exps
  pointwise
  rw [hL, hm, ← EReal.coe_sub]
  exact Ideal.exp2_coe _

omit hL in
/-- One step of the running sums. -/
theorem more_apply {l : FVec Ideal S256x128 .f32} {p : FVec Ideal S256x512 .f32} {x : Fin 128} {a : ℝ} {f : Fin 512 → ℝ}
    (hl : l (ix2 r x) = ((a : ℝ) : EReal)) (hp : ∀ j, p (ix2 r j) = ((f j : ℝ) : EReal)) :
    more l p (ix2 r x) = ((a + ∑ b : Fin 4, f ⟨128 * b.val + x.val, by omega⟩ : ℝ) : EReal) := by
  unfold more
  pointwise
  rw [hl, hp, hp, hp, hp, ← EReal.coe_add, ← EReal.coe_add, ← EReal.coe_add, ← EReal.coe_add, Fin.sum_univ_four]
  simp only [← add_assoc]
  have e : f ⟨x.val, by omega⟩ = f ⟨128 * (0 : Fin 4).val + x.val, by have := x.isLt; show 128 * 0 + x.val < 512; omega⟩ :=
    congrArg f (Fin.ext (show x.val = 128 * 0 + x.val by omega))
  rw [e]
  rfl

include hm in
/-- The running sums over all keys. -/
theorem lanes_apply (x : Fin 128) : lanes m q x1 (ix2 r x)
    = ((∑ c : Fin 8, ∑ b : Fin 4, pow L μ ⟨512 * c.val + (128 * b.val + x.val), by omega⟩ : ℝ) : EReal) := by
  have hz : (broadcast S256x128 (Scalar.ofBits .f32 0x00000000#32) : FVec Ideal S256x128 .f32) (ix2 r x) = ((0 : ℝ) : EReal) :=
    Ideal.ofBits_zero_f32
  have he := exps_apply hL hm
  unfold lanes
  rw [more_apply (more_apply (more_apply (more_apply (more_apply (more_apply (more_apply (more_apply hz
    (he 0)) (he 1)) (he 2)) (he 3)) (he 4)) (he 5)) (he 6)) (he 7), zero_add, Fin.sum_univ_eight]

include hm in
/-- A row's sum. -/
theorem sums_apply : sums (lanes m q x1) (ix2 r 0) = ((∑ s, pow L μ s : ℝ) : EReal) := by
  unfold sums
  pointwise
  simp only [lanes_apply hL hm]
  rw [← coe_sum, Cert.Sums.sum_blocks 8 512 4096 rfl (pow L μ), Finset.sum_comm]
  congr 1
  refine Finset.sum_congr rfl fun c _ => ?_
  rw [Cert.Sums.sum_blocks 4 128 512 rfl, Finset.sum_comm]

/-! ## The product with the values -/

omit hL in
/-- A sum of extended reals times a real that is not negative. -/
theorem sum_mul_real (f : Fin 4096 → EReal) {a : ℝ} (ha : 0 ≤ a) : (∑ s, f s) * (a : EReal) = ∑ s, f s * (a : EReal) :=
  map_sum ({ toFun := fun x => x * (a : EReal), map_zero' := zero_mul _, map_add' := fun x y =>
    EReal.right_distrib_of_nonneg_of_ne_top (EReal.coe_nonneg.2 ha) (EReal.coe_ne_top _) x y } : EReal →+ EReal) f Finset.univ

omit hL in
/-- One step of the running product. -/
theorem gather_apply {a : FVec Ideal S256x128 .f32} {p : FVec Ideal S256x512 .f32} {v : Vec Ideal S512x128 .bf16} {d : Fin 128}
    {z : EReal} {f : Fin 512 → ℝ} {g : Fin 512 → EReal} (ha : a (ix2 r d) = z) (hp : ∀ j, p (ix2 r j) = ((f j : ℝ) : EReal))
    (hv : ∀ j, v (ix2 j d) = g j) : gather a p v (ix2 r d) = z + ∑ j, ((f j : ℝ) : EReal) * g j := by
  unfold gather
  pointwise
  simp only [ha, hp, hv]

include hm in
/-- The product of a row's exponentials with the values. -/
theorem gathered_apply (d : Fin 128) :
    gathered m q x1 x2 (ix2 r d) = ∑ s : Fin 4096, ((pow L μ s : ℝ) : EReal) * x2 (ix2 s d) := by
  have hz : (broadcast S256x128 (Scalar.ofBits .f32 0x00000000#32) : FVec Ideal S256x128 .f32) (ix2 r d) = (0 : EReal) :=
    Ideal.ofBits_zero_f32
  have he := exps_apply hL hm
  have hv : ∀ c j, stretch c x2 (ix2 j d) = x2 (ix2 ⟨512 * c.val + j.val, by omega⟩ d) := fun c j => stretch_apply c x2 j d
  unfold gathered
  rw [gather_apply (gather_apply (gather_apply (gather_apply (gather_apply (gather_apply (gather_apply (gather_apply hz
    (he 0) (hv 0)) (he 1) (hv 1)) (he 2) (hv 2)) (he 3) (hv 3)) (he 4) (hv 4)) (he 5) (hv 5)) (he 6) (hv 6)) (he 7) (hv 7),
    zero_add, Cert.Sums.sum_blocks 8 512 4096 rfl (fun s => ((pow L μ s : ℝ) : EReal) * x2 (ix2 s d)), Fin.sum_univ_eight]

/-- The row's sum is positive. -/
theorem pow_pos : 0 < ∑ s, pow L μ s :=
  Finset.sum_pos (fun _ _ => Real.rpow_pos_of_pos (by norm_num) _) Finset.univ_nonempty

include hm in
/-- The output's entry. -/
theorem output_apply (d : Fin 128) :
    output (lanes m q x1) (gathered m q x1 x2) (ix2 r d)
      = ∑ s : Fin 4096, ((pow L μ s : ℝ) : EReal) * x2 (ix2 s d) * ((1 / ∑ s, pow L μ s : ℝ) : EReal) := by
  unfold output
  pointwise
  rw [gathered_apply hL hm, sums_apply hL hm, ← EReal.coe_one, div_coe_coe _ (pow_pos hL).ne', one_mul,
    sum_mul_real _ (one_div_pos.2 (pow_pos hL)).le]

include hm in
/-- The log-sum-exp's entry. -/
theorem logsum_apply (d : Fin 128) : logsum m (lanes m q x1) (ix2 r d)
    = ((μ + Real.log (∑ s, pow L μ s) * (1 / Real.log 2) : ℝ) : EReal) := by
  have hl : Real.log 2 ≠ 0 := (Real.log_pos (by norm_num)).ne'
  have hn : Named.named (F := Ideal) (φ := .f32) κ "ln2" 0x3F317218#32 = ((Real.log 2 : ℝ) : EReal) :=
    IdealRules.named_const.ideal_named_scalar _ _ _ _ rfl
  unfold logsum
  pointwise
  rw [hn, hm, sums_apply hL hm, Ideal.log_coe, if_neg (not_le.2 (pow_pos hL)), div_coe_coe _ hl, ← EReal.coe_add]

end

end Cert.FlashPay

end
-- ==== Proof.Model.lean ====
/- The gradients of the attention's q, k and v as real-valued functions of real arrays q `[4096, 4·4·128]` (kv head,
   group, width), k and v `[4096, 4·128]` and the output gradient `[4096, 4·4·128]`. Both programs are shown to compute
   these. -/
module

public import proofs.«01_k».proof.Proof.Softmax
public import Idealize.ShloMosaic.Lib.Pointwise.Index

@[expose] public section

noncomputable section

namespace Cert.Model

open Idealize.ShloMosaic Cert.Softmax

/-- Arrays of the shape of q and of the output gradient. -/
abbrev SQ : Shape := ⟨2, ![4096, 2048]⟩
/-- Arrays of the shape of k and v. -/
abbrev SK : Shape := ⟨2, ![4096, 512]⟩

/-- Where a q-shaped array holds token `t`, kv head `h`, group `g`, width `d`. -/
def qi (t : Fin 4096) (h g : Fin 4) (d : Fin 128) : SQ.Idx :=
  ix2 t ⟨h.val * 512 + g.val * 128 + d.val, by omega⟩
/-- Where a k-shaped array holds token `s`, kv head `h`, width `d`. -/
def ki (s : Fin 4096) (h : Fin 4) (d : Fin 128) : SK.Idx :=
  ix2 s ⟨h.val * 128 + d.val, by omega⟩

/-- The factor 1/√128 as the programs round it. -/
def scale : ℝ := 11863283 / 134217728

/-- The 32-bit float constant of both programs is `scale`. -/
theorem ofBits_scale : Ideal.ofBits .f32 0x3DB504F3#32 = ((scale : ℝ) : EReal) := by
  unfold scale
  simp [Ideal.ofBits, Ideal.ieee, -EReal.coe_mul]
  norm_num

variable (Q : SQ.Idx → ℝ) (K V : SK.Idx → ℝ) (W : SQ.Idx → ℝ) (M : Fin 4 → Fin 4 → Fin 4096 → ℝ)

/-- The row of logits of query `t` of head `(h, g)` over the keys. -/
def logit (h g : Fin 4) (t : Fin 4096) (s : Fin 4096) : ℝ := (∑ d, K (ki s h d) * Q (qi t h g d)) * scale
/-- The softmax probabilities of that row, taken with the shift `M h g t`. -/
def prb (h g : Fin 4) (t : Fin 4096) (s : Fin 4096) : ℝ := prob (logit Q K h g t) (M h g t) s
/-- The attention's output. -/
def out (h g : Fin 4) (t : Fin 4096) (d : Fin 128) : ℝ := ∑ s, V (ki s h d) * prb Q K M h g t s
/-- The log-sum-exp of the row. -/
def lse (h g : Fin 4) (t : Fin 4096) : ℝ := M h g t + Real.log (total (logit Q K h g t) (M h g t))
/-- The gradient of the probabilities. -/
def dprb (h g : Fin 4) (t : Fin 4096) (s : Fin 4096) : ℝ := ∑ d, W (qi t h g d) * V (ki s h d)
/-- The gradient of the logits. -/
def dlog (h g : Fin 4) (t : Fin 4096) (s : Fin 4096) : ℝ :=
  dlogit (logit Q K h g t) (M h g t) (dprb V W h g t) s
/-- The gradient of q. -/
def dQ (h g : Fin 4) (t : Fin 4096) (d : Fin 128) : ℝ := ∑ s, dlog Q K V W M h g t s * scale * K (ki s h d)
/-- The gradient of k. -/
def dK (h : Fin 4) (s : Fin 4096) (d : Fin 128) : ℝ := ∑ g, ∑ t, dlog Q K V W M h g t s * scale * Q (qi t h g d)
/-- The gradient of v. -/
def dV (h : Fin 4) (s : Fin 4096) (d : Fin 128) : ℝ := ∑ g, ∑ t, W (qi t h g d) * prb Q K M h g t s

end Cert.Model

end
-- ==== Proof.Reference.lean ====
/- What the reference computes: each stage of its softmax attention and of the attention's gradients at an index, as
   the real-valued functions of the Model module, its four arguments being arrays of reals. -/
module

public import proofs.«01_k».proof.Proof.Model
public import proofs.«01_k».proof.Proof.Gen.ReferenceIdeal.Read
public import Idealize.ShloMosaic.Lib.Pointwise
public import Idealize.ShloMosaic.Lib.IdealHost
public import Idealize.ShloMosaic.Lib.Tactic.CleanTypes

@[expose] public section

set_option maxRecDepth 16384

noncomputable section

namespace Cert.RefValue

open Cert.ReferenceIdeal Cert.ReferenceIdeal.Gen Cert.ReferenceIdeal.Read Idealize.ShloMosaic Cert.Softmax Cert.Model

/-- Contents of a q-shaped array. -/
abbrev AQ := (⟨S4096x2048, .f32⟩ : BufTy).Contents (Elt Ideal)
/-- Contents of a k-shaped array. -/
abbrev AK := (⟨S4096x512, .f32⟩ : BufTy).Contents (Elt Ideal)

/-- A q-shaped index split into token, head, group and width. -/
theorem idx0_eq (i : S4096x4x4x128.Idx) : idx_main_v0 i = qi (i 0) (i 1) (i 2) (i 3) := by
  obtain ⟨a, b, c, d, rfl⟩ : ∃ (a : Fin 4096) (b : Fin 4) (c : Fin 4) (d : Fin 128), i = ix4 a b c d :=
    ⟨i 0, i 1, i 2, i 3, eq_ix4 i⟩
  funext x
  match x with
  | ⟨0, _⟩ => exact Fin.ext (show (((a.val * 4 + b.val) * 4 + c.val) * 128 + d.val) / 2048 = a.val by omega)
  | ⟨1, _⟩ => exact Fin.ext (show (((a.val * 4 + b.val) * 4 + c.val) * 128 + d.val) % 2048 = b.val * 512 + c.val * 128 + d.val by omega)

/-- A k-shaped index split into token, head and width. -/
theorem idx1_eq (i : S4096x4x128.Idx) : idx_main_v1 i = ki (i 0) (i 1) (i 2) := by
  obtain ⟨a, b, d, rfl⟩ : ∃ (a : Fin 4096) (b : Fin 4) (d : Fin 128), i = ix3 a b d :=
    ⟨i 0, i 1, i 2, eq_ix3 i⟩
  funext x
  match x with
  | ⟨0, _⟩ => exact Fin.ext (show ((a.val * 4 + b.val) * 128 + d.val) / 512 = a.val by omega)
  | ⟨1, _⟩ => exact Fin.ext (show ((a.val * 4 + b.val) * 128 + d.val) % 512 = b.val * 128 + d.val by omega)

variable {x0 : AQ} {x1 x2 : AK} {x3 : AQ} {Q : SQ.Idx → ℝ} {K V : SK.Idx → ℝ} {W : SQ.Idx → ℝ}

/-- The logits. -/
theorem v6_eq (h0 : ∀ i, x0 i = ((Q i : ℝ) : EReal)) (h1 : ∀ i, x1 i = ((K i : ℝ) : EReal)) (i : S4x4x4096x4096.Idx) :
    val_main_v6 (F := Ideal) x0 x1 i = ((logit Q K (i 0) (i 1) (i 2) (i 3) : ℝ) : EReal) := by
  rw [val_main_v6_apply, val_main_v4_apply, val_main_v3_apply, val_main_v5_apply, val_main_cst_apply]
  simp only [val_main_v1_apply, val_main_v0_apply, idx0_eq, idx1_eq, h0, h1]
  rw [sum_mul_coe]
  show _ * Ideal.ofBits .f32 0x3DB504F3#32 = _
  rw [ofBits_scale, ← EReal.coe_mul]
  rfl

/-- The greatest logit of a row is a real. -/
theorem v14_real (h0 : ∀ i, x0 i = ((Q i : ℝ) : EReal)) (h1 : ∀ i, x1 i = ((K i : ℝ) : EReal)) (i : S4x4x4096.Idx) :
    ∃ M : ℝ, val_main_v14 (F := Ideal) x0 x1 i = (M : EReal) := by
  have hb : Ideal.ofBits .f32 0xFF800000#32 = (⊥ : EReal) := by simp [Ideal.ofBits, Ideal.ieee]
  rw [val_main_v14_apply, val_main_v13_apply, val_main_cst_2_apply]
  have hv : val_main_v6 (F := Ideal) x0 x1 = fun i => ((logit Q K (i 0) (i 1) (i 2) (i 3) : ℝ) : EReal) :=
    funext fun i => v6_eq h0 h1 i
  have e : val_main_v7 (F := Ideal) x0 x1 i
      = (Finset.univ : Finset (Fin 4096)).fold max (⊥ : EReal) (fun s => ((logit Q K (i 0) (i 1) (i 2) s : ℝ) : EReal)) := by
    unfold val_main_v7
    rw [hv, ← hb]
    pointwise
    rfl
  obtain ⟨M, hM⟩ := fold_max_real (fun s : Fin 4096 => logit Q K (i 0) (i 1) (i 2) s)
  refine ⟨M, ?_⟩
  rw [e, hM]
  show max (Ideal.ofBits .f32 0xFF800000#32) (M : EReal) = _
  rw [hb]
  exact max_eq_right bot_le

variable {M : Fin 4 → Fin 4 → Fin 4096 → ℝ}

section
variable (h0 : ∀ i, x0 i = ((Q i : ℝ) : EReal)) (h1 : ∀ i, x1 i = ((K i : ℝ) : EReal))
  (h2 : ∀ i, x2 i = ((V i : ℝ) : EReal)) (h3 : ∀ i, x3 i = ((W i : ℝ) : EReal))
  (hM : ∀ i : S4x4x4096.Idx, val_main_v14 (F := Ideal) x0 x1 i = ((M (i 0) (i 1) (i 2) : ℝ) : EReal))
include h0 h1 hM

/-- The exponentials of the logits less the row's greatest. -/
theorem v27_eq (i : S4x4x4096x4096.Idx) : val_main_v27 (F := Ideal) x0 x1 i
    = ((Real.exp (logit Q K (i 0) (i 1) (i 2) (i 3) - M (i 0) (i 1) (i 2)) : ℝ) : EReal) := by
  rw [val_main_v27_apply, val_main_v26_apply, val_main_v25_apply, val_main_v24_apply, v6_eq h0 h1, hM]
  show Ideal.exp (((_ : ℝ) : EReal) - ((_ : ℝ) : EReal)) = _
  rw [← EReal.coe_sub, Ideal.exp_coe]
  rfl

/-- Their sum over a row. -/
theorem v28_eq (i : S4x4x4096.Idx) : val_main_v28 (F := Ideal) x0 x1 i
    = ((total (logit Q K (i 0) (i 1) (i 2)) (M (i 0) (i 1) (i 2)) : ℝ) : EReal) := by
  rw [val_main_v28_apply, val_main_cst_8_apply]
  simp only [v27_eq h0 h1 hM]
  show Ideal.ofBits .f32 0x00000000#32 + _ = _
  rw [Ideal.ofBits_zero_f32, zero_add, ← coe_sum]
  rfl

/-- The probabilities. -/
theorem v31_eq (i : S4x4x4096x4096.Idx) : val_main_v31 (F := Ideal) x0 x1 i
    = ((prb Q K M (i 0) (i 1) (i 2) (i 3) : ℝ) : EReal) := by
  rw [val_main_v31_apply, v27_eq h0 h1 hM, val_main_v30_apply, val_main_v29_apply, v28_eq h0 h1 hM]
  refine (div_coe_coe _ (total_pos _ _).ne').trans ?_
  congr 1
  exact mul_one_div _ _

include h3
omit h0 h1 hM in
/-- The output gradient at head, width, group and token. -/
theorem v39_eq (i : S4x128x4x4096.Idx) : val_main_v39 (F := Ideal) x3 i = ((W (qi (i 3) (i 0) (i 2) (i 1)) : ℝ) : EReal) := by
  rw [val_main_v39_apply, val_main_v38_apply]
  exact (congrArg x3 (idx0_eq _)).trans (h3 _)

/-- The gradient of v. -/
theorem v62_eq (i : S4096x512.Idx) (s : Fin 4096) (h : Fin 4) (d : Fin 128) (hi : i = ki s h d) :
    val_main_v62 (F := Ideal) x0 x1 x3 i = ((dV Q K W M h s d : ℝ) : EReal) := by
  subst hi
  have hp : val_main_v31 (F := Ideal) x0 x1 = fun i => ((prb Q K M (i 0) (i 1) (i 2) (i 3) : ℝ) : EReal) :=
    funext fun i => v31_eq h0 h1 hM i
  have hw : val_main_v39 (F := Ideal) x3 = fun i => ((W (qi (i 3) (i 0) (i 2) (i 1)) : ℝ) : EReal) :=
    funext fun i => v39_eq h3 i
  have hj : idx_main_v42 (idx_main_v62 (ki s h d)) = ix3 h d s := by
    funext x
    match x with
    | ⟨0, _⟩ => exact Fin.ext (show (s.val * 512 + (h.val * 128 + d.val)) / 128 % 4 = h.val by omega)
    | ⟨1, _⟩ => exact Fin.ext (show (s.val * 512 + (h.val * 128 + d.val)) % 128 = d.val by omega)
    | ⟨2, _⟩ => exact Fin.ext (show (s.val * 512 + (h.val * 128 + d.val)) / 512 = s.val by omega)
  rw [val_main_v62_apply, val_main_v42_apply, hj]
  unfold val_main_v41
  rw [hp, hw]
  pointwise
  simp only [sum_mul_coe, ← coe_sum]
  rfl

include h2

/-- The gradient of the probabilities. -/
theorem v40_eq (i : S4x4x4096x4096.Idx) : val_main_v40 (F := Ideal) x2 x3 i
    = ((dprb V W (i 0) (i 1) (i 2) (i 3) : ℝ) : EReal) := by
  rw [val_main_v40_apply]
  simp only [v39_eq h3, val_main_v2_apply]
  have e : ∀ d : Fin 128, x2 (idx_main_v2 (ridx_main_v40 i d)) = ((V (ki (i 3) (i 0) d) : ℝ) : EReal) := fun d =>
    (congrArg x2 (idx1_eq (ridx_main_v40 i d))).trans (h2 _)
  simp only [e]
  rw [sum_mul_coe]
  rfl

/-- One over the square of the row's sum. -/
theorem v43_eq (i : S4x4x4096x4096.Idx) : val_main_v43 (F := Ideal) x0 x1 i
    = ((1 * (1 / (total (logit Q K (i 0) (i 1) (i 2)) (M (i 0) (i 1) (i 2)) * total (logit Q K (i 0) (i 1) (i 2)) (M (i 0) (i 1) (i 2)))) : ℝ) : EReal) := by
  rw [val_main_v43_apply, val_main_v34_apply, val_main_v33_apply, val_main_cst_9_apply, val_main_v32_apply,
    val_main_v29_apply, v28_eq h0 h1 hM]
  show Ideal.div (Ideal.ofBits .f32 0x3F800000#32) (((_ : ℝ) : EReal) * ((_ : ℝ) : EReal)) = _
  rw [Ideal.ofBits_one_f32, ← EReal.coe_mul, ← EReal.coe_one, div_coe_coe _ (mul_pos (total_pos _ _) (total_pos _ _)).ne']
  rfl

/-- The part of the logits' gradient that comes through the row's sum. -/
theorem v46_eq (i : S4x4x4096.Idx) : val_main_v46 (F := Ideal) x0 x1 x2 x3 i
    = ((∑ r, dprb V W (i 0) (i 1) (i 2) r * (1 * (1 / (total (logit Q K (i 0) (i 1) (i 2)) (M (i 0) (i 1) (i 2)) * total (logit Q K (i 0) (i 1) (i 2)) (M (i 0) (i 1) (i 2)))))
        * Real.exp (logit Q K (i 0) (i 1) (i 2) r - M (i 0) (i 1) (i 2)) : ℝ) : EReal) := by
  rw [val_main_v46_apply, val_main_cst_10_apply]
  simp only [val_main_v45_apply, val_main_v44_apply, v40_eq h0 h1 h2 h3 hM, v43_eq h0 h1 h2 h3 hM, v27_eq h0 h1 hM]
  show Ideal.ofBits .f32 0x00000000#32 + ∑ k : Fin 4096, ((_ : ℝ) : EReal) * ((_ : ℝ) : EReal) * ((_ : ℝ) : EReal) = _
  rw [Ideal.ofBits_zero_f32, zero_add]
  simp only [← EReal.coe_mul]
  rw [← coe_sum]
  rfl

/-- The gradient of the unscaled logits, times the scale. -/
theorem v56_eq (i : S4x4x4096x4096.Idx) : val_main_v56 (F := Ideal) x0 x1 x2 x3 i
    = ((dlog Q K V W M (i 0) (i 1) (i 2) (i 3) * scale : ℝ) : EReal) := by
  have e52 : val_main_v52 (F := Ideal) x0 x1 x2 x3 i
      = ((-(∑ r, dprb V W (i 0) (i 1) (i 2) r * (1 * (1 / (total (logit Q K (i 0) (i 1) (i 2)) (M (i 0) (i 1) (i 2)) * total (logit Q K (i 0) (i 1) (i 2)) (M (i 0) (i 1) (i 2)))))
        * Real.exp (logit Q K (i 0) (i 1) (i 2) r - M (i 0) (i 1) (i 2))) : ℝ) : EReal) := by
    have hj : ∀ k : Fin 1, idx_main_v47 (idx_main_v51 (idx_main_v52 i) k) = ix3 (i 0) (i 1) (i 2) := fun k => by
      obtain ⟨a, b, c, d, rfl⟩ : ∃ (a : Fin 4) (b : Fin 4) (c : Fin 4096) (d : Fin 4096), i = ix4 a b c d :=
        ⟨i 0, i 1, i 2, i 3, eq_ix4 i⟩
      funext x
      match x with
      | ⟨0, _⟩ => exact Fin.ext (show (((a.val * 4 + b.val) * 4096 + c.val) * 1 + k.val) / 16384 = a.val by omega)
      | ⟨1, _⟩ => exact Fin.ext (show (((a.val * 4 + b.val) * 4096 + c.val) * 1 + k.val) / 4096 % 4 = b.val by omega)
      | ⟨2, _⟩ => exact Fin.ext (show (((a.val * 4 + b.val) * 4096 + c.val) * 1 + k.val) % 4096 = c.val by omega)
    rw [val_main_v52_apply, val_main_v51_apply, val_main_cst_11_apply]
    simp only [val_main_v48_apply, val_main_v47_apply, hj, Finset.univ_unique, Finset.sum_singleton]
    erw [v46_eq h0 h1 h2 h3 hM]
    show Ideal.ofBits .f32 0x00000000#32 + -((_ : ℝ) : EReal) = _
    rw [Ideal.ofBits_zero_f32, zero_add, ← EReal.coe_neg]
    rfl
  rw [val_main_v56_apply, val_main_v54_apply, val_main_v53_apply, e52, val_main_v50_apply, v40_eq h0 h1 h2 h3 hM,
    val_main_v49_apply, val_main_v29_apply, v28_eq h0 h1 hM, v27_eq h0 h1 hM, val_main_v55_apply, val_main_cst_12_apply]
  show (Ideal.div ((_ : ℝ) : EReal) ((_ : ℝ) : EReal) + ((_ : ℝ) : EReal)) * ((_ : ℝ) : EReal) * Ideal.ofBits .f32 0x3DB504F3#32 = _
  rw [div_coe_coe _ (total_pos _ _).ne', ofBits_scale, ← EReal.coe_add, ← EReal.coe_mul, ← EReal.coe_mul]
  unfold dlog
  exact congrArg (fun z : ℝ => ((z * scale : ℝ) : EReal)) (quotient_rule_eq (logit Q K (i 0) (i 1) (i 2)) (M (i 0) (i 1) (i 2))
    (dprb V W (i 0) (i 1) (i 2)) (i 3))

/-- The gradient of q. -/
theorem v64_eq (i : S4096x2048.Idx) (t : Fin 4096) (h g : Fin 4) (d : Fin 128) (hi : i = qi t h g d) :
    val_main_v64 (F := Ideal) x0 x1 x2 x3 i = ((dQ Q K V W M h g t d : ℝ) : EReal) := by
  subst hi
  have hj : idx_main_v59 (idx_main_v64 (qi t h g d)) = ix4 h t g d := by
    funext x
    match x with
    | ⟨0, _⟩ => exact Fin.ext (show (t.val * 2048 + (h.val * 512 + g.val * 128 + d.val)) / 512 % 4 = h.val by omega)
    | ⟨1, _⟩ => exact Fin.ext (show (t.val * 2048 + (h.val * 512 + g.val * 128 + d.val)) / 2048 = t.val by omega)
    | ⟨2, _⟩ => exact Fin.ext (show (t.val * 2048 + (h.val * 512 + g.val * 128 + d.val)) / 128 % 4 = g.val by omega)
    | ⟨3, _⟩ => exact Fin.ext (show (t.val * 2048 + (h.val * 512 + g.val * 128 + d.val)) % 128 = d.val by omega)
  rw [val_main_v64_apply, val_main_v59_apply, hj, val_main_v58_apply]
  simp only [val_main_v57_apply, v56_eq h0 h1 h2 h3 hM, val_main_v1_apply, idx1_eq, h1]
  rw [sum_mul_coe]
  rfl

/-- The gradient of k. -/
theorem v63_eq (i : S4096x512.Idx) (s : Fin 4096) (h : Fin 4) (d : Fin 128) (hi : i = ki s h d) :
    val_main_v63 (F := Ideal) x0 x1 x2 x3 i = ((dK Q K V W M h s d : ℝ) : EReal) := by
  subst hi
  have hs : val_main_v57 (F := Ideal) x0 x1 x2 x3 = fun i => ((dlog Q K V W M (i 0) (i 3) (i 2) (i 1) * scale : ℝ) : EReal) :=
    funext fun i => (val_main_v57_apply x0 x1 x2 x3 i).trans (v56_eq h0 h1 h2 h3 hM _)
  have hq : val_main_v0 (F := Ideal) x0 = fun i => ((Q (qi (i 0) (i 1) (i 2) (i 3)) : ℝ) : EReal) :=
    funext fun i => (val_main_v0_apply x0 i).trans ((congrArg x0 (idx0_eq i)).trans (h0 _))
  have hj : idx_main_v61 (idx_main_v63 (ki s h d)) = ix3 h s d := by
    funext x
    match x with
    | ⟨0, _⟩ => exact Fin.ext (show (s.val * 512 + (h.val * 128 + d.val)) / 128 % 4 = h.val by omega)
    | ⟨1, _⟩ => exact Fin.ext (show (s.val * 512 + (h.val * 128 + d.val)) / 512 = s.val by omega)
    | ⟨2, _⟩ => exact Fin.ext (show (s.val * 512 + (h.val * 128 + d.val)) % 128 = d.val by omega)
  rw [val_main_v63_apply, val_main_v61_apply, hj]
  unfold val_main_v60
  rw [hs, hq]
  pointwise
  simp only [sum_mul_coe, ← coe_sum]
  congr 1
  exact Finset.sum_comm

end

end Cert.RefValue

end
-- ==== Proof.Host.lean ====
/- What the kernel's program holds where its pallas_call begins: the packed q, k and v (q times 1/√128 and 1/log 2), the
   attention's output, and its log-sum-exp times 1/log 2, each at an index as a real. The softmax in these host lines
   is operation by operation the reference's, so its stages are read by the reference's lemmas. -/
module

public import proofs.«01_k».proof.Proof.Reference
public import proofs.«01_k».proof.Proof.Gen.KernelIdeal.Frame.Runs
public import Idealize.ShloMosaic.Lib.StableHlo.RunRead

@[expose] public section

set_option maxRecDepth 16384

noncomputable section

namespace Cert.HostValue

open Cert.KernelIdeal Cert.KernelIdeal.Gen Idealize.ShloMosaic Idealize.ShloMosaic.TcCoe Idealize.SL.Sem Idealize.ShloMosaic.StableHlo
open Cert.Softmax Cert.Model Cert.RefValue

/-- One over the natural logarithm of two. -/
def rlog2 : ℝ := 1 * (1 / Real.log 2)

/-- The constant the host computes as one over `log 2`. -/
theorem host_rlog2 : Ideal.div (Ideal.ofBits .f32 0x3F800000#32) (Ideal.log (Ideal.ofBits .f32 0x40000000#32)) = ((rlog2 : ℝ) : EReal) := by
  have h2 : Ideal.ofBits .f32 0x40000000#32 = ((2 : ℝ) : EReal) := by
    simp [Ideal.ofBits, Ideal.ieee, -EReal.coe_mul]
    norm_num
  have hl : Real.log 2 ≠ 0 := (Real.log_pos (by norm_num)).ne'
  rw [h2, Ideal.log_coe, if_neg (by norm_num), Ideal.ofBits_one_f32, ← EReal.coe_one, div_coe_coe _ hl]
  rfl

/-- The reference's row maximum, taken once more against `-∞`, is the row maximum. -/
theorem v14_eq_v7 (x0 : AQ) (x1 : AK) (i : S4x4x4096.Idx) :
    ReferenceIdeal.Read.val_main_v14 (F := Ideal) x0 x1 i = ReferenceIdeal.Read.val_main_v7 (F := Ideal) x0 x1 i := by
  have hb : Ideal.ofBits .f32 0xFF800000#32 = (⊥ : EReal) := by simp [Ideal.ofBits, Ideal.ieee]
  rw [ReferenceIdeal.Read.val_main_v14_apply, ReferenceIdeal.Read.val_main_v13_apply, ReferenceIdeal.Read.val_main_cst_2_apply]
  show max (Ideal.ofBits .f32 0xFF800000#32) _ = _
  rw [hb]
  exact max_eq_right bot_le

/-- Three blocks side by side are equal if they are equal one by one. -/
theorem concat_congr {x x' : S4096x2048.Idx → EReal} {y y' z z' : S4096x512.Idx → EReal}
    (hc : Shape.Concatenates [S4096x2048, S4096x512, S4096x512] S4096x3072 1) (hx : x = x') (hy : y = y') (hz : z = z') :
    concatenate S4096x3072 1 [⟨S4096x2048, x⟩, ⟨S4096x512, y⟩, ⟨S4096x512, z⟩] hc
      = concatenate S4096x3072 1 [⟨S4096x2048, x'⟩, ⟨S4096x512, y'⟩, ⟨S4096x512, z'⟩] hc := by
  subst hx hy hz; rfl

/-! ## The host's arrays, of any arguments -/

section
variable {x0 : AQ} {x1 x2 : AK}

/-- The packed q, k and v: side by side along the width, q times the constants. -/
def packed (x0 : AQ) (x1 x2 : AK) : S4096x3072.Idx → EReal :=
  concatenate S4096x3072 1 [⟨S4096x2048, mulf (φ := .f32) x0 (broadcastInDim S4096x2048 ![] bcast_S_S4096x2048
      (mulf (constant (F := Ideal) S_ .f32 0x3DB504F3#32) (Host.divf (constant (F := Ideal) S_ .f32 0x3F800000#32) (Host.log (constant (F := Ideal) S_ .f32 0x40000000#32)))))⟩,
    ⟨S4096x512, x1⟩, ⟨S4096x512, x2⟩] concatenates_S4096x2048_S4096x512_S4096x512_S4096x3072_d1

/-- The log-sum-exp rows times 1/log 2, repeated over the width, from the reference's stages. -/
def lseRows (x0 : AQ) (x1 : AK) : S4096x2048.Idx → EReal :=
  shapeCast S4096x2048 (broadcastInDim S4096x16x128 ![0, 1] bcast_S4096x16_S4096x16x128_0_1
    (mulf (φ := .f32) (shapeCast S4096x16 (transpose S4096x4x4 [2, 0, 1]
        (addf (ReferenceIdeal.Read.val_main_v7 (F := Ideal) x0 x1)
          (Host.log (Host.reduceAdd (Host.exp (subf (ReferenceIdeal.Read.val_main_v6 (F := Ideal) x0 x1)
            (broadcastInDim S4x4x4096x4096 ![0, 1, 2, 3] bcast_S4x4x4096x1_S4x4x4096x4096_0_1_2_3
              (broadcastInDim S4x4x4096x1 ![0, 1, 2] bcast_S4x4x4096_S4x4x4096x1_0_1_2
                (ReferenceIdeal.Read.val_main_v7 (F := Ideal) x0 x1)))))
            (constant (F := Ideal) S_ .f32 0x00000000#32) reducesTo_S4x4x4096x4096_S4x4x4096_d3 h_S_)))
        transposes_S4x4x4096_S4096x4x4_2_0_1) shapeCasts_S4096x4x4_S4096x16)
      (broadcastInDim S4096x16 ![] bcast_S_S4096x16
        (Host.divf (constant (F := Ideal) S_ .f32 0x3F800000#32) (Host.log (constant (F := Ideal) S_ .f32 0x40000000#32))))))
    shapeCasts_S4096x16x128_S4096x2048

variable {Q : SQ.Idx → ℝ} {K V' : SK.Idx → ℝ} {M : Fin 4 → Fin 4 → Fin 4096 → ℝ}
variable (h0 : ∀ i, x0 i = ((Q i : ℝ) : EReal)) (h1 : ∀ i, x1 i = ((K i : ℝ) : EReal)) (h2 : ∀ i, x2 i = ((V' i : ℝ) : EReal))
  (hM : ∀ i : S4x4x4096.Idx, ReferenceIdeal.Read.val_main_v14 (F := Ideal) x0 x1 i = ((M (i 0) (i 1) (i 2) : ℝ) : EReal))

/-- The attention's output for values that need not be reals. -/
def outAny (Q : SQ.Idx → ℝ) (K : SK.Idx → ℝ) (M : Fin 4 → Fin 4 → Fin 4096 → ℝ) (v : AK) (h g : Fin 4) (t : Fin 4096) (d : Fin 128) : EReal :=
  ∑ s : Fin 4096, v (ki s h d) * ((prb Q K M h g t s : ℝ) : EReal)

include h0 h1 hM in
/-- The attention's output, at an index, for any values. -/
theorem out_any (t : Fin 4096) (h g : Fin 4) (d : Fin 128) :
    ReferenceIdeal.Read.val_main_v37 (F := Ideal) x0 x1 x2 (qi t h g d) = outAny Q K M x2 h g t d := by
  have hj : ReferenceIdeal.Read.idx_main_v36 (ReferenceIdeal.Read.idx_main_v37 (qi t h g d)) = ix4 h d g t := by
    funext x
    match x with
    | ⟨0, _⟩ => exact Fin.ext (show (t.val * 2048 + (h.val * 512 + g.val * 128 + d.val)) / 512 % 4 = h.val by omega)
    | ⟨1, _⟩ => exact Fin.ext (show (t.val * 2048 + (h.val * 512 + g.val * 128 + d.val)) % 128 = d.val by omega)
    | ⟨2, _⟩ => exact Fin.ext (show (t.val * 2048 + (h.val * 512 + g.val * 128 + d.val)) / 128 % 4 = g.val by omega)
    | ⟨3, _⟩ => exact Fin.ext (show (t.val * 2048 + (h.val * 512 + g.val * 128 + d.val)) / 2048 = t.val by omega)
  rw [ReferenceIdeal.Read.val_main_v37_apply, ReferenceIdeal.Read.val_main_v36_apply, hj,
    ReferenceIdeal.Read.val_main_v35_apply]
  simp only [v31_eq h0 h1 hM, ReferenceIdeal.Read.val_main_v2_apply]
  have e : ∀ s : Fin 4096, x2 (ReferenceIdeal.Read.idx_main_v2 (ReferenceIdeal.Read.lidx_main_v35 (ix4 h d g t) s))
      = x2 (ki s h d) := fun s => congrArg x2 (idx1_eq _)
  simp only [e]
  rfl

include h0 h1 h2 hM in
/-- The attention's output, at an index. -/
theorem out_apply (t : Fin 4096) (h g : Fin 4) (d : Fin 128) :
    ReferenceIdeal.Read.val_main_v37 (F := Ideal) x0 x1 x2 (qi t h g d) = ((out Q K V' M h g t d : ℝ) : EReal) := by
  rw [out_any h0 h1 hM]
  unfold outAny
  simp only [h2]
  rw [sum_mul_coe]
  rfl

include h0 h1 hM in
/-- The log-sum-exp rows, at an index. -/
theorem lse_apply (t : Fin 4096) (h g : Fin 4) (d : Fin 128) :
    lseRows x0 x1 (qi t h g d) = ((lse Q K M h g t * rlog2 : ℝ) : EReal) := by
  have hv6 : ReferenceIdeal.Read.val_main_v6 (F := Ideal) x0 x1 = fun i => ((logit Q K (i 0) (i 1) (i 2) (i 3) : ℝ) : EReal) :=
    funext fun i => v6_eq h0 h1 i
  have hv7 : ReferenceIdeal.Read.val_main_v7 (F := Ideal) x0 x1 = fun i => ((M (i 0) (i 1) (i 2) : ℝ) : EReal) :=
    funext fun i => (v14_eq_v7 _ _ i).symm.trans (hM i)
  unfold lseRows
  rw [hv6, hv7]
  unfold qi
  pointwise
  rw [← Ideal.ofBits_one_f32, host_rlog2]
  have e : ∑ x : Fin 4096, Ideal.exp (((logit Q K h g t x : ℝ) : EReal) - ((M h g t : ℝ) : EReal))
      = ((total (logit Q K h g t) (M h g t) : ℝ) : EReal) := by
    unfold total
    rw [coe_sum]
    exact Finset.sum_congr rfl fun s _ => by rw [← EReal.coe_sub, Ideal.exp_coe]
  rw [e, Ideal.log_coe, if_neg (not_le.2 (total_pos _ _)), ← EReal.coe_add, ← EReal.coe_mul]
  rfl

include h0 in
/-- The packed array's first 2048 columns: q times 1/√128 and 1/log 2. -/
theorem packed_q (t : Fin 4096) (h g : Fin 4) (d : Fin 128) (j : Fin 3072) (hj : j.val = h.val * 512 + g.val * 128 + d.val) :
    packed x0 x1 x2 (ix2 t j) = ((Q (qi t h g d) * (scale * rlog2) : ℝ) : EReal) := by
  unfold packed
  pointwise
  rw [dif_pos (by omega), ← Ideal.ofBits_one_f32, host_rlog2, ofBits_scale, h0, ← EReal.coe_mul, ← EReal.coe_mul]
  exact congrArg (fun i : SQ.Idx => ((Q i * (scale * rlog2) : ℝ) : EReal)) (congrArg (ix2 t) (Fin.ext hj))

include h1 in
/-- Its next 512 columns: k. -/
theorem packed_k (t : Fin 4096) (h : Fin 4) (d : Fin 128) (j : Fin 3072) (hj : j.val = 2048 + (h.val * 128 + d.val)) :
    packed x0 x1 x2 (ix2 t j) = ((K (ki t h d) : ℝ) : EReal) := by
  unfold packed
  pointwise
  rw [dif_neg (by omega), dif_pos (by omega), h1]
  congr 2
  exact congrArg (ix2 t) (Fin.ext (show j.val - 2048 = h.val * 128 + d.val by omega))

/-- Its last 512 columns: v. -/
theorem packed_any (t : Fin 4096) (h : Fin 4) (d : Fin 128) (j : Fin 3072) (hj : j.val = 2560 + (h.val * 128 + d.val)) :
    packed x0 x1 x2 (ix2 t j) = x2 (ki t h d) := by
  unfold packed
  pointwise
  rw [dif_neg (by omega), dif_neg (by omega)]
  exact congrArg x2 (congrArg (ix2 t) (Fin.ext (show j.val - 2048 - 512 = h.val * 128 + d.val by omega)))

include h2 in
/-- Its last 512 columns, v holding reals. -/
theorem packed_v (t : Fin 4096) (h : Fin 4) (d : Fin 128) (j : Fin 3072) (hj : j.val = 2560 + (h.val * 128 + d.val)) :
    packed x0 x1 x2 (ix2 t j) = ((V' (ki t h d) : ℝ) : EReal) :=
  (packed_any t h d j hj).trans (h2 _)

end

variable (m : (ℓ : Loc nD τ sig) → Buf (Elt Ideal) ℓ) (c : Dev nD)

/-- The kernel's argument arrays q, k, v and the output gradient. -/
abbrev a0 : AQ := m ((c : Thread nD τ).loc main_arg0)
@[inherit_doc a0] abbrev a1 : AK := m ((c : Thread nD τ).loc main_arg1)
@[inherit_doc a0] abbrev a2 : AK := m ((c : Thread nD τ).loc main_arg2)
@[inherit_doc a0] abbrev a3 : AQ := m ((c : Thread nD τ).loc main_arg3)

/-- The attention's output on the host is the reference's stage. -/
theorem V30_stage : V m c main_v30 = ReferenceIdeal.Read.val_main_v37 (F := Ideal) (a0 m c) (a1 m c) (a2 m c) := by
  unfold V
  after_reads_simp
  rfl

/-- The log-sum-exp rows on the host, from the reference's stages. -/
theorem V51_stage : V m c main_v51 = lseRows (a0 m c) (a1 m c) := by
  unfold V
  after_reads_simp
  rfl

variable {Q : SQ.Idx → ℝ} {K V' : SK.Idx → ℝ} {W : SQ.Idx → ℝ} {M : Fin 4 → Fin 4 → Fin 4096 → ℝ}
variable (h0 : ∀ i, a0 m c i = ((Q i : ℝ) : EReal)) (h1 : ∀ i, a1 m c i = ((K i : ℝ) : EReal))
  (h2 : ∀ i, a2 m c i = ((V' i : ℝ) : EReal)) (h3 : ∀ i, a3 m c i = ((W i : ℝ) : EReal))
  (hM : ∀ i : S4x4x4096.Idx, ReferenceIdeal.Read.val_main_v14 (F := Ideal) (a0 m c) (a1 m c) i = ((M (i 0) (i 1) (i 2) : ℝ) : EReal))

/-- The packed q, k and v: side by side along the width, q times the constants. -/
theorem V8_stage : (V m c main_v8 : S4096x3072.Idx → EReal) = packed (a0 m c) (a1 m c) (a2 m c) := by
  unfold V
  after_results_simp
  unfold packed
  refine concat_congr _ ?_ ?_ ?_
  · change HloOp.result _ _ (Proc.tc.devRef main_v5) = _
    after_results_simp
    rfl
  · change HloOp.result _ _ (Proc.tc.devRef main_v6) = _
    after_results_simp
    rfl
  · change HloOp.result _ _ (Proc.tc.devRef main_v7) = _
    after_results_simp
    rfl

include h0 h1 h2 hM in
/-- The attention's output, at an index. -/
theorem V30_apply (t : Fin 4096) (h g : Fin 4) (d : Fin 128) :
    (V m c main_v30 : S4096x2048.Idx → EReal) (qi t h g d) = ((out Q K V' M h g t d : ℝ) : EReal) := by
  rw [V30_stage]
  exact out_apply h0 h1 h2 hM t h g d

include h0 h1 hM in
/-- The log-sum-exp rows, at an index. -/
theorem V51_apply (t : Fin 4096) (h g : Fin 4) (d : Fin 128) :
    (V m c main_v51 : S4096x2048.Idx → EReal) (qi t h g d) = ((lse Q K M h g t * rlog2 : ℝ) : EReal) := by
  rw [V51_stage]
  exact lse_apply h0 h1 hM t h g d

include h0 in
/-- The packed array's first 2048 columns: q times 1/√128 and 1/log 2. -/
theorem V8_q (t : Fin 4096) (h g : Fin 4) (d : Fin 128) (j : Fin 3072) (hj : j.val = h.val * 512 + g.val * 128 + d.val) :
    (V m c main_v8 : S4096x3072.Idx → EReal) (ix2 t j) = ((Q (qi t h g d) * (scale * rlog2) : ℝ) : EReal) := by
  rw [V8_stage]
  exact packed_q h0 t h g d j hj

include h1 in
/-- Its next 512 columns: k. -/
theorem V8_k (t : Fin 4096) (h : Fin 4) (d : Fin 128) (j : Fin 3072) (hj : j.val = 2048 + (h.val * 128 + d.val)) :
    (V m c main_v8 : S4096x3072.Idx → EReal) (ix2 t j) = ((K (ki t h d) : ℝ) : EReal) := by
  rw [V8_stage]
  exact packed_k h1 t h d j hj

include h2 in
/-- Its last 512 columns: v. -/
theorem V8_v (t : Fin 4096) (h : Fin 4) (d : Fin 128) (j : Fin 3072) (hj : j.val = 2560 + (h.val * 128 + d.val)) :
    (V m c main_v8 : S4096x3072.Idx → EReal) (ix2 t j) = ((V' (ki t h d) : ℝ) : EReal) := by
  rw [V8_stage]
  exact packed_v h2 t h d j hj

end Cert.HostValue
-- ==== Proof.FlashBlocks.lean ====
/- What the forward attention's call leaves: the packed arrays' blocks at each grid point, the two blocks it stores
   there, and the two arrays after the run. Grid point `t` works on kv head `t / 16`, group `t / 4 % 4` and the query
   rows `1024·(t % 4) …`. -/
module

public import proofs.«01_k».proof.Proof.FlashEntry
public import proofs.«01_k».proof.Proof.Host
public import proofs.«01_k».proof.Proof.Gen.FlashIdeal.Value

@[expose] public section

set_option maxRecDepth 16384

noncomputable section

namespace Cert.FlashValue

open Cert.FlashIdeal Cert.FlashIdeal.Gen Idealize.ShloMosaic Idealize.ShloMosaic.TcCoe Idealize.SL.Sem Idealize.ShloMosaic.StableHlo
open Cert.Softmax Cert.Model Cert.FlashPay
open Cert.HostValue (rlog2 packed packed_q packed_k packed_any outAny concat_congr)
open Cert.RefValue (AQ AK)

variable (m : (ℓ : Loc nD τ sig) → Buf (Elt Ideal) ℓ) (c : Dev nD)

/-- The argument arrays q, k and v. -/
abbrev a0 : AQ := m ((c : Thread nD τ).loc main_arg0)
@[inherit_doc a0] abbrev a1 : AK := m ((c : Thread nD τ).loc main_arg1)
@[inherit_doc a0] abbrev a2 : AK := m ((c : Thread nD τ).loc main_arg2)

/-- The packed q, k and v where the call begins. -/
theorem V8_stage : (V m c main_v8 : S4096x3072.Idx → EReal) = packed (a0 m c) (a1 m c) (a2 m c) := by
  unfold V
  after_results_simp
  unfold packed
  refine concat_congr _ ?_ ?_ ?_
  · change HloOp.result _ _ (Proc.tc.devRef main_v5) = _
    after_results_simp
    rfl
  · change HloOp.result _ _ (Proc.tc.devRef main_v6) = _
    after_results_simp
    rfl
  · change HloOp.result _ _ (Proc.tc.devRef main_v7) = _
    after_results_simp
    rfl

/-! ## The grid -/

/-- The kv head of grid point `t`. -/
def hh (t : Fin cfg0.N) : Fin 4 := ⟨t.val / 16, by have := t.isLt; have : cfg0.N = 64 := N_0; omega⟩
/-- The group of grid point `t`. -/
def gg (t : Fin cfg0.N) : Fin 4 := ⟨t.val / 4 % 4, by omega⟩
/-- The token at row `r` of the query block of grid point `t`. -/
def tok (t : Fin cfg0.N) (r : Fin 1024) : Fin 4096 := ⟨1024 * (t.val % 4) + r.val, by omega⟩

/-- The block index of q: the query block and the query head. -/
theorem idx0 : ∀ t : Fin cfg0.N, win0_0.index t = ![t.val % 4, t.val / 16 * 4 + t.val / 4 % 4] := by decide +kernel
/-- The block index of k in the packed array. -/
theorem idx1 : ∀ t : Fin cfg0.N, win0_1.index t = ![0, 16 + t.val / 16] := by decide +kernel
/-- The block index of v in the packed array. -/
theorem idx2 : ∀ t : Fin cfg0.N, win0_2.index t = ![0, 20 + t.val / 16] := by decide +kernel
/-- The block index of the output. -/
theorem idx3 : ∀ t : Fin cfg0.N, win0_3.index t = ![t.val % 4, t.val / 16 * 4 + t.val / 4 % 4] := by decide +kernel
/-- The block index of the log-sum-exp rows. -/
theorem idx4 : ∀ t : Fin cfg0.N, win0_4.index t = ![t.val % 4, t.val / 16 * 4 + t.val / 4 % 4] := by decide +kernel

/-- Block 0 of grid point `t`: scaled rows of q. -/
abbrev ib0 (t : Fin cfg0.N) : S1024x128.Idx → EReal := iblk m c 0 t
/-- Block 1 of grid point `t`: k of the kv head. -/
abbrev ib1 (t : Fin cfg0.N) : S4096x128.Idx → EReal := iblk m c 1 t
/-- Block 2 of grid point `t`: v of the kv head. -/
abbrev ib2 (t : Fin cfg0.N) : S4096x128.Idx → EReal := iblk m c 2 t

variable {Q : SQ.Idx → ℝ} {K : SK.Idx → ℝ} (M : Fin 4 → Fin 4 → Fin 4096 → ℝ)
variable (e0 : ∀ i, a0 m c i = ((Q i : ℝ) : EReal)) (e1 : ∀ i, a1 m c i = ((K i : ℝ) : EReal))

include e0 in
/-- The q block: rows of q times the constants. -/
theorem b0 (t : Fin cfg0.N) (r : Fin 1024) (d : Fin 128) :
    ib0 m c t (ix2 r d) = ((Q (qi (tok t r) (hh t) (gg t) d) * (scale * rlog2) : ℝ) : EReal) := by
  have e : ib0 m c t (ix2 r d)
      = (V m c main_v8 : S4096x3072.Idx → EReal) (ix2 (tok t r) ⟨(hh t).val * 512 + (gg t).val * 128 + d.val, by omega⟩) := by
    unfold tok hh gg
    unfold ib0
    blk_ext [iblk, idx0 t]
  rw [e, V8_stage]
  exact packed_q e0 _ _ _ _ _ rfl

include e1 in
/-- The k block. -/
theorem b1 (t : Fin cfg0.N) (s : Fin 4096) (d : Fin 128) :
    ib1 m c t (ix2 s d) = ((K (ki s (hh t) d) : ℝ) : EReal) := by
  have e : ib1 m c t (ix2 s d)
      = (V m c main_v8 : S4096x3072.Idx → EReal) (ix2 s ⟨2048 + ((hh t).val * 128 + d.val), by omega⟩) := by
    unfold hh
    unfold ib1
    blk_ext [iblk, idx1 t]
  rw [e, V8_stage]
  exact packed_k e1 _ _ _ _ rfl

/-- The v block. -/
theorem b2 (t : Fin cfg0.N) (s : Fin 4096) (d : Fin 128) :
    ib2 m c t (ix2 s d) = a2 m c (ki s (hh t) d) := by
  have e : ib2 m c t (ix2 s d)
      = (V m c main_v8 : S4096x3072.Idx → EReal) (ix2 s ⟨2560 + ((hh t).val * 128 + d.val), by omega⟩) := by
    unfold hh
    unfold ib2
    blk_ext [iblk, idx2 t]
  rw [e, V8_stage]
  exact packed_any _ _ _ _ rfl

/-! ## The stored blocks -/

/-- The row of the query block at row `r` of quarter `b`. -/
def row (b : Fin 4) (r : Fin 256) : Fin 1024 := ⟨256 * b.val + r.val, by omega⟩

include e0 e1 in
/-- A query's row of base-two logits. -/
theorem row_logits (t : Fin cfg0.N) (b : Fin 4) (r : Fin 256) : Row (quarter b (ib0 m c t)) (ib1 m c t) r
    fun s => logit Q K (hh t) (gg t) (tok t (row b r)) s * (1 / Real.log 2) := by
  have e := row_of (q := quarter b (ib0 m c t)) (x1 := ib1 m c t) (r := r)
    (A := fun d => Q (qi (tok t (row b r)) (hh t) (gg t) d) * (scale * rlog2)) (K := fun s d => K (ki s (hh t) d))
    (fun d => (quarter_apply b _ r d).trans (b0 m c e0 t _ d)) (fun s d => b1 m c e1 t s d)
  have h : (fun s => ∑ d : Fin 128, Q (qi (tok t (row b r)) (hh t) (gg t) d) * (scale * rlog2) * K (ki s (hh t) d))
      = fun s => logit Q K (hh t) (gg t) (tok t (row b r)) s * (1 / Real.log 2) := by
    funext s
    unfold logit rlog2
    rw [Finset.sum_mul, Finset.sum_mul]
    exact Finset.sum_congr rfl fun d _ => by ring
  rw [← h]
  exact e

/-- The base-two powers are the exponentials with the shift times `log 2`. -/
theorem pow_eq (l : Fin 4096 → ℝ) (μ : ℝ) : pow (fun s => l s * (1 / Real.log 2)) μ = fun s => Real.exp (l s - μ * Real.log 2) :=
  funext fun s => rpow_eq_exp (l s) μ

include e0 e1 in
/-- An entry of the output block. -/
theorem out_entry (t : Fin cfg0.N) (b : Fin 4) (r : Fin 256) (d : Fin 128) : outPiece (quarter b (ib0 m c t)) (ib1 m c t) (ib2 m c t) (ix2 r d)
    = outAny Q K M (a2 m c) (hh t) (gg t) (tok t (row b r)) d := by
  have hL := row_logits m c e0 e1 t b r
  obtain ⟨μ, hμ⟩ := greatest_real hL
  unfold outPiece
  rw [output_apply hL hμ d, pow_eq]
  unfold outAny prb
  refine Finset.sum_congr rfl fun s _ => ?_
  rw [b2, prob_shift _ _ (μ * Real.log 2), mul_comm _ (a2 m c _), mul_assoc, ← EReal.coe_mul]
  unfold prob total
  rw [mul_one_div]

include e0 e1 in
/-- An entry of the log-sum block. -/
theorem log_entry (t : Fin cfg0.N) (b : Fin 4) (r : Fin 256) (d : Fin 128) : logPiece (quarter b (ib0 m c t)) (ib1 m c t) (ix2 r d)
    = ((lse Q K M (hh t) (gg t) (tok t (row b r)) * rlog2 : ℝ) : EReal) := by
  have h2 : Real.log 2 ≠ 0 := (Real.log_pos (by norm_num)).ne'
  have hL := row_logits m c e0 e1 t b r
  obtain ⟨μ, hμ⟩ := greatest_real hL
  unfold logPiece
  rw [logsum_apply hL hμ d, pow_eq]
  unfold lse rlog2
  rw [lse_shift _ _ (μ * Real.log 2)]
  unfold total
  refine congrArg Real.toEReal ?_
  field_simp

include e0 e1 in
/-- The output block. -/
theorem out_block (t : Fin cfg0.N) (z : S1024x128.Idx) : out0_3 (iblk m c 0 t) (iblk m c 1 t) (iblk m c 2 t) z
    = outAny Q K M (a2 m c) (hh t) (gg t) (tok t (z 0)) (z 1) := by
  have fin : ∀ (b : Fin 4) (r : Fin 256) (d : Fin 128), (z 0).val = 256 * b.val + r.val → (z 1).val = d.val →
      outPiece (quarter b (ib0 m c t)) (ib1 m c t) (ib2 m c t) (ix2 r d) = outAny Q K M (a2 m c) (hh t) (gg t) (tok t (z 0)) (z 1) := by
    intro b r d h0 h1
    rw [out_entry m c M e0 e1, show z 0 = row b r from Fin.ext h0, show z 1 = d from Fin.ext h1]
  rw [out3_pieces]
  canon_tiles y h
  · exact (congrArg _ (eq_ix2 y)).trans (fin 3 (y 0) (y 1) h0 h1)
  · exact (congrArg _ (eq_ix2 y)).trans (fin 2 (y 0) (y 1) h0 h1)
  · exact (congrArg _ (eq_ix2 y)).trans (fin 1 (y 0) (y 1) h0 h1)
  · exact (congrArg _ (eq_ix2 y)).trans (fin 0 (y 0) (y 1) (h0.trans (Nat.zero_add _).symm) h1)

include e0 e1 in
/-- The log-sum block. -/
theorem log_block (t : Fin cfg0.N) (z : S1024x128.Idx) : out0_4 (iblk m c 0 t) (iblk m c 1 t) (iblk m c 2 t) z
    = ((lse Q K M (hh t) (gg t) (tok t (z 0)) * rlog2 : ℝ) : EReal) := by
  have fin : ∀ (b : Fin 4) (r : Fin 256) (d : Fin 128), (z 0).val = 256 * b.val + r.val →
      logPiece (quarter b (ib0 m c t)) (ib1 m c t) (ix2 r d) = ((lse Q K M (hh t) (gg t) (tok t (z 0)) * rlog2 : ℝ) : EReal) := by
    intro b r d h0
    rw [log_entry m c M e0 e1, show z 0 = row b r from Fin.ext h0]
  rw [out4_pieces]
  canon_tiles y h
  · exact (congrArg _ (eq_ix2 y)).trans (fin 3 (y 0) (y 1) h0)
  · exact (congrArg _ (eq_ix2 y)).trans (fin 2 (y 0) (y 1) h0)
  · exact (congrArg _ (eq_ix2 y)).trans (fin 1 (y 0) (y 1) h0)
  · exact (congrArg _ (eq_ix2 y)).trans (fin 0 (y 0) (y 1) (h0.trans (Nat.zero_add _).symm))

/-! ## The arrays after the run -/

/-- The array that holds the attention's output. -/
def gO (Q : SQ.Idx → ℝ) (K : SK.Idx → ℝ) (M : Fin 4 → Fin 4 → Fin 4096 → ℝ) (v : AK) (i : S4096x2048.Idx) : EReal :=
  outAny Q K M v ⟨(i 1).val / 512, by have : (i 1).val < 2048 := (i 1).isLt; omega⟩ ⟨(i 1).val / 128 % 4, by omega⟩ (i 0) ⟨(i 1).val % 128, by omega⟩
/-- The array that holds the log-sum-exps times 1/log 2. -/
def gL (Q : SQ.Idx → ℝ) (K : SK.Idx → ℝ) (M : Fin 4 → Fin 4 → Fin 4096 → ℝ) (i : S4096x2048.Idx) : EReal :=
  ((lse Q K M ⟨(i 1).val / 512, by have : (i 1).val < 2048 := (i 1).isLt; omega⟩ ⟨(i 1).val / 128 % 4, by omega⟩ (i 0) * rlog2 : ℝ) : EReal)

variable {M}

omit e0 e1 in
/-- The output at token `t`, head `(h, g)`, width `d`. -/
theorem gO_at (v : AK) (i : S4096x2048.Idx) (t : Fin 4096) (h g : Fin 4) (d : Fin 128) (h0 : (i 0).val = t.val)
    (h1 : (i 1).val = h.val * 512 + g.val * 128 + d.val) : gO Q K M v i = outAny Q K M v h g t d := by
  unfold gO
  rw [show i 0 = t from Fin.ext h0]
  congr 1
  · exact Fin.ext (by dsimp only; omega)
  · exact Fin.ext (by dsimp only; omega)
  · exact Fin.ext (by dsimp only; omega)

omit e0 e1 in
/-- The log-sum-exp at token `t`, head `(h, g)`. -/
theorem gL_at (i : S4096x2048.Idx) (t : Fin 4096) (h g : Fin 4) (d : Fin 128) (h0 : (i 0).val = t.val)
    (h1 : (i 1).val = h.val * 512 + g.val * 128 + d.val) : gL Q K M i = ((lse Q K M h g t * rlog2 : ℝ) : EReal) := by
  unfold gL
  rw [show i 0 = t from Fin.ext h0]
  congr 3
  · exact Fin.ext (by dsimp only; omega)
  · exact Fin.ext (by dsimp only; omega)

include e0 e1 in
/-- After the run the first result is the attention's output. -/
theorem arr3 : (dats m 0 c).arrAt 3 cfg0.N = gO Q K M (a2 m c) := by
  refine (dats m 0 c).arrAt_eq_of_covers 3 _ (by decide +kernel) fun t hf y => ?_
  blk_simp
  rw [after0_3]
  refine (out_block m c M e0 e1 t _).trans (gO_at _ _ _ _ _ _ ?_ ?_).symm
  · unfold tok
    blk_simp [idx3 t]
    dsimp only
    omega
  · unfold hh gg
    blk_simp [idx3 t]
    dsimp only
    omega

include e0 e1 in
/-- After the run the second result is the log-sum-exps. -/
theorem arr4 : (dats m 0 c).arrAt 4 cfg0.N = gL Q K M := by
  refine (dats m 0 c).arrAt_eq_of_covers 4 _ (by decide +kernel) fun t hf y => ?_
  blk_simp
  rw [after0_4]
  refine (log_block m c M e0 e1 t _).trans (gL_at _ _ _ _ ⟨(y 1).val, (y 1).isLt⟩ ?_ ?_).symm
  · unfold tok
    blk_simp [idx4 t]
    dsimp only
    omega
  · unfold hh gg
    blk_simp [idx4 t]
    dsimp only
    omega

end Cert.FlashValue

end
-- ==== Proof.Finite.lean ====
/- The precondition: every entry of the four arguments is a finite float, so over the extended reals a real. -/
module

public import proofs.«01_k».proof.Defs
public import Idealize.ShloMosaic.Lib.ReduceAll
public import Idealize.ShloMosaic.PureOps.Ideal

@[expose] public section

noncomputable section

namespace Cert.Finite

open Idealize.ShloMosaic Cert.Pre_all_finite

/-- The precondition's side conditions. -/
theorem facts : Cert.Pre_all_finite.Facts where
  bcast_S_S4096x2048 := by decide
  reducesTo_S4096x2048_S_d0_1 := by decide
  h_S_ := by decide
  bcast_S_S4096x512 := by decide
  reducesTo_S4096x512_S_d0_1 := by decide

/-- An extended real whose absolute value is below `+∞` is a real. -/
theorem real_of_lt {x : EReal} (h : Ideal.cmp .olt (max x (-x)) (Ideal.ofBits .f32 0x7F800000#32) = 1#1) : x = ((x.toReal : ℝ) : EReal) := by
  have hb : Ideal.ofBits .f32 0x7F800000#32 = (⊤ : EReal) := by simp [Ideal.ofBits, Ideal.ieee]
  rw [hb] at h
  induction x using EReal.rec with
  | bot => simp [Ideal.cmp] at h
  | top => simp [Ideal.cmp] at h
  | coe r => simp

/-- A conjunction of two one-bit words that is 1 has both 1. -/
theorem and_split {a b : BitVec 1} (h : a &&& b = 1#1) : a = 1#1 ∧ b = 1#1 := by
  revert a b; decide

/-- Under the precondition every entry of each of the four arrays is a real. -/
theorem all_real [Cert.Pre_all_finite.Facts] {x0 x3 : FVec Ideal S4096x2048 .f32} {x1 x2 : FVec Ideal S4096x512 .f32}
    (h : fn (F := Ideal) x0 x1 x2 x3 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)) := by
  haveI : Subsingleton S_.Idx := ⟨fun a b => funext fun k => absurd k.isLt (by simp)⟩
  have j : S_.Idx := fun k => absurd k.isLt (by simp)
  have e := congrFun h j
  unfold fn fn_part1 at e
  dsimp only at e
  obtain ⟨e, e3⟩ := and_split e
  obtain ⟨e, e2⟩ := and_split e
  obtain ⟨e0, e1⟩ := and_split e
  exact ⟨fun i => real_of_lt (Host.reduce_andi_all _ _ _ _ j e0 i), fun i => real_of_lt (Host.reduce_andi_all _ _ _ _ j e1 i),
    fun i => real_of_lt (Host.reduce_andi_all _ _ _ _ j e2 i), fun i => real_of_lt (Host.reduce_andi_all _ _ _ _ j e3 i)⟩

end Cert.Finite

end
-- ==== Proof.FlashEqual.lean ====
/- The forward attention's two result arrays are the reference's two results, for finite q and k. -/
module

public import proofs.«01_k».proof.Proof.FlashBlocks
public import proofs.«01_k».proof.Proof.Finite
public import proofs.«01_k».proof.Proof.Gen.FlashReferenceIdeal.Run
public import proofs.«01_k».proof.Proof.Gen.FlashReferenceIdeal.Read
public import Idealize.ShloMosaic.Adequacy
public import Idealize.ShloMosaic.Init

@[expose] public section

set_option maxRecDepth 16384

noncomputable section

namespace Cert.FlashValue

open Idealize.ShloMosaic Idealize.SL.Sem Cert.Model
open Cert.RefValue (AQ AK)

/-- The precondition's side conditions. -/
theorem pre_facts : Cert.Pre_qk_finite.Facts where
  bcast_S_S4096x2048 := by decide
  reducesTo_S4096x2048_S_d0_1 := by decide
  h_S_ := by decide
  bcast_S_S4096x512 := by decide
  reducesTo_S4096x512_S_d0_1 := by decide

/-- Under the precondition every entry of q and of k is a real. -/
theorem all_real [Cert.Pre_qk_finite.Facts] {x0 : AQ} {x1 x2 : AK} (h : Cert.Pre_qk_finite.fn (F := Ideal) x0 x1 x2 = fun _ => 1#1) :
    (∀ i, x0 i = ((EReal.toReal (x0 i) : ℝ) : EReal)) ∧ (∀ i, x1 i = ((EReal.toReal (x1 i) : ℝ) : EReal)) := by
  haveI : Subsingleton Cert.Pre_qk_finite.S_.Idx := ⟨fun a b => funext fun k => absurd k.isLt (by simp)⟩
  have j : Cert.Pre_qk_finite.S_.Idx := fun k => absurd k.isLt (by simp)
  have e := congrFun h j
  unfold Cert.Pre_qk_finite.fn at e
  dsimp only at e
  obtain ⟨e0, e1⟩ := Cert.Finite.and_split e
  exact ⟨fun i => Cert.Finite.real_of_lt (Host.reduce_andi_all _ _ _ _ j e0 i),
    fun i => Cert.Finite.real_of_lt (Host.reduce_andi_all _ _ _ _ j e1 i)⟩

section
open Cert.FlashReferenceIdeal.Read

/-- The reference's weights are those of the backward call's reference. -/
theorem weights_stage (x0 : AQ) (x1 : AK) : (val_main_v17 (F := Ideal) x0 x1 : _ → EReal) = Cert.ReferenceIdeal.Read.val_main_v31 (F := Ideal) x0 x1 := by
  delta val_main_v17 val_main_v16 val_main_v15 val_main_v14 val_main_v13 val_main_v12 val_main_v11 val_main_v10 val_main_v9 val_main_v8
    val_main_v7 val_main_v6 val_main_v5 val_main_v4 val_main_v3 val_main_v1 val_main_v0 val_main_cst val_main_cst_0 val_main_cst_1 val_main_cst_2
  delta Cert.ReferenceIdeal.Read.val_main_v31 Cert.ReferenceIdeal.Read.val_main_v30 Cert.ReferenceIdeal.Read.val_main_v29
    Cert.ReferenceIdeal.Read.val_main_v28 Cert.ReferenceIdeal.Read.val_main_v27 Cert.ReferenceIdeal.Read.val_main_v26
    Cert.ReferenceIdeal.Read.val_main_v25 Cert.ReferenceIdeal.Read.val_main_v24 Cert.ReferenceIdeal.Read.val_main_v14
    Cert.ReferenceIdeal.Read.val_main_v13 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v1 Cert.ReferenceIdeal.Read.val_main_v0 Cert.ReferenceIdeal.Read.val_main_cst
    Cert.ReferenceIdeal.Read.val_main_cst_0 Cert.ReferenceIdeal.Read.val_main_cst_2 Cert.ReferenceIdeal.Read.val_main_cst_8
  rfl

/-- The reference's first result is the output of the backward call's reference. -/
theorem out_stage (x0 : AQ) (x1 x2 : AK) : (val_main_v21 (F := Ideal) x0 x1 x2 : _ → EReal) = Cert.ReferenceIdeal.Read.val_main_v37 (F := Ideal) x0 x1 x2 := by
  delta val_main_v21 val_main_v20 val_main_v19 val_main_v18 val_main_v2
  delta Cert.ReferenceIdeal.Read.val_main_v37 Cert.ReferenceIdeal.Read.val_main_v36 Cert.ReferenceIdeal.Read.val_main_v35
    Cert.ReferenceIdeal.Read.val_main_v2
  rw [← weights_stage]
  rfl

/-- The reference's second result is the log-sum-exp rows times 1/log 2. -/
theorem rows_stage (x0 : AQ) (x1 : AK) : (val_main_v44 (F := Ideal) x0 x1 : _ → EReal) = HostValue.lseRows x0 x1 := by
  delta val_main_v44 val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v25
    val_main_v23 val_main_v22 val_main_cst_3 val_main_cst_4 val_main_cst_5 val_main_cst_6 val_main_cst_7
  delta HostValue.lseRows Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v1 Cert.ReferenceIdeal.Read.val_main_v0 Cert.ReferenceIdeal.Read.val_main_cst
    Cert.ReferenceIdeal.Read.val_main_cst_0
  rfl

end

instance : Cert.Pre_qk_finite.Facts := pre_facts

/-- Under the precondition the two arrays the call leaves are the reference's two results. -/
theorem values (m : (ℓ : Loc Cert.FlashIdeal.nD Cert.FlashIdeal.τ Cert.FlashIdeal.sig) → Buf (Elt Ideal) ℓ)
    (hpre : Cert.Pre_FlashIdeal_qk_finite m) (c : Dev Cert.FlashIdeal.nD) :
    (Cert.FlashIdeal.Gen.dats m 0 c).arrAt 3 Cert.FlashIdeal.cfg0.N
        = Cert.FlashReferenceIdeal.Read.val_main_v21 (F := Ideal) (a0 m c) (a1 m c) (a2 m c)
      ∧ (Cert.FlashIdeal.Gen.dats m 0 c).arrAt 4 Cert.FlashIdeal.cfg0.N
        = Cert.FlashReferenceIdeal.Read.val_main_v44 (F := Ideal) (a0 m c) (a1 m c) := by
  obtain ⟨e0, e1⟩ := all_real (hpre c)
  choose f hf using RefValue.v14_real (x0 := a0 m c) (x1 := a1 m c) e0 e1
  obtain ⟨M, hM⟩ : ∃ M : Fin 4 → Fin 4 → Fin 4096 → ℝ, ∀ i : Cert.ReferenceIdeal.S4x4x4096.Idx,
      Cert.ReferenceIdeal.Read.val_main_v14 (F := Ideal) (a0 m c) (a1 m c) i = ((M (i 0) (i 1) (i 2) : ℝ) : EReal) :=
    ⟨fun a b t => f (ix3 a b t), fun i => (hf i).trans (congrArg (fun x => ((f x : ℝ) : EReal)) (eq_ix3 i))⟩
  refine ⟨(arr3 m c (M := M) e0 e1).trans ((funext fun i : Cert.FlashIdeal.S4096x2048.Idx => ?_).trans (out_stage _ _ _).symm),
    (arr4 m c (M := M) e0 e1).trans ((funext fun i : Cert.FlashIdeal.S4096x2048.Idx => ?_).trans (rows_stage _ _).symm)⟩
  · have hb : (i 1).val < 2048 := (i 1).isLt
    refine (HostValue.out_any e0 e1 hM _ _ _ _).symm.trans (congrArg _ ?_)
    refine Eq.symm ((eq_ix2 i).trans (congrArg (ix2 (i 0)) (Fin.ext ?_)))
    show (i 1).val = (i 1).val / 512 * 512 + (i 1).val / 128 % 4 * 128 + (i 1).val % 128
    omega
  · have hb : (i 1).val < 2048 := (i 1).isLt
    refine (HostValue.lse_apply e0 e1 hM _ _ _ ⟨(i 1).val % 128, by omega⟩).symm.trans (congrArg _ ?_)
    refine Eq.symm ((eq_ix2 i).trans (congrArg (ix2 (i 0)) (Fin.ext ?_)))
    show (i 1).val = (i 1).val / 512 * 512 + (i 1).val / 128 % 4 * 128 + (i 1).val % 128
    omega

/-- The reference ends without fault, with its arguments unchanged and no counter above zero. -/
theorem frame_r : Cert.quiescent_FlashReferenceIdeal (hFlashReferenceIdeal := Cert.FlashReferenceIdeal.Gen.facts) := by
  intro m ρ _
  exact (θ_run Cert.FlashReferenceIdeal.defs _ _).mono (fun r h => ⟨fun c => (h c).2.2,
      Idealize.ShloMosaic.sem_eq_zero_of_no_sems (by decide) r.2⟩)
    (Cert.FlashReferenceIdeal.Value.run (F := Ideal) m ρ)

/-- Kernel and reference end with equal results. -/
theorem equal : Cert.algebraic_FlashIdeal_FlashReferenceIdeal_pre_qk_finite (hFlashIdeal := Cert.FlashIdeal.Gen.facts)
    (hFlashReferenceIdeal := Cert.FlashReferenceIdeal.Gen.facts) (hPre_qk_finite := pre_facts) := by
  intro m ρ m' ρ' hpre hagree
  refine ⟨fun c => (Cert.FlashIdeal.Gen.dats m 0 c).arrAt 3 Cert.FlashIdeal.cfg0.N, fun c => (Cert.FlashIdeal.Gen.dats m 0 c).arrAt 4 Cert.FlashIdeal.cfg0.N,
    Cert.FlashIdeal.Value.run_blocks (F := Ideal) m ρ, ?_⟩
  refine (θ_run Cert.FlashReferenceIdeal.defs _ _).mono (fun r h c => ?_) (Cert.FlashReferenceIdeal.Value.run (F := Ideal) m' ρ')
  obtain ⟨h0, h1, hargs⟩ := h c
  obtain ⟨g0, g1, g2⟩ := hagree c
  obtain ⟨w0, w1⟩ := values m hpre c
  rw [Cert.FlashReferenceIdeal.Read.val_main_v21_eq, g0, g1, g2] at h0
  rw [Cert.FlashReferenceIdeal.Read.val_main_v44_eq, g0, g1] at h1
  exact ⟨h0.trans w0.symm, h1.trans w1.symm, hargs⟩

end Cert.FlashValue

end
-- ==== Proof.Blocks.lean ====
/- What one grid point of the kernel computes. Grid point `t` works on kv head `t / 16`, group `t / 4 % 4` and the query
   rows `1024·(t % 4) …`; its blocks are read from the arrays at the call, and its stored blocks are the gradients' parts
   from those rows. The dk and dv blocks are added to over the sixteen points of one kv head. -/
module

public import proofs.«01_k».proof.Proof.Host
public import proofs.«01_k».proof.Proof.Gen.KernelIdeal.Frame
public import Idealize.ShloMosaic.Lib.Pipeline.ValueKit

@[expose] public section

set_option maxRecDepth 16384

noncomputable section

namespace Cert.BlockValue

open Cert.KernelIdeal Cert.KernelIdeal.Gen Idealize.ShloMosaic Idealize.ShloMosaic.TcCoe Idealize.SL.Sem
open Cert.Softmax Cert.Model Cert.HostValue

/-- The kv head of grid point `t`. -/
def hh (t : Fin cfg0.N) : Fin 4 := ⟨t.val / 16, by have := t.isLt; have : cfg0.N = 64 := N_0; omega⟩
/-- The group of grid point `t`. -/
def gg (t : Fin cfg0.N) : Fin 4 := ⟨t.val / 4 % 4, by omega⟩
/-- The token at row `r` of the query block of grid point `t`. -/
def tok (t : Fin cfg0.N) (r : Fin 1024) : Fin 4096 := ⟨1024 * (t.val % 4) + r.val, by omega⟩

/-- The block index of q: the query block and the query head. -/
theorem idx0 : ∀ t : Fin cfg0.N, win0_0.index t = ![t.val % 4, t.val / 16 * 4 + t.val / 4 % 4] := by decide +kernel
/-- The block index of k in the packed array. -/
theorem idx1 : ∀ t : Fin cfg0.N, win0_1.index t = ![0, 16 + t.val / 16] := by decide +kernel
/-- The block index of v in the packed array. -/
theorem idx2 : ∀ t : Fin cfg0.N, win0_2.index t = ![0, 20 + t.val / 16] := by decide +kernel
/-- The block index of the output gradient. -/
theorem idx3 : ∀ t : Fin cfg0.N, win0_3.index t = ![t.val % 4, t.val / 16 * 4 + t.val / 4 % 4] := by decide +kernel
/-- The block index of the output. -/
theorem idx4 : ∀ t : Fin cfg0.N, win0_4.index t = ![t.val % 4, t.val / 16 * 4 + t.val / 4 % 4] := by decide +kernel
/-- The block index of the log-sum-exp rows. -/
theorem idx5 : ∀ t : Fin cfg0.N, win0_5.index t = ![t.val % 4, t.val / 16 * 4 + t.val / 4 % 4] := by decide +kernel

variable (m : (ℓ : Loc nD τ sig) → Buf (Elt Ideal) ℓ) (c : Dev nD)
/-- Block 0 of grid point `t`: scaled rows of q. -/
abbrev ib0 (t : Fin cfg0.N) : S1024x128.Idx → EReal := iblk m c 0 t
/-- Block 1 of grid point `t`: k of the kv head. -/
abbrev ib1 (t : Fin cfg0.N) : S4096x128.Idx → EReal := iblk m c 1 t
/-- Block 2 of grid point `t`: v of the kv head. -/
abbrev ib2 (t : Fin cfg0.N) : S4096x128.Idx → EReal := iblk m c 2 t
/-- Block 3 of grid point `t`: rows of the output gradient. -/
abbrev ib3 (t : Fin cfg0.N) : S1024x128.Idx → EReal := iblk m c 3 t
/-- Block 4 of grid point `t`: rows of the output. -/
abbrev ib4 (t : Fin cfg0.N) : S1024x128.Idx → EReal := iblk m c 4 t
/-- Block 5 of grid point `t`: the rows' log-sum-exp. -/
abbrev ib5 (t : Fin cfg0.N) : S1024x128.Idx → EReal := iblk m c 5 t

variable {Q : SQ.Idx → ℝ} {K V' : SK.Idx → ℝ} {W : SQ.Idx → ℝ} {M : Fin 4 → Fin 4 → Fin 4096 → ℝ}

section
variable (e0 : ∀ i, a0 m c i = ((Q i : ℝ) : EReal)) (e1 : ∀ i, a1 m c i = ((K i : ℝ) : EReal))
  (e2 : ∀ i, a2 m c i = ((V' i : ℝ) : EReal)) (e3 : ∀ i, a3 m c i = ((W i : ℝ) : EReal))
  (eM : ∀ i : S4x4x4096.Idx, ReferenceIdeal.Read.val_main_v14 (F := Ideal) (a0 m c) (a1 m c) i = ((M (i 0) (i 1) (i 2) : ℝ) : EReal))

include e0 in
/-- The q block: rows of q times the constants. -/
theorem b0 (t : Fin cfg0.N) (r : Fin 1024) (d : Fin 128) :
    ib0 m c t (ix2 r d) = ((Q (qi (tok t r) (hh t) (gg t) d) * (scale * rlog2) : ℝ) : EReal) := by
  have e : ib0 m c t (ix2 r d)
      = (V m c main_v8 : S4096x3072.Idx → EReal) (ix2 (tok t r) ⟨(hh t).val * 512 + (gg t).val * 128 + d.val, by omega⟩) := by
    unfold tok hh gg
    unfold ib0
    blk_ext [iblk, idx0 t]
  rw [e]
  exact V8_q m c e0 _ _ _ _ _ rfl

include e1 in
/-- The k block. -/
theorem b1 (t : Fin cfg0.N) (s : Fin 4096) (d : Fin 128) :
    ib1 m c t (ix2 s d) = ((K (ki s (hh t) d) : ℝ) : EReal) := by
  have e : ib1 m c t (ix2 s d)
      = (V m c main_v8 : S4096x3072.Idx → EReal) (ix2 s ⟨2048 + ((hh t).val * 128 + d.val), by omega⟩) := by
    unfold hh
    unfold ib1
    blk_ext [iblk, idx1 t]
  rw [e]
  exact V8_k m c e1 _ _ _ _ rfl

include e2 in
/-- The v block. -/
theorem b2 (t : Fin cfg0.N) (s : Fin 4096) (d : Fin 128) :
    ib2 m c t (ix2 s d) = ((V' (ki s (hh t) d) : ℝ) : EReal) := by
  have e : ib2 m c t (ix2 s d)
      = (V m c main_v8 : S4096x3072.Idx → EReal) (ix2 s ⟨2560 + ((hh t).val * 128 + d.val), by omega⟩) := by
    unfold hh
    unfold ib2
    blk_ext [iblk, idx2 t]
  rw [e]
  exact V8_v m c e2 _ _ _ _ rfl

include e3 in
/-- The output gradient's block. -/
theorem b3 (t : Fin cfg0.N) (r : Fin 1024) (d : Fin 128) :
    ib3 m c t (ix2 r d) = ((W (qi (tok t r) (hh t) (gg t) d) : ℝ) : EReal) := by
  have e : ib3 m c t (ix2 r d)
      = (V m c main_arg3 : S4096x2048.Idx → EReal) (qi (tok t r) (hh t) (gg t) d) := by
    unfold tok hh gg qi
    unfold ib3
    blk_ext [iblk, idx3 t]
  rw [e, V_main_arg3]
  exact e3 _

include e0 e1 e2 eM in
/-- The output's block. -/
theorem b4 (t : Fin cfg0.N) (r : Fin 1024) (d : Fin 128) :
    ib4 m c t (ix2 r d) = ((out Q K V' M (hh t) (gg t) (tok t r) d : ℝ) : EReal) := by
  have e : ib4 m c t (ix2 r d)
      = (V m c main_v30 : S4096x2048.Idx → EReal) (qi (tok t r) (hh t) (gg t) d) := by
    unfold tok hh gg qi
    unfold ib4
    blk_ext [iblk, idx4 t]
  rw [e]
  exact V30_apply m c e0 e1 e2 eM _ _ _ _

include e0 e1 eM in
/-- The block of log-sum-exp rows. -/
theorem b5 (t : Fin cfg0.N) (r : Fin 1024) (d : Fin 128) :
    ib5 m c t (ix2 r d) = ((lse Q K M (hh t) (gg t) (tok t r) * rlog2 : ℝ) : EReal) := by
  have e : ib5 m c t (ix2 r d)
      = (V m c main_v51 : S4096x2048.Idx → EReal) (qi (tok t r) (hh t) (gg t) d) := by
    unfold tok hh gg qi
    have gen : ∀ X : S4096x2048.Idx → EReal, View.read (Elt Ideal) ((cfg0.win 5).blk t).view X (ix2 r d)
        = X (ix2 ⟨1024 * (t.val % 4) + r.val, by omega⟩ ⟨t.val / 16 * 512 + t.val / 4 % 4 * 128 + d.val, by
          have := (hh t).isLt; unfold hh at this; dsimp only at this; omega⟩) := by
      intro X
      blk_ext [idx5 t]
    exact gen (V m c main_v51)
  rw [e]
  exact V51_apply m c e0 e1 eM _ _ _ _

include e0 e1 eM in
/-- The kernel's base-two exponential is the softmax probability. -/
theorem pt_p (t : Fin cfg0.N) (r : Fin 1024) (s : Fin 4096) :
    FloatOps.exp2 (F := Ideal) (φ := .f32) ((∑ d : Fin 128, ib0 m c t (ix2 r d) * ib1 m c t (ix2 s d))
        - ib5 m c t (ix2 r 0))
      = ((prb Q K M (hh t) (gg t) (tok t r) s : ℝ) : EReal) := by
  simp only [b0 m c e0, b1 m c e1, b5 m c e0 e1 eM]
  rw [sum_mul_coe, ← EReal.coe_sub]
  refine (Ideal.exp2_coe _).trans ?_
  unfold prb
  rw [← exp2_eq_prob]
  have e : ∑ d : Fin 128, Q (qi (tok t r) (hh t) (gg t) d) * (scale * rlog2) * K (ki s (hh t) d)
      = logit Q K (hh t) (gg t) (tok t r) s * (1 / Real.log 2) := by
    unfold logit rlog2
    rw [Finset.sum_mul, Finset.sum_mul]
    exact Finset.sum_congr rfl fun d _ => by ring
  rw [e]
  unfold lse rlog2
  rw [one_mul]

include e2 e3 in
/-- The gradient of the probabilities at a row and key. -/
theorem pt_d (t : Fin cfg0.N) (r : Fin 1024) (s : Fin 4096) :
    ∑ d : Fin 128, ib3 m c t (ix2 r d) * ib2 m c t (ix2 s d)
      = ((dprb V' W (hh t) (gg t) (tok t r) s : ℝ) : EReal) := by
  simp only [b2 m c e2, b3 m c e3]
  rw [sum_mul_coe]
  rfl

include e0 e1 e2 e3 eM in
/-- The row's inner product of output gradient and output. -/
theorem pt_delta (t : Fin cfg0.N) (r : Fin 1024) :
    ∑ d : Fin 128, ib3 m c t (ix2 r d) * ib4 m c t (ix2 r d)
      = ((∑ s, dprb V' W (hh t) (gg t) (tok t r) s * prb Q K M (hh t) (gg t) (tok t r) s : ℝ) : EReal) := by
  simp only [b3 m c e3, b4 m c e0 e1 e2 eM]
  rw [sum_mul_coe]
  unfold out dprb
  rw [delta_eq (fun d => W (qi (tok t r) (hh t) (gg t) d)) (fun s d => V' (ki s (hh t) d))]

/-- The gradient of the logits is the probability times the difference the kernel takes. -/
theorem pt_ds (t : Fin cfg0.N) (r : Fin 1024) (s : Fin 4096) :
    ((prb Q K M (hh t) (gg t) (tok t r) s : ℝ) : EReal) * (((dprb V' W (hh t) (gg t) (tok t r) s : ℝ) : EReal)
        - ((∑ s, dprb V' W (hh t) (gg t) (tok t r) s * prb Q K M (hh t) (gg t) (tok t r) s : ℝ) : EReal))
      = ((dlog Q K V' W M (hh t) (gg t) (tok t r) s : ℝ) : EReal) := by
  rw [← EReal.coe_sub, ← EReal.coe_mul]
  rfl

/-- Four sums over 256 rows each, added in the kernel's order, are the sum over the 1024 rows. -/
theorem four_sums (f : Fin 1024 → ℝ) :
    (∑ x : Fin 256, f ⟨x.val, by omega⟩) + (∑ x : Fin 256, f ⟨256 + x.val, by omega⟩)
      + (∑ x : Fin 256, f ⟨512 + x.val, by omega⟩) + (∑ x : Fin 256, f ⟨768 + x.val, by omega⟩) = ∑ r, f r := by
  have e1 := Fin.sum_univ_add (a := 512) (b := 512) f
  have e2 := Fin.sum_univ_add (a := 256) (b := 256) fun i => f (Fin.castAdd 512 i)
  have e3 := Fin.sum_univ_add (a := 256) (b := 256) fun i => f (Fin.natAdd 512 i)
  rw [e2, e3] at e1
  refine (Eq.trans ?_ e1.symm)
  rw [← add_assoc]
  refine congrArg₂ (· + ·) (congrArg₂ (· + ·) (congrArg₂ (· + ·) ?_ ?_) ?_) ?_
  · rfl
  · rfl
  · rfl
  · exact Finset.sum_congr rfl fun x _ => congrArg f (Fin.ext (show 768 + x.val = 512 + (256 + x.val) by omega))

end

end Cert.BlockValue

end
-- ==== Proof.Points.lean ====
/- What the blocks hold after each grid point. -/
module

public import proofs.«01_k».proof.Proof.Blocks
public import Idealize.ShloMosaic.Lib.Pipeline.ValueKit

@[expose] public section

set_option maxRecDepth 16384

noncomputable section

namespace Cert.BlockValue

open Cert.KernelIdeal Cert.KernelIdeal.Gen Idealize.ShloMosaic Idealize.ShloMosaic.TcCoe Idealize.SL.Sem
open Cert.Softmax Cert.Model Cert.HostValue

variable (m : (ℓ : Loc nD τ sig) → Buf (Elt Ideal) ℓ) (c : Dev nD)
variable {Q : SQ.Idx → ℝ} {K V' : SK.Idx → ℝ} {W : SQ.Idx → ℝ} {M : Fin 4 → Fin 4 → Fin 4096 → ℝ}

section
variable (e0 : ∀ i, a0 m c i = ((Q i : ℝ) : EReal)) (e1 : ∀ i, a1 m c i = ((K i : ℝ) : EReal))
  (e2 : ∀ i, a2 m c i = ((V' i : ℝ) : EReal)) (e3 : ∀ i, a3 m c i = ((W i : ℝ) : EReal))
  (eM : ∀ i : S4x4x4096.Idx, ReferenceIdeal.Read.val_main_v14 (F := Ideal) (a0 m c) (a1 m c) i = ((M (i 0) (i 1) (i 2) : ℝ) : EReal))

/-- What grid point `t` adds to the dk block at key `s`, width `d` (before the last factor). -/
def kPart (Q : SQ.Idx → ℝ) (K V' : SK.Idx → ℝ) (W : SQ.Idx → ℝ) (M : Fin 4 → Fin 4 → Fin 4096 → ℝ) (t : Fin cfg0.N) (s : Fin 4096) (d : Fin 128) : ℝ :=
  ∑ r : Fin 1024, dlog Q K V' W M (hh t) (gg t) (tok t r) s * (Q (qi (tok t r) (hh t) (gg t) d) * (scale * rlog2))

/-- What grid point `t` adds to the dv block at key `s`, width `d`. -/
def vPart (Q : SQ.Idx → ℝ) (K : SK.Idx → ℝ) (W : SQ.Idx → ℝ) (M : Fin 4 → Fin 4 → Fin 4096 → ℝ) (t : Fin cfg0.N) (s : Fin 4096) (d : Fin 128) : ℝ :=
  ∑ r : Fin 1024, prb Q K M (hh t) (gg t) (tok t r) s * W (qi (tok t r) (hh t) (gg t) d)

/-- A row's term of the dk block at key `s`, width `d`, as the kernel computes it. -/
def kTerm (t : Fin cfg0.N) (s : Fin 4096) (d : Fin 128) (r : Fin 1024) : EReal :=
  FloatOps.exp2 (F := Ideal) (φ := .f32) ((∑ d : Fin 128, ib0 m c t (ix2 r d) * ib1 m c t (ix2 s d)) - ib5 m c t (ix2 r 0))
    * (∑ d : Fin 128, ib3 m c t (ix2 r d) * ib2 m c t (ix2 s d) - ∑ d : Fin 128, ib3 m c t (ix2 r d) * ib4 m c t (ix2 r d))
    * ib0 m c t (ix2 r d)

/-- A row's term of the dv block at key `s`, width `d`, as the kernel computes it. -/
def vTerm (t : Fin cfg0.N) (s : Fin 4096) (d : Fin 128) (r : Fin 1024) : EReal :=
  FloatOps.exp2 (F := Ideal) (φ := .f32) ((∑ d : Fin 128, ib0 m c t (ix2 r d) * ib1 m c t (ix2 s d)) - ib5 m c t (ix2 r 0))
    * ib3 m c t (ix2 r d)

include e0 e1 e2 e3 eM

/-- The kernel's four sums of the rows' terms are the point's part of dk. -/
theorem k_entry (t : Fin cfg0.N) (s : Fin 4096) (d : Fin 128) :
    (∑ x : Fin 256, kTerm m c t s d ⟨x.val, by omega⟩) + (∑ x : Fin 256, kTerm m c t s d ⟨256 + x.val, by omega⟩)
      + (∑ x : Fin 256, kTerm m c t s d ⟨512 + x.val, by omega⟩) + (∑ x : Fin 256, kTerm m c t s d ⟨768 + x.val, by omega⟩)
      = ((kPart Q K V' W M t s d : ℝ) : EReal) := by
  have e : ∀ r, kTerm m c t s d r
      = ((dlog Q K V' W M (hh t) (gg t) (tok t r) s * (Q (qi (tok t r) (hh t) (gg t) d) * (scale * rlog2)) : ℝ) : EReal) := by
    intro r
    unfold kTerm
    rw [pt_p m c e0 e1 eM, pt_d m c e2 e3, pt_delta m c e0 e1 e2 e3 eM, pt_ds, b0 m c e0, ← EReal.coe_mul]
  simp only [e, ← coe_sum, ← EReal.coe_add]
  rw [four_sums (fun r => dlog Q K V' W M (hh t) (gg t) (tok t r) s * (Q (qi (tok t r) (hh t) (gg t) d) * (scale * rlog2)))]
  rfl

/-- The kernel's four sums of the rows' terms are the point's part of dv. -/
theorem v_entry (t : Fin cfg0.N) (s : Fin 4096) (d : Fin 128) :
    (∑ x : Fin 256, vTerm m c t s d ⟨x.val, by omega⟩) + (∑ x : Fin 256, vTerm m c t s d ⟨256 + x.val, by omega⟩)
      + (∑ x : Fin 256, vTerm m c t s d ⟨512 + x.val, by omega⟩) + (∑ x : Fin 256, vTerm m c t s d ⟨768 + x.val, by omega⟩)
      = ((vPart Q K W M t s d : ℝ) : EReal) := by
  have e : ∀ r, vTerm m c t s d r
      = ((prb Q K M (hh t) (gg t) (tok t r) s * W (qi (tok t r) (hh t) (gg t) d) : ℝ) : EReal) := by
    intro r
    unfold vTerm
    rw [pt_p m c e0 e1 eM, b3 m c e3, ← EReal.coe_mul]
  simp only [e, ← coe_sum, ← EReal.coe_add]
  rw [four_sums (fun r => prb Q K M (hh t) (gg t) (tok t r) s * W (qi (tok t r) (hh t) (gg t) d))]
  rfl

/-- At the first point of a kv head the dk block is that point's part. -/
theorem A7 (t : Fin cfg0.N) (h0 : t.val % 16 = 0) (h1 : ¬t.val % 16 = 15) (s : Fin 4096) (d : Fin 128) :
    (outsAt0 m c t.val t.isLt).2.1 (ix2 s d) = ((kPart Q K V' W M t s d : ℝ) : EReal) := by
  rw [outsAt0_A m c t h0 h1]
  frame_out
  unfold_payloads
  pointwise
  exact k_entry m c e0 e1 e2 e3 eM t s d

/-- At the first point of a kv head the dv block is that point's part. -/
theorem A8 (t : Fin cfg0.N) (h0 : t.val % 16 = 0) (h1 : ¬t.val % 16 = 15) (s : Fin 4096) (d : Fin 128) :
    (outsAt0 m c t.val t.isLt).2.2 (ix2 s d) = ((vPart Q K W M t s d : ℝ) : EReal) := by
  rw [outsAt0_A m c t h0 h1]
  frame_out
  unfold_payloads
  pointwise
  exact v_entry m c e0 e1 e2 e3 eM t s d

/-- At a later point but the last, the dk block is the one before plus the point's part. -/
theorem B7 (t : Fin cfg0.N) (h0 : ¬t.val % 16 = 0) (h1 : ¬t.val % 16 = 15) (s : Fin 4096) (d : Fin 128) :
    (outsAt0 m c t.val t.isLt).2.1 (ix2 s d)
      = (outsAt0 m c (t.val - 1) (Nat.lt_of_le_of_lt (Nat.sub_le _ _) t.isLt)).2.1 (ix2 s d) + ((kPart Q K V' W M t s d : ℝ) : EReal) := by
  rw [outsAt0_B m c t h0 h1]
  frame_out
  unfold_payloads
  pointwise
  exact congrArg _ (k_entry m c e0 e1 e2 e3 eM t s d)

/-- At a later point but the last, the dv block is the one before plus the point's part. -/
theorem B8 (t : Fin cfg0.N) (h0 : ¬t.val % 16 = 0) (h1 : ¬t.val % 16 = 15) (s : Fin 4096) (d : Fin 128) :
    (outsAt0 m c t.val t.isLt).2.2 (ix2 s d)
      = (outsAt0 m c (t.val - 1) (Nat.lt_of_le_of_lt (Nat.sub_le _ _) t.isLt)).2.2 (ix2 s d) + ((vPart Q K W M t s d : ℝ) : EReal) := by
  rw [outsAt0_B m c t h0 h1]
  frame_out
  unfold_payloads
  pointwise
  exact congrArg _ (v_entry m c e0 e1 e2 e3 eM t s d)

/-- At the last point of a kv head the dk block is the one before plus the point's part, times `log 2`. -/
theorem C7 (t : Fin cfg0.N) (h0 : ¬t.val % 16 = 0) (h1 : t.val % 16 = 15) (s : Fin 4096) (d : Fin 128) :
    (outsAt0 m c t.val t.isLt).2.1 (ix2 s d)
      = ((outsAt0 m c (t.val - 1) (Nat.lt_of_le_of_lt (Nat.sub_le _ _) t.isLt)).2.1 (ix2 s d) + ((kPart Q K V' W M t s d : ℝ) : EReal))
        * ((Real.log 2 : ℝ) : EReal) := by
  rw [outsAt0_C m c t h0 h1]
  frame_out
  unfold_payloads
  pointwise
  exact congrArg₂ (· * ·) (congrArg _ (k_entry m c e0 e1 e2 e3 eM t s d)) (IdealRules.named_const.ideal_named_scalar _ _ _ _ rfl)

/-- At the last point of a kv head the dv block is the one before plus the point's part. -/
theorem C8 (t : Fin cfg0.N) (h0 : ¬t.val % 16 = 0) (h1 : t.val % 16 = 15) (s : Fin 4096) (d : Fin 128) :
    (outsAt0 m c t.val t.isLt).2.2 (ix2 s d)
      = (outsAt0 m c (t.val - 1) (Nat.lt_of_le_of_lt (Nat.sub_le _ _) t.isLt)).2.2 (ix2 s d) + ((vPart Q K W M t s d : ℝ) : EReal) := by
  rw [outsAt0_C m c t h0 h1]
  frame_out
  unfold_payloads
  pointwise
  exact congrArg _ (v_entry m c e0 e1 e2 e3 eM t s d)

/-- The dq block's entry, as the kernel computes it from the blocks of point `t`. -/
theorem dq_entry (t : Fin cfg0.N) (z : S1024x128.Idx) (r : Fin 1024) (d : Fin 128) (h0 : (z 0).val = r.val) (h1 : (z 1).val = d.val) :
    (∑ x : Fin 4096, FloatOps.exp2 (F := Ideal) (φ := .f32) ((∑ d : Fin 128, ib0 m c t (ix2 r d) * ib1 m c t (ix2 x d)) - ib5 m c t (ix2 r 0))
          * (∑ d : Fin 128, ib3 m c t (ix2 r d) * ib2 m c t (ix2 x d) - ∑ d : Fin 128, ib3 m c t (ix2 r d) * ib4 m c t (ix2 r d))
          * ib1 m c t (ix2 x d)) * Ideal.ofBits .f32 1035273459#32
      = ((dQ Q K V' W M (hh t) (gg t) (tok t (z 0)) (z 1) : ℝ) : EReal) := by
  rw [show z 0 = r from Fin.ext h0, show z 1 = d from Fin.ext h1]
  simp only [pt_p m c e0 e1 eM, pt_d m c e2 e3, pt_delta m c e0 e1 e2 e3 eM, pt_ds]
  simp only [b1 m c e1, sum_mul_coe]
  rw [ofBits_scale, ← EReal.coe_mul]
  unfold dQ
  rw [Finset.sum_mul]
  exact congrArg _ (Finset.sum_congr rfl fun x _ => by ring)

/-- The dq block at the first point of a kv head. -/
theorem A6 (t : Fin cfg0.N) (h0 : t.val % 16 = 0) (h1 : ¬t.val % 16 = 15) (z : S1024x128.Idx) :
    (outsAt0 m c t.val t.isLt).1 z = ((dQ Q K V' W M (hh t) (gg t) (tok t (z 0)) (z 1) : ℝ) : EReal) := by
  rw [outsAt0_A m c t h0 h1]
  frame_out
  canon_tiles y h
  · open_payloads
    pointwise
    exact dq_entry m c e0 e1 e2 e3 eM t z ⟨768 + (y 0).val, by omega⟩ (y 1) h0 h1
  · open_payloads
    pointwise
    exact dq_entry m c e0 e1 e2 e3 eM t z ⟨512 + (y 0).val, by omega⟩ (y 1) h0 h1
  · open_payloads
    pointwise
    exact dq_entry m c e0 e1 e2 e3 eM t z ⟨256 + (y 0).val, by omega⟩ (y 1) h0 h1
  · open_payloads
    pointwise
    exact dq_entry m c e0 e1 e2 e3 eM t z ⟨(y 0).val, by omega⟩ (y 1) h0 h1

/-- The dq block at the points after the first and before the last of a kv head. -/
theorem B6 (t : Fin cfg0.N) (h0 : ¬t.val % 16 = 0) (h1 : ¬t.val % 16 = 15) (z : S1024x128.Idx) :
    (outsAt0 m c t.val t.isLt).1 z = ((dQ Q K V' W M (hh t) (gg t) (tok t (z 0)) (z 1) : ℝ) : EReal) := by
  rw [outsAt0_B m c t h0 h1]
  frame_out
  canon_tiles y h
  · open_payloads
    pointwise
    exact dq_entry m c e0 e1 e2 e3 eM t z ⟨768 + (y 0).val, by omega⟩ (y 1) h0 h1
  · open_payloads
    pointwise
    exact dq_entry m c e0 e1 e2 e3 eM t z ⟨512 + (y 0).val, by omega⟩ (y 1) h0 h1
  · open_payloads
    pointwise
    exact dq_entry m c e0 e1 e2 e3 eM t z ⟨256 + (y 0).val, by omega⟩ (y 1) h0 h1
  · open_payloads
    pointwise
    exact dq_entry m c e0 e1 e2 e3 eM t z ⟨(y 0).val, by omega⟩ (y 1) h0 h1

/-- The dq block at the last point of a kv head. -/
theorem C6 (t : Fin cfg0.N) (h0 : ¬t.val % 16 = 0) (h1 : t.val % 16 = 15) (z : S1024x128.Idx) :
    (outsAt0 m c t.val t.isLt).1 z = ((dQ Q K V' W M (hh t) (gg t) (tok t (z 0)) (z 1) : ℝ) : EReal) := by
  rw [outsAt0_C m c t h0 h1]
  frame_out
  canon_tiles y h
  · open_payloads
    pointwise
    exact dq_entry m c e0 e1 e2 e3 eM t z ⟨768 + (y 0).val, by omega⟩ (y 1) h0 h1
  · open_payloads
    pointwise
    exact dq_entry m c e0 e1 e2 e3 eM t z ⟨512 + (y 0).val, by omega⟩ (y 1) h0 h1
  · open_payloads
    pointwise
    exact dq_entry m c e0 e1 e2 e3 eM t z ⟨256 + (y 0).val, by omega⟩ (y 1) h0 h1
  · open_payloads
    pointwise
    exact dq_entry m c e0 e1 e2 e3 eM t z ⟨(y 0).val, by omega⟩ (y 1) h0 h1

/-- The dq block after any grid point: the gradient of q at the block's rows. -/
theorem dq_block (t : Fin cfg0.N) (z : S1024x128.Idx) :
    (outsAt0 m c t.val t.isLt).1 z = ((dQ Q K V' W M (hh t) (gg t) (tok t (z 0)) (z 1) : ℝ) : EReal) := by
  by_cases h0 : t.val % 16 = 0
  · exact A6 m c e0 e1 e2 e3 eM t h0 (by omega) z
  · by_cases h1 : t.val % 16 = 15
    · exact C6 m c e0 e1 e2 e3 eM t h0 h1 z
    · exact B6 m c e0 e1 e2 e3 eM t h0 h1 z

end

end Cert.BlockValue

end
-- ==== Proof.Accum.lean ====
/- The dk and dv blocks over the sixteen grid points of one kv head. -/
module

public import proofs.«01_k».proof.Proof.Points
public import proofs.«01_k».proof.Proof.Gen.KernelIdeal.Value
public import Idealize.ShloMosaic.Lib.Pipeline.ValueKit

@[expose] public section

set_option maxRecDepth 16384

noncomputable section

namespace Cert.BlockValue

open Cert.KernelIdeal Cert.KernelIdeal.Gen Idealize.ShloMosaic Idealize.ShloMosaic.TcCoe Idealize.SL.Sem
open Cert.Softmax Cert.Model Cert.HostValue

variable (m : (ℓ : Loc nD τ sig) → Buf (Elt Ideal) ℓ) (c : Dev nD)
variable {Q : SQ.Idx → ℝ} {K V' : SK.Idx → ℝ} {W : SQ.Idx → ℝ} {M : Fin 4 → Fin 4 → Fin 4096 → ℝ}

section
variable (e0 : ∀ i, a0 m c i = ((Q i : ℝ) : EReal)) (e1 : ∀ i, a1 m c i = ((K i : ℝ) : EReal))
  (e2 : ∀ i, a2 m c i = ((V' i : ℝ) : EReal)) (e3 : ∀ i, a3 m c i = ((W i : ℝ) : EReal))
  (eM : ∀ i : S4x4x4096.Idx, ReferenceIdeal.Read.val_main_v14 (F := Ideal) (a0 m c) (a1 m c) i = ((M (i 0) (i 1) (i 2) : ℝ) : EReal))

include e0 e1 e2 e3 eM

/-- The point after `k` points of kv head `h`. -/
def pt (h : Fin 4) (k : Fin 16) : Fin cfg0.N := ⟨16 * h.val + k.val, by have : cfg0.N = 64 := N_0; omega⟩

omit e0 e1 e2 e3 eM in
/-- What a grid point leaves depends on its number alone. -/
theorem outs_congr {a b : ℕ} (e : a = b) (ha : a < cfg0.N) (hb : b < cfg0.N) : outsAt0 m c a ha = outsAt0 m c b hb := by
  subst e; rfl

/-- Before the last point of a kv head, the dk block is the sum of the parts so far. -/
theorem dk_acc (h : Fin 4) (s : Fin 4096) (d : Fin 128) : ∀ n (hn : n < 15),
    (outsAt0 m c (pt h ⟨n, by omega⟩).val (pt h ⟨n, by omega⟩).isLt).2.1 (ix2 s d)
      = ((∑ k : Fin (n + 1), kPart Q K V' W M (pt h ⟨k.val, by omega⟩) s d : ℝ) : EReal)
  | 0, hn => by
    rw [A7 m c e0 e1 e2 e3 eM _ (by unfold pt; dsimp only; omega) (by unfold pt; dsimp only; omega), Fin.sum_univ_one]
    rfl
  | n + 1, hn => by
    rw [B7 m c e0 e1 e2 e3 eM _ (by unfold pt; dsimp only; omega) (by unfold pt; dsimp only; omega),
      outs_congr m c (show (pt h ⟨n + 1, by omega⟩).val - 1 = (pt h ⟨n, by omega⟩).val by unfold pt; dsimp only; omega) _ (pt h ⟨n, by omega⟩).isLt,
      dk_acc h s d n (by omega), ← EReal.coe_add, Fin.sum_univ_castSucc (n := n + 1)]
    rfl

/-- Before the last point of a kv head, the dv block is the sum of the parts so far. -/
theorem dv_acc (h : Fin 4) (s : Fin 4096) (d : Fin 128) : ∀ n (hn : n < 15),
    (outsAt0 m c (pt h ⟨n, by omega⟩).val (pt h ⟨n, by omega⟩).isLt).2.2 (ix2 s d)
      = ((∑ k : Fin (n + 1), vPart Q K W M (pt h ⟨k.val, by omega⟩) s d : ℝ) : EReal)
  | 0, hn => by
    rw [A8 m c e0 e1 e2 e3 eM _ (by unfold pt; dsimp only; omega) (by unfold pt; dsimp only; omega), Fin.sum_univ_one]
    rfl
  | n + 1, hn => by
    rw [B8 m c e0 e1 e2 e3 eM _ (by unfold pt; dsimp only; omega) (by unfold pt; dsimp only; omega),
      outs_congr m c (show (pt h ⟨n + 1, by omega⟩).val - 1 = (pt h ⟨n, by omega⟩).val by unfold pt; dsimp only; omega) _ (pt h ⟨n, by omega⟩).isLt,
      dv_acc h s d n (by omega), ← EReal.coe_add, Fin.sum_univ_castSucc (n := n + 1)]
    rfl

omit e0 e1 e2 e3 eM in
/-- A sum over the sixteen points of a kv head and the 1024 rows of each is a sum over groups and tokens. -/
theorem sum_points (f : Fin 4 → Fin 4096 → ℝ) (h : Fin 4) :
    ∑ k : Fin 16, ∑ r : Fin 1024, f (gg (pt h k)) (tok (pt h k) r) = ∑ g, ∑ t, f g t := by
  let F : ℕ → ℕ → ℝ := fun a b => if hab : a < 4 ∧ b < 4096 then f ⟨a, hab.1⟩ ⟨b, hab.2⟩ else 0
  have hF : ∀ (a : Fin 4) (b : Fin 4096), F a.val b.val = f a b := fun a b => dif_pos ⟨a.isLt, b.isLt⟩
  have e1 : ∀ k : Fin 16, ∑ r : Fin 1024, f (gg (pt h k)) (tok (pt h k) r)
      = (fun a b => ∑ r : Fin 1024, F a (b * 1024 + r.val)) (k.val / 4) (k.val % 4) := by
    intro k
    refine Finset.sum_congr rfl fun r _ => ?_
    rw [← hF]
    congr 1
    · unfold gg pt; dsimp only; omega
    · unfold tok pt; dsimp only; omega
  rw [Finset.sum_congr rfl fun k _ => e1 k]
  refine (Fin.sum_univ_mul_divmod 4 4 (fun a b => ∑ r : Fin 1024, F a (b * 1024 + r.val))).trans ?_
  refine Finset.sum_congr rfl fun g _ => ?_
  refine (Fin.sum_univ_univ_mul_add 4 1024 (fun b => F g.val b)).trans ?_
  exact Finset.sum_congr rfl fun t _ => hF g t

omit e0 e1 e2 e3 eM in
/-- Every point of a kv head has that kv head. -/
theorem hh_pt (h : Fin 4) (k : Fin 16) : hh (pt h k) = h := by
  unfold hh pt; exact Fin.ext (by dsimp only; omega)

/-- After the last point of a kv head the dk block is the gradient of k there. -/
theorem dk_block (h : Fin 4) (s : Fin 4096) (d : Fin 128) :
    (outsAt0 m c (pt h 15).val (pt h 15).isLt).2.1 (ix2 s d) = ((dK Q K V' W M h s d : ℝ) : EReal) := by
  rw [C7 m c e0 e1 e2 e3 eM _ (by unfold pt; dsimp only; omega) (by unfold pt; dsimp only; omega),
    outs_congr m c (show (pt h 15).val - 1 = (pt h ⟨14, by omega⟩).val from rfl) _ (pt h ⟨14, by omega⟩).isLt,
    dk_acc m c e0 e1 e2 e3 eM h s d 14 (by omega), ← EReal.coe_add, ← EReal.coe_mul]
  have e := Fin.sum_univ_castSucc (n := 15) fun k : Fin 16 => kPart Q K V' W M (pt h k) s d
  have e' : ∑ k : Fin 15, kPart Q K V' W M (pt h ⟨k.val, by omega⟩) s d + kPart Q K V' W M (pt h 15) s d
      = ∑ k : Fin 16, kPart Q K V' W M (pt h k) s d := e.symm
  rw [e']
  unfold kPart
  simp only [hh_pt]
  rw [sum_points (fun g t => dlog Q K V' W M h g t s * (Q (qi t h g d) * (scale * rlog2))) h]
  unfold dK
  rw [Finset.sum_mul]
  refine congrArg _ (Finset.sum_congr rfl fun g _ => ?_)
  rw [Finset.sum_mul]
  refine Finset.sum_congr rfl fun t _ => ?_
  have h2 : Real.log 2 ≠ 0 := (Real.log_pos (by norm_num)).ne'
  unfold rlog2
  field_simp

/-- After the last point of a kv head the dv block is the gradient of v there. -/
theorem dv_block (h : Fin 4) (s : Fin 4096) (d : Fin 128) :
    (outsAt0 m c (pt h 15).val (pt h 15).isLt).2.2 (ix2 s d) = ((dV Q K W M h s d : ℝ) : EReal) := by
  rw [C8 m c e0 e1 e2 e3 eM _ (by unfold pt; dsimp only; omega) (by unfold pt; dsimp only; omega),
    outs_congr m c (show (pt h 15).val - 1 = (pt h ⟨14, by omega⟩).val from rfl) _ (pt h ⟨14, by omega⟩).isLt,
    dv_acc m c e0 e1 e2 e3 eM h s d 14 (by omega), ← EReal.coe_add]
  have e' : ∑ k : Fin 15, vPart Q K W M (pt h ⟨k.val, by omega⟩) s d + vPart Q K W M (pt h 15) s d
      = ∑ k : Fin 16, vPart Q K W M (pt h k) s d :=
    (Fin.sum_univ_castSucc (n := 15) fun k : Fin 16 => vPart Q K W M (pt h k) s d).symm
  rw [e']
  unfold vPart
  simp only [hh_pt]
  rw [sum_points (fun g t => prb Q K M h g t s * W (qi t h g d)) h]
  unfold dV
  exact congrArg _ (Finset.sum_congr rfl fun g _ => Finset.sum_congr rfl fun t _ => mul_comm _ _)

end

end Cert.BlockValue

end
-- ==== Proof.Arrays.lean ====
/- The three result arrays after the kernel's run. -/
module

public import proofs.«01_k».proof.Proof.Accum
public import proofs.«01_k».proof.Proof.Gen.KernelIdeal.Value
public import Idealize.ShloMosaic.Lib.Pipeline.ValueKit

@[expose] public section

set_option maxRecDepth 16384

noncomputable section

namespace Cert.BlockValue

open Cert.KernelIdeal Cert.KernelIdeal.Gen Idealize.ShloMosaic Idealize.ShloMosaic.TcCoe Idealize.SL.Sem
open Cert.Softmax Cert.Model Cert.HostValue

variable (m : (ℓ : Loc nD τ sig) → Buf (Elt Ideal) ℓ) (c : Dev nD)
variable {Q : SQ.Idx → ℝ} {K V' : SK.Idx → ℝ} {W : SQ.Idx → ℝ} {M : Fin 4 → Fin 4 → Fin 4096 → ℝ}

section
variable (e0 : ∀ i, a0 m c i = ((Q i : ℝ) : EReal)) (e1 : ∀ i, a1 m c i = ((K i : ℝ) : EReal))
  (e2 : ∀ i, a2 m c i = ((V' i : ℝ) : EReal)) (e3 : ∀ i, a3 m c i = ((W i : ℝ) : EReal))
  (eM : ∀ i : S4x4x4096.Idx, ReferenceIdeal.Read.val_main_v14 (F := Ideal) (a0 m c) (a1 m c) i = ((M (i 0) (i 1) (i 2) : ℝ) : EReal))

/-- The array that holds the gradient of q. -/
def gQ (Q : SQ.Idx → ℝ) (K V' : SK.Idx → ℝ) (W : SQ.Idx → ℝ) (M : Fin 4 → Fin 4 → Fin 4096 → ℝ) (i : S4096x2048.Idx) : EReal :=
  ((dQ Q K V' W M ⟨(i 1).val / 512, by have : (i 1).val < 2048 := (i 1).isLt; omega⟩ ⟨(i 1).val / 128 % 4, by omega⟩ (i 0) ⟨(i 1).val % 128, by omega⟩ : ℝ) : EReal)
/-- The array that holds the gradient of k. -/
def gK (Q : SQ.Idx → ℝ) (K V' : SK.Idx → ℝ) (W : SQ.Idx → ℝ) (M : Fin 4 → Fin 4 → Fin 4096 → ℝ) (i : S4096x512.Idx) : EReal :=
  ((dK Q K V' W M ⟨(i 1).val / 128, by have : (i 1).val < 512 := (i 1).isLt; omega⟩ (i 0) ⟨(i 1).val % 128, by omega⟩ : ℝ) : EReal)
/-- The array that holds the gradient of v. -/
def gV (Q : SQ.Idx → ℝ) (K : SK.Idx → ℝ) (W : SQ.Idx → ℝ) (M : Fin 4 → Fin 4 → Fin 4096 → ℝ) (i : S4096x512.Idx) : EReal :=
  ((dV Q K W M ⟨(i 1).val / 128, by have : (i 1).val < 512 := (i 1).isLt; omega⟩ (i 0) ⟨(i 1).val % 128, by omega⟩ : ℝ) : EReal)

/-- The block index of dq. -/
theorem idx6 : ∀ t : Fin cfg0.N, win0_6.index t = ![t.val % 4, t.val / 16 * 4 + t.val / 4 % 4] := by decide +kernel
/-- The block index of dk. -/
theorem idx7 : ∀ t : Fin cfg0.N, win0_7.index t = ![0, t.val / 16] := by decide +kernel
/-- The block index of dv. -/
theorem idx8 : ∀ t : Fin cfg0.N, win0_8.index t = ![0, t.val / 16] := by decide +kernel

/-- The entry of dq at token `t`, head `(h, g)`, width `d`. -/
theorem gQ_at (i : S4096x2048.Idx) (t : Fin 4096) (h g : Fin 4) (d : Fin 128) (h0 : (i 0).val = t.val)
    (h1 : (i 1).val = h.val * 512 + g.val * 128 + d.val) : gQ Q K V' W M i = ((dQ Q K V' W M h g t d : ℝ) : EReal) := by
  unfold gQ
  rw [show i 0 = t from Fin.ext h0]
  congr 2
  · exact Fin.ext (by dsimp only; omega)
  · exact Fin.ext (by dsimp only; omega)
  · exact Fin.ext (by dsimp only; omega)

/-- The entry of dk at token `s`, kv head `h`, width `d`. -/
theorem gK_at (i : S4096x512.Idx) (s : Fin 4096) (h : Fin 4) (d : Fin 128) (h0 : (i 0).val = s.val)
    (h1 : (i 1).val = h.val * 128 + d.val) : gK Q K V' W M i = ((dK Q K V' W M h s d : ℝ) : EReal) := by
  unfold gK
  rw [show i 0 = s from Fin.ext h0]
  congr 2
  · exact Fin.ext (by dsimp only; omega)
  · exact Fin.ext (by dsimp only; omega)

/-- The entry of dv at token `s`, kv head `h`, width `d`. -/
theorem gV_at (i : S4096x512.Idx) (s : Fin 4096) (h : Fin 4) (d : Fin 128) (h0 : (i 0).val = s.val)
    (h1 : (i 1).val = h.val * 128 + d.val) : gV Q K W M i = ((dV Q K W M h s d : ℝ) : EReal) := by
  unfold gV
  rw [show i 0 = s from Fin.ext h0]
  congr 2
  · exact Fin.ext (by dsimp only; omega)
  · exact Fin.ext (by dsimp only; omega)

/-- A point that writes dk or dv back is the last of its kv head. -/
theorem last_pt (t : Fin cfg0.N) (h : t.val % 16 = 15) : t = pt (hh t) 15 :=
  Fin.ext (by unfold hh pt; dsimp only; have : ((15 : Fin 16) : ℕ) = 15 := rfl; omega)

include e0 e1 e2 e3 eM

/-- After the run the first result is the gradient of q. -/
theorem arr6 : (dats m 0 c).arrAt 6 cfg0.N = gQ Q K V' W M := by
  refine (dats m 0 c).arrAt_eq_of_covers 6 _ (by decide +kernel) fun t hf y => ?_
  blk_simp
  rw [after0_6]
  refine (dq_block m c e0 e1 e2 e3 eM t _).trans (gQ_at _ _ _ _ _ ?_ ?_).symm
  · unfold tok
    blk_simp [idx6 t]
    dsimp only
    omega
  · unfold hh gg
    blk_simp [idx6 t]
    dsimp only
    omega

/-- The dk block after the last point of a kv head, at any index. -/
theorem dk_last (t : Fin cfg0.N) (h : t.val % 16 = 15) (z : S4096x128.Idx) :
    (outsAt0 m c t.val t.isLt).2.1 z = ((dK Q K V' W M (hh t) (z 0) (z 1) : ℝ) : EReal) := by
  have e := last_pt t h
  rw [outs_congr m c (congrArg Fin.val e) _ (pt (hh t) 15).isLt, eq_ix2 z]
  exact dk_block m c e0 e1 e2 e3 eM (hh t) (z 0) (z 1)

/-- The dv block after the last point of a kv head, at any index. -/
theorem dv_last (t : Fin cfg0.N) (h : t.val % 16 = 15) (z : S4096x128.Idx) :
    (outsAt0 m c t.val t.isLt).2.2 z = ((dV Q K W M (hh t) (z 0) (z 1) : ℝ) : EReal) := by
  have e := last_pt t h
  rw [outs_congr m c (congrArg Fin.val e) _ (pt (hh t) 15).isLt, eq_ix2 z]
  exact dv_block m c e0 e1 e2 e3 eM (hh t) (z 0) (z 1)

/-- After the run the second result is the gradient of k. -/
theorem arr7 : (dats m 0 c).arrAt 7 cfg0.N = gK Q K V' W M := by
  refine (dats m 0 c).arrAt_eq_of_covers 7 _ (by decide +kernel) fun t hf y => ?_
  have h15 := (flush0_7 t).mp hf
  blk_simp
  rw [after0_7]
  refine (dk_last m c e0 e1 e2 e3 eM t h15 _).trans (gK_at _ _ _ _ ?_ ?_).symm
  · blk_simp [idx7 t]
    try omega
  · unfold hh
    blk_simp [idx7 t]
    try omega

/-- After the run the third result is the gradient of v. -/
theorem arr8 : (dats m 0 c).arrAt 8 cfg0.N = gV Q K W M := by
  refine (dats m 0 c).arrAt_eq_of_covers 8 _ (by decide +kernel) fun t hf y => ?_
  have h15 := (flush0_8 t).mp hf
  blk_simp
  rw [after0_8]
  refine (dv_last m c e0 e1 e2 e3 eM t h15 _).trans (gV_at _ _ _ _ ?_ ?_).symm
  · blk_simp [idx8 t]
    try omega
  · unfold hh
    blk_simp [idx8 t]
    try omega

end

end Cert.BlockValue

end
-- ==== Proof.Equal.lean ====
/- The kernel's result arrays are the reference's results, for finite arguments. -/
module

public import proofs.«01_k».proof.Proof.Arrays
public import proofs.«01_k».proof.Proof.Finite

@[expose] public section

noncomputable section

namespace Cert.Equal

open Idealize.ShloMosaic Idealize.SL.Sem Cert.Model

instance : Cert.Pre_all_finite.Facts := Cert.Finite.facts

/-- Under the precondition, the reference's three results are the arrays that hold the gradients of q, k and v, and so are
    the kernel's. -/
theorem values (m : (ℓ : Loc Cert.KernelIdeal.nD Cert.KernelIdeal.τ Cert.KernelIdeal.sig) → Buf (Elt Ideal) ℓ)
    (hpre : Cert.Pre_KernelIdeal_all_finite m) (c : Dev Cert.KernelIdeal.nD) :
    (Cert.KernelIdeal.Gen.dats m 0 c).arrAt 6 Cert.KernelIdeal.cfg0.N
        = Cert.ReferenceIdeal.Read.val_main_v64 (F := Ideal) (HostValue.a0 m c) (HostValue.a1 m c) (HostValue.a2 m c) (HostValue.a3 m c)
      ∧ (Cert.KernelIdeal.Gen.dats m 0 c).arrAt 7 Cert.KernelIdeal.cfg0.N
        = Cert.ReferenceIdeal.Read.val_main_v63 (F := Ideal) (HostValue.a0 m c) (HostValue.a1 m c) (HostValue.a2 m c) (HostValue.a3 m c)
      ∧ (Cert.KernelIdeal.Gen.dats m 0 c).arrAt 8 Cert.KernelIdeal.cfg0.N
        = Cert.ReferenceIdeal.Read.val_main_v62 (F := Ideal) (HostValue.a0 m c) (HostValue.a1 m c) (HostValue.a3 m c) := by
  obtain ⟨e0, e1, e2, e3⟩ := Cert.Finite.all_real (hpre c)
  choose f hf using RefValue.v14_real (x0 := HostValue.a0 m c) (x1 := HostValue.a1 m c) e0 e1
  obtain ⟨M, hM⟩ : ∃ M : Fin 4 → Fin 4 → Fin 4096 → ℝ, ∀ i : Cert.ReferenceIdeal.S4x4x4096.Idx,
      Cert.ReferenceIdeal.Read.val_main_v14 (F := Ideal) (HostValue.a0 m c) (HostValue.a1 m c) i = ((M (i 0) (i 1) (i 2) : ℝ) : EReal) :=
    ⟨fun a b t => f (ix3 a b t), fun i => (hf i).trans (congrArg (fun x => ((f x : ℝ) : EReal)) (eq_ix3 i))⟩
  refine ⟨(BlockValue.arr6 m c e0 e1 e2 e3 hM).trans (funext fun i => ?_), (BlockValue.arr7 m c e0 e1 e2 e3 hM).trans (funext fun i => ?_),
    (BlockValue.arr8 m c e0 e1 e2 e3 hM).trans (funext fun i => ?_)⟩
  · have hb : (i 1).val < 2048 := (i 1).isLt
    refine (RefValue.v64_eq e0 e1 e2 e3 hM i _ _ _ _ ?_).symm
    refine (eq_ix2 i).trans (congrArg (ix2 (i 0)) (Fin.ext ?_))
    show (i 1).val = (i 1).val / 512 * 512 + (i 1).val / 128 % 4 * 128 + (i 1).val % 128
    omega
  · refine (RefValue.v63_eq e0 e1 e2 e3 hM i _ _ _ ?_).symm
    refine (eq_ix2 i).trans (congrArg (ix2 (i 0)) (Fin.ext ?_))
    show (i 1).val = (i 1).val / 128 * 128 + (i 1).val % 128
    omega
  · refine (RefValue.v62_eq e0 e1 e3 hM i _ _ _ ?_).symm
    refine (eq_ix2 i).trans (congrArg (ix2 (i 0)) (Fin.ext ?_))
    show (i 1).val = (i 1).val / 128 * 128 + (i 1).val % 128
    omega

end Cert.Equal

end
-- ==== Proof.ActModel.lean ====
/- The gradient of the gated convolution, row by row: a row outside the sequence is zero, and row `n` stands for position `n - 8`. -/
module

public import Idealize.ShloMosaic.PureOps.Ideal
public import Idealize.ShloMosaic.Lib.Pointwise
public import Idealize.ShloMosaic.Lib.Pipeline.ValueKit

@[expose] public section

noncomputable section

namespace Cert.ActModel

open Idealize.ShloMosaic

/-- An array of 4096 positions with `C` columns. -/
abbrev Arr (C : ℕ) := (⟨2, ![4096, C]⟩ : Shape).Idx → EReal

/-- Row `n` of an array: position `n - 8`, zero outside the sequence. -/
def row {C : ℕ} (A : Arr C) (n : ℕ) (d : Fin C) : EReal :=
  if h : 8 ≤ n ∧ n < 4104 then A (ix2 ⟨n - 8, by omega⟩ d) else 0

/-- A row of the sequence. -/
theorem row_in {C : ℕ} (A : Arr C) {n : ℕ} (r : Fin 4096) (h : n = r.val + 8) (d : Fin C) : row A n d = A (ix2 r d) := by
  subst h
  have hr := r.isLt
  rw [row, dif_pos ⟨by omega, by omega⟩]
  exact congrArg (fun k => A (ix2 k d)) (Fin.ext (by show r.val + 8 - 8 = r.val; omega))

/-- A row outside the sequence. -/
theorem row_out {C : ℕ} (A : Arr C) {n : ℕ} (h : n < 8 ∨ 4104 ≤ n) (d : Fin C) : row A n d = 0 := by
  rw [row, dif_neg (by omega)]

/-- The convolution of a row's neighbours with three weights, and its bias. -/
def conv (x : ℕ → EReal) (w0 w1 w2 b : EReal) (n : ℕ) : EReal := w0 * x (n - 1) + w1 * x n + w2 * x (n + 1) + b

/-- The logistic function. -/
def sig (x : EReal) : EReal := FloatOps.divf (F := Ideal) (φ := .f32) 1 (1 + FloatOps.exp (F := Ideal) (φ := .f32) (0 - x))

/-- The gradient of the gate, before the convolution. -/
def dgate (da g v : EReal) : EReal := da * v * (sig g * (1 + g * (1 - sig g)))

/-- The gradient of the value, before the convolution. -/
def dval (da g : EReal) : EReal := da * (g * sig g)

/-- The convolution's gradient with respect to its operand. -/
def back (D : ℕ → EReal) (w0 w1 w2 : EReal) (n : ℕ) : EReal := w0 * D (n + 1) + w1 * D n + w2 * D (n - 1)

/-- The convolution's weights, and its biases. -/
abbrev Wts := (⟨2, ![3, 11264]⟩ : Shape).Idx → EReal
@[inherit_doc Wts] abbrev Biases := (⟨1, ![11264]⟩ : Shape).Idx → EReal

/-- A column of the gate, and the same column of the value. -/
def gcol (j : Fin 5632) : Fin 11264 := ⟨j.val, by omega⟩
@[inherit_doc gcol] def vcol (j : Fin 5632) : Fin 11264 := ⟨5632 + j.val, by omega⟩

/-- The convolution of a column. -/
def pre (U : Arr 11264) (W : Wts) (B : Biases) (d : Fin 11264) (n : ℕ) : EReal :=
  conv (fun n => row U n d) (W (ix2 0 d)) (W (ix2 1 d)) (W (ix2 2 d)) (B (ix1 d)) n

/-- The gradient of a column of the gate before the convolution, and of the value. -/
def gline (U : Arr 11264) (W : Wts) (B : Biases) (A : Arr 5632) (j : Fin 5632) (n : ℕ) : EReal :=
  dgate (row A n j) (pre U W B (gcol j) n) (pre U W B (vcol j) n)
@[inherit_doc gline] def vline (U : Arr 11264) (W : Wts) (B : Biases) (A : Arr 5632) (j : Fin 5632) (n : ℕ) : EReal :=
  dval (row A n j) (pre U W B (gcol j) n)

end Cert.ActModel

end
-- ==== Proof.ActPay.lean ====
/- The kernel's vectors of 1040 rows at an index: the block of rows between its neighbours' eight, the convolutions, the gradients of gate and value,
   the block of the operand's gradient, and the sums over the block's own 1024 rows. -/
module

public import proofs.«01_k».proof.Proof.Gen.ActDxIdeal.Value
public import proofs.«01_k».proof.Proof.ActModel
public import Idealize.ShloMosaic.Lib.Pipeline.ValueKit

@[expose] public section

set_option maxRecDepth 16384

noncomputable section

namespace Cert.ActPay

open Cert.ActDxIdeal Cert.ActDxIdeal.Gen Idealize.ShloMosaic Idealize.ShloMosaic.TcCoe Cert.ActModel

/-- A vector of 1040 rows. -/
abbrev Ext := S1040x256.Idx → EReal
/-- One row of weights, and one row of a bias. -/
abbrev Wt := S1x1x1x256.Idx → EReal
@[inherit_doc Wt] abbrev Bias := S1x1x256.Idx → EReal

/-- A vector's rows are the rows of `x` from `b` on. -/
def Rows (X : Ext) (s : Fin 256) (b : ℕ) (x : ℕ → EReal) : Prop := ∀ e : Fin 1040, X (ix2 e s) = x (b + e.val)
/-- A vector's rows but the first and the last are the rows of `x` from `b` on. -/
def Inner (X : Ext) (s : Fin 256) (b : ℕ) (x : ℕ → EReal) : Prop :=
  ∀ e : Fin 1040, 1 ≤ e.val → e.val ≤ 1038 → X (ix2 e s) = x (b + e.val)

variable {X Y D G Z : Ext} {s : Fin 256} {b : ℕ} {x y da g z : ℕ → EReal}

/-- The test for a block that is not the first. -/
theorem first_block : ∀ i : Fin 4, Scalar.cmpi CmpIPredicate.sgt (BitVec.ofNat 32 i.val) 0#32 = if i.val = 0 then 0#1 else 1#1 := by decide
/-- The test for a block that is not the last. -/
theorem last_block : ∀ i : Fin 4, Scalar.cmpi CmpIPredicate.slt (BitVec.ofNat 32 i.val) 3#32 = if i.val = 3 then 0#1 else 1#1 := by decide

/-- What the vector holds outside the sequence is zero: the first block's rows before it, and the last block's rows after it. -/
theorem rows_of (i : Fin 4) {q : ℕ} (hq : i.val = q) (P : S8x256.Idx → EReal) (M : S1024x256.Idx → EReal) (N : S8x256.Idx → EReal)
    (hX : ∀ e : Fin 1040, X (ix2 e s) = if h : e.val < 8 then Scalar.select (Scalar.cmpi CmpIPredicate.sgt (BitVec.ofNat 32 i.val) 0#32) (P (ix2 ⟨e.val, h⟩ s)) 0
      else if h' : e.val - 8 < 1024 then M (ix2 ⟨e.val - 8, h'⟩ s)
      else Scalar.select (Scalar.cmpi CmpIPredicate.slt (BitVec.ofNat 32 i.val) 3#32) (N (ix2 ⟨e.val - 8 - 1024, by omega⟩ s)) 0)
    (h0 : q = 0 → ∀ n, n < 8 → x n = 0) (h3 : q = 3 → ∀ n, 4104 ≤ n → x n = 0)
    (hP : q ≠ 0 → ∀ r : Fin 8, P (ix2 r s) = x (1024 * q + r.val))
    (hM : ∀ r : Fin 1024, M (ix2 r s) = x (1024 * q + 8 + r.val))
    (hN : q ≠ 3 → ∀ r : Fin 8, N (ix2 r s) = x (1024 * q + 1032 + r.val)) : Rows X s (1024 * q) x := by
  subst hq
  intro e
  rw [hX]
  rw [first_block i, last_block i]
  split
  · rename_i h
    by_cases hi : i.val = 0
    · rw [if_pos hi, h0 hi _ (by omega)]; rfl
    · rw [if_neg hi]; exact hP hi ⟨e.val, h⟩
  · split
    · rw [hM]
      exact congrArg x (by dsimp only; omega)
    · by_cases hi : i.val = 3
      · rw [if_pos hi, h3 hi _ (by omega)]; rfl
      · rw [if_neg hi]
        exact (hN hi _).trans (congrArg x (by dsimp only; omega))

/-- The gate's block between its neighbours' rows, at an index. -/
theorem ext7 (i : grid0.Coords) (P : S8x256.Idx → EReal) (M : S1024x256.Idx → EReal) (N : S8x256.Idx → EReal) (e : Fin 1040) (s : Fin 256) :
    k0_pay7 (F := Ideal) i P M N (ix2 e s) = if h : e.val < 8 then Scalar.select (Scalar.cmpi CmpIPredicate.sgt (BitVec.ofNat 32 (i 1).val) 0#32) (P (ix2 ⟨e.val, h⟩ s)) 0
      else if h' : e.val - 8 < 1024 then M (ix2 ⟨e.val - 8, h'⟩ s)
      else Scalar.select (Scalar.cmpi CmpIPredicate.slt (BitVec.ofNat 32 (i 1).val) 3#32) (N (ix2 ⟨e.val - 8 - 1024, by omega⟩ s)) 0 := by
  unfold_payloads
  pointwise

/-- The value's block between its neighbours' rows, at an index. -/
theorem ext8 (i : grid0.Coords) (P : S8x256.Idx → EReal) (M : S1024x256.Idx → EReal) (N : S8x256.Idx → EReal) (e : Fin 1040) (s : Fin 256) :
    k0_pay8 (F := Ideal) i P M N (ix2 e s) = if h : e.val < 8 then Scalar.select (Scalar.cmpi CmpIPredicate.sgt (BitVec.ofNat 32 (i 1).val) 0#32) (P (ix2 ⟨e.val, h⟩ s)) 0
      else if h' : e.val - 8 < 1024 then M (ix2 ⟨e.val - 8, h'⟩ s)
      else Scalar.select (Scalar.cmpi CmpIPredicate.slt (BitVec.ofNat 32 (i 1).val) 3#32) (N (ix2 ⟨e.val - 8 - 1024, by omega⟩ s)) 0 := by
  unfold_payloads
  pointwise

/-- The incoming gradient's block between its neighbours' rows, at an index. -/
theorem ext10 (i : grid0.Coords) (P : S8x256.Idx → EReal) (M : S1024x256.Idx → EReal) (N : S8x256.Idx → EReal) (e : Fin 1040) (s : Fin 256) :
    k0_pay10 (F := Ideal) (BitVec.ofNat 32 (i 1).val) (k0_pay9 (F := Ideal) i P) M 3#32 N (ix2 e s)
      = if h : e.val < 8 then Scalar.select (Scalar.cmpi CmpIPredicate.sgt (BitVec.ofNat 32 (i 1).val) 0#32) (P (ix2 ⟨e.val, h⟩ s)) 0
      else if h' : e.val - 8 < 1024 then M (ix2 ⟨e.val - 8, h'⟩ s)
      else Scalar.select (Scalar.cmpi CmpIPredicate.slt (BitVec.ofNat 32 (i 1).val) 3#32) (N (ix2 ⟨e.val - 8 - 1024, by omega⟩ s)) 0 := by
  unfold_payloads
  pointwise

/-- The gate's convolution. -/
theorem conv15 (hX : Rows X s b x) (w0 w1 w2 : Wt) (d : Bias) :
    Inner (k0_pay15 (F := Ideal) X w0 w1 w2 d) s b (conv x (w0 (ix4 0 0 0 s)) (w1 (ix4 0 0 0 s)) (w2 (ix4 0 0 0 s)) (d (ix3 0 0 s))) := by
  intro e h1 h2
  unfold_payloads
  pointwise
  rw [hX, hX, hX]
  dsimp only
  rw [show b + (e.val + 1040 - 1) % 1040 = b + e.val - 1 by omega, show b + (e.val + 1040 - 1039) % 1040 = b + e.val + 1 by omega]
  rfl

/-- The gradient of the gate. -/
theorem dgate18 (hY : Rows Y s b y) (hD : Rows D s b da) (hG : Inner G s b g) (w0 w1 w2 : Wt) (d : Bias) :
    Inner (k0_pay18 (F := Ideal) Y D (k0_pay14 (F := Ideal) Y) G (k0_pay16 (F := Ideal) Y w0) w1 w2 d) s b
      (fun n => dgate (da n) (g n) (conv y (w0 (ix4 0 0 0 s)) (w1 (ix4 0 0 0 s)) (w2 (ix4 0 0 0 s)) (d (ix3 0 0 s)) n)) := by
  intro e h1 h2
  unfold_payloads
  pointwise
  rw [hY, hY, hY, hD, hG e h1 h2]
  dsimp only
  rw [show b + (e.val + 1040 - 1) % 1040 = b + e.val - 1 by omega, show b + (e.val + 1040 - 1039) % 1040 = b + e.val + 1 by omega]
  rfl

/-- The gradient of the value. -/
theorem dval19 (hD : Rows D s b da) (hG : Inner G s b g) : Inner (k0_pay19 (F := Ideal) D G) s b (fun n => dval (da n) (g n)) := by
  intro e h1 h2
  unfold_payloads
  pointwise
  rw [hD, hG e h1 h2]
  rfl

/-- The gate half of the operand's gradient. -/
theorem back22 (hZ : Inner Z s b z) (w0 w1 w2 : Wt) (r : Fin 1024) :
    k0_pay22 (F := Ideal) Z (dynamicRotate 0 1#32 none Z rotates_S1040x256_d0)
      (mulf (F := Ideal) (φ := .f32) (broadcastTo S1040x256 (shapeCast S1x256 w0 shapeCasts_S1x1x1x256_S1x256) broadcasts_S1x256_S1040x256)
        (dynamicRotate 0 1039#32 none Z rotates_S1040x256_d0)) w1 w2 (ix2 r s)
      = back z (w0 (ix4 0 0 0 s)) (w1 (ix4 0 0 0 s)) (w2 (ix4 0 0 0 s)) (b + 8 + r.val) := by
  have hr := r.isLt
  unfold_payloads
  pointwise
  rw [hZ _ (by dsimp only; omega) (by dsimp only; omega), hZ _ (by dsimp only; omega) (by dsimp only; omega), hZ _ (by dsimp only; omega) (by dsimp only; omega)]
  dsimp only
  rw [show b + (8 + r.val + 1040 - 1039) % 1040 = b + 8 + r.val + 1 by omega, show b + (8 + r.val) = b + 8 + r.val by omega,
    show b + (8 + r.val + 1040 - 1) % 1040 = b + 8 + r.val - 1 by omega]
  rfl

/-- The value half of the operand's gradient. -/
theorem back28 (hZ : Inner Z s b z) (w0 w1 w2 : Wt) (r : Fin 1024) :
    k0_pay28 (F := Ideal) Z w0 w1 w2 (ix2 r s) = back z (w0 (ix4 0 0 0 s)) (w1 (ix4 0 0 0 s)) (w2 (ix4 0 0 0 s)) (b + 8 + r.val) := by
  have hr := r.isLt
  unfold_payloads
  pointwise
  rw [hZ _ (by dsimp only; omega) (by dsimp only; omega), hZ _ (by dsimp only; omega) (by dsimp only; omega), hZ _ (by dsimp only; omega) (by dsimp only; omega)]
  dsimp only
  rw [show b + (8 + r.val + 1040 - 1039) % 1040 = b + 8 + r.val + 1 by omega, show b + (8 + r.val) = b + 8 + r.val by omega,
    show b + (8 + r.val + 1040 - 1) % 1040 = b + 8 + r.val - 1 by omega]
  rfl

/-- The gate's sum for the weight of the row before. -/
theorem sum24 (hX : Rows X s b x) (hZ : Inner Z s b z) (a : S1x256.Idx → EReal) :
    k0_pay24 (F := Ideal) (k0_pay11 (F := Ideal) X) Z a (ix2 0 s) = a (ix2 0 s) + ∑ r : Fin 1024, z (b + 8 + r.val) * x (b + 8 + r.val - 1) := by
  unfold_payloads
  pointwise
  refine congrArg (a (ix2 0 s) + ·) (Finset.sum_congr rfl fun r _ => ?_)
  have hr := r.isLt
  rw [hZ _ (by dsimp only; omega) (by dsimp only; omega), hX]
  dsimp only
  exact congrArg₂ (z · * x ·) (by omega) (by omega)

/-- The gate's sum for the weight of the row itself. -/
theorem sum25 (hX : Rows X s b x) (hZ : Inner Z s b z) (a : S1x256.Idx → EReal) :
    k0_pay25 (F := Ideal) X Z a (ix2 0 s) = a (ix2 0 s) + ∑ r : Fin 1024, z (b + 8 + r.val) * x (b + 8 + r.val) := by
  unfold_payloads
  pointwise
  refine congrArg (a (ix2 0 s) + ·) (Finset.sum_congr rfl fun r _ => ?_)
  have hr := r.isLt
  rw [hZ _ (by dsimp only; omega) (by dsimp only; omega), hX]
  dsimp only
  exact congrArg₂ (z · * x ·) (by omega) (by omega)

/-- The gate's sum for the weight of the row after. -/
theorem sum26 (hX : Rows X s b x) (hZ : Inner Z s b z) (a : S1x256.Idx → EReal) :
    k0_pay26 (F := Ideal) (k0_pay12 (F := Ideal) X) Z a (ix2 0 s) = a (ix2 0 s) + ∑ r : Fin 1024, z (b + 8 + r.val) * x (b + 8 + r.val + 1) := by
  unfold_payloads
  pointwise
  refine congrArg (a (ix2 0 s) + ·) (Finset.sum_congr rfl fun r _ => ?_)
  have hr := r.isLt
  rw [hZ _ (by dsimp only; omega) (by dsimp only; omega), hX]
  dsimp only
  exact congrArg₂ (z · * x ·) (by omega) (by omega)

/-- The gate's sum for the bias. -/
theorem sum27 (hZ : Inner Z s b z) (a : S1x256.Idx → EReal) :
    k0_pay27 (F := Ideal) (k0_pay23 (F := Ideal) Z) a (ix2 0 s) = a (ix2 0 s) + ∑ r : Fin 1024, z (b + 8 + r.val) := by
  unfold_payloads
  pointwise
  refine congrArg (a (ix2 0 s) + ·) (Finset.sum_congr rfl fun r _ => ?_)
  have hr := r.isLt
  rw [hZ _ (by dsimp only; omega) (by dsimp only; omega)]
  exact congrArg z (by dsimp only; omega)

/-- The value's sum for the weight of the row before. -/
theorem sum1 (hX : Rows X s b x) (hZ : Inner Z s b z) (a : S1x256.Idx → EReal) :
    k0_pay1 (F := Ideal) (k0_pay30 (F := Ideal) a) (k0_pay31 (F := Ideal) (k0_pay13 (F := Ideal) X) Z) (ix2 0 s) = a (ix2 0 s) + ∑ r : Fin 1024, z (b + 8 + r.val) * x (b + 8 + r.val - 1) := by
  unfold_payloads
  pointwise
  refine congrArg (a (ix2 0 s) + ·) (Finset.sum_congr rfl fun r _ => ?_)
  have hr := r.isLt
  rw [hZ _ (by dsimp only; omega) (by dsimp only; omega), hX]
  dsimp only
  exact congrArg₂ (z · * x ·) (by omega) (by omega)

/-- The value's sum for the weight of the row itself. -/
theorem sum2 (hX : Rows X s b x) (hZ : Inner Z s b z) (a : S1x256.Idx → EReal) :
    k0_pay2 (F := Ideal) X (k0_pay29 (F := Ideal) Z) a (ix2 0 s) = a (ix2 0 s) + ∑ r : Fin 1024, z (b + 8 + r.val) * x (b + 8 + r.val) := by
  unfold_payloads
  pointwise
  refine congrArg (a (ix2 0 s) + ·) (Finset.sum_congr rfl fun r _ => ?_)
  have hr := r.isLt
  rw [hZ _ (by dsimp only; omega) (by dsimp only; omega), hX]
  dsimp only
  exact congrArg₂ (z · * x ·) (by omega) (by omega)

/-- The value's sum for the weight of the row after. -/
theorem sum3 (hX : Rows X s b x) (hZ : Inner Z s b z) (a : S1x256.Idx → EReal) :
    k0_pay3 (F := Ideal) (k0_pay14 (F := Ideal) X) (k0_pay29 (F := Ideal) Z) a (ix2 0 s) = a (ix2 0 s) + ∑ r : Fin 1024, z (b + 8 + r.val) * x (b + 8 + r.val + 1) := by
  unfold_payloads
  pointwise
  refine congrArg (a (ix2 0 s) + ·) (Finset.sum_congr rfl fun r _ => ?_)
  have hr := r.isLt
  rw [hZ _ (by dsimp only; omega) (by dsimp only; omega), hX]
  dsimp only
  exact congrArg₂ (z · * x ·) (by omega) (by omega)

/-- The value's sum for the bias. -/
theorem sum4 (hZ : Inner Z s b z) (a : S1x256.Idx → EReal) :
    k0_pay4 (F := Ideal) (k0_pay29 (F := Ideal) Z) a (ix2 0 s) = a (ix2 0 s) + ∑ r : Fin 1024, z (b + 8 + r.val) := by
  unfold_payloads
  pointwise
  refine congrArg (a (ix2 0 s) + ·) (Finset.sum_congr rfl fun r _ => ?_)
  have hr := r.isLt
  rw [hZ _ (by dsimp only; omega) (by dsimp only; omega)]
  exact congrArg z (by dsimp only; omega)

end Cert.ActPay

end
-- ==== Proof.ActBlocks.lean ====
/- The blocks the gated convolution's gradient reads, at an index, and the rows they make. -/
module

public import proofs.«01_k».proof.Proof.ActPay
public import proofs.«01_k».proof.Proof.Gen.ActDxIdeal
public import Idealize.ShloMosaic.Lib.StableHlo.RunRead

@[expose] public section

set_option maxRecDepth 16384

noncomputable section

namespace Cert.ActValue

open Cert.ActDxIdeal Cert.ActDxIdeal.Gen Idealize.ShloMosaic Idealize.ShloMosaic.TcCoe Idealize.SL.Sem Idealize.ShloMosaic.StableHlo
open Cert.ActModel Cert.ActPay

variable (m : (ℓ : Loc nD τ sig) → Buf (Elt Ideal) ℓ) (c : Dev nD)

/-- The operand, the convolution's weights and biases, and the incoming gradient. -/
abbrev u : S4096x11264.Idx → EReal := m ((c : Thread nD τ).loc main_arg0)
@[inherit_doc u] abbrev w : S3x11264.Idx → EReal := m ((c : Thread nD τ).loc main_arg1)
@[inherit_doc u] abbrev bias : S11264.Idx → EReal := m ((c : Thread nD τ).loc main_arg2)
@[inherit_doc u] abbrev ct : S4096x5632.Idx → EReal := m ((c : Thread nD τ).loc main_arg3)

/-- The block indices of the gate's operand: its own rows, the rows before, the rows after. -/
theorem idx0 : ∀ t : Fin cfg0.N, win0_0.index t = ![t.val % 4, t.val / 4] := by decide +kernel
@[inherit_doc idx0] theorem idx1 : ∀ t : Fin cfg0.N, win0_1.index t = ![128 * (t.val % 4) - 1, t.val / 4] := by decide +kernel
@[inherit_doc idx0] theorem idx2 : ∀ t : Fin cfg0.N, win0_2.index t = ![min (128 * (t.val % 4 + 1)) 511, t.val / 4] := by decide +kernel
/-- The block indices of the value's operand. -/
theorem idx3 : ∀ t : Fin cfg0.N, win0_3.index t = ![t.val % 4, t.val / 4 + 22] := by decide +kernel
@[inherit_doc idx3] theorem idx4 : ∀ t : Fin cfg0.N, win0_4.index t = ![128 * (t.val % 4) - 1, t.val / 4 + 22] := by decide +kernel
@[inherit_doc idx3] theorem idx5 : ∀ t : Fin cfg0.N, win0_5.index t = ![min (128 * (t.val % 4 + 1)) 511, t.val / 4 + 22] := by decide +kernel
/-- The block indices of the incoming gradient. -/
theorem idx6 : ∀ t : Fin cfg0.N, win0_6.index t = ![t.val % 4, t.val / 4] := by decide +kernel
@[inherit_doc idx6] theorem idx7 : ∀ t : Fin cfg0.N, win0_7.index t = ![128 * (t.val % 4) - 1, t.val / 4] := by decide +kernel
@[inherit_doc idx6] theorem idx8 : ∀ t : Fin cfg0.N, win0_8.index t = ![min (128 * (t.val % 4 + 1)) 511, t.val / 4] := by decide +kernel
/-- The block indices of the weights of gate and value. -/
theorem idx9 : ∀ t : Fin cfg0.N, win0_9.index t = ![0, t.val / 4 / 11, 0, t.val / 4 % 11] := by decide +kernel
@[inherit_doc idx9] theorem idx10 : ∀ t : Fin cfg0.N, win0_10.index t = ![0, (t.val / 4 + 22) / 11, 0, t.val / 4 % 11] := by decide +kernel
/-- The block indices of the biases of gate and value. -/
theorem idx11 : ∀ t : Fin cfg0.N, win0_11.index t = ![0, 0, t.val / 4] := by decide +kernel
@[inherit_doc idx11] theorem idx12 : ∀ t : Fin cfg0.N, win0_12.index t = ![0, 0, t.val / 4 + 22] := by decide +kernel
/-- The block indices of the operand's gradient, gate and value. -/
theorem idx13 : ∀ t : Fin cfg0.N, win0_13.index t = ![t.val % 4, t.val / 4] := by decide +kernel
@[inherit_doc idx13] theorem idx14 : ∀ t : Fin cfg0.N, win0_14.index t = ![t.val % 4, t.val / 4] := by decide +kernel
/-- The block indices of the sums, gate and value. -/
theorem idx15 : ∀ t : Fin cfg0.N, win0_15.index t = ![0, t.val / 4] := by decide +kernel
@[inherit_doc idx15] theorem idx16 : ∀ t : Fin cfg0.N, win0_16.index t = ![0, t.val / 4] := by decide +kernel
/-- The row block of a grid point. -/
theorem coord : ∀ t : Fin cfg0.N, (grid0.coords t 1).val = t.val % 4 := by decide +kernel

theorem lt (t : Fin cfg0.N) : t.val < 88 := t.isLt

/-- The host's copy of the weights, by group of columns. -/
theorem V2 : V m c main_v2 = broadcastInDim S1x4x3x2816 ![1, 2, 3] bcast_S4x3x2816_S1x4x3x2816_1_2_3
    (transpose S4x3x2816 [1, 0, 2] (shapeCast S3x4x2816 (w m c) shapeCasts_S3x11264_S3x4x2816) transposes_S3x4x2816_S4x3x2816_1_0_2) := by
  unfold V
  after_reads_simp
  rfl

/-- The host's copy of the biases. -/
theorem V3 : V m c main_v3 = shapeCast S1x1x11264 (bias m c) shapeCasts_S11264_S1x1x11264 := by
  unfold V
  after_reads_simp
  rfl

/-- The host's copy of the weights at an index. -/
theorem V2_at (a : Fin 4) (k : Fin 3) (b : Fin 2816) :
    (V m c main_v2 : S1x4x3x2816.Idx → EReal) (ix4 0 a k b) = w m c (ix2 k ⟨2816 * a.val + b.val, by omega⟩) := by
  rw [V2]
  pointwise
  exact congrArg (fun d => w m c (ix2 k d)) (Fin.ext (by dsimp only; omega))

/-- The host's copy of the biases at an index. -/
theorem V3_at (d : Fin 11264) : (V m c main_v3 : S1x1x11264.Idx → EReal) (ix3 0 0 d) = bias m c (ix1 d) := by
  rw [V3]
  pointwise

/-- The column of point `t`'s block at its column `s`. -/
def col (t : Fin cfg0.N) (s : Fin 256) : Fin 5632 := ⟨256 * (t.val / 4) + s.val, by have := lt t; omega⟩

/-- The rows of the gate's operand. -/
theorem rowsG (t : Fin cfg0.N) (s : Fin 256) : Rows (k0_pay7 (F := Ideal) (grid0.coords t) (iblk m c 1 t) (iblk m c 0 t) (iblk m c 2 t)) s (1024 * (t.val % 4)) (fun n => row (u m c) n (gcol (col t s))) := by
  have ht := lt t
  have h := rows_of (s := s) (x := fun n => row (u m c) n (gcol (col t s))) (grid0.coords t 1) (coord t) (iblk m c 1 t) (iblk m c 0 t) (iblk m c 2 t) (fun e => ext7 (grid0.coords t) _ _ _ e s)
  refine h (fun _ n hn => row_out _ (Or.inl hn) _) (fun _ n hn => row_out _ (Or.inr hn) _) (fun hi r => ?_) (fun r => ?_) (fun hi r => ?_)
  · rw [row_in _ ⟨1024 * (t.val % 4) + r.val - 8, by omega⟩ (by dsimp only; omega)]
    unfold gcol col
    blk_ext [iblk, idx1 t]
  · rw [row_in _ ⟨1024 * (t.val % 4) + r.val, by omega⟩ (by dsimp only; omega)]
    unfold gcol col
    blk_ext [iblk, idx0 t]
  · rw [row_in _ ⟨1024 * (t.val % 4) + 1024 + r.val, by omega⟩ (by dsimp only; omega)]
    unfold gcol col
    blk_ext [iblk, idx2 t]

/-- The rows of the value's operand. -/
theorem rowsV (t : Fin cfg0.N) (s : Fin 256) : Rows (k0_pay8 (F := Ideal) (grid0.coords t) (iblk m c 4 t) (iblk m c 3 t) (iblk m c 5 t)) s (1024 * (t.val % 4)) (fun n => row (u m c) n (vcol (col t s))) := by
  have ht := lt t
  have h := rows_of (s := s) (x := fun n => row (u m c) n (vcol (col t s))) (grid0.coords t 1) (coord t) (iblk m c 4 t) (iblk m c 3 t) (iblk m c 5 t) (fun e => ext8 (grid0.coords t) _ _ _ e s)
  refine h (fun _ n hn => row_out _ (Or.inl hn) _) (fun _ n hn => row_out _ (Or.inr hn) _) (fun hi r => ?_) (fun r => ?_) (fun hi r => ?_)
  · rw [row_in _ ⟨1024 * (t.val % 4) + r.val - 8, by omega⟩ (by dsimp only; omega)]
    unfold vcol col
    blk_ext [iblk, idx4 t]
  · rw [row_in _ ⟨1024 * (t.val % 4) + r.val, by omega⟩ (by dsimp only; omega)]
    unfold vcol col
    blk_ext [iblk, idx3 t]
  · rw [row_in _ ⟨1024 * (t.val % 4) + 1024 + r.val, by omega⟩ (by dsimp only; omega)]
    unfold vcol col
    blk_ext [iblk, idx5 t]

/-- The rows of the incoming gradient. -/
theorem rowsD (t : Fin cfg0.N) (s : Fin 256) : Rows (k0_pay10 (F := Ideal) (BitVec.ofNat 32 (grid0.coords t 1).val) (k0_pay9 (F := Ideal) (grid0.coords t) (iblk m c 7 t)) (iblk m c 6 t) 3#32 (iblk m c 8 t)) s (1024 * (t.val % 4)) (fun n => row (ct m c) n (col t s)) := by
  have ht := lt t
  have h := rows_of (s := s) (x := fun n => row (ct m c) n (col t s)) (grid0.coords t 1) (coord t) (iblk m c 7 t) (iblk m c 6 t) (iblk m c 8 t) (fun e => ext10 (grid0.coords t) _ _ _ e s)
  refine h (fun _ n hn => row_out _ (Or.inl hn) _) (fun _ n hn => row_out _ (Or.inr hn) _) (fun hi r => ?_) (fun r => ?_) (fun hi r => ?_)
  · rw [row_in _ ⟨1024 * (t.val % 4) + r.val - 8, by omega⟩ (by dsimp only; omega)]
    unfold col
    blk_ext [iblk, idx7 t]
  · rw [row_in _ ⟨1024 * (t.val % 4) + r.val, by omega⟩ (by dsimp only; omega)]
    unfold col
    blk_ext [iblk, idx6 t]
  · rw [row_in _ ⟨1024 * (t.val % 4) + 1024 + r.val, by omega⟩ (by dsimp only; omega)]
    unfold col
    blk_ext [iblk, idx8 t]

/-- The weights of a column of the gate. -/
theorem wG (t : Fin cfg0.N) (s : Fin 256) (k : Fin 3) : (iblk m c 9 t : S1x1x3x256.Idx → EReal) (ix4 0 0 k s) = w m c (ix2 k (gcol (col t s))) := by
  have ht := lt t
  have e : (iblk m c 9 t : S1x1x3x256.Idx → EReal) (ix4 0 0 k s)
      = (V m c main_v2 : S1x4x3x2816.Idx → EReal) (ix4 0 ⟨t.val / 4 / 11, by omega⟩ k ⟨256 * (t.val / 4 % 11) + s.val, by omega⟩) := by
    blk_ext [iblk, idx9 t]
  rw [e, V2_at]
  exact congrArg (fun d => w m c (ix2 k d)) (Fin.ext (by unfold gcol col; dsimp only; omega))

/-- The weights of a column of the value. -/
theorem wV (t : Fin cfg0.N) (s : Fin 256) (k : Fin 3) : (iblk m c 10 t : S1x1x3x256.Idx → EReal) (ix4 0 0 k s) = w m c (ix2 k (vcol (col t s))) := by
  have ht := lt t
  have e : (iblk m c 10 t : S1x1x3x256.Idx → EReal) (ix4 0 0 k s)
      = (V m c main_v2 : S1x4x3x2816.Idx → EReal) (ix4 0 ⟨(t.val / 4 + 22) / 11, by omega⟩ k ⟨256 * (t.val / 4 % 11) + s.val, by omega⟩) := by
    blk_ext [iblk, idx10 t]
  rw [e, V2_at]
  exact congrArg (fun d => w m c (ix2 k d)) (Fin.ext (by unfold vcol col; dsimp only; omega))

/-- The biases of a column of gate and value. -/
theorem bG (t : Fin cfg0.N) (s : Fin 256) : (iblk m c 11 t : S1x1x256.Idx → EReal) (ix3 0 0 s) = bias m c (ix1 (gcol (col t s))) := by
  have ht := lt t
  rw [← V3_at]
  unfold gcol col
  blk_ext [iblk, idx11 t]

@[inherit_doc bG] theorem bV (t : Fin cfg0.N) (s : Fin 256) : (iblk m c 12 t : S1x1x256.Idx → EReal) (ix3 0 0 s) = bias m c (ix1 (vcol (col t s))) := by
  have ht := lt t
  rw [← V3_at]
  unfold vcol col
  blk_ext [iblk, idx12 t]

/-- The rows of weights the kernel reads, gate and value. -/
abbrev g0 (t : Fin cfg0.N) : Wt := View.ld (iblk m c 9 t) (Rect.unit ![0, 0, 0, 0] ![1, 1, 1, 256] inb_S1x1x3x256_S1x1x1x256_0_0_0_0)
@[inherit_doc g0] abbrev g1 (t : Fin cfg0.N) : Wt := View.ld (iblk m c 9 t) (Rect.unit ![0, 0, 1, 0] ![1, 1, 1, 256] inb_S1x1x3x256_S1x1x1x256_0_0_1_0)
@[inherit_doc g0] abbrev g2 (t : Fin cfg0.N) : Wt := View.ld (iblk m c 9 t) (Rect.unit ![0, 0, 2, 0] ![1, 1, 1, 256] inb_S1x1x3x256_S1x1x1x256_0_0_2_0)
@[inherit_doc g0] abbrev v0 (t : Fin cfg0.N) : Wt := View.ld (iblk m c 10 t) (Rect.unit ![0, 0, 0, 0] ![1, 1, 1, 256] inb_S1x1x3x256_S1x1x1x256_0_0_0_0)
@[inherit_doc g0] abbrev v1 (t : Fin cfg0.N) : Wt := View.ld (iblk m c 10 t) (Rect.unit ![0, 0, 1, 0] ![1, 1, 1, 256] inb_S1x1x3x256_S1x1x1x256_0_0_1_0)
@[inherit_doc g0] abbrev v2 (t : Fin cfg0.N) : Wt := View.ld (iblk m c 10 t) (Rect.unit ![0, 0, 2, 0] ![1, 1, 1, 256] inb_S1x1x3x256_S1x1x1x256_0_0_2_0)

/-- The rows of weights at an index. -/
theorem g0_at (t : Fin cfg0.N) (s : Fin 256) : g0 m c t (ix4 0 0 0 s) = w m c (ix2 0 (gcol (col t s))) := by
  unfold g0
  pointwise
  exact wG m c t s 0
@[inherit_doc g0_at] theorem g1_at (t : Fin cfg0.N) (s : Fin 256) : g1 m c t (ix4 0 0 0 s) = w m c (ix2 1 (gcol (col t s))) := by
  unfold g1
  pointwise
  exact wG m c t s 1
@[inherit_doc g0_at] theorem g2_at (t : Fin cfg0.N) (s : Fin 256) : g2 m c t (ix4 0 0 0 s) = w m c (ix2 2 (gcol (col t s))) := by
  unfold g2
  pointwise
  exact wG m c t s 2
@[inherit_doc g0_at] theorem v0_at (t : Fin cfg0.N) (s : Fin 256) : v0 m c t (ix4 0 0 0 s) = w m c (ix2 0 (vcol (col t s))) := by
  unfold v0
  pointwise
  exact wV m c t s 0
@[inherit_doc g0_at] theorem v1_at (t : Fin cfg0.N) (s : Fin 256) : v1 m c t (ix4 0 0 0 s) = w m c (ix2 1 (vcol (col t s))) := by
  unfold v1
  pointwise
  exact wV m c t s 1
@[inherit_doc g0_at] theorem v2_at (t : Fin cfg0.N) (s : Fin 256) : v2 m c t (ix4 0 0 0 s) = w m c (ix2 2 (vcol (col t s))) := by
  unfold v2
  pointwise
  exact wV m c t s 2

/-- The rows of the gate's operand, the value's operand, and the incoming gradient at point `t`. -/
abbrev xg (t : Fin cfg0.N) : Ext := k0_pay7 (F := Ideal) (grid0.coords t) (iblk m c 1 t) (iblk m c 0 t) (iblk m c 2 t)
@[inherit_doc xg] abbrev xv (t : Fin cfg0.N) : Ext := k0_pay8 (F := Ideal) (grid0.coords t) (iblk m c 4 t) (iblk m c 3 t) (iblk m c 5 t)
@[inherit_doc xg] abbrev xd (t : Fin cfg0.N) : Ext :=
  k0_pay10 (F := Ideal) (BitVec.ofNat 32 (grid0.coords t 1).val) (k0_pay9 (F := Ideal) (grid0.coords t) (iblk m c 7 t)) (iblk m c 6 t) 3#32 (iblk m c 8 t)
/-- The gate's convolution at point `t`. -/
abbrev gc (t : Fin cfg0.N) : Ext := k0_pay15 (F := Ideal) (xg m c t) (g0 m c t) (g1 m c t) (g2 m c t) (iblk m c 11 t)
/-- The gradient of gate and of value before the convolution at point `t`. -/
abbrev zg (t : Fin cfg0.N) : Ext :=
  k0_pay18 (F := Ideal) (xv m c t) (xd m c t) (k0_pay14 (F := Ideal) (xv m c t)) (gc m c t) (k0_pay16 (F := Ideal) (xv m c t) (v0 m c t)) (v1 m c t) (v2 m c t)
    (iblk m c 12 t)
@[inherit_doc zg] abbrev zv (t : Fin cfg0.N) : Ext := k0_pay19 (F := Ideal) (xd m c t) (gc m c t)

/-- The gate's convolution at point `t` is that of its columns. -/
theorem gc_inner (t : Fin cfg0.N) (s : Fin 256) : Inner (gc m c t) s (1024 * (t.val % 4)) (pre (u m c) (w m c) (bias m c) (gcol (col t s))) := by
  have h := conv15 (rowsG m c t s) (g0 m c t) (g1 m c t) (g2 m c t) (iblk m c 11 t)
  rw [g0_at, g1_at, g2_at, bG] at h
  exact h

/-- The gradient of the gate before the convolution at point `t` is that of its columns. -/
theorem zg_inner (t : Fin cfg0.N) (s : Fin 256) : Inner (zg m c t) s (1024 * (t.val % 4)) (gline (u m c) (w m c) (bias m c) (ct m c) (col t s)) := by
  have h := dgate18 (rowsV m c t s) (rowsD m c t s) (gc_inner m c t s) (v0 m c t) (v1 m c t) (v2 m c t) (iblk m c 12 t)
  rw [v0_at, v1_at, v2_at, bV] at h
  exact h

/-- The gradient of the value before the convolution at point `t` is that of its columns. -/
theorem zv_inner (t : Fin cfg0.N) (s : Fin 256) : Inner (zv m c t) s (1024 * (t.val % 4)) (vline (u m c) (w m c) (bias m c) (ct m c) (col t s)) :=
  dval19 (rowsD m c t s) (gc_inner m c t s)

end Cert.ActValue

end
-- ==== Proof.ActRows.lean ====
/- A block of eight rows of 256 columns whose first four rows are added to, one after another. -/
module

public import proofs.«01_k».proof.ActDxIdeal
public import Idealize.ShloMosaic.Lib.WritesUnit
public import Idealize.ShloMosaic.Lib.Pointwise
public import Idealize.ShloMosaic.Lib.Pipeline.ValueKit

@[expose] public section

noncomputable section

namespace Cert.ActRows

open Cert.ActDxIdeal Idealize.ShloMosaic Idealize.ShloMosaic.TcCoe Idealize.SL.Sem

/-- The block's contents, and one row of it. -/
abbrev Blk := S8x256.Idx → EReal
@[inherit_doc Blk] abbrev Row := S1x256.Idx → EReal

/-- A piece written to the block. -/
abbrev Pc := View.Piece (Elt Ideal) S8x256 .f32

/-- The row at `o`. -/
abbrev rowAt (o : ℕ) (inb : ∀ a : Fin S8x256.rank, (![o, 0] : Fin 2 → ℕ) a + (![1, 256] : Fin 2 → ℕ) a ≤ S8x256.size a) : Rect S8x256 :=
  Rect.unit ![o, 0] ![1, 256] inb

variable {o : ℕ} {inb : ∀ a : Fin S8x256.rank, (![o, 0] : Fin 2 → ℕ) a + (![1, 256] : Fin 2 → ℕ) a ≤ S8x256.size a}

/-- Where a row's entry lies in the block. -/
theorem row_idx (k : Fin 8) (hk : k.val = o) (s : Fin 256) : (rowAt o inb).idx (ix2 0 s) = ix2 k s := by
  subst hk
  refine funext fun a => Fin.ext ?_
  refine (Rect.idx_unit_val _ _ inb (ix2 0 s) a).trans ?_
  match a with
  | ⟨0, _⟩ => rfl
  | ⟨1, _⟩ => exact Nat.zero_add _

/-- Another row's entry is not in the row. -/
theorem row_not_mem (k : Fin 8) (hk : k.val ≠ o) (s : Fin 256) : (ix2 k s : S8x256.Idx) ∉ (rowAt o inb).set := by
  intro h
  have h0 := Rect.mem_set_unit.mp h (0 : Fin 2)
  have h1 : o ≤ k.val := h0.1
  have h2 : k.val < o + 1 := h0.2
  omega

/-- Adding to one row of what was written before. -/
theorem step {sig : RefSig} {κ : Kind} {sp : Space} (v : View sig κ sp S8x256 .f32) (F : Row → Row) (p : Fin 256 → EReal)
    (hF : ∀ a s, F a (ix2 0 s) = a (ix2 0 s) + p s) (L : List Pc) (k : Fin 8) (s : Fin 256) :
    View.canon ((⟨rowAt o inb, F (v.readCov L (rowAt o inb).toLoadRect)⟩ : Pc) :: L) (ix2 k s)
      = if k.val = o then View.canon L (ix2 k s) + p s else View.canon L (ix2 k s) := by
  split
  · rename_i hk
    have e := row_idx (inb := inb) k hk s
    have h := View.canon_cons_emb (rowAt o inb) (F (v.readCov L (rowAt o inb).toLoadRect)) L (ix2 0 s)
    rw [show (rowAt o inb).emb (ix2 0 s) = ix2 k s from e] at h
    rw [h, hF, View.readCov_eq_canon']
    exact congrArg (fun i => View.canon L i + p s) e
  · rename_i hk
    exact View.canon_cons_of_not_mem _ _ (row_not_mem (inb := inb) k hk s)

/-- Adding to one row of what the block held. -/
theorem step' {sig : RefSig} {κ : Kind} {sp : Space} (v : View sig κ sp S8x256 .f32) (f : v.ty.Contents (Elt Ideal)) (old : Blk) (F : Row → Row)
    (p : Fin 256 → EReal) (hF : ∀ a s, F a (ix2 0 s) = a (ix2 0 s) + p s) (L : List Pc) (k : Fin 8) (s : Fin 256) :
    View.read (Elt Ideal) v (v.writes (Elt Ideal) f ((⟨rowAt o inb, F (View.ld (Val := Elt Ideal) (e' := .f32) old (rowAt o inb))⟩ : Pc) :: L)) (ix2 k s)
      = if k.val = o then old (ix2 k s) + p s else View.read (Elt Ideal) v (v.writes (Elt Ideal) f L) (ix2 k s) := by
  split
  · rename_i hk
    rw [View.read_writes_cons_rows_of_mem v f inb _ L (ix2 k s) (ix2 0 s) rfl (by show k.val = o + 0; omega) rfl, hF]
    exact congrArg (fun i => old i + p s) (row_idx (inb := inb) k hk s)
  · rename_i hk
    exact View.read_writes_cons_rows_of_not_mem (W := 1) v f inb _ L (ix2 k s) rfl rfl (by show k.val < o ∨ o + 1 ≤ k.val; omega)

/-- What is added to row `k`. -/
def part (p0 p1 p2 p3 : Fin 256 → EReal) (k : Fin 8) (s : Fin 256) : EReal :=
  if k.val = 3 then p3 s else if k.val = 2 then p2 s else if k.val = 1 then p1 s else if k.val = 0 then p0 s else 0

variable {inb0 : ∀ a : Fin S8x256.rank, (![0, 0] : Fin 2 → ℕ) a + (![1, 256] : Fin 2 → ℕ) a ≤ S8x256.size a}
variable {inb1 : ∀ a : Fin S8x256.rank, (![1, 0] : Fin 2 → ℕ) a + (![1, 256] : Fin 2 → ℕ) a ≤ S8x256.size a}
variable {inb2 : ∀ a : Fin S8x256.rank, (![2, 0] : Fin 2 → ℕ) a + (![1, 256] : Fin 2 → ℕ) a ≤ S8x256.size a}
variable {inb3 : ∀ a : Fin S8x256.rank, (![3, 0] : Fin 2 → ℕ) a + (![1, 256] : Fin 2 → ℕ) a ≤ S8x256.size a}
variable {inbw : ∀ a : Fin S8x256.rank, (![0, 0] : Fin 2 → ℕ) a + (![8, 256] : Fin 2 → ℕ) a ≤ S8x256.size a}
variable {F0 F1 F2 F3 : Row → Row} {p0 p1 p2 p3 : Fin 256 → EReal}

section
variable (h0 : ∀ a s, F0 a (ix2 0 s) = a (ix2 0 s) + p0 s) (h1 : ∀ a s, F1 a (ix2 0 s) = a (ix2 0 s) + p1 s)
  (h2 : ∀ a s, F2 a (ix2 0 s) = a (ix2 0 s) + p2 s) (h3 : ∀ a s, F3 a (ix2 0 s) = a (ix2 0 s) + p3 s)
include h0 h1 h2 h3

/-- The first four rows added to a block held before. -/
theorem rows_old {sig : RefSig} {κ : Kind} {sp : Space} (v : View sig κ sp S8x256 .f32) (f : v.ty.Contents (Elt Ideal)) (old : Blk)
    (hf : View.read (Elt Ideal) v f = old) (k : Fin 8) (s : Fin 256) :
    View.read (Elt Ideal) v (v.writes (Elt Ideal) f
      [(⟨rowAt 3 inb3, F3 (View.ld (Val := Elt Ideal) (e' := .f32) old (rowAt 3 inb3))⟩ : Pc), ⟨rowAt 2 inb2, F2 (View.ld (Val := Elt Ideal) (e' := .f32) old (rowAt 2 inb2))⟩,
        ⟨rowAt 1 inb1, F1 (View.ld (Val := Elt Ideal) (e' := .f32) old (rowAt 1 inb1))⟩, ⟨rowAt 0 inb0, F0 (View.ld (Val := Elt Ideal) (e' := .f32) old (rowAt 0 inb0))⟩]) (ix2 k s)
      = old (ix2 k s) + part p0 p1 p2 p3 k s := by
  rw [step' v f old F3 p3 h3, step' v f old F2 p2 h2, step' v f old F1 p1 h1, step' v f old F0 p0 h0, View.writes_nil, hf]
  unfold part
  split_ifs
  all_goals first | rfl | exact (add_zero _).symm

/-- The first four rows added to a block of one value. -/
theorem rows_new {sig : RefSig} {κ : Kind} {sp : Space} (v : View sig κ sp S8x256 .f32) (z : Blk) (L0 L1 L2 L3 : List Pc)
    (e0 : L0 = [⟨Rect.unit ![0, 0] ![8, 256] inbw, z⟩]) (e1 : L1 = ⟨rowAt 0 inb0, F0 (v.readCov L0 (rowAt 0 inb0).toLoadRect)⟩ :: L0)
    (e2 : L2 = ⟨rowAt 1 inb1, F1 (v.readCov L1 (rowAt 1 inb1).toLoadRect)⟩ :: L1)
    (e3 : L3 = ⟨rowAt 2 inb2, F2 (v.readCov L2 (rowAt 2 inb2).toLoadRect)⟩ :: L2) (k : Fin 8) (s : Fin 256) :
    View.canon ((⟨rowAt 3 inb3, F3 (v.readCov L3 (rowAt 3 inb3).toLoadRect)⟩ : Pc) :: L3) (ix2 k s)
      = z (ix2 k s) + part p0 p1 p2 p3 k s := by
  rw [step v F3 p3 h3, e3, step v F2 p2 h2, e2, step v F1 p1 h1, e1, step v F0 p0 h0, e0,
    View.canon_unit_zero (S := S8x256) (by funext a; match a with | ⟨0, _⟩ => rfl | ⟨1, _⟩ => rfl)]
  unfold part
  split_ifs
  all_goals first | rfl | omega | exact (add_zero _).symm

end

end Cert.ActRows

end
-- ==== Proof.ActPoints.lean ====
/- What each grid point of the gated convolution's gradient leaves: its block of the operand's gradient, and the sums so far. -/
module

public import proofs.«01_k».proof.Proof.ActBlocks
public import proofs.«01_k».proof.Proof.ActRows

@[expose] public section

set_option maxRecDepth 16384

noncomputable section

namespace Cert.ActValue

open Cert.ActDxIdeal Cert.ActDxIdeal.Gen Idealize.ShloMosaic Idealize.ShloMosaic.TcCoe Idealize.SL.Sem Idealize.ShloMosaic.StableHlo
open Cert.ActModel Cert.ActPay Cert.ActRows

variable (m : (ℓ : Loc nD τ sig) → Buf (Elt Ideal) ℓ) (c : Dev nD)

/-- The gate half of the operand's gradient after a grid point. -/
theorem out13 (t : Fin cfg0.N) (r : Fin 1024) (s : Fin 256) : (outsAt0 m c t.val t.isLt).1 (ix2 r s)
    = back (gline (u m c) (w m c) (bias m c) (ct m c) (col t s)) (w m c (ix2 0 (gcol (col t s)))) (w m c (ix2 1 (gcol (col t s))))
      (w m c (ix2 2 (gcol (col t s)))) (1024 * (t.val % 4) + 8 + r.val) := by
  have h := back22 (zg_inner m c t s) (g0 m c t) (g1 m c t) (g2 m c t) r
  rw [g0_at, g1_at, g2_at] at h
  refine Eq.trans ?_ h
  by_cases h0 : t.val % 4 = 0
  · rw [outsAt0_A m c t h0]
    frame_out
    rfl
  · rw [outsAt0_B m c t h0]
    frame_out
    rfl

/-- The value half of the operand's gradient after a grid point. -/
theorem out14 (t : Fin cfg0.N) (r : Fin 1024) (s : Fin 256) : (outsAt0 m c t.val t.isLt).2.1 (ix2 r s)
    = back (vline (u m c) (w m c) (bias m c) (ct m c) (col t s)) (w m c (ix2 0 (vcol (col t s)))) (w m c (ix2 1 (vcol (col t s))))
      (w m c (ix2 2 (vcol (col t s)))) (1024 * (t.val % 4) + 8 + r.val) := by
  have h := back28 (zv_inner m c t s) (v0 m c t) (v1 m c t) (v2 m c t) r
  rw [v0_at, v1_at, v2_at] at h
  refine Eq.trans ?_ h
  by_cases h0 : t.val % 4 = 0
  · rw [outsAt0_A m c t h0]
    frame_out
    rfl
  · rw [outsAt0_B m c t h0]
    frame_out
    rfl

/-- The first row a grid point's block stands for. -/
def base (t : Fin cfg0.N) : ℕ := 1024 * (t.val % 4) + 8

/-- A block's part of a sum: the gradients `z` against the operand's rows `x` before, at and after, and the gradients alone. -/
def gpart (z x : Fin 5632 → ℕ → EReal) (t : Fin cfg0.N) : Fin 8 → Fin 256 → EReal :=
  part (fun s => ∑ r : Fin 1024, z (col t s) (base t + r.val) * x (col t s) (base t + r.val - 1))
    (fun s => ∑ r : Fin 1024, z (col t s) (base t + r.val) * x (col t s) (base t + r.val))
    (fun s => ∑ r : Fin 1024, z (col t s) (base t + r.val) * x (col t s) (base t + r.val + 1))
    (fun s => ∑ r : Fin 1024, z (col t s) (base t + r.val))

/-- The gradient's lines and the operand's, gate and value. -/
abbrev zG : Fin 5632 → ℕ → EReal := gline (u m c) (w m c) (bias m c) (ct m c)
@[inherit_doc zG] abbrev xG : Fin 5632 → ℕ → EReal := fun j n => row (u m c) n (gcol j)
@[inherit_doc zG] abbrev zV : Fin 5632 → ℕ → EReal := vline (u m c) (w m c) (bias m c) (ct m c)
@[inherit_doc zG] abbrev xV : Fin 5632 → ℕ → EReal := fun j n => row (u m c) n (vcol j)

/-- The gate's sums after the first point of a column block. -/
theorem A15 (t : Fin cfg0.N) (h0 : t.val % 4 = 0) (k : Fin 8) (s : Fin 256) :
    (outsAt0 m c t.val t.isLt).2.2.1 (ix2 k s) = 0 + gpart (zG m c) (xG m c) t k s := by
  refine Eq.trans ?_ (rows_new (fun a s => sum24 (rowsG m c t s) (zg_inner m c t s) a) (fun a s => sum25 (rowsG m c t s) (zg_inner m c t s) a)
    (fun a s => sum26 (rowsG m c t s) (zg_inner m c t s) a) (fun a s => sum27 (zg_inner m c t s) a) (ms0_15 t).view (fun _ => 0) _ _ _ _ rfl rfl rfl rfl k s
    (inb0 := inb_S8x256_S1x256_0_0) (inb1 := inb_S8x256_S1x256_1_0) (inb2 := inb_S8x256_S1x256_2_0) (inb3 := inb_S8x256_S1x256_3_0)
    (inbw := inb_S8x256_S8x256_0_0))
  have z : k0_pay5 (F := Ideal) = fun _ => (0 : EReal) := by funext i; exact Ideal.ofBits_zero_f32
  rw [outsAt0_A m c t h0]
  frame_out
  rw [z]
  rfl

/-- The gate's sums after a later point of a column block. -/
theorem B15 (t : Fin cfg0.N) (h0 : t.val % 4 ≠ 0) (k : Fin 8) (s : Fin 256) :
    (outsAt0 m c t.val t.isLt).2.2.1 (ix2 k s) = (outsAt0 m c (t.val - 1) (by have := t.isLt; omega)).2.2.1 (ix2 k s) + gpart (zG m c) (xG m c) t k s := by
  rw [outsAt0_B m c t h0]
  frame_out
  exact rows_old (fun a s => sum24 (rowsG m c t s) (zg_inner m c t s) a) (fun a s => sum25 (rowsG m c t s) (zg_inner m c t s) a)
    (fun a s => sum26 (rowsG m c t s) (zg_inner m c t s) a) (fun a s => sum27 (zg_inner m c t s) a) (ms0_15 t).view _ _ (Memref.IsWhole.read_unread _ _) k s

/-- The value's sums after the first point of a column block. -/
theorem A16 (t : Fin cfg0.N) (h0 : t.val % 4 = 0) (k : Fin 8) (s : Fin 256) :
    (outsAt0 m c t.val t.isLt).2.2.2 (ix2 k s) = 0 + gpart (zV m c) (xV m c) t k s := by
  refine Eq.trans ?_ (rows_new (fun a s => sum1 (rowsV m c t s) (zv_inner m c t s) a) (fun a s => sum2 (rowsV m c t s) (zv_inner m c t s) a)
    (fun a s => sum3 (rowsV m c t s) (zv_inner m c t s) a) (fun a s => sum4 (zv_inner m c t s) a) (ms0_16 t).view (fun _ => 0) _ _ _ _ rfl rfl rfl rfl k s
    (inb0 := inb_S8x256_S1x256_0_0) (inb1 := inb_S8x256_S1x256_1_0) (inb2 := inb_S8x256_S1x256_2_0) (inb3 := inb_S8x256_S1x256_3_0)
    (inbw := inb_S8x256_S8x256_0_0))
  have z : k0_pay6 (F := Ideal) = fun _ => (0 : EReal) := by funext i; exact Ideal.ofBits_zero_f32
  rw [outsAt0_A m c t h0]
  frame_out
  rw [z]
  rfl

/-- The value's sums after a later point of a column block. -/
theorem B16 (t : Fin cfg0.N) (h0 : t.val % 4 ≠ 0) (k : Fin 8) (s : Fin 256) :
    (outsAt0 m c t.val t.isLt).2.2.2 (ix2 k s) = (outsAt0 m c (t.val - 1) (by have := t.isLt; omega)).2.2.2 (ix2 k s) + gpart (zV m c) (xV m c) t k s := by
  rw [outsAt0_B m c t h0]
  frame_out
  exact rows_old (fun a s => sum1 (rowsV m c t s) (zv_inner m c t s) a) (fun a s => sum2 (rowsV m c t s) (zv_inner m c t s) a)
    (fun a s => sum3 (rowsV m c t s) (zv_inner m c t s) a) (fun a s => sum4 (zv_inner m c t s) a) (ms0_16 t).view _ _ (Memref.IsWhole.read_unread _ _) k s

/-- What a grid point leaves depends on its number alone. -/
theorem outs_congr {a b : ℕ} (e : a = b) (ha : a < cfg0.N) (hb : b < cfg0.N) : outsAt0 m c a ha = outsAt0 m c b hb := by
  subst e; rfl

/-- Row block `i` of column block `j`. -/
def pt (j : Fin 22) (i : Fin 4) : Fin cfg0.N := ⟨4 * j.val + i.val, by have : cfg0.N = 88 := N_0; omega⟩

/-- The sums of four blocks are the sums over the sequence. -/
theorem sum_blocks (f : ℕ → EReal) (j : Fin 22) :
    ∑ i : Fin 4, ∑ r : Fin 1024, f (base (pt j i) + r.val) = ∑ r : Fin 4096, f (r.val + 8) := by
  have e : ∀ i : Fin 4, ∀ r : Fin 1024, f (base (pt j i) + r.val) = (fun n => f (n + 8)) (i.val * 1024 + r.val) := fun i r =>
    congrArg f (by unfold base pt; dsimp only; omega)
  simp only [e]
  exact Fin.sum_univ_univ_mul_add 4 1024 fun n => f (n + 8)

/-- The column of the sums at column `s` of column block `j`. -/
def scol (j : Fin 22) (s : Fin 256) : Fin 5632 := ⟨256 * j.val + s.val, by omega⟩

theorem col_pt (j : Fin 22) (i : Fin 4) (s : Fin 256) : col (pt j i) s = scol j s := by
  unfold col pt scol; exact Fin.ext (by dsimp only; omega)

/-- The sums over the sequence. -/
def total (z x : Fin 5632 → ℕ → EReal) (k : Fin 8) (d : Fin 5632) : EReal :=
  part (fun _ => ∑ r : Fin 4096, z d (r.val + 8) * x d (r.val + 8 - 1)) (fun _ => ∑ r : Fin 4096, z d (r.val + 8) * x d (r.val + 8))
    (fun _ => ∑ r : Fin 4096, z d (r.val + 8) * x d (r.val + 8 + 1)) (fun _ => ∑ r : Fin 4096, z d (r.val + 8)) k 0

/-- The parts of the four blocks of a column block make the sums over the sequence. -/
theorem parts_total (z x : Fin 5632 → ℕ → EReal) (j : Fin 22) (k : Fin 8) (s : Fin 256) :
    ∑ i : Fin 4, gpart z x (pt j i) k s = total z x k (scol j s) := by
  unfold gpart total part
  simp only [col_pt]
  split_ifs
  · exact sum_blocks (fun n => z (scol j s) n) j
  · exact sum_blocks (fun n => z (scol j s) n * x (scol j s) (n + 1)) j
  · exact sum_blocks (fun n => z (scol j s) n * x (scol j s) n) j
  · exact sum_blocks (fun n => z (scol j s) n * x (scol j s) (n - 1)) j
  · exact Finset.sum_const_zero

/-- A block accumulated over the four points of a column block. -/
theorem accumulated (o : (n : ℕ) → n < cfg0.N → Fin 8 → Fin 256 → EReal) (ho : ∀ {a b} (_ : a = b) ha hb, o a ha = o b hb) (g : Fin cfg0.N → Fin 8 → Fin 256 → EReal)
    (hA : ∀ t : Fin cfg0.N, t.val % 4 = 0 → ∀ k s, o t.val t.isLt k s = 0 + g t k s)
    (hB : ∀ t : Fin cfg0.N, t.val % 4 ≠ 0 → ∀ k s, o t.val t.isLt k s = o (t.val - 1) (by have := t.isLt; omega) k s + g t k s)
    (j : Fin 22) (k : Fin 8) (s : Fin 256) : o (pt j 3).val (pt j 3).isLt k s = ∑ i : Fin 4, g (pt j i) k s := by
  have a0 := hA (pt j 0) (by unfold pt; show (4 * j.val + 0) % 4 = 0; omega) k s
  have b1 := hB (pt j 1) (by unfold pt; show (4 * j.val + 1) % 4 ≠ 0; omega) k s
  have b2 := hB (pt j 2) (by unfold pt; show (4 * j.val + 2) % 4 ≠ 0; omega) k s
  have b3 := hB (pt j 3) (by unfold pt; show (4 * j.val + 3) % 4 ≠ 0; omega) k s
  rw [ho (show (pt j 1).val - 1 = (pt j 0).val from rfl) _ (pt j 0).isLt, a0, zero_add] at b1
  rw [ho (show (pt j 2).val - 1 = (pt j 1).val from rfl) _ (pt j 1).isLt, b1] at b2
  rw [ho (show (pt j 3).val - 1 = (pt j 2).val from rfl) _ (pt j 2).isLt, b2] at b3
  rw [b3, Fin.sum_univ_four]

/-- The gate's sums after the last point of a column block. -/
theorem acc15 (j : Fin 22) (k : Fin 8) (s : Fin 256) :
    (outsAt0 m c (pt j 3).val (pt j 3).isLt).2.2.1 (ix2 k s) = total (zG m c) (xG m c) k (scol j s) :=
  (accumulated (fun n hn k s => (outsAt0 m c n hn).2.2.1 (ix2 k s)) (fun e ha hb => by rw [outs_congr m c e ha hb]) (gpart (zG m c) (xG m c)) (A15 m c) (B15 m c) j k s).trans
    (parts_total _ _ j k s)

/-- The value's sums after the last point of a column block. -/
theorem acc16 (j : Fin 22) (k : Fin 8) (s : Fin 256) :
    (outsAt0 m c (pt j 3).val (pt j 3).isLt).2.2.2 (ix2 k s) = total (zV m c) (xV m c) k (scol j s) :=
  (accumulated (fun n hn k s => (outsAt0 m c n hn).2.2.2 (ix2 k s)) (fun e ha hb => by rw [outs_congr m c e ha hb]) (gpart (zV m c) (xV m c)) (A16 m c) (B16 m c) j k s).trans
    (parts_total _ _ j k s)

end Cert.ActValue

end
-- ==== Proof.ActReference.lean ====
/- The reference's gradient of the gated convolution, at an index. -/
module

public import proofs.«01_k».proof.Proof.ActModel
public import proofs.«01_k».proof.Proof.ActRows
public import proofs.«01_k».proof.Proof.Softmax
public import proofs.«01_k».proof.Proof.Gen.ActDxReferenceIdeal.Read

@[expose] public section

set_option maxRecDepth 16384

noncomputable section

namespace Cert.ActReference

open Cert.ActDxReferenceIdeal Cert.ActDxReferenceIdeal.Read Idealize.ShloMosaic Idealize.ShloMosaic.TcCoe Cert.ActModel

/-- The constant one. -/
theorem one_bits : Ideal.ofBits .f32 0x3F800000#32 = (1 : EReal) := Ideal.ofBits_one_f32

/-- The reference's logistic function. -/
theorem sig_host (x : EReal) : Ideal.div (Ideal.ofBits .f32 0x3F800000#32) (Ideal.ofBits .f32 0x3F800000#32 + Ideal.exp (-x)) = ActModel.sig x := by
  rw [one_bits]
  unfold ActModel.sig
  rw [sub_eq_add_neg, zero_add]
  rfl

/-- The same facts, as the reference writes them. -/
theorem one_word : FloatOps.ofBits (F := Ideal) .f32 0x3F800000#32 = (1 : EReal) := one_bits
@[inherit_doc one_word] theorem zero_word : FloatOps.ofBits (F := Ideal) .f32 0#32 = (0 : EReal) := Ideal.ofBits_zero_f32
@[inherit_doc one_word] theorem sig_word (x : EReal) : FloatOps.hostDivf (F := Ideal) (φ := .f32) (FloatOps.ofBits (F := Ideal) .f32 0x3F800000#32)
    (FloatOps.addf (F := Ideal) (φ := .f32) (FloatOps.ofBits (F := Ideal) .f32 0x3F800000#32)
      (FloatOps.hostUnary (F := Ideal) (φ := .f32) .exp (FloatOps.hostNegf (F := Ideal) (φ := .f32) x))) = ActModel.sig x := sig_host x

/-- The logistic function of a real is a real. -/
theorem sig_real (x : ℝ) : ∃ s : ℝ, ActModel.sig (x : EReal) = (s : EReal) := by
  refine ⟨1 * (1 / (1 + Real.exp (-x))), ?_⟩
  rw [← sig_host, one_bits, ← EReal.coe_neg, Ideal.exp_coe, ← EReal.coe_one, ← EReal.coe_add]
  exact Softmax.div_coe_coe 1 (by positivity)

/-- The two ways of writing the gate's gradient agree on reals. -/
theorem gate_eq (da g v : ℝ) : (da : EReal) * v * ActModel.sig g + (g : EReal) * (da * v) * (ActModel.sig g * (1 - ActModel.sig g)) = dgate da g v := by
  obtain ⟨s, hs⟩ := sig_real g
  unfold dgate
  rw [hs, ← EReal.coe_one]
  simp only [← EReal.coe_mul, ← EReal.coe_add, ← EReal.coe_sub]
  exact congrArg _ (by ring)

variable (U : Arr 11264) (W : Wts) (B : Biases) (A : Arr 5632)

/-- The rows before. -/
theorem before (r : Fin 4096) (d : Fin 11264) : val_main_v2 (F := Ideal) U (ix2 r d) = row U (r.val + 8 - 1) d := by
  have hr := r.isLt
  unfold val_main_v2
  pointwise
  split
  · rw [val_main_v0_apply, val_main_cst_apply, row_out _ (by omega)]
    exact Ideal.ofBits_zero_f32
  · rw [val_main_v1_apply, row_in _ ⟨r.val - 1, by omega⟩ (by dsimp only; omega)]
    exact congrArg U (funext fun a => match a with | ⟨0, _⟩ => rfl | ⟨1, _⟩ => rfl)

/-- The rows after. -/
theorem after (r : Fin 4096) (d : Fin 11264) : val_main_v5 (F := Ideal) U (ix2 r d) = row U (r.val + 8 + 1) d := by
  have hr := r.isLt
  unfold val_main_v5
  pointwise
  split
  · rw [val_main_v4_apply, row_in _ ⟨1 + r.val, by omega⟩ (by dsimp only; omega)]
    exact congrArg U (funext fun a => match a with | ⟨0, _⟩ => rfl | ⟨1, _⟩ => rfl)
  · rw [row_out _ (by omega)]
    exact (val_main_v0_apply _).trans ((val_main_cst_apply _).trans Ideal.ofBits_zero_f32)

/-- The weights over the rows. -/
theorem w10 (r : Fin 4096) (d : Fin 11264) : val_main_v10 (F := Ideal) W (ix2 r d) = W (ix2 0 d) := by
  rw [val_main_v10_apply, val_main_v9_apply, val_main_v8_apply, val_main_v7_apply]
  exact congrArg W (funext fun a => match a with | ⟨0, _⟩ => rfl | ⟨1, _⟩ => Fin.ext (Nat.mod_eq_of_lt d.isLt))
@[inherit_doc w10] theorem w15 (r : Fin 4096) (d : Fin 11264) : val_main_v15 (F := Ideal) W (ix2 r d) = W (ix2 1 d) := by
  rw [val_main_v15_apply, val_main_v14_apply, val_main_v13_apply, val_main_v12_apply]
  exact congrArg W (funext fun a => match a with | ⟨0, _⟩ => rfl | ⟨1, _⟩ => Fin.ext (Nat.mod_eq_of_lt d.isLt))
@[inherit_doc w10] theorem w21 (r : Fin 4096) (d : Fin 11264) : val_main_v21 (F := Ideal) W (ix2 r d) = W (ix2 2 d) := by
  rw [val_main_v21_apply, val_main_v20_apply, val_main_v19_apply, val_main_v18_apply]
  exact congrArg W (funext fun a => match a with | ⟨0, _⟩ => rfl | ⟨1, _⟩ => Fin.ext (Nat.mod_eq_of_lt d.isLt))

/-- The convolution. -/
theorem conv26 (r : Fin 4096) (d : Fin 11264) : val_main_v26 (F := Ideal) U W B (ix2 r d) = pre U W B d (r.val + 8) := by
  rw [val_main_v26_apply, val_main_v25_apply, val_main_v24_apply, val_main_v23_apply, val_main_v22_apply, val_main_v17_apply, val_main_v16_apply,
    val_main_v11_apply, w10, w15, w21, before, after]
  unfold pre conv
  beta_reduce
  rw [row_in U r rfl, show idx_main_v24 (idx_main_v25 (ix2 r d)) = ix1 d from
    funext fun a => match a with | ⟨0, _⟩ => Fin.ext (by first | rfl | exact Nat.mod_eq_of_lt d.isLt)]
  rfl

section
variable (hU : ∀ i, U i = ((EReal.toReal (U i) : ℝ) : EReal)) (hW : ∀ i, W i = ((EReal.toReal (W i) : ℝ) : EReal))
  (hB : ∀ i, B i = ((EReal.toReal (B i) : ℝ) : EReal)) (hA : ∀ i, A i = ((EReal.toReal (A i) : ℝ) : EReal))
include hU

/-- A row of reals is a real, zero outside. -/
theorem row_real (n : ℕ) (d : Fin 11264) : ∃ x : ℝ, row U n d = (x : EReal) := by
  unfold row
  split
  · exact ⟨_, hU _⟩
  · exact ⟨0, rfl⟩

include hW hB

/-- The convolution of reals is a real. -/
theorem pre_real (n : ℕ) (d : Fin 11264) : ∃ x : ℝ, pre U W B d n = (x : EReal) := by
  obtain ⟨a, ha⟩ := row_real U hU (n - 1) d
  obtain ⟨b, hb⟩ := row_real U hU n d
  obtain ⟨e, he⟩ := row_real U hU (n + 1) d
  unfold pre conv
  dsimp only
  rw [ha, hb, he, hW (ix2 0 d), hW (ix2 1 d), hW (ix2 2 d), hB (ix1 d)]
  simp only [← EReal.coe_mul, ← EReal.coe_add]
  exact ⟨_, rfl⟩

include hA

/-- The reference's gradient of a column of the gate before the convolution. -/
theorem d_gate (r : Fin 4096) (j : Fin 5632) : val_main_v34 (F := Ideal) U W B A (ix2 r (gcol j)) = gline U W B A j (r.val + 8) := by
  unfold val_main_v34
  pointwise
  rw [dif_pos (show (gcol j).val < 5632 from j.isLt)]
  simp only [val_main_v33_apply, val_main_call1_v2_apply, val_main_call1_v1_apply, val_main_call1_v0_apply, val_main_v29_1_apply, val_main_v29_2_apply,
    val_main_v32_apply, val_main_call0_v7_apply, val_main_call0_v6_apply, val_main_call0_v4_apply, val_main_call0_v3_apply,
    val_main_call0_v2_apply, val_main_call0_v1_apply, val_main_call0_v0_apply, val_main_v28_apply, val_main_v27_apply, val_main_call0_cst_apply,
    val_main_call0_cst_0_apply, val_main_call0_cst_1_apply]
  have e1 : idx_main_v28 (ix2 r ⟨(gcol j).val, j.isLt⟩) = ix2 r (vcol j) := funext fun a => match a with | ⟨0, _⟩ => rfl | ⟨1, _⟩ => rfl
  have e2 : idx_main_v27 (ix2 r ⟨(gcol j).val, j.isLt⟩) = ix2 r (gcol j) := funext fun a => match a with | ⟨0, _⟩ => rfl | ⟨1, _⟩ => rfl
  have e3 : A (ix2 r ⟨(gcol j).val, j.isLt⟩) = A (ix2 r j) := rfl
  rw [e1, e2, e3, conv26, conv26]
  obtain ⟨g, hg⟩ := pre_real U W B hU hW hB (r.val + 8) (gcol j)
  obtain ⟨v, hv⟩ := pre_real U W B hU hW hB (r.val + 8) (vcol j)
  unfold gline
  rw [row_in A r rfl, hg, hv, hA (ix2 r j), ← gate_eq, sig_word, one_word]
  rfl

omit hU hW hB hA in
/-- The reference's gradient of a column of the value before the convolution. -/
theorem d_val (r : Fin 4096) (j : Fin 5632) : val_main_v34 (F := Ideal) U W B A (ix2 r (vcol j)) = vline U W B A j (r.val + 8) := by
  unfold val_main_v34
  pointwise
  rw [dif_neg (show ¬ (vcol j).val < 5632 by unfold vcol; dsimp only; omega)]
  simp only [val_main_v31_apply, val_main_v30_apply, val_main_v29_2_apply, val_main_v29_0_apply, val_main_call0_v4_apply, val_main_call0_v3_apply,
    val_main_call0_v2_apply, val_main_call0_v1_apply, val_main_call0_v0_apply, val_main_v27_apply, val_main_call0_cst_apply, val_main_call0_cst_0_apply]
  have e : (⟨(vcol j).val - 5632, by unfold vcol; dsimp only; omega⟩ : Fin 5632) = j := Fin.ext (by unfold vcol; dsimp only; omega)
  rw [e]
  have e2 : idx_main_v27 (ix2 r j) = ix2 r (gcol j) := funext fun a => match a with | ⟨0, _⟩ => rfl | ⟨1, _⟩ => rfl
  rw [e2, conv26]
  unfold vline dval
  rw [row_in A r rfl, mul_comm, sig_word]
  rfl

end

section
variable (d : Fin 11264) (z : ℕ → EReal) (hz : ∀ r : Fin 4096, val_main_v34 (F := Ideal) U W B A (ix2 r d) = z (r.val + 8)) (h0 : z 7 = 0) (h1 : z 4104 = 0)
include hz

/-- The gradient against each of the three weights. -/
theorem d39 (r : Fin 4096) : val_main_v39 (F := Ideal) U W B A (ix2 r d) = W (ix2 2 d) * z (r.val + 8) := by
  rw [val_main_v39_apply, hz, val_main_v38_apply]
  exact congrArg (· * z (r.val + 8)) ((congrArg (val_main_v20 (F := Ideal) W) (show idx_main_v38 (ix2 r d) = idx_main_v21 (ix2 r d) from rfl)).trans
    ((val_main_v21_apply (F := Ideal) W (ix2 r d)).symm.trans (w21 W r d)))
@[inherit_doc d39] theorem d47 (r : Fin 4096) : val_main_v47 (F := Ideal) U W B A (ix2 r d) = W (ix2 1 d) * z (r.val + 8) := by
  rw [val_main_v47_apply, hz, val_main_v46_apply]
  exact congrArg (· * z (r.val + 8)) ((congrArg (val_main_v14 (F := Ideal) W) (show idx_main_v46 (ix2 r d) = idx_main_v15 (ix2 r d) from rfl)).trans
    ((val_main_v15_apply (F := Ideal) W (ix2 r d)).symm.trans (w15 W r d)))
@[inherit_doc d39] theorem d56 (r : Fin 4096) : val_main_v56 (F := Ideal) U W B A (ix2 r d) = W (ix2 0 d) * z (r.val + 8) := by
  rw [val_main_v56_apply, hz, val_main_v55_apply]
  exact congrArg (· * z (r.val + 8)) ((congrArg (val_main_v9 (F := Ideal) W) (show idx_main_v55 (ix2 r d) = idx_main_v10 (ix2 r d) from rfl)).trans
    ((val_main_v10_apply (F := Ideal) W (ix2 r d)).symm.trans (w10 W r d)))

include h0 in
/-- The gradient of the row before, zero at the first row. -/
theorem d66 (r : Fin 4096) : val_main_v66 (F := Ideal) U W B A (ix2 r d) = W (ix2 2 d) * z (r.val + 8 - 1) := by
  have hr := r.isLt
  unfold val_main_v66
  pointwise
  split
  · rw [val_main_v64_apply, show idx_main_v64 (ix2 ⟨r.val - 1, by omega⟩ d) = ix2 ⟨r.val - 1, by omega⟩ d from
      funext fun a => match a with | ⟨0, _⟩ => rfl | ⟨1, _⟩ => rfl, d39 U W B A d z hz]
    exact congrArg (fun n => W (ix2 2 d) * z n) (by dsimp only; omega)
  · rw [show r.val + 8 - 1 = 7 by omega, h0, mul_zero]
    exact (val_main_cst_13_apply _).trans Ideal.ofBits_zero_f32

include h1 in
/-- The gradient of the row after, zero at the last row. -/
theorem d70 (r : Fin 4096) : val_main_v70 (F := Ideal) U W B A (ix2 r d) = W (ix2 0 d) * z (r.val + 8 + 1) := by
  have hr := r.isLt
  unfold val_main_v70
  pointwise
  split
  · rw [val_main_v69_apply, show idx_main_v69 (ix2 ⟨r.val, by omega⟩ d) = ix2 ⟨1 + r.val, by omega⟩ d from
      funext fun a => match a with | ⟨0, _⟩ => rfl | ⟨1, _⟩ => rfl, d56 U W B A d z hz]
    exact congrArg (fun n => W (ix2 0 d) * z n) (by dsimp only; omega)
  · rw [show r.val + 8 + 1 = 4104 by omega, h1, mul_zero]
    exact (val_main_cst_14_apply _).trans Ideal.ofBits_zero_f32

include h0 h1 in
/-- The operand's gradient. -/
theorem d71 (r : Fin 4096) : val_main_v71 (F := Ideal) U W B A (ix2 r d) = back z (W (ix2 0 d)) (W (ix2 1 d)) (W (ix2 2 d)) (r.val + 8) := by
  rw [val_main_v71_apply, val_main_v67_apply, d66 U W B A d z hz h0, d47 U W B A d z hz, d70 U W B A d z hz h1]
  have e : ∀ a b c : EReal, b + a + c = c + b + a := fun a b c => by rw [add_comm, ← add_assoc]
  exact e _ _ _

omit hz in
/-- The column's entry read through a row of one. -/
theorem flat (k : Fin 4096) : (fun a => match a with | ⟨0, _⟩ => ⟨k.val, k.isLt⟩ | ⟨1, _⟩ => ⟨0 * 11264 + d.val, by show 0 * 11264 + d.val < 11264; omega⟩ :
    S4096x11264.Idx) = ix2 k d :=
  funext fun a => match a with | ⟨0, _⟩ => rfl | ⟨1, _⟩ => Fin.ext (by show 0 * 11264 + d.val = d.val; omega)

/-- The sums for the three weights and the bias. -/
theorem d61 (i : Fin 1) : val_main_v61 (F := Ideal) U W B A (ix2 i d) = ∑ r : Fin 4096, z (r.val + 8) * row U (r.val + 8 - 1) d := by
  rw [val_main_v61_apply, val_main_v60_apply, Finset.univ_unique, Finset.sum_singleton, val_main_v59_apply, val_main_v58_apply, val_main_cst_10_apply,
    val_main_cst_11_apply, zero_word, zero_add, zero_add]
  refine Finset.sum_congr rfl fun k _ => ?_
  rw [show idx_main_v58 (idx_main_v59 (idx_main_v60 (idx_main_v61 (ix2 i d)) default)) k = ix2 k d from flat d k, val_main_v57_apply, hz, before]
  rfl
@[inherit_doc d61] theorem d52 (i : Fin 1) : val_main_v52 (F := Ideal) U W B A (ix2 i d) = ∑ r : Fin 4096, z (r.val + 8) * row U (r.val + 8) d := by
  rw [val_main_v52_apply, val_main_v51_apply, Finset.univ_unique, Finset.sum_singleton, val_main_v50_apply, val_main_v49_apply, val_main_cst_7_apply,
    val_main_cst_8_apply, zero_word, zero_add, zero_add]
  refine Finset.sum_congr rfl fun k _ => ?_
  rw [show idx_main_v49 (idx_main_v50 (idx_main_v51 (idx_main_v52 (ix2 i d)) default)) k = ix2 k d from flat d k, val_main_v48_apply, hz, row_in U k rfl]
  rfl
@[inherit_doc d61] theorem d44 (i : Fin 1) : val_main_v44 (F := Ideal) U W B A (ix2 i d) = ∑ r : Fin 4096, z (r.val + 8) * row U (r.val + 8 + 1) d := by
  rw [val_main_v44_apply, val_main_v43_apply, Finset.univ_unique, Finset.sum_singleton, val_main_v42_apply, val_main_v41_apply, val_main_cst_4_apply,
    val_main_cst_5_apply, zero_word, zero_add, zero_add]
  refine Finset.sum_congr rfl fun k _ => ?_
  rw [show idx_main_v41 (idx_main_v42 (idx_main_v43 (idx_main_v44 (ix2 i d)) default)) k = ix2 k d from flat d k, val_main_v40_apply, hz, after]
  rfl
@[inherit_doc d61] theorem d72 (i : Fin 1) : val_main_v72 (F := Ideal) U W B A (ix2 i d) = ∑ r : Fin 4096, z (r.val + 8) := by
  rw [val_main_v72_apply, val_main_v37_apply, Finset.univ_unique, Finset.sum_singleton, val_main_v36_apply, val_main_v35_apply, val_main_cst_2_apply,
    val_main_cst_3_apply, zero_word, zero_add, zero_add]
  refine Finset.sum_congr rfl fun k _ => ?_
  rw [show idx_main_v35 (idx_main_v36 (idx_main_v37 (idx_main_v72 (ix2 i d)) default)) k = ix2 k d from flat d k, hz]

/-- The three rows of the weights' gradient. -/
theorem d63 (k : Fin 3) : val_main_v63 (F := Ideal) U W B A (ix2 k d) =
    (if k.val = 2 then ∑ r : Fin 4096, z (r.val + 8) * row U (r.val + 8 + 1) d
    else if k.val = 1 then ∑ r : Fin 4096, z (r.val + 8) * row U (r.val + 8) d
    else ∑ r : Fin 4096, z (r.val + 8) * row U (r.val + 8 - 1) d) := by
  have hk := k.isLt
  have s0 := d61 U W B A d z hz
  have s1 := d52 U W B A d z hz
  have s2 := d44 U W B A d z hz
  rw [val_main_v63_apply, val_main_v54_apply]
  unfold val_main_v62 val_main_v53 val_main_v45
  pointwise
  simp only [s0, s1, s2, val_main_cst_6_apply, val_main_cst_9_apply, val_main_cst_12_apply, zero_word]
  have add_def : ∀ a b : EReal, FloatOps.addf (F := Ideal) (φ := .f32) a b = a + b := fun _ _ => rfl
  split_ifs
  all_goals first | omega | simp only [add_def, zero_add, add_zero]

/-- The eight rows of sums. -/
theorem d74 (k : Fin 8) : val_main_v74 (F := Ideal) U W B A (ix2 k d) =
    ActRows.part (fun _ => ∑ r : Fin 4096, z (r.val + 8) * row U (r.val + 8 - 1) d) (fun _ => ∑ r : Fin 4096, z (r.val + 8) * row U (r.val + 8) d)
      (fun _ => ∑ r : Fin 4096, z (r.val + 8) * row U (r.val + 8 + 1) d) (fun _ => ∑ r : Fin 4096, z (r.val + 8)) k 0 := by
  have hk := k.isLt
  have s0 := d63 U W B A d z hz
  have s1 := d72 U W B A d z hz
  unfold val_main_v74
  pointwise
  unfold ActRows.part
  simp only [s0, s1, val_main_v73_apply, val_main_cst_15_apply, zero_word]
  split_ifs
  all_goals first | rfl | omega

end

/-- Outside the rows both gradients before the convolution are zero. -/
theorem gline_out (j : Fin 5632) (n : ℕ) (h : n < 8 ∨ 4104 ≤ n) : gline U W B A j n = 0 := by
  unfold gline dgate
  rw [row_out A h]
  simp only [zero_mul]
@[inherit_doc gline_out] theorem vline_out (j : Fin 5632) (n : ℕ) (h : n < 8 ∨ 4104 ≤ n) : vline U W B A j n = 0 := by
  unfold vline dval
  rw [row_out A h, zero_mul]

/-- The operand's gradient in a column of the value, then the sums for that column. -/
theorem out78 (r : Fin 4096) (j : Fin 5632) : val_main_v78 (F := Ideal) U W B A (ix2 r j) =
    back (vline U W B A j) (W (ix2 0 (vcol j))) (W (ix2 1 (vcol j))) (W (ix2 2 (vcol j))) (r.val + 8) := by
  rw [← d71 U W B A (vcol j) _ (d_val U W B A · j) (vline_out _ _ _ _ _ _ (by omega)) (vline_out _ _ _ _ _ _ (by omega)),
    val_main_v78_apply, val_main_v77_apply]
  exact congrArg (val_main_v71 (F := Ideal) U W B A) (funext fun a => match a with
    | ⟨0, _⟩ => Fin.ext (by first | rfl | exact Nat.zero_add _) | ⟨1, _⟩ => Fin.ext (by first | rfl | exact Nat.add_comm _ _))
@[inherit_doc out78] theorem out80 (k : Fin 8) (j : Fin 5632) : val_main_v80 (F := Ideal) U W B A (ix2 k j) =
    ActRows.part (fun _ => ∑ r : Fin 4096, vline U W B A j (r.val + 8) * row U (r.val + 8 - 1) (vcol j))
      (fun _ => ∑ r : Fin 4096, vline U W B A j (r.val + 8) * row U (r.val + 8) (vcol j))
      (fun _ => ∑ r : Fin 4096, vline U W B A j (r.val + 8) * row U (r.val + 8 + 1) (vcol j))
      (fun _ => ∑ r : Fin 4096, vline U W B A j (r.val + 8)) k 0 := by
  rw [← d74 U W B A (vcol j) _ (d_val U W B A · j), val_main_v80_apply]
  exact congrArg (val_main_v74 (F := Ideal) U W B A) (funext fun a => match a with
    | ⟨0, _⟩ => Fin.ext (by first | rfl | exact Nat.zero_add _) | ⟨1, _⟩ => Fin.ext (by first | rfl | exact Nat.add_comm _ _))

section
variable (hU : ∀ i, U i = ((EReal.toReal (U i) : ℝ) : EReal)) (hW : ∀ i, W i = ((EReal.toReal (W i) : ℝ) : EReal))
  (hB : ∀ i, B i = ((EReal.toReal (B i) : ℝ) : EReal)) (hA : ∀ i, A i = ((EReal.toReal (A i) : ℝ) : EReal))
include hU hW hB hA

/-- The operand's gradient in a column of the gate, then the sums for that column. -/
theorem out76 (r : Fin 4096) (j : Fin 5632) : val_main_v76 (F := Ideal) U W B A (ix2 r j) =
    back (gline U W B A j) (W (ix2 0 (gcol j))) (W (ix2 1 (gcol j))) (W (ix2 2 (gcol j))) (r.val + 8) := by
  rw [← d71 U W B A (gcol j) _ (d_gate U W B A hU hW hB hA · j) (gline_out _ _ _ _ _ _ (by omega)) (gline_out _ _ _ _ _ _ (by omega)),
    val_main_v76_apply, val_main_v75_apply]
  exact congrArg (val_main_v71 (F := Ideal) U W B A) (funext fun a => match a with
    | ⟨0, _⟩ => Fin.ext (by first | rfl | exact Nat.zero_add _) | ⟨1, _⟩ => Fin.ext (by first | rfl | exact Nat.zero_add _))
@[inherit_doc out76] theorem out79 (k : Fin 8) (j : Fin 5632) : val_main_v79 (F := Ideal) U W B A (ix2 k j) =
    ActRows.part (fun _ => ∑ r : Fin 4096, gline U W B A j (r.val + 8) * row U (r.val + 8 - 1) (gcol j))
      (fun _ => ∑ r : Fin 4096, gline U W B A j (r.val + 8) * row U (r.val + 8) (gcol j))
      (fun _ => ∑ r : Fin 4096, gline U W B A j (r.val + 8) * row U (r.val + 8 + 1) (gcol j))
      (fun _ => ∑ r : Fin 4096, gline U W B A j (r.val + 8)) k 0 := by
  rw [← d74 U W B A (gcol j) _ (d_gate U W B A hU hW hB hA · j), val_main_v79_apply]
  exact congrArg (val_main_v74 (F := Ideal) U W B A) (funext fun a => match a with
    | ⟨0, _⟩ => Fin.ext (by first | rfl | exact Nat.zero_add _) | ⟨1, _⟩ => Fin.ext (by first | rfl | exact Nat.zero_add _))

end

end Cert.ActReference

end
-- ==== Proof.ActFinite.lean ====
/- The precondition of the gated convolution's gradient: every entry of the four arguments is a finite float, so over the extended reals a real. -/
module

public import proofs.«01_k».proof.Proof.Finite
public import proofs.«01_k».proof.Pre_act_finite

@[expose] public section

noncomputable section

namespace Cert.ActFinite

open Idealize.ShloMosaic Cert.Pre_act_finite Cert.Finite

/-- The precondition's side conditions. -/
theorem facts : Cert.Pre_act_finite.Facts where
  bcast_S_S4096x11264 := by decide
  reducesTo_S4096x11264_S_d0_1 := by decide
  h_S_ := by decide
  bcast_S_S3x11264 := by decide
  reducesTo_S3x11264_S_d0_1 := by decide
  bcast_S_S11264 := by decide
  reducesTo_S11264_S_d0 := by decide
  bcast_S_S4096x5632 := by decide
  reducesTo_S4096x5632_S_d0_1 := by decide

/-- Under the precondition every entry of each of the four arrays is a real. -/
theorem all_real [Cert.Pre_act_finite.Facts] {x0 : FVec Ideal S4096x11264 .f32} {x1 : FVec Ideal S3x11264 .f32} {x2 : FVec Ideal S11264 .f32}
    {x3 : FVec Ideal S4096x5632 .f32} (h : fn (F := Ideal) x0 x1 x2 x3 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)) := by
  haveI : Subsingleton S_.Idx := ⟨fun a b => funext fun k => absurd k.isLt (by simp)⟩
  have j : S_.Idx := fun k => absurd k.isLt (by simp)
  have e := congrFun h j
  unfold fn fn_part1 at e
  dsimp only at e
  obtain ⟨e, e3⟩ := and_split e
  obtain ⟨e, e2⟩ := and_split e
  obtain ⟨e0, e1⟩ := and_split e
  exact ⟨fun i => real_of_lt (Host.reduce_andi_all _ _ _ _ j e0 i), fun i => real_of_lt (Host.reduce_andi_all _ _ _ _ j e1 i),
    fun i => real_of_lt (Host.reduce_andi_all _ _ _ _ j e2 i), fun i => real_of_lt (Host.reduce_andi_all _ _ _ _ j e3 i)⟩

end Cert.ActFinite

end
-- ==== Proof.ActEqual.lean ====
/- The four arrays of the gated convolution's gradient: the kernel's are the reference's. -/
module

public import proofs.«01_k».proof.Defs
public import proofs.«01_k».proof.Proof.ActPoints
public import proofs.«01_k».proof.Proof.ActReference
public import proofs.«01_k».proof.Proof.ActFinite
public import proofs.«01_k».proof.Proof.Gen.ActDxIdeal
public import proofs.«01_k».proof.Proof.Gen.ActDxIdeal.Value
public import proofs.«01_k».proof.Proof.Gen.ActDxReferenceIdeal
public import proofs.«01_k».proof.Proof.Gen.ActDxReferenceIdeal.Run
public import proofs.«01_k».proof.Proof.Gen.ActDxReferenceIdeal.Read
public import Idealize.ShloMosaic.Lib.Pipeline.ValueKit
public import Idealize.ShloMosaic.Lib.StableHlo.RunRead

@[expose] public section

set_option maxRecDepth 16384

noncomputable section

namespace Cert.ActValue

open Cert.ActDxIdeal Cert.ActDxIdeal.Gen Idealize.ShloMosaic Idealize.ShloMosaic.TcCoe Idealize.SL.Sem Idealize.ShloMosaic.StableHlo
open Cert.ActModel Cert.ActRows

variable (m : (ℓ : Loc nD τ sig) → Buf (Elt Ideal) ℓ) (c : Dev nD)

/-- The array of gradients of the operand's columns that `f` names. -/
def gArr (z : Fin 5632 → ℕ → EReal) (W : S3x11264.Idx → EReal) (f : Fin 5632 → Fin 11264) (i : S4096x5632.Idx) : EReal :=
  back (z (i 1)) (W (ix2 0 (f (i 1)))) (W (ix2 1 (f (i 1)))) (W (ix2 2 (f (i 1)))) ((i 0).val + 8)
/-- The array of sums. -/
def sArr (z x : Fin 5632 → ℕ → EReal) (i : S8x5632.Idx) : EReal := total z x (i 0) (i 1)

/-- An entry of the array of gradients, by its row and column. -/
theorem gArr_at (z : Fin 5632 → ℕ → EReal) (W : S3x11264.Idx → EReal) (f : Fin 5632 → Fin 11264) (i : S4096x5632.Idx) (j : Fin 5632) (n : ℕ)
    (h0 : (i 0).val + 8 = n) (h1 : (i 1).val = j.val) : gArr z W f i = back (z j) (W (ix2 0 (f j))) (W (ix2 1 (f j))) (W (ix2 2 (f j))) n := by
  unfold gArr
  rw [show i 1 = j from Fin.ext h1, h0]
/-- An entry of the array of sums, by its row and column. -/
theorem sArr_at (z x : Fin 5632 → ℕ → EReal) (i : S8x5632.Idx) (k : Fin 8) (j : Fin 5632) (h0 : (i 0).val = k.val) (h1 : (i 1).val = j.val) :
    sArr z x i = total z x k j := by
  unfold sArr
  rw [show i 1 = j from Fin.ext h1, show i 0 = k from Fin.ext h0]

/-- After the run the first two results are the operand's gradient. -/
theorem arr13 : (dats m 0 c).arrAt 13 cfg0.N = gArr (zG m c) (w m c) gcol := by
  refine (dats m 0 c).arrAt_eq_of_covers 13 _ (by decide +kernel) fun t hf y => ?_
  blk_simp
  rw [after0_13]
  refine (congrArg _ (eq_ix2 _)).trans ((out13 m c t _ _).trans (gArr_at _ _ _ _ _ _ ?_ ?_).symm)
  · blk_simp [idx13 t]
    dsimp only
    omega
  · unfold col
    blk_simp [idx13 t]
    dsimp only
    omega
@[inherit_doc arr13] theorem arr14 : (dats m 0 c).arrAt 14 cfg0.N = gArr (zV m c) (w m c) vcol := by
  refine (dats m 0 c).arrAt_eq_of_covers 14 _ (by decide +kernel) fun t hf y => ?_
  blk_simp
  rw [after0_14]
  refine (congrArg _ (eq_ix2 _)).trans ((out14 m c t _ _).trans (gArr_at _ _ _ _ _ _ ?_ ?_).symm)
  · blk_simp [idx14 t]
    dsimp only
    omega
  · unfold col
    blk_simp [idx14 t]
    dsimp only
    omega

/-- The column block of a grid point. -/
def cb (t : Fin cfg0.N) : Fin 22 := ⟨t.val / 4, by have := lt t; omega⟩

/-- A point that writes the sums back is the last of its column block. -/
theorem last_pt (t : Fin cfg0.N) (h : t.val % 4 = 3) : t = pt (cb t) 3 :=
  Fin.ext (by unfold cb pt; dsimp only; have : ((3 : Fin 4) : ℕ) = 3 := rfl; omega)

/-- The sums after the last point of a column block, at any index. -/
theorem last15 (t : Fin cfg0.N) (h : t.val % 4 = 3) (z : S8x256.Idx) :
    (outsAt0 m c t.val t.isLt).2.2.1 z = total (zG m c) (xG m c) (z 0) (scol (cb t) (z 1)) := by
  have e := last_pt t h
  rw [outs_congr m c (congrArg Fin.val e) _ (pt (cb t) 3).isLt, eq_ix2 z]
  exact acc15 m c (cb t) (z 0) (z 1)
@[inherit_doc last15] theorem last16 (t : Fin cfg0.N) (h : t.val % 4 = 3) (z : S8x256.Idx) :
    (outsAt0 m c t.val t.isLt).2.2.2 z = total (zV m c) (xV m c) (z 0) (scol (cb t) (z 1)) := by
  have e := last_pt t h
  rw [outs_congr m c (congrArg Fin.val e) _ (pt (cb t) 3).isLt, eq_ix2 z]
  exact acc16 m c (cb t) (z 0) (z 1)

/-- After the run the last two results are the sums. -/
theorem arr15 : (dats m 0 c).arrAt 15 cfg0.N = sArr (zG m c) (xG m c) := by
  refine (dats m 0 c).arrAt_eq_of_covers 15 _ (by decide +kernel) fun t hf y => ?_
  have h3 := (flush0_15 t).mp hf
  blk_simp
  rw [after0_15]
  refine (last15 m c t h3 _).trans (sArr_at _ _ _ _ _ ?_ ?_).symm
  · blk_simp [idx15 t]
    try omega
  · unfold scol cb
    blk_simp [idx15 t]
    dsimp only
    omega
@[inherit_doc arr15] theorem arr16 : (dats m 0 c).arrAt 16 cfg0.N = sArr (zV m c) (xV m c) := by
  refine (dats m 0 c).arrAt_eq_of_covers 16 _ (by decide +kernel) fun t hf y => ?_
  have h3 := (flush0_16 t).mp hf
  blk_simp
  rw [after0_16]
  refine (last16 m c t h3 _).trans (sArr_at _ _ _ _ _ ?_ ?_).symm
  · blk_simp [idx16 t]
    try omega
  · unfold scol cb
    blk_simp [idx16 t]
    dsimp only
    omega

/-- The reference ends without fault, with its arguments unchanged and no counter above zero. -/
theorem frame_r : Cert.quiescent_ActDxReferenceIdeal (hActDxReferenceIdeal := Cert.ActDxReferenceIdeal.Gen.facts) := by
  intro m ρ _
  exact (θ_run Cert.ActDxReferenceIdeal.defs _ _).mono (fun r h => ⟨fun c => (h c).2.2.2.2,
      Idealize.ShloMosaic.sem_eq_zero_of_no_sems (by decide) r.2⟩)
    (Cert.ActDxReferenceIdeal.Value.run (F := Ideal) m ρ)

/-- Kernel and reference end with equal results. -/
theorem equal : Cert.algebraic_ActDxIdeal_ActDxReferenceIdeal_pre_act_finite (hActDxIdeal := Cert.ActDxIdeal.Gen.facts)
    (hActDxReferenceIdeal := Cert.ActDxReferenceIdeal.Gen.facts) (hPre_act_finite := Cert.ActFinite.facts) := by
  intro m ρ m' ρ' hpre hagree
  refine ⟨fun c => (dats m 0 c).arrAt 13 cfg0.N, fun c => (dats m 0 c).arrAt 14 cfg0.N, fun c => (dats m 0 c).arrAt 15 cfg0.N,
    fun c => (dats m 0 c).arrAt 16 cfg0.N, Cert.ActDxIdeal.Value.run_blocks (F := Ideal) m ρ, ?_⟩
  refine (θ_run Cert.ActDxReferenceIdeal.defs _ _).mono (fun r h c => ?_) (Cert.ActDxReferenceIdeal.Value.run (F := Ideal) m' ρ')
  obtain ⟨h0, h1, h2, h3, hargs⟩ := h c
  obtain ⟨g0, g1, g2, g3⟩ := hagree c
  haveI := Cert.ActFinite.facts
  obtain ⟨hU, hW, hB, hA⟩ := Cert.ActFinite.all_real (hpre c)
  rw [Cert.ActDxReferenceIdeal.Read.val_main_v76_eq, g0, g1, g2, g3] at h0
  rw [Cert.ActDxReferenceIdeal.Read.val_main_v78_eq, g0, g1, g2, g3] at h1
  rw [Cert.ActDxReferenceIdeal.Read.val_main_v79_eq, g0, g1, g2, g3] at h2
  rw [Cert.ActDxReferenceIdeal.Read.val_main_v80_eq, g0, g1, g2, g3] at h3
  refine ⟨h0.trans ?_, h1.trans ?_, h2.trans ?_, h3.trans ?_, hargs⟩
  · exact (funext fun i : S4096x5632.Idx => (congrArg _ (eq_ix2 i)).trans (ActReference.out76 (u m c) (w m c) (bias m c) (ct m c) hU hW hB hA (i 0) (i 1))).trans (arr13 m c).symm
  · exact (funext fun i : S4096x5632.Idx => (congrArg _ (eq_ix2 i)).trans (ActReference.out78 (u m c) (w m c) (bias m c) (ct m c) (i 0) (i 1))).trans (arr14 m c).symm
  · exact (funext fun i : S8x5632.Idx => (congrArg _ (eq_ix2 i)).trans (ActReference.out79 (u m c) (w m c) (bias m c) (ct m c) hU hW hB hA (i 0) (i 1))).trans (arr15 m c).symm
  · exact (funext fun i : S8x5632.Idx => (congrArg _ (eq_ix2 i)).trans (ActReference.out80 (u m c) (w m c) (bias m c) (ct m c) (i 0) (i 1))).trans (arr16 m c).symm

end Cert.ActValue

end
-- ==== Proof.lean ====
module

public import proofs.«01_k».proof.Proof.Gen.BQkvG0
public import proofs.«01_k».proof.Proof.Gen.BQkvG0Ideal
public import proofs.«01_k».proof.Proof.Gen.BQkvG0.Frame
public import proofs.«01_k».proof.Proof.Gen.BQkvG0Ideal.Frame
public import proofs.«01_k».proof.Proof.Gen.BQkvG0Ideal.Value
public import proofs.«01_k».proof.Proof.Gen.BQkvG0ReferenceIdeal
public import proofs.«01_k».proof.Proof.Gen.BQkvG0ReferenceIdeal.Run
public import proofs.«01_k».proof.Proof.Gen.BQkvG0ReferenceIdeal.Read
public import proofs.«01_k».proof.Proof.Gen.Flash
public import proofs.«01_k».proof.Proof.Gen.FlashIdeal
public import proofs.«01_k».proof.Proof.Gen.Flash.Frame
public import proofs.«01_k».proof.Proof.Gen.FlashIdeal.Frame
public import proofs.«01_k».proof.Proof.Gen.FlashIdeal.Value
public import proofs.«01_k».proof.Proof.Gen.FlashReferenceIdeal
public import proofs.«01_k».proof.Proof.Gen.FlashReferenceIdeal.Run
public import proofs.«01_k».proof.Proof.Gen.FlashReferenceIdeal.Read
public import proofs.«01_k».proof.Proof.Gen.ActDx
public import proofs.«01_k».proof.Proof.Gen.ActDxIdeal
public import proofs.«01_k».proof.Proof.Gen.ActDxReferenceIdeal
public import proofs.«01_k».proof.Proof.Gen.ActDx.Frame
public import proofs.«01_k».proof.Proof.Gen.ActDxIdeal.Frame
public import proofs.«01_k».proof.Proof.Gen.ActDxIdeal.Value
public import proofs.«01_k».proof.Proof.Gen.ActDxReferenceIdeal.Run
public import proofs.«01_k».proof.Proof.Gen.ActDxReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.DownDx
public import proofs.«01_k».proof.Proof.Gen.DownDxIdeal.Frame
public import proofs.«01_k».proof.Proof.DownDx
public import proofs.«01_k».proof.Proof.Gen.DownDw
public import proofs.«01_k».proof.Proof.Gen.DownDwIdeal.Frame
public import proofs.«01_k».proof.Proof.DownDw
public import proofs.«01_k».proof.Proof.Gen.UpDx
public import proofs.«01_k».proof.Proof.Gen.UpDxIdeal.Frame
public import proofs.«01_k».proof.Proof.UpDx
public import proofs.«01_k».proof.Proof.Gen.UpDw
public import proofs.«01_k».proof.Proof.Gen.UpDwIdeal.Frame
public import proofs.«01_k».proof.Proof.UpDw
public import proofs.«01_k».proof.Proof.Gen.Up
public import proofs.«01_k».proof.Proof.Gen.UpIdeal.Frame
public import proofs.«01_k».proof.Proof.Up
public import proofs.«01_k».proof.Proof.Gen.Down
public import proofs.«01_k».proof.Proof.Gen.DownIdeal.Frame
public import proofs.«01_k».proof.Proof.Down
public import proofs.«01_k».proof.Proof.Gen.AQkv
public import proofs.«01_k».proof.Proof.Gen.AQkvIdeal.Frame
public import proofs.«01_k».proof.Proof.AQkv
public import proofs.«01_k».proof.Proof.Gen.AOut
public import proofs.«01_k».proof.Proof.Gen.AOutIdeal.Frame
public import proofs.«01_k».proof.Proof.AOut
public import proofs.«01_k».proof.Proof.Gen.BOut
public import proofs.«01_k».proof.Proof.Gen.BOutIdeal.Frame
public import proofs.«01_k».proof.Proof.BOut
public import proofs.«01_k».proof.Proof.Gen.AQkvDx
public import proofs.«01_k».proof.Proof.Gen.AQkvDxIdeal.Frame
public import proofs.«01_k».proof.Proof.AQkvDx
public import proofs.«01_k».proof.Proof.Gen.AQkvDw
public import proofs.«01_k».proof.Proof.Gen.AQkvDwIdeal.Frame
public import proofs.«01_k».proof.Proof.AQkvDw
public import proofs.«01_k».proof.Proof.Gen.AOutDx
public import proofs.«01_k».proof.Proof.Gen.AOutDxIdeal.Frame
public import proofs.«01_k».proof.Proof.AOutDx
public import proofs.«01_k».proof.Proof.Gen.AOutDw
public import proofs.«01_k».proof.Proof.Gen.AOutDwIdeal.Frame
public import proofs.«01_k».proof.Proof.AOutDw
public import proofs.«01_k».proof.Proof.Gen.BQkvDx
public import proofs.«01_k».proof.Proof.Gen.BQkvDxIdeal.Frame
public import proofs.«01_k».proof.Proof.BQkvDx
public import proofs.«01_k».proof.Proof.Gen.BQkvDw
public import proofs.«01_k».proof.Proof.Gen.BQkvDwIdeal.Frame
public import proofs.«01_k».proof.Proof.BQkvDw
public import proofs.«01_k».proof.Proof.Gen.BOutDx
public import proofs.«01_k».proof.Proof.Gen.BOutDxIdeal.Frame
public import proofs.«01_k».proof.Proof.BOutDx
public import proofs.«01_k».proof.Proof.Gen.BOutDw
public import proofs.«01_k».proof.Proof.Gen.BOutDwIdeal.Frame
public import proofs.«01_k».proof.Proof.BOutDw
public import proofs.«01_k».proof.Proof.Gen.BQkvG1
public import proofs.«01_k».proof.Proof.Gen.BQkvG1Ideal
public import proofs.«01_k».proof.Proof.Gen.BQkvG1.Frame
public import proofs.«01_k».proof.Proof.Gen.BQkvG1Ideal.Frame
public import proofs.«01_k».proof.Proof.Gen.BQkvG1Ideal.Value
public import proofs.«01_k».proof.Proof.Gen.BQkvG1ReferenceIdeal
public import proofs.«01_k».proof.Proof.Gen.BQkvG1ReferenceIdeal.Run
public import proofs.«01_k».proof.Proof.Gen.BQkvG1ReferenceIdeal.Read
public import proofs.«01_k».proof.Proof.Gen.BQkvG2
public import proofs.«01_k».proof.Proof.Gen.BQkvG2Ideal
public import proofs.«01_k».proof.Proof.Gen.BQkvG2.Frame
public import proofs.«01_k».proof.Proof.Gen.BQkvG2Ideal.Frame
public import proofs.«01_k».proof.Proof.Gen.BQkvG2Ideal.Value
public import proofs.«01_k».proof.Proof.Gen.BQkvG2ReferenceIdeal
public import proofs.«01_k».proof.Proof.Gen.BQkvG2ReferenceIdeal.Run
public import proofs.«01_k».proof.Proof.Gen.BQkvG2ReferenceIdeal.Read
public import proofs.«01_k».proof.Proof.BQkvG0
public import proofs.«01_k».proof.Proof.BQkvG1
public import proofs.«01_k».proof.Proof.BQkvG2
public import proofs.«01_k».proof.Proof.FlashEqual
public import proofs.«01_k».proof.Proof.Equal
public import proofs.«01_k».proof.Proof.ActEqual
public import Idealize.ShloMosaic.Adequacy
public import Idealize.ShloMosaic.Init

@[expose] public section

noncomputable section

namespace Cert.Proof

open Idealize.ShloMosaic Idealize.SL.Sem Cert.Kernel

/-- The reference ends without fault, with its arguments unchanged and no counter above zero. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Kernel and reference end with equal results: the arrays of the gradients of q, k and v. -/
theorem equal_results : Cert.algebraic_KernelIdeal_ReferenceIdeal_pre_all_finite (hKernelIdeal := Cert.KernelIdeal.Gen.facts)
    (hReferenceIdeal := Cert.ReferenceIdeal.Gen.facts) (hPre_all_finite := Cert.Finite.facts) := by
  intro m ρ m' ρ' hpre hagree
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, hargs⟩ := h c
  obtain ⟨g0, g1, g2, g3⟩ := hagree c
  obtain ⟨w0, w1, w2⟩ := Cert.Equal.values m hpre c
  rw [Cert.ReferenceIdeal.Read.val_main_v64_eq, g0, g1, g2, g3] at h0
  rw [Cert.ReferenceIdeal.Read.val_main_v63_eq, g0, g1, g2, g3] at h1
  rw [g0, g1, g3] at h2
  exact ⟨h0.trans w0.symm, h1.trans w1.symm, h2.trans w2.symm, hargs⟩

/-- Everything claimed. -/
theorem claim : Cert.Claim := ⟨Cert.Kernel.Gen.facts, Cert.KernelIdeal.Gen.facts, Cert.ReferenceIdeal.Gen.facts,
  Cert.DownDx.Gen.facts, Cert.DownDxIdeal.Gen.facts, Cert.DownDxReferenceIdeal.Gen.facts,
  Cert.DownDw.Gen.facts, Cert.DownDwIdeal.Gen.facts, Cert.DownDwReferenceIdeal.Gen.facts,
  Cert.UpDx.Gen.facts, Cert.UpDxIdeal.Gen.facts, Cert.UpDxReferenceIdeal.Gen.facts,
  Cert.UpDw.Gen.facts, Cert.UpDwIdeal.Gen.facts, Cert.UpDwReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.AQkv.Gen.facts, Cert.AQkvIdeal.Gen.facts, Cert.AQkvReferenceIdeal.Gen.facts,
  Cert.AOut.Gen.facts, Cert.AOutIdeal.Gen.facts, Cert.AOutReferenceIdeal.Gen.facts,
  Cert.BOut.Gen.facts, Cert.BOutIdeal.Gen.facts, Cert.BOutReferenceIdeal.Gen.facts,
  Cert.AQkvDx.Gen.facts, Cert.AQkvDxIdeal.Gen.facts, Cert.AQkvDxReferenceIdeal.Gen.facts,
  Cert.AQkvDw.Gen.facts, Cert.AQkvDwIdeal.Gen.facts, Cert.AQkvDwReferenceIdeal.Gen.facts,
  Cert.AOutDx.Gen.facts, Cert.AOutDxIdeal.Gen.facts, Cert.AOutDxReferenceIdeal.Gen.facts,
  Cert.AOutDw.Gen.facts, Cert.AOutDwIdeal.Gen.facts, Cert.AOutDwReferenceIdeal.Gen.facts,
  Cert.BQkvDx.Gen.facts, Cert.BQkvDxIdeal.Gen.facts, Cert.BQkvDxReferenceIdeal.Gen.facts,
  Cert.BQkvDw.Gen.facts, Cert.BQkvDwIdeal.Gen.facts, Cert.BQkvDwReferenceIdeal.Gen.facts,
  Cert.BOutDx.Gen.facts, Cert.BOutDxIdeal.Gen.facts, Cert.BOutDxReferenceIdeal.Gen.facts,
  Cert.BOutDw.Gen.facts, Cert.BOutDwIdeal.Gen.facts, Cert.BOutDwReferenceIdeal.Gen.facts,
  Cert.BQkvG0.Gen.facts, Cert.BQkvG0Ideal.Gen.facts, Cert.BQkvG0ReferenceIdeal.Gen.facts,
  Cert.BQkvG1.Gen.facts, Cert.BQkvG1Ideal.Gen.facts, Cert.BQkvG1ReferenceIdeal.Gen.facts,
  Cert.BQkvG2.Gen.facts, Cert.BQkvG2Ideal.Gen.facts, Cert.BQkvG2ReferenceIdeal.Gen.facts,
  Cert.ActDx.Gen.facts, Cert.ActDxIdeal.Gen.facts, Cert.ActDxReferenceIdeal.Gen.facts,
  Cert.Flash.Gen.facts, Cert.FlashIdeal.Gen.facts, Cert.FlashReferenceIdeal.Gen.facts,
  Cert.Finite.facts, Cert.ActFinite.facts, Cert.FlashValue.pre_facts,
  fun m ρ _ => Cert.Kernel.Gen.frame m ρ,
  fun m ρ _ => Cert.KernelIdeal.Gen.frame m ρ,
  fun m ρ _ => Cert.KernelIdeal.Gen.frame m ρ,
  frame_r,
  fun m ρ _ => frame_r m ρ trivial,
  Cert.DownDxValue.frame_k,
  fun m ρ _ => Cert.DownDxIdeal.Gen.frame m ρ,
  Cert.DownDxValue.frame_r,
  Cert.DownDwValue.frame_k,
  fun m ρ _ => Cert.DownDwIdeal.Gen.frame m ρ,
  Cert.DownDwValue.frame_r,
  Cert.UpDxValue.frame_k,
  fun m ρ _ => Cert.UpDxIdeal.Gen.frame m ρ,
  Cert.UpDxValue.frame_r,
  Cert.UpDwValue.frame_k,
  fun m ρ _ => Cert.UpDwIdeal.Gen.frame m ρ,
  Cert.UpDwValue.frame_r,
  Cert.UpValue.frame_k,
  fun m ρ _ => Cert.UpIdeal.Gen.frame m ρ,
  Cert.UpValue.frame_r,
  Cert.DownValue.frame_k,
  fun m ρ _ => Cert.DownIdeal.Gen.frame m ρ,
  Cert.DownValue.frame_r,
  Cert.AQkvValue.frame_k,
  fun m ρ _ => Cert.AQkvIdeal.Gen.frame m ρ,
  Cert.AQkvValue.frame_r,
  Cert.AOutValue.frame_k,
  fun m ρ _ => Cert.AOutIdeal.Gen.frame m ρ,
  Cert.AOutValue.frame_r,
  Cert.BOutValue.frame_k,
  fun m ρ _ => Cert.BOutIdeal.Gen.frame m ρ,
  Cert.BOutValue.frame_r,
  Cert.AQkvDxValue.frame_k,
  fun m ρ _ => Cert.AQkvDxIdeal.Gen.frame m ρ,
  Cert.AQkvDxValue.frame_r,
  Cert.AQkvDwValue.frame_k,
  fun m ρ _ => Cert.AQkvDwIdeal.Gen.frame m ρ,
  Cert.AQkvDwValue.frame_r,
  Cert.AOutDxValue.frame_k,
  fun m ρ _ => Cert.AOutDxIdeal.Gen.frame m ρ,
  Cert.AOutDxValue.frame_r,
  Cert.AOutDwValue.frame_k,
  fun m ρ _ => Cert.AOutDwIdeal.Gen.frame m ρ,
  Cert.AOutDwValue.frame_r,
  Cert.BQkvDxValue.frame_k,
  fun m ρ _ => Cert.BQkvDxIdeal.Gen.frame m ρ,
  Cert.BQkvDxValue.frame_r,
  Cert.BQkvDwValue.frame_k,
  fun m ρ _ => Cert.BQkvDwIdeal.Gen.frame m ρ,
  Cert.BQkvDwValue.frame_r,
  Cert.BOutDxValue.frame_k,
  fun m ρ _ => Cert.BOutDxIdeal.Gen.frame m ρ,
  Cert.BOutDxValue.frame_r,
  Cert.BOutDwValue.frame_k,
  fun m ρ _ => Cert.BOutDwIdeal.Gen.frame m ρ,
  Cert.BOutDwValue.frame_r,
  Cert.BQkvG0Value.frame_k,
  fun m ρ _ => Cert.BQkvG0Ideal.Gen.frame m ρ,
  Cert.BQkvG0Value.frame_r,
  Cert.BQkvG1Value.frame_k,
  fun m ρ _ => Cert.BQkvG1Ideal.Gen.frame m ρ,
  Cert.BQkvG1Value.frame_r,
  Cert.BQkvG2Value.frame_k,
  fun m ρ _ => Cert.BQkvG2Ideal.Gen.frame m ρ,
  Cert.BQkvG2Value.frame_r,
  fun m ρ _ => Cert.ActDx.Gen.frame m ρ,
  fun m ρ _ => Cert.ActDxIdeal.Gen.frame m ρ,
  fun m ρ _ => Cert.ActDxIdeal.Gen.frame m ρ,
  Cert.ActValue.frame_r,
  fun m ρ _ => Cert.ActValue.frame_r m ρ trivial,
  fun m ρ _ => Cert.Flash.Gen.frame m ρ,
  fun m ρ _ => Cert.FlashIdeal.Gen.frame m ρ,
  fun m ρ _ => Cert.FlashIdeal.Gen.frame m ρ,
  Cert.FlashValue.frame_r,
  fun m ρ _ => Cert.FlashValue.frame_r m ρ trivial,
  IdealRules.named_const.statement Cert.KernelIdeal.κ "ln2" .f32 0x3F317218#32 ((Real.log 2 : ℝ) : EReal) rfl,
  equal_results,
  trivial,
  Cert.DownDxValue.equal,
  trivial,
  Cert.DownDwValue.equal,
  trivial,
  Cert.UpDxValue.equal,
  trivial,
  Cert.UpDwValue.equal,
  trivial,
  Cert.UpValue.equal,
  trivial,
  Cert.DownValue.equal,
  trivial,
  Cert.AQkvValue.equal,
  trivial,
  Cert.AOutValue.equal,
  trivial,
  Cert.BOutValue.equal,
  trivial,
  Cert.AQkvDxValue.equal,
  trivial,
  Cert.AQkvDwValue.equal,
  trivial,
  Cert.AOutDxValue.equal,
  trivial,
  Cert.AOutDwValue.equal,
  trivial,
  Cert.BQkvDxValue.equal,
  trivial,
  Cert.BQkvDwValue.equal,
  trivial,
  Cert.BOutDxValue.equal,
  trivial,
  Cert.BOutDwValue.equal,
  trivial,
  Cert.BQkvG0Value.equal,
  trivial,
  Cert.BQkvG1Value.equal,
  trivial,
  Cert.BQkvG2Value.equal,
  trivial,
  Cert.ActValue.equal,
  IdealRules.named_const.statement Cert.FlashIdeal.κ "ln2" .f32 0x3F317218#32 ((Real.log 2 : ℝ) : EReal) rfl,
  Cert.FlashValue.equal⟩

end Cert.Proof

end
